-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Moe [hPre_in_range : Cert.Pre_in_range.Facts] (m : (ℓ : Loc Cert.Moe.nD Cert.Moe.τ Cert.Moe.sig) → Buf (Elt Bits) ℓ) : Prop :=
  ∀ c : Dev Cert.Moe.nD,
    (Cert.Pre_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))) = (fun _ => 1#1)

def Pre_MoeIdeal [hPre_in_range : Cert.Pre_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeReferenceIdeal [hPre_in_range : Cert.Pre_in_range.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_in_range.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Moe [hMoe : Cert.Moe.Facts] [hPre_in_range : Cert.Pre_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_in_range : Cert.Pre_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeReferenceIdeal [hMoeReferenceIdeal : Cert.MoeReferenceIdeal.Facts] [hPre_in_range : Cert.Pre_in_range.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Moe_MoeIdeal : Prop :=
  True

def algebraic_MoeIdeal_MoeReferenceIdeal [hMoeIdeal : Cert.MoeIdeal.Facts] [hMoeReferenceIdeal : Cert.MoeReferenceIdeal.Facts] [hPre_in_range : Cert.Pre_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)
      ∧ m' ((c.tc : Thread Cert.MoeReferenceIdeal.nD Cert.MoeReferenceIdeal.τ).loc Cert.MoeReferenceIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v138) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v7)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v7) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v8) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4))

def preserves_Qkv_QkvIdeal : Prop :=
  IdealRules.named_const.Statement Cert.QkvIdeal.κ "qscale" .f32 0x3E38AA3B#32 (((Real.log 256)⁻¹ : ℝ) : EReal)

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v13_0)) (v1 : (c : Dev Cert.QkvIdeal.nD) → Buf (Elt Ideal) ((c.tc : Thread Cert.QkvIdeal.nD Cert.QkvIdeal.τ).loc Cert.QkvIdeal.main_v13_3)) (v2 : (c : Dev Cert.QkvIdeal.nD) → Buf (Elt Ideal) ((c.tc : Thread Cert.QkvIdeal.nD Cert.QkvIdeal.τ).loc Cert.QkvIdeal.main_v13_6)) (v3 : (c : Dev Cert.QkvIdeal.nD) → Buf (Elt Ideal) ((c.tc : Thread Cert.QkvIdeal.nD Cert.QkvIdeal.τ).loc Cert.QkvIdeal.main_v13_9)) (v4 : (c : Dev Cert.QkvIdeal.nD) → Buf (Elt Ideal) ((c.tc : Thread Cert.QkvIdeal.nD Cert.QkvIdeal.τ).loc Cert.QkvIdeal.main_v13_10)) (v5 : (c : Dev Cert.QkvIdeal.nD) → Buf (Elt Ideal) ((c.tc : Thread Cert.QkvIdeal.nD Cert.QkvIdeal.τ).loc Cert.QkvIdeal.main_v13_11)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v13_0) = v0 c
          ∧ r.2.mem ((c.tc : Thread Cert.QkvIdeal.nD Cert.QkvIdeal.τ).loc Cert.QkvIdeal.main_v13_3) = v1 c
          ∧ r.2.mem ((c.tc : Thread Cert.QkvIdeal.nD Cert.QkvIdeal.τ).loc Cert.QkvIdeal.main_v13_6) = v2 c
          ∧ r.2.mem ((c.tc : Thread Cert.QkvIdeal.nD Cert.QkvIdeal.τ).loc Cert.QkvIdeal.main_v13_9) = v3 c
          ∧ r.2.mem ((c.tc : Thread Cert.QkvIdeal.nD Cert.QkvIdeal.τ).loc Cert.QkvIdeal.main_v13_10) = v4 c
          ∧ r.2.mem ((c.tc : Thread Cert.QkvIdeal.nD Cert.QkvIdeal.τ).loc Cert.QkvIdeal.main_v13_11) = v5 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v38) = v0 c
          ∧ r.2.mem ((c.tc : Thread Cert.QkvReferenceIdeal.nD Cert.QkvReferenceIdeal.τ).loc Cert.QkvReferenceIdeal.main_v58) = v1 c
          ∧ r.2.mem ((c.tc : Thread Cert.QkvReferenceIdeal.nD Cert.QkvReferenceIdeal.τ).loc Cert.QkvReferenceIdeal.main_v60) = v2 c
          ∧ r.2.mem ((c.tc : Thread Cert.QkvReferenceIdeal.nD Cert.QkvReferenceIdeal.τ).loc Cert.QkvReferenceIdeal.main_v85) = v3 c
          ∧ r.2.mem ((c.tc : Thread Cert.QkvReferenceIdeal.nD Cert.QkvReferenceIdeal.τ).loc Cert.QkvReferenceIdeal.main_v105) = v4 c
          ∧ r.2.mem ((c.tc : Thread Cert.QkvReferenceIdeal.nD Cert.QkvReferenceIdeal.τ).loc Cert.QkvReferenceIdeal.main_v115) = v5 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeReferenceIdeal : Cert.MoeReferenceIdeal.Facts) (hDense : Cert.Dense.Facts) (hDenseIdeal : Cert.DenseIdeal.Facts) (hDenseReferenceIdeal : Cert.DenseReferenceIdeal.Facts) (hQkv : Cert.Qkv.Facts) (hQkvIdeal : Cert.QkvIdeal.Facts) (hQkvReferenceIdeal : Cert.QkvReferenceIdeal.Facts) (hPre_in_range : Cert.Pre_in_range.Facts),
    quiescent_Kernel (hKernel := hKernel)
    ∧ quiescent_KernelIdeal (hKernelIdeal := hKernelIdeal)
    ∧ quiescent_ReferenceIdeal (hReferenceIdeal := hReferenceIdeal)
    ∧ quiescent_Moe (hMoe := hMoe) (hPre_in_range := hPre_in_range)
    ∧ quiescent_MoeIdeal (hMoeIdeal := hMoeIdeal) (hPre_in_range := hPre_in_range)
    ∧ quiescent_MoeReferenceIdeal (hMoeReferenceIdeal := hMoeReferenceIdeal) (hPre_in_range := hPre_in_range)
    ∧ quiescent_Dense (hDense := hDense)
    ∧ quiescent_DenseIdeal (hDenseIdeal := hDenseIdeal)
    ∧ quiescent_DenseReferenceIdeal (hDenseReferenceIdeal := hDenseReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ preserves_Kernel_KernelIdeal
    ∧ algebraic_KernelIdeal_ReferenceIdeal (hKernelIdeal := hKernelIdeal) (hReferenceIdeal := hReferenceIdeal)
    ∧ preserves_Moe_MoeIdeal
    ∧ algebraic_MoeIdeal_MoeReferenceIdeal (hMoeIdeal := hMoeIdeal) (hMoeReferenceIdeal := hMoeReferenceIdeal) (hPre_in_range := hPre_in_range)
    ∧ preserves_Dense_DenseIdeal
    ∧ algebraic_DenseIdeal_DenseReferenceIdeal (hDenseIdeal := hDenseIdeal) (hDenseReferenceIdeal := hDenseReferenceIdeal)
    ∧ preserves_Qkv_QkvIdeal
    ∧ algebraic_QkvIdeal_QkvReferenceIdeal (hQkvIdeal := hQkvIdeal) (hQkvReferenceIdeal := hQkvReferenceIdeal)
-- ==== Pre_in_range.lean ====
abbrev S136 : Shape := ⟨1, ![136]⟩
abbrev S557056x128 : Shape := ⟨2, ![557056, 128]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : IVec S136 32) (main_arg1 : IVec S136 32) (main_arg2 : IVec S136 32) (main_arg3 : FVec F S557056x128 .f32) (main_arg4 : FVec F S8x1024x3584 .f32) (main_arg5 : FVec F S8x1024x3584 .f32) (main_arg6 : FVec F S8x3584x1024 .f32) : IVec S136 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 32 := constantI S_ 32 0#32
  let main_v5 : IVec S136 32 := broadcastInDim S136 ![] bcast_S_S136 main_c_1
  let main_v6 : IVec S136 1 := cmpi .sge main_arg1 main_v5
  let main_v7 : IVec S136 1 := andi main_v4 main_v6
  let main_c_2 : IVec S_ 32 := constantI S_ 32 1#32
  let main_v8 : IVec S136 32 := broadcastInDim S136 ![] bcast_S_S136 main_c_2
  let main_v9 : IVec S136 1 := cmpi .sle main_arg1 main_v8
  let main_v10 : IVec S136 1 := andi main_v7 main_v9
  let main_c_3 : IVec S_ 32 := constantI S_ 32 0#32
  let main_v11 : IVec S136 32 := broadcastInDim S136 ![] bcast_S_S136 main_c_3
  let main_v12 : IVec S136 1 := cmpi .sge main_arg2 main_v11
  let main_v13 : IVec S136 1 := andi main_v10 main_v12
  let main_c_4 : IVec S_ 32 := constantI S_ 32 136#32
  let main_v14 : IVec S136 32 := broadcastInDim S136 ![] bcast_S_S136 main_c_4
  let main_v15 : IVec S136 1 := cmpi .slt main_arg2 main_v14
  let main_v16 : IVec S136 1 := andi main_v13 main_v15
  main_v16
-- ==== Kernel.lean ====
abbrev S4x8192x4x64 : Shape := ⟨4, ![4, 8192, 4, 64]⟩
abbrev S_ : Shape := ⟨0, ![]⟩
abbrev S4x2048x1024 : Shape := ⟨3, ![4, 2048, 1024]⟩
abbrev S1x1024x256 : Shape := ⟨3, ![1, 1024, 256]⟩
abbrev S1x128x256 : Shape := ⟨3, ![1, 128, 256]⟩
abbrev S128x256 : Shape := ⟨2, ![128, 256]⟩
abbrev S256x128 : Shape := ⟨2, ![256, 128]⟩
abbrev S128x128 : Shape := ⟨2, ![128, 128]⟩
abbrev S256x256 : Shape := ⟨2, ![256, 256]⟩
abbrev S128 : Shape := ⟨1, ![128]⟩
abbrev S128x1 : Shape := ⟨2, ![128, 1]⟩
abbrev S1x128x128 : Shape := ⟨3, ![1, 128, 128]⟩
abbrev S1x256x256 : Shape := ⟨3, ![1, 256, 256]⟩

abbrev nBuf : Space → Nat
  | .hbm => 20
  | .vmem => 14
  | .smem => 0
  | _ => 0

abbrev bufTy : (tb : Table) → Fin (tcTables nBuf tb) → BufTy
  | .hbm, ⟨0, _⟩ => ⟨S4x8192x4x64, .f32⟩
  | .hbm, ⟨1, _⟩ => ⟨S4x8192x4x64, .f32⟩
  | .hbm, ⟨2, _⟩ => ⟨S4x8192x4x64, .f32⟩
  | .hbm, ⟨3, _⟩ => ⟨S_, .f32⟩
  | .hbm, ⟨4, _⟩ => ⟨S4x8192x4x64, .f32⟩
  | .hbm, ⟨5, _⟩ => ⟨S4x8192x4x64, .f32⟩
  | .hbm, ⟨6, _⟩ => ⟨S_, .f32⟩
  | .hbm, ⟨7, _⟩ => ⟨S_, .f32⟩
  | .hbm, ⟨8, _⟩ => ⟨S4x8192x4x64, .f32⟩
  | .hbm, ⟨9, _⟩ => ⟨S4x8192x4x64, .f32⟩
  | .hbm, ⟨10, _⟩ => ⟨S4x8192x4x64, .bf16⟩
  | .hbm, ⟨11, _⟩ => ⟨S4x8192x4x64, .bf16⟩
  | .hbm, ⟨12, _⟩ => ⟨S4x8192x4x64, .bf16⟩
  | .hbm, ⟨13, _⟩ => ⟨S4x2048x1024, .bf16⟩
  | .hbm, ⟨14, _⟩ => ⟨S4x2048x1024, .bf16⟩
  | .hbm, ⟨15, _⟩ => ⟨S4x2048x1024, .bf16⟩
  | .hbm, ⟨16, _⟩ => ⟨S4x2048x1024, .bf16⟩
  | .hbm, ⟨17, _⟩ => ⟨S4x2048x1024, .bf16⟩
  | .hbm, ⟨18, _⟩ => ⟨S4x2048x1024, .bf16⟩
  | .hbm, ⟨19, _⟩ => ⟨S4x2048x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x256, .f32⟩
  | .local _ .vmem, ⟨13, _⟩ => ⟨S1x1024x256, .f32⟩
  | _, _ => ⟨S4x8192x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S4x8192x4x64 : Shape := ⟨4, ![4, 8192, 4, 64]⟩
abbrev S4x2048x16x64 : Shape := ⟨4, ![4, 2048, 16, 64]⟩
abbrev S4x16x2048x64 : Shape := ⟨4, ![4, 16, 2048, 64]⟩
abbrev S64x16x128x64 : Shape := ⟨4, ![64, 16, 128, 64]⟩
abbrev S_ : Shape := ⟨0, ![]⟩
abbrev S64x1x128x64 : Shape := ⟨4, ![64, 1, 128, 64]⟩
abbrev S64x15x128x64 : Shape := ⟨4, ![64, 15, 128, 64]⟩
abbrev S64x16x256x64 : Shape := ⟨4, ![64, 16, 256, 64]⟩
abbrev S64x16x128x256 : Shape := ⟨4, ![64, 16, 128, 256]⟩
abbrev S16x128x256 : Shape := ⟨3, ![16, 128, 256]⟩
abbrev S64x16x128 : Shape := ⟨3, ![64, 16, 128]⟩
abbrev S64x16x128x1 : Shape := ⟨4, ![64, 16, 128, 1]⟩
abbrev S4x2048x1024 : Shape := ⟨3, ![4, 2048, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4x8192x4x64, .f32⟩
  | .hbm, ⟨1, _⟩ => ⟨S4x8192x4x64, .f32⟩
  | .hbm, ⟨2, _⟩ => ⟨S4x8192x4x64, .f32⟩
  | .hbm, ⟨3, _⟩ => ⟨S4x2048x16x64, .f32⟩
  | .hbm, ⟨4, _⟩ => ⟨S4x16x2048x64, .f32⟩
  | .hbm, ⟨5, _⟩ => ⟨S64x16x128x64, .f32⟩
  | .hbm, ⟨6, _⟩ => ⟨S4x2048x16x64, .f32⟩
  | .hbm, ⟨7, _⟩ => ⟨S4x16x2048x64, .f32⟩
  | .hbm, ⟨8, _⟩ => ⟨S64x16x128x64, .f32⟩
  | .hbm, ⟨9, _⟩ => ⟨S_, .f32⟩
  | .hbm, ⟨10, _⟩ => ⟨S64x1x128x64, .f32⟩
  | .hbm, ⟨11, _⟩ => ⟨S64x15x128x64, .f32⟩
  | .hbm, ⟨12, _⟩ => ⟨S64x16x128x64, .f32⟩
  | .hbm, ⟨13, _⟩ => ⟨S64x16x256x64, .f32⟩
  | .hbm, ⟨14, _⟩ => ⟨S4x2048x16x64, .f32⟩
  | .hbm, ⟨15, _⟩ => ⟨S4x16x2048x64, .f32⟩
  | .hbm, ⟨16, _⟩ => ⟨S64x16x128x64, .f32⟩
  | .hbm, ⟨17, _⟩ => ⟨S_, .f32⟩
  | .hbm, ⟨18, _⟩ => ⟨S64x1x128x64, .f32⟩
  | .hbm, ⟨19, _⟩ => ⟨S64x15x128x64, .f32⟩
  | .hbm, ⟨20, _⟩ => ⟨S64x16x128x64, .f32⟩
  | .hbm, ⟨21, _⟩ => ⟨S64x16x256x64, .f32⟩
  | .hbm, ⟨22, _⟩ => ⟨S64x16x128x256, .f32⟩
  | .hbm, ⟨23, _⟩ => ⟨S_, .f32⟩
  | .hbm, ⟨24, _⟩ => ⟨S64x16x128x256, .f32⟩
  | .hbm, ⟨25, _⟩ => ⟨S64x16x128x256, .f32⟩
  | .hbm, ⟨26, _⟩ => ⟨S16x128x256, .i32⟩
  | .hbm, ⟨27, _⟩ => ⟨S16x128x256, .i32⟩
  | .hbm, ⟨28, _⟩ => ⟨S16x128x256, .i32⟩
  | .hbm, ⟨29, _⟩ => ⟨S_, .i32⟩
  | .hbm, ⟨30, _⟩ => ⟨S16x128x256, .i32⟩
  | .hbm, ⟨31, _⟩ => ⟨S16x128x256, .i32⟩
  | .hbm, ⟨32, _⟩ => ⟨S16x128x256, .i32⟩
  | .hbm, ⟨33, _⟩ => ⟨S_, .i32⟩
  | .hbm, ⟨34, _⟩ => ⟨S16x128x256, .i32⟩
  | .hbm, ⟨35, _⟩ => ⟨S16x128x256, .i1⟩
  | .hbm, ⟨36, _⟩ => ⟨S_, .i32⟩
  | .hbm, ⟨37, _⟩ => ⟨S16x128x256, .i32⟩
  | .hbm, ⟨38, _⟩ => ⟨S16x128x256, .i1⟩
  | .hbm, ⟨39, _⟩ => ⟨S16x128x256, .i1⟩
  | .hbm, ⟨40, _⟩ => ⟨S_, .i32⟩
  | .hbm, ⟨41, _⟩ => ⟨S16x128x256, .i32⟩
  | .hbm, ⟨42, _⟩ => ⟨S16x128x256, .i1⟩
  | .hbm, ⟨43, _⟩ => ⟨S_, .i32⟩
  | .hbm, ⟨44, _⟩ => ⟨S16x128x256, .i32⟩
  | .hbm, ⟨45, _⟩ => ⟨S16x128x256, .i1⟩
  | .hbm, ⟨46, _⟩ => ⟨S16x128x256, .i1⟩
  | .hbm, ⟨47, _⟩ => ⟨S16x128x256, .i1⟩
  | .hbm, ⟨48, _⟩ => ⟨S_, .f32⟩
  | .hbm, ⟨49, _⟩ => ⟨S_, .f32⟩
  | .hbm, ⟨50, _⟩ => ⟨S64x16x128x256, .i1⟩
  | .hbm, ⟨51, _⟩ => ⟨S64x16x128x256, .f32⟩
  | .hbm, ⟨52, _⟩ => ⟨S64x16x128x256, .f32⟩
  | .hbm, ⟨53, _⟩ => ⟨S_, .f32⟩
  | .hbm, ⟨54, _⟩ => ⟨S64x16x128, .f32⟩
  | .hbm, ⟨55, _⟩ => ⟨S64x16x128x1, .f32⟩
  | .hbm, ⟨56, _⟩ => ⟨S64x16x128x256, .f32⟩
  | .hbm, ⟨57, _⟩ => ⟨S64x16x128x256, .f32⟩
  | .hbm, ⟨58, _⟩ => ⟨S64x16x128x256, .f32⟩
  | .hbm, ⟨59, _⟩ => ⟨S_, .f32⟩
  | .hbm, ⟨60, _⟩ => ⟨S64x16x128, .f32⟩
  | .hbm, ⟨61, _⟩ => ⟨S64x16x128x1, .f32⟩
  | .hbm, ⟨62, _⟩ => ⟨S64x16x128x64, .f32⟩
  | .hbm, ⟨63, _⟩ => ⟨S64x16x128x64, .f32⟩
  | .hbm, ⟨64, _⟩ => ⟨S64x16x128x64, .f32⟩
  | .hbm, ⟨65, _⟩ => ⟨S64x16x128x1, .f32⟩
  | .hbm, ⟨66, _⟩ => ⟨S64x16x128x1, .f32⟩
  | .hbm, ⟨67, _⟩ => ⟨S_, .f32⟩
  | .hbm, ⟨68, _⟩ => ⟨S_, .f32⟩
  | .hbm, ⟨69, _⟩ => ⟨S64x16x128x1, .f32⟩
  | .hbm, ⟨70, _⟩ => ⟨S64x16x128x1, .f32⟩
  | .hbm, ⟨71, _⟩ => ⟨S4x16x2048x64, .f32⟩
  | .hbm, ⟨72, _⟩ => ⟨S4x2048x16x64, .f32⟩
  | .hbm, ⟨73, _⟩ => ⟨S4x2048x1024, .f32⟩
  | .hbm, ⟨74, _⟩ => ⟨S4x2048x1024, .bf16⟩
  | .hbm, ⟨75, _⟩ => ⟨S64x16x128x64, .f32⟩
  | .hbm, ⟨76, _⟩ => ⟨S4x16x2048x64, .f32⟩
  | .hbm, ⟨77, _⟩ => ⟨S4x2048x16x64, .f32⟩
  | .hbm, ⟨78, _⟩ => ⟨S4x2048x1024, .f32⟩
  | _, _ => ⟨S4x8192x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_v32 : Ref sig .tc := ⟨.hbm, 42, rfl⟩
abbrev main_c_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Moe.lean ====
abbrev S136 : Shape := ⟨1, ![136]⟩
abbrev S557056x128 : Shape := ⟨2, ![557056, 128]⟩
abbrev S8x1024x3584 : Shape := ⟨3, ![8, 1024, 3584]⟩
abbrev S8x3584x1024 : Shape := ⟨3, ![8, 3584, 1024]⟩
abbrev S4096x128 : Shape := ⟨2, ![4096, 128]⟩
abbrev S1 : Shape := ⟨1, ![1]⟩
abbrev S1x1024x1792 : Shape := ⟨3, ![1, 1024, 1792]⟩
abbrev S1x1792x1024 : Shape := ⟨3, ![1, 1792, 1024]⟩
abbrev S512x1024 : Shape := ⟨2, ![512, 1024]⟩
abbrev S512x128 : Shape := ⟨2, ![512, 128]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 8
  | .vmem => 11
  | .smem => 3
  | _ => 0

abbrev bufTy : (tb : Table) → Fin (tcTables nBuf tb) → BufTy
  | .hbm, ⟨0, _⟩ => ⟨S557056x128, .f32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S557056x128, .f32⟩
  | .local _ .vmem, ⟨0, _⟩ => ⟨S4096x128, .f32⟩
  | .local _ .vmem, ⟨1, _⟩ => ⟨S4096x128, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S4096x128, .f32⟩
  | .local _ .vmem, ⟨9, _⟩ => ⟨S4096x128, .f32⟩
  | .local _ .vmem, ⟨10, _⟩ => ⟨S512x1024, .f32⟩
  | .local _ .smem, ⟨0, _⟩ => ⟨S136, .i32⟩
  | .local _ .smem, ⟨1, _⟩ => ⟨S136, .i32⟩
  | .local _ .smem, ⟨2, _⟩ => ⟨S136, .i32⟩
  | _, _ => ⟨S557056x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 2], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v7 : Index := Scalar.indexCast arg0
  ![v7.toNat]
def k0_cond1 (i : grid0.Coords) (v1 : BitVec 32) : BitVec 1 :=
  let c0_i32 : BitVec 32 := 0#32
  let v2 : BitVec 1 := Scalar.cmpi .eq v1 c0_i32
  let arg1 : BitVec 32 := BitVec.ofNat 32 (i 1).val
  let c0_i32_0 : BitVec 32 := 0#32
  let v3 : BitVec 1 := Scalar.cmpi .eq arg1 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def k0_cond3 (i : grid0.Coords) (v8 : BitVec 32) : BitVec 1 :=
  let c0_i32_2 : BitVec 32 := 0#32
  let v9 : BitVec 1 := Scalar.cmpi .sgt v8 c0_i32_2
  let arg1 : BitVec 32 := BitVec.ofNat 32 (i 1).val
  let c1_i32 : BitVec 32 := 1#32
  let v14 : BitVec 1 := Scalar.cmpi .eq arg1 c1_i32
  let v15 : BitVec 1 := Scalar.andi v9 v14
  let v16 : BitVec 32 := Scalar.extui v15
  let c0_i32_5 : BitVec 32 := 0#32
  let v17 : BitVec 1 := Scalar.cmpi .ne v16 c0_i32_5
  v17

def cc0_transform_0 (k0_off1_inb : ∀ i : grid0.Coords, ∀ a, (k0_off1 i) a + S1.size a ≤ S136.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S136) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let v4 : BitVec 32 := Scalar.muli arg1 v3
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let v4 : BitVec 32 := Scalar.muli arg1 v3
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let v4 : BitVec 32 := Scalar.muli arg1 v3
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeReferenceIdeal.lean ====
abbrev S136 : Shape := ⟨1, ![136]⟩
abbrev S557056x128 : Shape := ⟨2, ![557056, 128]⟩
abbrev S8x1024x3584 : Shape := ⟨3, ![8, 1024, 3584]⟩
abbrev S8x3584x1024 : Shape := ⟨3, ![8, 3584, 1024]⟩
abbrev S136x512x1024 : Shape := ⟨3, ![136, 512, 1024]⟩
abbrev S_ : Shape := ⟨0, ![]⟩
abbrev S136x1 : Shape := ⟨2, ![136, 1]⟩
abbrev S69632x1024 : Shape := ⟨2, ![69632, 1024]⟩
abbrev S1x8 : Shape := ⟨2, ![1, 8]⟩
abbrev S136x8 : Shape := ⟨2, ![136, 8]⟩
abbrev S136x1x8 : Shape := ⟨3, ![136, 1, 8]⟩
abbrev S136x512x8 : Shape := ⟨3, ![136, 512, 8]⟩
abbrev S69632x8 : Shape := ⟨2, ![69632, 8]⟩
abbrev S69632x1 : Shape := ⟨2, ![69632, 1]⟩
abbrev S1x1024x3584 : Shape := ⟨3, ![1, 1024, 3584]⟩
abbrev S1024x3584 : Shape := ⟨2, ![1024, 3584]⟩
abbrev S69632x3584 : Shape := ⟨2, ![69632, 3584]⟩
abbrev S1x3584x1024 : Shape := ⟨3, ![1, 3584, 1024]⟩
abbrev S3584x1024 : Shape := ⟨2, ![3584, 1024]⟩

abbrev nBuf : Space → Nat
  | .hbm => 218
  | .vmem => 0
  | .smem => 0
  | _ => 0

abbrev hbmTy0_0 (i : Nat) : BufTy := match i % 128 with
  | 0 => ⟨S136, .i32⟩
  | 1 => ⟨S136, .i32⟩
  | 2 => ⟨S136, .i32⟩
  | 3 => ⟨S557056x128, .f32⟩
  | 4 => ⟨S8x1024x3584, .f32⟩
  | 5 => ⟨S8x1024x3584, .f32⟩
  | 6 => ⟨S8x3584x1024, .f32⟩
  | 7 => ⟨S136x512x1024, .f32⟩
  | 8 => ⟨S_, .i32⟩
  | 9 => ⟨S136, .i32⟩
  | 10 => ⟨S136, .i1⟩
  | 11 => ⟨S_, .i32⟩
  | 12 => ⟨S136, .i32⟩
  | 13 => ⟨S136, .i32⟩
  | 14 => ⟨S136, .i32⟩
  | 15 => ⟨S136x1, .i32⟩
  | 16 => ⟨S136x512x1024, .f32⟩
  | 17 => ⟨S69632x1024, .f32⟩
  | 18 => ⟨S136x1, .i32⟩
  | 19 => ⟨S1x8, .i32⟩
  | 20 => ⟨S136x8, .i32⟩
  | 21 => ⟨S136x8, .i32⟩
  | 22 => ⟨S136x8, .i1⟩
  | 23 => ⟨S136x8, .f32⟩
  | 24 => ⟨S136, .f32⟩
  | 25 => ⟨S136x1, .f32⟩
  | 26 => ⟨S136x8, .f32⟩
  | 27 => ⟨S136x8, .f32⟩
  | 28 => ⟨S136x1x8, .f32⟩
  | 29 => ⟨S136x512x8, .f32⟩
  | 30 => ⟨S69632x8, .f32⟩
  | 31 => ⟨S_, .f32⟩
  | 32 => ⟨S69632x1024, .f32⟩
  | 33 => ⟨S69632x1, .f32⟩
  | 34 => ⟨S1x1024x3584, .f32⟩
  | 35 => ⟨S1024x3584, .f32⟩
  | 36 => ⟨S69632x3584, .f32⟩
  | 37 => ⟨S69632x3584, .f32⟩
  | 38 => ⟨S69632x3584, .f32⟩
  | 39 => ⟨S_, .f32⟩
  | 40 => ⟨S69632x3584, .f32⟩
  | 41 => ⟨S69632x3584, .f32⟩
  | 42 => ⟨S_, .f32⟩
  | 43 => ⟨S69632x3584, .f32⟩
  | 44 => ⟨S69632x3584, .f32⟩
  | 45 => ⟨S69632x3584, .f32⟩
  | 46 => ⟨S1x1024x3584, .f32⟩
  | 47 => ⟨S1024x3584, .f32⟩
  | 48 => ⟨S69632x3584, .f32⟩
  | 49 => ⟨S69632x3584, .f32⟩
  | 50 => ⟨S1x3584x1024, .f32⟩
  | 51 => ⟨S3584x1024, .f32⟩
  | 52 => ⟨S69632x1024, .f32⟩
  | 53 => ⟨S69632x1024, .f32⟩
  | 54 => ⟨S69632x1024, .f32⟩
  | 55 => ⟨S69632x1024, .f32⟩
  | 56 => ⟨S69632x1, .f32⟩
  | 57 => ⟨S1x1024x3584, .f32⟩
  | 58 => ⟨S1024x3584, .f32⟩
  | 59 => ⟨S69632x3584, .f32⟩
  | 60 => ⟨S69632x3584, .f32⟩
  | 61 => ⟨S69632x3584, .f32⟩
  | 62 => ⟨S_, .f32⟩
  | 63 => ⟨S69632x3584, .f32⟩
  | 64 => ⟨S69632x3584, .f32⟩
  | 65 => ⟨S_, .f32⟩
  | 66 => ⟨S69632x3584, .f32⟩
  | 67 => ⟨S69632x3584, .f32⟩
  | 68 => ⟨S69632x3584, .f32⟩
  | 69 => ⟨S1x1024x3584, .f32⟩
  | 70 => ⟨S1024x3584, .f32⟩
  | 71 => ⟨S69632x3584, .f32⟩
  | 72 => ⟨S69632x3584, .f32⟩
  | 73 => ⟨S1x3584x1024, .f32⟩
  | 74 => ⟨S3584x1024, .f32⟩
  | 75 => ⟨S69632x1024, .f32⟩
  | 76 => ⟨S69632x1024, .f32⟩
  | 77 => ⟨S69632x1024, .f32⟩
  | 78 => ⟨S69632x1024, .f32⟩
  | 79 => ⟨S69632x1, .f32⟩
  | 80 => ⟨S1x1024x3584, .f32⟩
  | 81 => ⟨S1024x3584, .f32⟩
  | 82 => ⟨S69632x3584, .f32⟩
  | 83 => ⟨S69632x3584, .f32⟩
  | 84 => ⟨S69632x3584, .f32⟩
  | 85 => ⟨S_, .f32⟩
  | 86 => ⟨S69632x3584, .f32⟩
  | 87 => ⟨S69632x3584, .f32⟩
  | 88 => ⟨S_, .f32⟩
  | 89 => ⟨S69632x3584, .f32⟩
  | 90 => ⟨S69632x3584, .f32⟩
  | 91 => ⟨S69632x3584, .f32⟩
  | 92 => ⟨S1x1024x3584, .f32⟩
  | 93 => ⟨S1024x3584, .f32⟩
  | 94 => ⟨S69632x3584, .f32⟩
  | 95 => ⟨S69632x3584, .f32⟩
  | 96 => ⟨S1x3584x1024, .f32⟩
  | 97 => ⟨S3584x1024, .f32⟩
  | 98 => ⟨S69632x1024, .f32⟩
  | 99 => ⟨S69632x1024, .f32⟩
  | 100 => ⟨S69632x1024, .f32⟩
  | 101 => ⟨S69632x1024, .f32⟩
  | 102 => ⟨S69632x1, .f32⟩
  | 103 => ⟨S1x1024x3584, .f32⟩
  | 104 => ⟨S1024x3584, .f32⟩
  | 105 => ⟨S69632x3584, .f32⟩
  | 106 => ⟨S69632x3584, .f32⟩
  | 107 => ⟨S69632x3584, .f32⟩
  | 108 => ⟨S_, .f32⟩
  | 109 => ⟨S69632x3584, .f32⟩
  | 110 => ⟨S69632x3584, .f32⟩
  | 111 => ⟨S_, .f32⟩
  | 112 => ⟨S69632x3584, .f32⟩
  | 113 => ⟨S69632x3584, .f32⟩
  | 114 => ⟨S69632x3584, .f32⟩
  | 115 => ⟨S1x1024x3584, .f32⟩
  | 116 => ⟨S1024x3584, .f32⟩
  | 117 => ⟨S69632x3584, .f32⟩
  | 118 => ⟨S69632x3584, .f32⟩
  | 119 => ⟨S1x3584x1024, .f32⟩
  | 120 => ⟨S3584x1024, .f32⟩
  | 121 => ⟨S69632x1024, .f32⟩
  | 122 => ⟨S69632x1024, .f32⟩
  | 123 => ⟨S69632x1024, .f32⟩
  | 124 => ⟨S69632x1024, .f32⟩
  | 125 => ⟨S69632x1, .f32⟩
  | 126 => ⟨S1x1024x3584, .f32⟩
  | 127 => ⟨S1024x3584, .f32⟩
  | _ => ⟨S136, .i32⟩

abbrev hbmTy0_1 (i : Nat) : BufTy := match i % 128 with
  | 0 => ⟨S69632x3584, .f32⟩
  | 1 => ⟨S69632x3584, .f32⟩
  | 2 => ⟨S69632x3584, .f32⟩
  | 3 => ⟨S_, .f32⟩
  | 4 => ⟨S69632x3584, .f32⟩
  | 5 => ⟨S69632x3584, .f32⟩
  | 6 => ⟨S_, .f32⟩
  | 7 => ⟨S69632x3584, .f32⟩
  | 8 => ⟨S69632x3584, .f32⟩
  | 9 => ⟨S69632x3584, .f32⟩
  | 10 => ⟨S1x1024x3584, .f32⟩
  | 11 => ⟨S1024x3584, .f32⟩
  | 12 => ⟨S69632x3584, .f32⟩
  | 13 => ⟨S69632x3584, .f32⟩
  | 14 => ⟨S1x3584x1024, .f32⟩
  | 15 => ⟨S3584x1024, .f32⟩
  | 16 => ⟨S69632x1024, .f32⟩
  | 17 => ⟨S69632x1024, .f32⟩
  | 18 => ⟨S69632x1024, .f32⟩
  | 19 => ⟨S69632x1024, .f32⟩
  | 20 => ⟨S69632x1, .f32⟩
  | 21 => ⟨S1x1024x3584, .f32⟩
  | 22 => ⟨S1024x3584, .f32⟩
  | 23 => ⟨S69632x3584, .f32⟩
  | 24 => ⟨S69632x3584, .f32⟩
  | 25 => ⟨S69632x3584, .f32⟩
  | 26 => ⟨S_, .f32⟩
  | 27 => ⟨S69632x3584, .f32⟩
  | 28 => ⟨S69632x3584, .f32⟩
  | 29 => ⟨S_, .f32⟩
  | 30 => ⟨S69632x3584, .f32⟩
  | 31 => ⟨S69632x3584, .f32⟩
  | 32 => ⟨S69632x3584, .f32⟩
  | 33 => ⟨S1x1024x3584, .f32⟩
  | 34 => ⟨S1024x3584, .f32⟩
  | 35 => ⟨S69632x3584, .f32⟩
  | 36 => ⟨S69632x3584, .f32⟩
  | 37 => ⟨S1x3584x1024, .f32⟩
  | 38 => ⟨S3584x1024, .f32⟩
  | 39 => ⟨S69632x1024, .f32⟩
  | 40 => ⟨S69632x1024, .f32⟩
  | 41 => ⟨S69632x1024, .f32⟩
  | 42 => ⟨S69632x1024, .f32⟩
  | 43 => ⟨S69632x1, .f32⟩
  | 44 => ⟨S1x1024x3584, .f32⟩
  | 45 => ⟨S1024x3584, .f32⟩
  | 46 => ⟨S69632x3584, .f32⟩
  | 47 => ⟨S69632x3584, .f32⟩
  | 48 => ⟨S69632x3584, .f32⟩
  | 49 => ⟨S_, .f32⟩
  | 50 => ⟨S69632x3584, .f32⟩
  | 51 => ⟨S69632x3584, .f32⟩
  | 52 => ⟨S_, .f32⟩
  | 53 => ⟨S69632x3584, .f32⟩
  | 54 => ⟨S69632x3584, .f32⟩
  | 55 => ⟨S69632x3584, .f32⟩
  | 56 => ⟨S1x1024x3584, .f32⟩
  | 57 => ⟨S1024x3584, .f32⟩
  | 58 => ⟨S69632x3584, .f32⟩
  | 59 => ⟨S69632x3584, .f32⟩
  | 60 => ⟨S1x3584x1024, .f32⟩
  | 61 => ⟨S3584x1024, .f32⟩
  | 62 => ⟨S69632x1024, .f32⟩
  | 63 => ⟨S69632x1024, .f32⟩
  | 64 => ⟨S69632x1024, .f32⟩
  | 65 => ⟨S69632x1024, .f32⟩
  | 66 => ⟨S69632x1, .f32⟩
  | 67 => ⟨S1x1024x3584, .f32⟩
  | 68 => ⟨S1024x3584, .f32⟩
  | 69 => ⟨S69632x3584, .f32⟩
  | 70 => ⟨S69632x3584, .f32⟩
  | 71 => ⟨S69632x3584, .f32⟩
  | 72 => ⟨S_, .f32⟩
  | 73 => ⟨S69632x3584, .f32⟩
  | 74 => ⟨S69632x3584, .f32⟩
  | 75 => ⟨S_, .f32⟩
  | 76 => ⟨S69632x3584, .f32⟩
  | 77 => ⟨S69632x3584, .f32⟩
  | 78 => ⟨S69632x3584, .f32⟩
  | 79 => ⟨S1x1024x3584, .f32⟩
  | 80 => ⟨S1024x3584, .f32⟩
  | 81 => ⟨S69632x3584, .f32⟩
  | 82 => ⟨S69632x3584, .f32⟩
  | 83 => ⟨S1x3584x1024, .f32⟩
  | 84 => ⟨S3584x1024, .f32⟩
  | 85 => ⟨S69632x1024, .f32⟩
  | 86 => ⟨S69632x1024, .f32⟩
  | 87 => ⟨S69632x1024, .f32⟩
  | 88 => ⟨S69632x1024, .f32⟩
  | 89 => ⟨S557056x128, .f32⟩
  | _ => ⟨S136, .i32⟩

abbrev hbmTy (i : Nat) : BufTy := match i / 128 with
  | 0 => hbmTy0_0 i
  | 1 => hbmTy0_1 i
  | _ => ⟨S136, .i32⟩

abbrev bufTy : (tb : Table) → Fin (tcTables nBuf tb) → BufTy
  | .hbm, ⟨i, _⟩ => hbmTy i
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call1_v0 : Ref sig .tc := ⟨.hbm, 37, rfl⟩
abbrev main_call1_v1 : Ref sig .tc := ⟨.hbm, 38, rfl⟩
abbrev main_call1_cst : Ref sig .tc := ⟨.hbm, 39, rfl⟩
abbrev main_call1_v2 : Ref sig .tc := ⟨.hbm, 40, rfl⟩
abbrev main_call1_v3 : Ref sig .tc := ⟨.hbm, 41, rfl⟩
abbrev main_call1_cst_0 : Ref sig .tc := ⟨.hbm, 42, rfl⟩
abbrev main_call1_v4 : Ref sig .tc := ⟨.hbm, 43, rfl⟩
abbrev main_call1_v5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call2_v0 : Ref sig .tc := ⟨.hbm, 60, rfl⟩
abbrev main_call2_v1 : Ref sig .tc := ⟨.hbm, 61, rfl⟩
abbrev main_call2_cst : Ref sig .tc := ⟨.hbm, 62, rfl⟩
abbrev main_call2_v2 : Ref sig .tc := ⟨.hbm, 63, rfl⟩
abbrev main_call2_v3 : Ref sig .tc := ⟨.hbm, 64, rfl⟩
abbrev main_call2_cst_0 : Ref sig .tc := ⟨.hbm, 65, rfl⟩
abbrev main_call2_v4 : Ref sig .tc := ⟨.hbm, 66, rfl⟩
abbrev main_call2_v5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_call3_v0 : Ref sig .tc := ⟨.hbm, 83, rfl⟩
abbrev main_call3_v1 : Ref sig .tc := ⟨.hbm, 84, rfl⟩
abbrev main_call3_cst : Ref sig .tc := ⟨.hbm, 85, rfl⟩
abbrev main_call3_v2 : Ref sig .tc := ⟨.hbm, 86, rfl⟩
abbrev main_call3_v3 : Ref sig .tc := ⟨.hbm, 87, rfl⟩
abbrev main_call3_cst_0 : Ref sig .tc := ⟨.hbm, 88, rfl⟩
abbrev main_call3_v4 : Ref sig .tc := ⟨.hbm, 89, rfl⟩
abbrev main_call3_v5 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call4_v0 : Ref sig .tc := ⟨.hbm, 106, rfl⟩
abbrev main_call4_v1 : Ref sig .tc := ⟨.hbm, 107, rfl⟩
abbrev main_call4_cst : Ref sig .tc := ⟨.hbm, 108, rfl⟩
abbrev main_call4_v2 : Ref sig .tc := ⟨.hbm, 109, rfl⟩
abbrev main_call4_v3 : Ref sig .tc := ⟨.hbm, 110, rfl⟩
abbrev main_call4_cst_0 : Ref sig .tc := ⟨.hbm, 111, rfl⟩
abbrev main_call4_v4 : Ref sig .tc := ⟨.hbm, 112, rfl⟩
abbrev main_call4_v5 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_call5_v0 : Ref sig .tc := ⟨.hbm, 129, rfl⟩
abbrev main_call5_v1 : Ref sig .tc := ⟨.hbm, 130, rfl⟩
abbrev main_call5_cst : Ref sig .tc := ⟨.hbm, 131, rfl⟩
abbrev main_call5_v2 : Ref sig .tc := ⟨.hbm, 132, rfl⟩
abbrev main_call5_v3 : Ref sig .tc := ⟨.hbm, 133, rfl⟩
abbrev main_call5_cst_0 : Ref sig .tc := ⟨.hbm, 134, rfl⟩
abbrev main_call5_v4 : Ref sig .tc := ⟨.hbm, 135, rfl⟩
abbrev main_call5_v5 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_call6_v0 : Ref sig .tc := ⟨.hbm, 152, rfl⟩
abbrev main_call6_v1 : Ref sig .tc := ⟨.hbm, 153, rfl⟩
abbrev main_call6_cst : Ref sig .tc := ⟨.hbm, 154, rfl⟩
abbrev main_call6_v2 : Ref sig .tc := ⟨.hbm, 155, rfl⟩
abbrev main_call6_v3 : Ref sig .tc := ⟨.hbm, 156, rfl⟩
abbrev main_call6_cst_0 : Ref sig .tc := ⟨.hbm, 157, rfl⟩
abbrev main_call6_v4 : Ref sig .tc := ⟨.hbm, 158, rfl⟩
abbrev main_call6_v5 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_call7_v0 : Ref sig .tc := ⟨.hbm, 175, rfl⟩
abbrev main_call7_v1 : Ref sig .tc := ⟨.hbm, 176, rfl⟩
abbrev main_call7_cst : Ref sig .tc := ⟨.hbm, 177, rfl⟩
abbrev main_call7_v2 : Ref sig .tc := ⟨.hbm, 178, rfl⟩
abbrev main_call7_v3 : Ref sig .tc := ⟨.hbm, 179, rfl⟩
abbrev main_call7_cst_0 : Ref sig .tc := ⟨.hbm, 180, rfl⟩
abbrev main_call7_v4 : Ref sig .tc := ⟨.hbm, 181, rfl⟩
abbrev main_call7_v5 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_call8_v0 : Ref sig .tc := ⟨.hbm, 198, rfl⟩
abbrev main_call8_v1 : Ref sig .tc := ⟨.hbm, 199, rfl⟩
abbrev main_call8_cst : Ref sig .tc := ⟨.hbm, 200, rfl⟩
abbrev main_call8_v2 : Ref sig .tc := ⟨.hbm, 201, rfl⟩
abbrev main_call8_v3 : Ref sig .tc := ⟨.hbm, 202, rfl⟩
abbrev main_call8_cst_0 : Ref sig .tc := ⟨.hbm, 203, rfl⟩
abbrev main_call8_v4 : Ref sig .tc := ⟨.hbm, 204, rfl⟩
abbrev main_call8_v5 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩

abbrev nD : Nat := 1
abbrev τ : Topo := Topo.v7x

variable {F : FTy → Type} [FloatOps F]
-- ==== Dense.lean ====
abbrev S32768x1024 : Shape := ⟨2, ![32768, 1024]⟩
abbrev S1x1024x3584 : Shape := ⟨3, ![1, 1024, 3584]⟩
abbrev S1x3584x1024 : Shape := ⟨3, ![1, 3584, 1024]⟩
abbrev S64 : Shape := ⟨1, ![64]⟩
abbrev S_ : Shape := ⟨0, ![]⟩
abbrev S512x1024 : Shape := ⟨2, ![512, 1024]⟩
abbrev S1 : Shape := ⟨1, ![1]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 12
  | .vmem => 13
  | .smem => 3
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1x1024x3584, .f32⟩
  | .hbm, ⟨3, _⟩ => ⟨S1x1024x3584, .f32⟩
  | .hbm, ⟨4, _⟩ => ⟨S1x3584x1024, .f32⟩
  | .hbm, ⟨5, _⟩ => ⟨S32768x1024, .bf16⟩
  | .hbm, ⟨6, _⟩ => ⟨S1x1024x3584, .bf16⟩
  | .hbm, ⟨7, _⟩ => ⟨S1x1024x3584, .bf16⟩
  | .hbm, ⟨8, _⟩ => ⟨S1x3584x1024, .bf16⟩
  | .hbm, ⟨9, _⟩ => ⟨S_, .i32⟩
  | .hbm, ⟨10, _⟩ => ⟨S_, .i32⟩
  | .hbm, ⟨11, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024x1792, .bf16⟩
  | .local _ .vmem, ⟨5, _⟩ => ⟨S1x1024x1792, .bf16⟩
  | .local _ .vmem, ⟨6, _⟩ => ⟨S1x1024x1792, .bf16⟩
  | .local _ .vmem, ⟨7, _⟩ => ⟨S1x1024x1792, .bf16⟩
  | .local _ .vmem, ⟨8, _⟩ => ⟨S1x1792x1024, .bf16⟩
  | .local _ .vmem, ⟨9, _⟩ => ⟨S1x1792x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .smem, ⟨0, _⟩ => ⟨S64, .i32⟩
  | .local _ .smem, ⟨1, _⟩ => ⟨S64, .i32⟩
  | .local _ .smem, ⟨2, _⟩ => ⟨S64, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_c_0 : Ref sig .tc := ⟨.hbm, 10, rfl⟩
abbrev main_v7 : Ref sig .tc := ⟨.hbm, 11, rfl⟩
abbrev main_v5 : Ref sig .tc := ⟨.smem, 0, rfl⟩
abbrev main_v6 : Ref sig .tc := ⟨.smem, 1, rfl⟩
abbrev main_v0 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![64, 2], ![false, false]⟩

abbrev pre0 : Pipeline.Prefetch sig := ⟨3, ![main_v5.idx, main_v6.idx, main_v0.idx], fun | 0 => main_v5.names | 1 => main_v6.names | 2 => main_v0.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v7 : Index := Scalar.indexCast arg0
  ![v7.toNat]
def k0_cond1 (i : grid0.Coords) (v1 : BitVec 32) : BitVec 1 :=
  let c0_i32 : BitVec 32 := 0#32
  let v2 : BitVec 1 := Scalar.cmpi .eq v1 c0_i32
  let arg1 : BitVec 32 := BitVec.ofNat 32 (i 1).val
  let c0_i32_0 : BitVec 32 := 0#32
  let v3 : BitVec 1 := Scalar.cmpi .eq arg1 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def k0_cond3 (i : grid0.Coords) (v8 : BitVec 32) : BitVec 1 :=
  let c0_i32_2 : BitVec 32 := 0#32
  let v9 : BitVec 1 := Scalar.cmpi .sgt v8 c0_i32_2
  let arg1 : BitVec 32 := BitVec.ofNat 32 (i 1).val
  let c1_i32 : BitVec 32 := 1#32
  let v14 : BitVec 1 := Scalar.cmpi .eq arg1 c1_i32
  let v15 : BitVec 1 := Scalar.andi v9 v14
  let v16 : BitVec 32 := Scalar.extui v15
  let c0_i32_5 : BitVec 32 := 0#32
  let v17 : BitVec 1 := Scalar.cmpi .ne v16 c0_i32_5
  v17

def cc0_transform_0 (k0_off1_inb : ∀ i : grid0.Coords, ∀ a, (k0_off1 i) a + S1.size a ≤ S64.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S64) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S64) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let v2 : Index := Scalar.indexCast arg0
  let v3 : BitVec 32 := pf.at 1 (Rect.unit (s := S64) ![v2.toNat] S1.size (k0_off1_inb i)) numel1_S1
  let v4 : BitVec 32 := Scalar.muli arg1 v3
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let v2 : Index := Scalar.indexCast arg0
  let v3 : BitVec 32 := pf.at 1 (Rect.unit (s := S64) ![v2.toNat] S1.size (k0_off1_inb i)) numel1_S1
  let v4 : BitVec 32 := Scalar.muli arg1 v3
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let v2 : Index := Scalar.indexCast arg0
  let v3 : BitVec 32 := pf.at 1 (Rect.unit (s := S64) ![v2.toNat] S1.size (k0_off1_inb i)) numel1_S1
  let v4 : BitVec 32 := Scalar.muli arg1 v3
  let c0_i32 : BitVec 32 := 0#32
  let c0_i32_0 : BitVec 32 := 0#32
  ![v1.toNat, v4.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1792x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DenseReferenceIdeal.lean ====
abbrev S32768x1024 : Shape := ⟨2, ![32768, 1024]⟩
abbrev S1x1024x3584 : Shape := ⟨3, ![1, 1024, 3584]⟩
abbrev S1x3584x1024 : Shape := ⟨3, ![1, 3584, 1024]⟩
abbrev S1024x3584 : Shape := ⟨2, ![1024, 3584]⟩
abbrev S32768x3584 : Shape := ⟨2, ![32768, 3584]⟩
abbrev S_ : Shape := ⟨0, ![]⟩
abbrev S3584x1024 : Shape := ⟨2, ![3584, 1024]⟩

abbrev nBuf : Space → Nat
  | .hbm => 22
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1x1024x3584, .f32⟩
  | .hbm, ⟨3, _⟩ => ⟨S1x1024x3584, .f32⟩
  | .hbm, ⟨4, _⟩ => ⟨S1x3584x1024, .f32⟩
  | .hbm, ⟨5, _⟩ => ⟨S1024x3584, .f32⟩
  | .hbm, ⟨6, _⟩ => ⟨S32768x3584, .f32⟩
  | .hbm, ⟨7, _⟩ => ⟨S32768x3584, .f32⟩
  | .hbm, ⟨8, _⟩ => ⟨S32768x3584, .f32⟩
  | .hbm, ⟨9, _⟩ => ⟨S_, .f32⟩
  | .hbm, ⟨10, _⟩ => ⟨S32768x3584, .f32⟩
  | .hbm, ⟨11, _⟩ => ⟨S32768x3584, .f32⟩
  | .hbm, ⟨12, _⟩ => ⟨S_, .f32⟩
  | .hbm, ⟨13, _⟩ => ⟨S32768x3584, .f32⟩
  | .hbm, ⟨14, _⟩ => ⟨S32768x3584, .f32⟩
  | .hbm, ⟨15, _⟩ => ⟨S32768x3584, .f32⟩
  | .hbm, ⟨16, _⟩ => ⟨S1024x3584, .f32⟩
  | .hbm, ⟨17, _⟩ => ⟨S32768x3584, .f32⟩
  | .hbm, ⟨18, _⟩ => ⟨S32768x3584, .f32⟩
  | .hbm, ⟨19, _⟩ => ⟨S3584x1024, .f32⟩
  | .hbm, ⟨20, _⟩ => ⟨S32768x1024, .f32⟩
  | .hbm, ⟨21, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Qkv.lean ====
abbrev S32768x1024 : Shape := ⟨2, ![32768, 1024]⟩
abbrev S1024 : Shape := ⟨1, ![1024]⟩
abbrev S1024x7424 : Shape := ⟨2, ![1024, 7424]⟩
abbrev S32768x8 : Shape := ⟨2, ![32768, 8]⟩
abbrev S_ : Shape := ⟨0, ![]⟩
abbrev S32768x48 : Shape := ⟨2, ![32768, 48]⟩
abbrev S32768x64 : Shape := ⟨2, ![32768, 64]⟩
abbrev S1x32768x1x64 : Shape := ⟨4, ![1, 32768, 1, 64]⟩
abbrev S1x32768x2x64 : Shape := ⟨4, ![1, 32768, 2, 64]⟩
abbrev S32768x128 : Shape := ⟨2, ![32768, 128]⟩
abbrev S1x1024 : Shape := ⟨2, ![1, 1024]⟩
abbrev S1024x3840 : Shape := ⟨2, ![1024, 3840]⟩
abbrev S32768x256 : Shape := ⟨2, ![32768, 256]⟩
abbrev S8192x1024 : Shape := ⟨2, ![8192, 1024]⟩
abbrev S2048x4096 : Shape := ⟨2, ![2048, 4096]⟩
abbrev S32768x512 : Shape := ⟨2, ![32768, 512]⟩
abbrev S512x1024 : Shape := ⟨2, ![512, 1024]⟩
abbrev S512x128 : Shape := ⟨2, ![512, 128]⟩
abbrev S512x256 : Shape := ⟨2, ![512, 256]⟩
abbrev S128x1024 : Shape := ⟨2, ![128, 1024]⟩
abbrev S32x4096 : Shape := ⟨2, ![32, 4096]⟩
abbrev S512x512 : Shape := ⟨2, ![512, 512]⟩
abbrev S2x512x128 : Shape := ⟨3, ![2, 512, 128]⟩
abbrev S512 : Shape := ⟨1, ![512]⟩
abbrev S512x1 : Shape := ⟨2, ![512, 1]⟩
abbrev S1024x256 : Shape := ⟨2, ![1024, 256]⟩
abbrev S1x512x128 : Shape := ⟨3, ![1, 512, 128]⟩
abbrev S1x128x128 : Shape := ⟨3, ![1, 128, 128]⟩
abbrev S128x128 : Shape := ⟨2, ![128, 128]⟩
abbrev S1x32x128 : Shape := ⟨3, ![1, 32, 128]⟩
abbrev S32x128 : Shape := ⟨2, ![32, 128]⟩

abbrev nBuf : Space → Nat
  | .hbm => 32
  | .vmem => 33
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x7424, .f32⟩
  | .hbm, ⟨3, _⟩ => ⟨S32768x8, .f32⟩
  | .hbm, ⟨4, _⟩ => ⟨S32768x8, .f32⟩
  | .hbm, ⟨5, _⟩ => ⟨S_, .f32⟩
  | .hbm, ⟨6, _⟩ => ⟨S32768x48, .f32⟩
  | .hbm, ⟨7, _⟩ => ⟨S32768x64, .f32⟩
  | .hbm, ⟨8, _⟩ => ⟨S1x32768x1x64, .f32⟩
  | .hbm, ⟨9, _⟩ => ⟨S1x32768x2x64, .f32⟩
  | .hbm, ⟨10, _⟩ => ⟨S32768x128, .f32⟩
  | .hbm, ⟨11, _⟩ => ⟨S_, .f32⟩
  | .hbm, ⟨12, _⟩ => ⟨S32768x48, .f32⟩
  | .hbm, ⟨13, _⟩ => ⟨S32768x64, .f32⟩
  | .hbm, ⟨14, _⟩ => ⟨S1x32768x1x64, .f32⟩
  | .hbm, ⟨15, _⟩ => ⟨S1x32768x2x64, .f32⟩
  | .hbm, ⟨16, _⟩ => ⟨S32768x128, .f32⟩
  | .hbm, ⟨17, _⟩ => ⟨S1x1024, .f32⟩
  | .hbm, ⟨18, _⟩ => ⟨S1024x3840, .f32⟩
  | .hbm, ⟨19, _⟩ => ⟨S1024x3840, .bf16⟩
  | .hbm, ⟨20, _⟩ => ⟨S32768x256, .bf16⟩
  | .hbm, ⟨21, _⟩ => ⟨S8192x1024, .bf16⟩
  | .hbm, ⟨22, _⟩ => ⟨S2048x4096, .bf16⟩
  | .hbm, ⟨23, _⟩ => ⟨S32768x256, .bf16⟩
  | .hbm, ⟨24, _⟩ => ⟨S8192x1024, .bf16⟩
  | .hbm, ⟨25, _⟩ => ⟨S2048x4096, .bf16⟩
  | .hbm, ⟨26, _⟩ => ⟨S32768x256, .bf16⟩
  | .hbm, ⟨27, _⟩ => ⟨S8192x1024, .bf16⟩
  | .hbm, ⟨28, _⟩ => ⟨S2048x4096, .bf16⟩
  | .hbm, ⟨29, _⟩ => ⟨S32768x512, .bf16⟩
  | .hbm, ⟨30, _⟩ => ⟨S32768x512, .bf16⟩
  | .hbm, ⟨31, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3840, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x256, .bf16⟩
  | .local _ .vmem, ⟨9, _⟩ => ⟨S512x256, .bf16⟩
  | .local _ .vmem, ⟨10, _⟩ => ⟨S128x1024, .bf16⟩
  | .local _ .vmem, ⟨11, _⟩ => ⟨S128x1024, .bf16⟩
  | .local _ .vmem, ⟨12, _⟩ => ⟨S32x4096, .bf16⟩
  | .local _ .vmem, ⟨13, _⟩ => ⟨S32x4096, .bf16⟩
  | .local _ .vmem, ⟨14, _⟩ => ⟨S512x256, .bf16⟩
  | .local _ .vmem, ⟨15, _⟩ => ⟨S512x256, .bf16⟩
  | .local _ .vmem, ⟨16, _⟩ => ⟨S128x1024, .bf16⟩
  | .local _ .vmem, ⟨17, _⟩ => ⟨S128x1024, .bf16⟩
  | .local _ .vmem, ⟨18, _⟩ => ⟨S32x4096, .bf16⟩
  | .local _ .vmem, ⟨19, _⟩ => ⟨S32x4096, .bf16⟩
  | .local _ .vmem, ⟨20, _⟩ => ⟨S512x256, .bf16⟩
  | .local _ .vmem, ⟨21, _⟩ => ⟨S512x256, .bf16⟩
  | .local _ .vmem, ⟨22, _⟩ => ⟨S128x1024, .bf16⟩
  | .local _ .vmem, ⟨23, _⟩ => ⟨S128x1024, .bf16⟩
  | .local _ .vmem, ⟨24, _⟩ => ⟨S32x4096, .bf16⟩
  | .local _ .vmem, ⟨25, _⟩ => ⟨S32x4096, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x1024, .bf16⟩
  | .local _ .vmem, ⟨31, _⟩ => ⟨S512x1024, .bf16⟩
  | .local _ .vmem, ⟨32, _⟩ => ⟨S2x512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev main_v13_5 : Ref sig .tc := ⟨.hbm, 25, rfl⟩
abbrev main_v13_6 : Ref sig .tc := ⟨.hbm, 26, rfl⟩
abbrev main_v13_7 : Ref sig .tc := ⟨.hbm, 27, rfl⟩
abbrev main_v13_8 : Ref sig .tc := ⟨.hbm, 28, rfl⟩
abbrev main_v13_9 : Ref sig .tc := ⟨.hbm, 29, rfl⟩
abbrev main_v13_10 : Ref sig .tc := ⟨.hbm, 30, rfl⟩
abbrev main_v13_11 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== QkvIdeal.lean ====
variable {F : FTy → Type} [FloatOps F] [Named F]
def κ : String → Option EReal := fun
  | "qscale" => some (((Real.log 256)⁻¹ : ℝ) : EReal)
  | _ => none
-- ==== QkvReferenceIdeal.lean ====
abbrev S32768x1024 : Shape := ⟨2, ![32768, 1024]⟩
abbrev S1024 : Shape := ⟨1, ![1024]⟩
abbrev S1024x7424 : Shape := ⟨2, ![1024, 7424]⟩
abbrev S32768x8 : Shape := ⟨2, ![32768, 8]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x7424 : Shape := ⟨2, ![32768, 7424]⟩
abbrev S32768x256 : Shape := ⟨2, ![32768, 256]⟩
abbrev S32768x4x64 : Shape := ⟨3, ![32768, 4, 64]⟩
abbrev S32768x1x8 : Shape := ⟨3, ![32768, 1, 8]⟩
abbrev S32768x4x8 : Shape := ⟨3, ![32768, 4, 8]⟩
abbrev S32768x4x48 : Shape := ⟨3, ![32768, 4, 48]⟩
abbrev S32768x512 : Shape := ⟨2, ![32768, 512]⟩
abbrev S32768x8x64 : Shape := ⟨3, ![32768, 8, 64]⟩
abbrev S32768x8x8 : Shape := ⟨3, ![32768, 8, 8]⟩
abbrev S32768x8x48 : Shape := ⟨3, ![32768, 8, 48]⟩
abbrev S128 : Shape := ⟨1, ![128]⟩
abbrev S32768x4x128 : Shape := ⟨3, ![32768, 4, 128]⟩
abbrev S32768x4x256 : Shape := ⟨3, ![32768, 4, 256]⟩

abbrev nBuf : Space → Nat
  | .hbm => 129
  | .vmem => 0
  | .smem => 0
  | _ => 0

abbrev hbmTy0_0 (i : Nat) : BufTy := match i % 128 with
  | 0 => ⟨S32768x1024, .f32⟩
  | 1 => ⟨S1024, .f32⟩
  | 2 => ⟨S1024x7424, .f32⟩
  | 3 => ⟨S32768x8, .f32⟩
  | 4 => ⟨S32768x8, .f32⟩
  | 5 => ⟨S32768x1024, .f32⟩
  | 6 => ⟨S_, .f32⟩
  | 7 => ⟨S32768, .f32⟩
  | 8 => ⟨S32768x1, .f32⟩
  | 9 => ⟨S_, .f32⟩
  | 10 => ⟨S32768x1, .f32⟩
  | 11 => ⟨S32768x1, .f32⟩
  | 12 => ⟨S_, .f32⟩
  | 13 => ⟨S32768x1, .f32⟩
  | 14 => ⟨S32768x1, .f32⟩
  | 15 => ⟨S32768x1, .f32⟩
  | 16 => ⟨S32768x1024, .f32⟩
  | 17 => ⟨S32768x1024, .f32⟩
  | 18 => ⟨S1x1024, .f32⟩
  | 19 => ⟨S32768x1024, .f32⟩
  | 20 => ⟨S32768x1024, .f32⟩
  | 21 => ⟨S32768x7424, .f32⟩
  | 22 => ⟨S32768x256, .f32⟩
  | 23 => ⟨S32768x4x64, .f32⟩
  | 24 => ⟨S32768x1x8, .f32⟩
  | 25 => ⟨S32768x1x8, .f32⟩
  | 26 => ⟨S32768x4x8, .f32⟩
  | 27 => ⟨S32768x4x8, .f32⟩
  | 28 => ⟨S32768x4x8, .f32⟩
  | 29 => ⟨S32768x4x8, .f32⟩
  | 30 => ⟨S32768x4x8, .f32⟩
  | 31 => ⟨S32768x4x8, .f32⟩
  | 32 => ⟨S32768x4x8, .f32⟩
  | 33 => ⟨S32768x4x8, .f32⟩
  | 34 => ⟨S32768x4x8, .f32⟩
  | 35 => ⟨S32768x4x8, .f32⟩
  | 36 => ⟨S32768x4x8, .f32⟩
  | 37 => ⟨S32768x4x8, .f32⟩
  | 38 => ⟨S32768x4x48, .f32⟩
  | 39 => ⟨S32768x4x64, .f32⟩
  | 40 => ⟨S32768x256, .f32⟩
  | 41 => ⟨S_, .f32⟩
  | 42 => ⟨S32768x256, .f32⟩
  | 43 => ⟨S32768x256, .f32⟩
  | 44 => ⟨S_, .f32⟩
  | 45 => ⟨S_, .f32⟩
  | 46 => ⟨S32768x256, .f32⟩
  | 47 => ⟨S32768x256, .f32⟩
  | 48 => ⟨S32768x256, .bf16⟩
  | 49 => ⟨S32768x256, .f32⟩
  | 50 => ⟨S32768x4x64, .f32⟩
  | 51 => ⟨S32768x1x8, .f32⟩
  | 52 => ⟨S32768x1x8, .f32⟩
  | 53 => ⟨S32768x4x8, .f32⟩
  | 54 => ⟨S32768x4x8, .f32⟩
  | 55 => ⟨S32768x4x8, .f32⟩
  | 56 => ⟨S32768x4x8, .f32⟩
  | 57 => ⟨S32768x4x8, .f32⟩
  | 58 => ⟨S32768x4x8, .f32⟩
  | 59 => ⟨S32768x4x8, .f32⟩
  | 60 => ⟨S32768x4x8, .f32⟩
  | 61 => ⟨S32768x4x8, .f32⟩
  | 62 => ⟨S32768x4x8, .f32⟩
  | 63 => ⟨S32768x4x8, .f32⟩
  | 64 => ⟨S32768x4x8, .f32⟩
  | 65 => ⟨S32768x4x48, .f32⟩
  | 66 => ⟨S32768x4x64, .f32⟩
  | 67 => ⟨S32768x256, .f32⟩
  | 68 => ⟨S32768x256, .bf16⟩
  | 69 => ⟨S32768x256, .f32⟩
  | 70 => ⟨S32768x256, .bf16⟩
  | 71 => ⟨S32768x512, .f32⟩
  | 72 => ⟨S32768x8x64, .f32⟩
  | 73 => ⟨S32768x1x8, .f32⟩
  | 74 => ⟨S32768x1x8, .f32⟩
  | 75 => ⟨S32768x8x8, .f32⟩
  | 76 => ⟨S32768x8x8, .f32⟩
  | 77 => ⟨S32768x8x8, .f32⟩
  | 78 => ⟨S32768x8x8, .f32⟩
  | 79 => ⟨S32768x8x8, .f32⟩
  | 80 => ⟨S32768x8x8, .f32⟩
  | 81 => ⟨S32768x8x8, .f32⟩
  | 82 => ⟨S32768x8x8, .f32⟩
  | 83 => ⟨S32768x8x8, .f32⟩
  | 84 => ⟨S32768x8x8, .f32⟩
  | 85 => ⟨S32768x8x8, .f32⟩
  | 86 => ⟨S32768x8x8, .f32⟩
  | 87 => ⟨S32768x8x48, .f32⟩
  | 88 => ⟨S32768x8x64, .f32⟩
  | 89 => ⟨S32768x512, .f32⟩
  | 90 => ⟨S_, .f32⟩
  | 91 => ⟨S32768x512, .f32⟩
  | 92 => ⟨S32768x512, .f32⟩
  | 93 => ⟨S_, .f32⟩
  | 94 => ⟨S_, .f32⟩
  | 95 => ⟨S32768x512, .f32⟩
  | 96 => ⟨S32768x512, .f32⟩
  | 97 => ⟨S32768x512, .bf16⟩
  | 98 => ⟨S32768x512, .f32⟩
  | 99 => ⟨S32768x8x64, .f32⟩
  | 100 => ⟨S32768x1x8, .f32⟩
  | 101 => ⟨S32768x1x8, .f32⟩
  | 102 => ⟨S32768x8x8, .f32⟩
  | 103 => ⟨S32768x8x8, .f32⟩
  | 104 => ⟨S32768x8x8, .f32⟩
  | 105 => ⟨S32768x8x8, .f32⟩
  | 106 => ⟨S32768x8x8, .f32⟩
  | 107 => ⟨S32768x8x8, .f32⟩
  | 108 => ⟨S32768x8x8, .f32⟩
  | 109 => ⟨S32768x8x8, .f32⟩
  | 110 => ⟨S32768x8x8, .f32⟩
  | 111 => ⟨S32768x8x8, .f32⟩
  | 112 => ⟨S32768x8x8, .f32⟩
  | 113 => ⟨S32768x8x8, .f32⟩
  | 114 => ⟨S32768x8x48, .f32⟩
  | 115 => ⟨S32768x8x64, .f32⟩
  | 116 => ⟨S32768x512, .f32⟩
  | 117 => ⟨S32768x512, .bf16⟩
  | 118 => ⟨S128, .i32⟩
  | 119 => ⟨S_, .i32⟩
  | 120 => ⟨S128, .i32⟩
  | 121 => ⟨S128, .i1⟩
  | 122 => ⟨S128, .f32⟩
  | 123 => ⟨S32768x4x128, .f32⟩
  | 124 => ⟨S32768x512, .f32⟩
  | 125 => ⟨S32768x4x128, .f32⟩
  | 126 => ⟨S32768x4x256, .f32⟩
  | 127 => ⟨S32768x1024, .f32⟩
  | _ => ⟨S32768x1024, .f32⟩

abbrev hbmTy0_1 (i : Nat) : BufTy := match i % 128 with
  | 0 => ⟨S32768x1024, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_cst_4 : Ref sig .tc := ⟨.hbm, 90, rfl⟩
abbrev main_v80 : Ref sig .tc := ⟨.hbm, 91, rfl⟩
abbrev main_v81 : Ref sig .tc := ⟨.hbm, 92, rfl⟩
abbrev main_cst_5 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_c : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩

abbrev nD : Nat := 1
abbrev τ : Topo := Topo.v7x

variable {F : FTy → Type} [FloatOps F]
-- ==== Proof.Tile.lean ====
module

public import proofs.«01_k».proof.Proof.Gen.KernelIdeal.Value
public import Idealize.ShloMosaic.Lib.ValueIdx
public import Idealize.ShloMosaic.Lib.MatmulPlain
public import Idealize.ShloMosaic.Lib.IdealHost

@[expose] public section

set_option maxRecDepth 65536

noncomputable section

namespace Cert.KernelIdeal.Tile

open Cert.KernelIdeal Cert.KernelIdeal.Gen Idealize.ShloMosaic Idealize.ShloMosaic.TcCoe Idealize.SL.Sem

variable {F : FTy → Type} [FloatOps F] [Named F]

/-- The values of a head pair beside the slab of ones. -/
def vext (vp : FVec F S256x128 .bf16) : FVec F S256x256 .bf16 :=
  concatenate S256x256 1 [⟨S256x128, vp⟩, ⟨S256x128, k0_pay9 (F := F)⟩] concatenates_S256x128_S256x128_S256x256_d1

/-- One head's masked scores: the query pair against the key pair with the other head's lanes zeroed. -/
def sc (mask : IVec S128x256 1) (lk : IVec S256x128 1) (qp : FVec F S128x128 .bf16) (kp : FVec F S256x128 .bf16) : FVec F S128x256 .f32 :=
  select mask (matmul dot_S128x128_S256x128_S128x256_1_1_0_0_n_n none qp
    (select lk kp (broadcast S256x128 (Scalar.ofBits .bf16 0x0000#16))) (constant S128x256 .f32 0x00000000#32))
    (broadcast S128x256 (Named.named κ "mask" 0xF149F2CA#32))

/-- The row maxima of a score tile. -/
def mx (s : FVec F S128x256 .f32) : FVec F S128x1 .f32 :=
  shapeCast S128x1 (multiReduction .maximumf [1] S128
    (maximumf (extractStridedSlice S128x128 ![0, 0] s slices_S128x256_o0_0_S128x128)
      (extractStridedSlice S128x128 ![0, 128] s slices_S128x256_o0_128_S128x128))
    0xFF800000#32 reduces_S128x128_S128 (.inl rfl) rfl) shapeCasts_S128_S128x1

/-- The weights of a score tile. -/
def pr (s : FVec F S128x256 .f32) : FVec F S128x256 .f32 :=
  concatenate S128x256 1
    [⟨S128x128, exp2 (subf (extractStridedSlice S128x128 ![0, 0] s slices_S128x256_o0_0_S128x128) (broadcastTo S128x128 (mx s) broadcasts_S128x1_S128x128))⟩,
     ⟨S128x128, exp2 (subf (extractStridedSlice S128x128 ![0, 128] s slices_S128x256_o0_128_S128x128) (broadcastTo S128x128 (mx s) broadcasts_S128x1_S128x128))⟩]
    concatenates_S128x128_S128x128_S128x256_d1

/-- The weights times the values and the ones. -/
def pv (s : FVec F S128x256 .f32) (ve : FVec F S256x256 .bf16) : FVec F S128x256 .f32 :=
  matmul dot_S128x256_S256x256_S128x256_1_0_0_1_n_n none (truncf .bf16 (pr s) bitsLt_bf16_f32) ve (constant S128x256 .f32 0x00000000#32)

/-- The row sums of the weights, in every lane. -/
def dn (s : FVec F S128x256 .f32) (ve : FVec F S256x256 .bf16) : FVec F S128x128 .f32 :=
  extractStridedSlice S128x128 ![0, 128] (pv s ve) slices_S128x256_o0_128_S128x128

/-- One head's normalised output. -/
def oH (s : FVec F S128x256 .f32) (ve : FVec F S256x256 .bf16) : FVec F S128x128 .f32 :=
  divf (extractStridedSlice S128x128 ![0, 0] (pv s ve) slices_S128x256_o0_0_S128x128) (dn s ve)

/-- One head's base-two log of the row sum, with the row maximum added. -/
def lH (s : FVec F S128x256 .f32) (ve : FVec F S256x256 .bf16) : FVec F S128x128 .f32 :=
  addf (broadcastTo S128x128 (mx s) broadcasts_S128x1_S128x128)
    (mulf (log (dn s ve)) (broadcast S128x128 (Named.named κ "log2e" 0x3FB8AA3B#32)))

/-- The lanes of the second head. -/
def hk : IVec S256x128 1 := xori k0_pay7 (constantI S256x128 1 1#1)

/-- A head pair's output tile. -/
def oT (mask : IVec S128x256 1) (qp : FVec F S128x128 .bf16) (kp vp : FVec F S256x128 .bf16) : FVec F S1x128x128 .bf16 :=
  shapeCast S1x128x128 (truncf .bf16 (select k0_pay8 (oH (sc mask k0_pay7 qp kp) (vext vp)) (oH (sc mask hk qp kp) (vext vp))) bitsLt_bf16_f32)
    shapeCasts_S128x128_S1x128x128

/-- A head pair's tile of log sums. -/
def lT (mask : IVec S128x256 1) (qp : FVec F S128x128 .bf16) (kp vp : FVec F S256x128 .bf16) : FVec F S1x128x128 .f32 :=
  shapeCast S1x128x128 (select k0_pay8 (lH (sc mask k0_pay7 qp kp) (vext vp)) (lH (sc mask hk qp kp) (vext vp)))
    shapeCasts_S128x128_S1x128x128

/-- The first or second head pair of a block of query rows. -/
def q0 (x : Vec F S1x128x256 .bf16) : FVec F S128x128 .bf16 :=
  extractStridedSlice S128x128 ![0, 0] (shapeCast S128x256 x shapeCasts_S1x128x256_S128x256) slices_S128x256_o0_0_S128x128
def q1 (x : Vec F S1x128x256 .bf16) : FVec F S128x128 .bf16 :=
  extractStridedSlice S128x128 ![0, 128] (shapeCast S128x256 x shapeCasts_S1x128x256_S128x256) slices_S128x256_o0_128_S128x128

/-- Two consecutive blocks of rows, from one load. -/
def kin (x : Vec F S1x256x256 .bf16) : FVec F S256x256 .bf16 := shapeCast S256x256 x shapeCasts_S1x256x256_S256x256

/-- Two consecutive blocks of rows, from two loads. -/
def kfirst (x y : Vec F S1x128x256 .bf16) : FVec F S256x256 .bf16 :=
  concatenate S256x256 0 [⟨S128x256, shapeCast S128x256 x shapeCasts_S1x128x256_S128x256⟩, ⟨S128x256, shapeCast S128x256 y shapeCasts_S1x128x256_S128x256⟩]
    concatenates_S128x256_S128x256_S256x256_d0

/-- The first or second head pair of two blocks of key or value rows. -/
def c0 (x : FVec F S256x256 .bf16) : FVec F S256x128 .bf16 := extractStridedSlice S256x128 ![0, 0] x slices_S256x256_o0_0_S256x128
def c1 (x : FVec F S256x256 .bf16) : FVec F S256x128 .bf16 := extractStridedSlice S256x128 ![0, 128] x slices_S256x256_o0_128_S256x128

/-- Window 5's staging buffer after the body, tile by tile. -/
theorem out5_tiles (i : grid0.Coords) (x0 : Vec F S1x1024x256 .bf16) (x1 : Vec F S1x128x256 .bf16) (x2 : Vec F S1x1024x256 .bf16) (x3 : Vec F S1x128x256 .bf16) (x4 : Vec F S1x1024x256 .bf16) :
    out0_5 i x0 x1 x2 x3 x4 = View.canon [⟨r0_31, oT k0_pay5 (q1 (View.ld x0 r0_29)) (c1 (kin (View.ld x2 r0_28))) (c1 (kin (View.ld x4 r0_28)))⟩,
      ⟨r0_30, oT k0_pay5 (q0 (View.ld x0 r0_29)) (c0 (kin (View.ld x2 r0_28))) (c0 (kin (View.ld x4 r0_28)))⟩,
      ⟨r0_27, oT k0_pay5 (q1 (View.ld x0 r0_25)) (c1 (kin (View.ld x2 r0_24))) (c1 (kin (View.ld x4 r0_24)))⟩,
      ⟨r0_26, oT k0_pay5 (q0 (View.ld x0 r0_25)) (c0 (kin (View.ld x2 r0_24))) (c0 (kin (View.ld x4 r0_24)))⟩,
      ⟨r0_23, oT k0_pay5 (q1 (View.ld x0 r0_21)) (c1 (kin (View.ld x2 r0_20))) (c1 (kin (View.ld x4 r0_20)))⟩,
      ⟨r0_22, oT k0_pay5 (q0 (View.ld x0 r0_21)) (c0 (kin (View.ld x2 r0_20))) (c0 (kin (View.ld x4 r0_20)))⟩,
      ⟨r0_19, oT k0_pay5 (q1 (View.ld x0 r0_17)) (c1 (kin (View.ld x2 r0_16))) (c1 (kin (View.ld x4 r0_16)))⟩,
      ⟨r0_18, oT k0_pay5 (q0 (View.ld x0 r0_17)) (c0 (kin (View.ld x2 r0_16))) (c0 (kin (View.ld x4 r0_16)))⟩,
      ⟨r0_15, oT k0_pay5 (q1 (View.ld x0 r0_13)) (c1 (kin (View.ld x2 r0_12))) (c1 (kin (View.ld x4 r0_12)))⟩,
      ⟨r0_14, oT k0_pay5 (q0 (View.ld x0 r0_13)) (c0 (kin (View.ld x2 r0_12))) (c0 (kin (View.ld x4 r0_12)))⟩,
      ⟨r0_11, oT k0_pay5 (q1 (View.ld x0 r0_9)) (c1 (kin (View.ld x2 r0_8))) (c1 (kin (View.ld x4 r0_8)))⟩,
      ⟨r0_10, oT k0_pay5 (q0 (View.ld x0 r0_9)) (c0 (kin (View.ld x2 r0_8))) (c0 (kin (View.ld x4 r0_8)))⟩,
      ⟨r0_7, oT k0_pay5 (q1 (View.ld x0 r0_5)) (c1 (kin (View.ld x2 r0_4))) (c1 (kin (View.ld x4 r0_4)))⟩,
      ⟨r0_6, oT k0_pay5 (q0 (View.ld x0 r0_5)) (c0 (kin (View.ld x2 r0_4))) (c0 (kin (View.ld x4 r0_4)))⟩,
      ⟨r0_3, oT (k0_pay6 i) (q1 (View.ld x0 r0_1)) (c1 (kfirst (View.ld x1 r0_0) (View.ld x2 r0_1))) (c1 (kfirst (View.ld x3 r0_0) (View.ld x4 r0_1)))⟩,
      ⟨r0_2, oT (k0_pay6 i) (q0 (View.ld x0 r0_1)) (c0 (kfirst (View.ld x1 r0_0) (View.ld x2 r0_1))) (c0 (kfirst (View.ld x3 r0_0) (View.ld x4 r0_1)))⟩] := rfl

/-- Window 6's staging buffer after the body, tile by tile. -/
theorem out6_tiles (i : grid0.Coords) (x0 : Vec F S1x1024x256 .bf16) (x1 : Vec F S1x128x256 .bf16) (x2 : Vec F S1x1024x256 .bf16) (x3 : Vec F S1x128x256 .bf16) (x4 : Vec F S1x1024x256 .bf16) :
    out0_6 i x0 x1 x2 x3 x4 = View.canon [⟨r0_31, lT k0_pay5 (q1 (View.ld x0 r0_29)) (c1 (kin (View.ld x2 r0_28))) (c1 (kin (View.ld x4 r0_28)))⟩,
      ⟨r0_30, lT k0_pay5 (q0 (View.ld x0 r0_29)) (c0 (kin (View.ld x2 r0_28))) (c0 (kin (View.ld x4 r0_28)))⟩,
      ⟨r0_27, lT k0_pay5 (q1 (View.ld x0 r0_25)) (c1 (kin (View.ld x2 r0_24))) (c1 (kin (View.ld x4 r0_24)))⟩,
      ⟨r0_26, lT k0_pay5 (q0 (View.ld x0 r0_25)) (c0 (kin (View.ld x2 r0_24))) (c0 (kin (View.ld x4 r0_24)))⟩,
      ⟨r0_23, lT k0_pay5 (q1 (View.ld x0 r0_21)) (c1 (kin (View.ld x2 r0_20))) (c1 (kin (View.ld x4 r0_20)))⟩,
      ⟨r0_22, lT k0_pay5 (q0 (View.ld x0 r0_21)) (c0 (kin (View.ld x2 r0_20))) (c0 (kin (View.ld x4 r0_20)))⟩,
      ⟨r0_19, lT k0_pay5 (q1 (View.ld x0 r0_17)) (c1 (kin (View.ld x2 r0_16))) (c1 (kin (View.ld x4 r0_16)))⟩,
      ⟨r0_18, lT k0_pay5 (q0 (View.ld x0 r0_17)) (c0 (kin (View.ld x2 r0_16))) (c0 (kin (View.ld x4 r0_16)))⟩,
      ⟨r0_15, lT k0_pay5 (q1 (View.ld x0 r0_13)) (c1 (kin (View.ld x2 r0_12))) (c1 (kin (View.ld x4 r0_12)))⟩,
      ⟨r0_14, lT k0_pay5 (q0 (View.ld x0 r0_13)) (c0 (kin (View.ld x2 r0_12))) (c0 (kin (View.ld x4 r0_12)))⟩,
      ⟨r0_11, lT k0_pay5 (q1 (View.ld x0 r0_9)) (c1 (kin (View.ld x2 r0_8))) (c1 (kin (View.ld x4 r0_8)))⟩,
      ⟨r0_10, lT k0_pay5 (q0 (View.ld x0 r0_9)) (c0 (kin (View.ld x2 r0_8))) (c0 (kin (View.ld x4 r0_8)))⟩,
      ⟨r0_7, lT k0_pay5 (q1 (View.ld x0 r0_5)) (c1 (kin (View.ld x2 r0_4))) (c1 (kin (View.ld x4 r0_4)))⟩,
      ⟨r0_6, lT k0_pay5 (q0 (View.ld x0 r0_5)) (c0 (kin (View.ld x2 r0_4))) (c0 (kin (View.ld x4 r0_4)))⟩,
      ⟨r0_3, lT (k0_pay6 i) (q1 (View.ld x0 r0_1)) (c1 (kfirst (View.ld x1 r0_0) (View.ld x2 r0_1))) (c1 (kfirst (View.ld x3 r0_0) (View.ld x4 r0_1)))⟩,
      ⟨r0_2, lT (k0_pay6 i) (q0 (View.ld x0 r0_1)) (c0 (kfirst (View.ld x1 r0_0) (View.ld x2 r0_1))) (c0 (kfirst (View.ld x3 r0_0) (View.ld x4 r0_1)))⟩] := rfl

end Cert.KernelIdeal.Tile

end
-- ==== Proof.Consts.lean ====
module

public import Idealize.ShloMosaic.PureOps.Ideal.Laws
public import Idealize.ShloMosaic.Lib.IdealHost

@[expose] public section

noncomputable section

namespace Cert.Att

open Idealize.ShloMosaic

/-- The softmax scale's pattern. -/
theorem bits_eighth : Ideal.ofBits .f32 0x3E000000#32 = ((8⁻¹ : ℝ) : EReal) := by
  simp [Ideal.ofBits, Ideal.ieee, -EReal.coe_mul]; norm_num

/-- The pattern of two. -/
theorem bits_two : Ideal.ofBits .f32 0x40000000#32 = ((2 : ℝ) : EReal) := by
  simp [Ideal.ofBits, Ideal.ieee, -EReal.coe_mul]; norm_num

/-- The pattern of minus infinity. -/
theorem bits_bot : Ideal.ofBits .f32 0xFF800000#32 = ⊥ := by
  simp [Ideal.ofBits, Ideal.ieee]

theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

/-- Dividing by the logarithm of two. -/
theorem div_log_two (x : EReal) : Ideal.div x (Ideal.log ((2 : ℝ) : EReal)) = x * (((Real.log 2)⁻¹ : ℝ) : EReal) := by
  rw [log_two, Ideal.div_coe (Real.log_pos (by norm_num)).ne', one_div]

end Cert.Att

end
-- ==== Proof.EMath.lean ====
module

public import Idealize.ShloMosaic.PureOps.Ideal.Laws
public import Idealize.ShloMosaic.Lib.ValueIdx
public import Idealize.ShloMosaic.Lib.IdealHost

@[expose] public section

noncomputable section

namespace Cert.Att

open Idealize.ShloMosaic
open scoped BigOperators

/-- A positive real factor passes into a finite sum of extended reals. -/
theorem coe_mul_sum {ι : Type} (s : Finset ι) (c : ℝ) (hc : 0 < c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc.le) (EReal.coe_ne_top _) _ _

/-- A positive real factor is monotone. -/
theorem coe_mul_max (c : ℝ) (hc : 0 < c) (x y : EReal) : (c : EReal) * max x y = max ((c : EReal) * x) (c * y) := by
  have hm : Monotone fun z : EReal => (c : EReal) * z := fun a b h => mul_le_mul_of_nonneg_left h (by exact_mod_cast hc.le)
  exact hm.map_max

/-- The fold of `max` from `⊥` scales. -/
theorem coe_mul_fold {ι : Type} (s : Finset ι) (c : ℝ) (hc : 0 < c) (f : ι → EReal) :
    (c : EReal) * s.fold max ⊥ f = s.fold max ⊥ fun i => (c : EReal) * f i := by
  classical
  induction s using Finset.induction_on with
  | empty => simp [EReal.coe_mul_bot_of_pos hc]
  | insert a s ha ih => rw [Finset.fold_insert ha, Finset.fold_insert ha, ← ih, coe_mul_max c hc]

/-- The base-two exponential of `x / log 2` is the exponential of `x`. -/
theorem exp2_scale (x : EReal) : Ideal.exp2 ((((Real.log 2)⁻¹ : ℝ) : EReal) * x) = Ideal.exp x := by
  have h2 : 0 < Real.log 2 := Real.log_pos (by norm_num)
  have hp : 0 < (Real.log 2)⁻¹ := inv_pos.mpr h2
  induction x with
  | bot => rw [EReal.coe_mul_bot_of_pos hp]; rfl
  | top => rw [EReal.coe_mul_top_of_pos hp]; rfl
  | coe r =>
    rw [← EReal.coe_mul]
    show ((Real.rpow 2 ((Real.log 2)⁻¹ * r) : ℝ) : EReal) = ((Real.exp r : ℝ) : EReal)
    congr 1
    show (2 : ℝ) ^ ((Real.log 2)⁻¹ * r) = Real.exp r
    rw [Real.rpow_def_of_pos (by norm_num), ← mul_assoc, mul_inv_cancel₀ h2.ne', one_mul]

/-! ### One query row -/

/-- The row maximum. -/
def aM {n : ℕ} (s : Fin n → EReal) : EReal := Finset.univ.fold max ⊥ s

/-- The base-two weights. -/
def aP {n : ℕ} (s : Fin n → EReal) (j : Fin n) : EReal := Ideal.exp2 (s j - aM s)

/-- The sum of the weights. -/
def aD {n : ℕ} (s : Fin n → EReal) : EReal := ∑ j, aP s j

/-- The output. -/
def aO {n : ℕ} (s v : Fin n → EReal) : EReal := Ideal.div (∑ j, aP s j * v j) (aD s)

/-- The base-two log of the weights' sum, with the maximum. -/
def aL {n : ℕ} (s : Fin n → EReal) : EReal := aM s + Ideal.log (aD s) * (((Real.log 2)⁻¹ : ℝ) : EReal)

/-- The same in the natural base. -/
def eP {n : ℕ} (s : Fin n → EReal) (j : Fin n) : EReal := Ideal.exp (s j - aM s)
def eD {n : ℕ} (s : Fin n → EReal) : EReal := ∑ j, eP s j
def eO {n : ℕ} (s v : Fin n → EReal) : EReal := Ideal.div (∑ j, eP s j * v j) (eD s)
def eL {n : ℕ} (s : Fin n → EReal) : EReal := (aM s + Ideal.log (eD s)) * (((Real.log 2)⁻¹ : ℝ) : EReal)

theorem log2_pos : 0 < (Real.log 2)⁻¹ := inv_pos.mpr (Real.log_pos (by norm_num))

/-- Scores in base two are the natural scores scaled: the weights agree. -/
theorem aP_scale {n : ℕ} (s : Fin n → EReal) (j : Fin n) :
    aP (fun j => (((Real.log 2)⁻¹ : ℝ) : EReal) * s j) j = eP s j := by
  unfold aP eP aM
  rw [← coe_mul_fold _ _ log2_pos, ← exp2_scale]
  congr 1
  rw [sub_eq_add_neg, sub_eq_add_neg, EReal.left_distrib_of_nonneg_of_ne_top (by exact_mod_cast log2_pos.le) (EReal.coe_ne_top _),
    mul_neg]

theorem aD_scale {n : ℕ} (s : Fin n → EReal) : aD (fun j => (((Real.log 2)⁻¹ : ℝ) : EReal) * s j) = eD s :=
  Finset.sum_congr rfl fun j _ => aP_scale s j

theorem aO_scale {n : ℕ} (s v : Fin n → EReal) : aO (fun j => (((Real.log 2)⁻¹ : ℝ) : EReal) * s j) v = eO s v := by
  unfold aO eO
  rw [aD_scale]
  exact congrArg (Ideal.div · _) (Finset.sum_congr rfl fun j _ => by rw [aP_scale])

theorem aL_scale {n : ℕ} (s : Fin n → EReal) : aL (fun j => (((Real.log 2)⁻¹ : ℝ) : EReal) * s j) = eL s := by
  unfold aL eL
  rw [aD_scale, mul_comm (aM s + _), EReal.left_distrib_of_nonneg_of_ne_top (by exact_mod_cast log2_pos.le) (EReal.coe_ne_top _),
    mul_comm (Ideal.log _)]
  congr 1
  unfold aM
  rw [coe_mul_fold _ _ log2_pos]

/-- The maximum over two halves, folded together, is the maximum over both. -/
theorem fold_halves (f : Fin 256 → EReal) :
    (Finset.univ : Finset (Fin 128)).fold max ⊥ (fun j => max (f ⟨j.val, by omega⟩) (f ⟨j.val + 128, by omega⟩)) = aM f := by
  unfold aM
  have e : ∀ {n : ℕ} (g : Fin n → EReal), (Finset.univ : Finset (Fin n)).fold max ⊥ g = Finset.univ.sup g := fun g => rfl
  rw [e, e]
  apply le_antisymm
  · exact Finset.sup_le fun j _ => max_le (Finset.le_sup (f := f) (Finset.mem_univ _)) (Finset.le_sup (f := f) (Finset.mem_univ _))
  · refine Finset.sup_le fun j _ => ?_
    by_cases h : j.val < 128
    · exact le_trans (le_max_left _ _) (Finset.le_sup (f := fun j : Fin 128 => max (f ⟨j.val, by omega⟩) (f ⟨j.val + 128, by omega⟩))
        (Finset.mem_univ (⟨j.val, h⟩ : Fin 128)))
    · have : f j = f ⟨(⟨j.val - 128, by omega⟩ : Fin 128).val + 128, by have := j.isLt; simp only; omega⟩ := by
        congr 1; apply Fin.ext; simp only; omega
      rw [this]
      exact le_trans (le_max_right _ _) (Finset.le_sup (f := fun j : Fin 128 => max (f ⟨j.val, by omega⟩) (f ⟨j.val + 128, by omega⟩))
        (Finset.mem_univ (⟨j.val - 128, by omega⟩ : Fin 128)))

/-- A sum over the lanes of a head pair with the other head's lanes zeroed is the sum over the head's lanes. -/
theorem sum_half (h : ℕ) (hh : h < 2) (f g : Fin 128 → EReal) (p : Fin 128 → Prop) [DecidablePred p]
    (hp : ∀ k : Fin 128, p k ↔ k.val / 64 = h) :
    (∑ k : Fin 128, f k * (if p k then g k else 0)) = ∑ k : Fin 64, f ⟨64 * h + k.val, by omega⟩ * g ⟨64 * h + k.val, by omega⟩ := by
  have e : ∀ k : Fin 128, f k * (if p k then g k else 0) = if k.val / 64 = h then f k * g k else 0 := fun k => by
    by_cases c : p k
    · rw [if_pos c, if_pos ((hp k).1 c)]
    · rw [if_neg c, if_neg fun c' => c ((hp k).2 c'), mul_zero]
  rw [Finset.sum_congr rfl fun k _ => e k, ← Finset.sum_filter]
  refine Finset.sum_nbij' (fun k : Fin 128 => (⟨k.val % 64, Nat.mod_lt _ (by norm_num)⟩ : Fin 64))
    (fun k : Fin 64 => (⟨64 * h + k.val, by omega⟩ : Fin 128)) ?_ ?_ ?_ ?_ ?_
  · intro k _; exact Finset.mem_univ _
  · intro k _; rw [Finset.mem_filter]; exact ⟨Finset.mem_univ _, by show (64 * h + k.val) / 64 = h; omega⟩
  · intro k hk; rw [Finset.mem_filter] at hk; apply Fin.ext; show 64 * h + k.val % 64 = k.val; omega
  · intro k _; apply Fin.ext; show (64 * h + k.val) % 64 = k.val; omega
  · intro k hk
    rw [Finset.mem_filter] at hk
    have : (⟨64 * h + k.val % 64, by omega⟩ : Fin 128) = k := Fin.ext (by show 64 * h + k.val % 64 = k.val; omega)
    simp only [this]

/-- A masked score has weight zero, so the value there does not matter. -/
theorem aO_congr {n : ℕ} (s v w : Fin n → EReal) (h : ∀ j, s j ≠ ⊥ → v j = w j) : aO s v = aO s w := by
  unfold aO
  refine congrArg (Ideal.div · _) (Finset.sum_congr rfl fun j _ => ?_)
  by_cases hs : s j = ⊥
  · have : aP s j = 0 := by
      unfold aP
      rw [hs, sub_eq_add_neg, EReal.bot_add]
      rfl
    rw [this, zero_mul, zero_mul]
  · rw [h j hs]

theorem eO_congr {n : ℕ} (s v w : Fin n → EReal) (h : ∀ j, s j ≠ ⊥ → v j = w j) : eO s v = eO s w := by
  unfold eO
  refine congrArg (Ideal.div · _) (Finset.sum_congr rfl fun j _ => ?_)
  by_cases hs : s j = ⊥
  · have : eP s j = 0 := by
      unfold eP
      rw [hs, sub_eq_add_neg, EReal.bot_add]
      rfl
    rw [this, zero_mul, zero_mul]
  · rw [h j hs]

/-! ### Arrays read at natural-number coordinates -/

/-- A rank-three array at three numbers, zero outside it. -/
def at3 {n0 n1 n2 : ℕ} (x : (⟨3, ![n0, n1, n2]⟩ : Shape).Idx → EReal) (a b c : ℕ) : EReal :=
  if h : a < n0 ∧ b < n1 ∧ c < n2 then x (ValueIdx.ix3 ⟨a, h.1⟩ ⟨b, h.2.1⟩ ⟨c, h.2.2⟩) else 0

theorem at3_eq {n0 n1 n2 : ℕ} (x : (⟨3, ![n0, n1, n2]⟩ : Shape).Idx → EReal) (i : (⟨3, ![n0, n1, n2]⟩ : Shape).Idx) (a b c : ℕ)
    (h0 : (i 0).val = a) (h1 : (i 1).val = b) (h2 : (i 2).val = c) : x i = at3 x a b c := by
  subst h0 h1 h2
  unfold at3
  rw [dif_pos ⟨(i 0).isLt, (i 1).isLt, (i 2).isLt⟩]
  exact congrArg x (ValueIdx.eq_ix3 i)

/-- A rank-four argument, read where the strided view of it lies: row `l`, lane `C` of the view is position
    `4 l + C / 256`, head `C / 64 % 4`. -/
def arg (x : (⟨4, ![4, 8192, 4, 64]⟩ : Shape).Idx → EReal) (b l C : ℕ) : EReal :=
  if h : b < 4 ∧ l < 2048 ∧ C < 1024 then
    x (ValueIdx.ix4 ⟨b, h.1⟩ ⟨4 * l + C / 256, by omega⟩ ⟨C / 64 % 4, by omega⟩ ⟨C % 64, by omega⟩) else 0

/-! ### Window attention over a band of two blocks of 128 rows, head groups of 64 lanes -/

/-- The score of row `l` against row `j` of its own and the previous block, in lane `C`'s head. -/
def sN (Q K : ℕ → ℕ → ℕ → EReal) (b l C : ℕ) (j : Fin 256) : EReal :=
  if l % 128 ≤ j.val ∧ j.val ≤ l % 128 + 128 ∧ (128 ≤ j.val ∨ 128 ≤ l) then
    ∑ k : Fin 64, Q b l (64 * (C / 64) + k.val) * K b (l / 128 * 128 + j.val - 128) (64 * (C / 64) + k.val) else ⊥

/-- The output at row `l`, lane `C`. -/
def oN (Q K V : ℕ → ℕ → ℕ → EReal) (b l C : ℕ) : EReal := aO (sN Q K b l C) fun j => V b (l / 128 * 128 + j.val - 128) C

/-- The log of the weights' sum there. -/
def lN (Q K : ℕ → ℕ → ℕ → EReal) (b l C : ℕ) : EReal := aL (sN Q K b l C)

end Cert.Att

end
-- ==== Proof.TileVal.lean ====
module

public import proofs.«01_k».proof.Proof.Tile
public import proofs.«01_k».proof.Proof.Consts
public import proofs.«01_k».proof.Proof.EMath
public import Idealize.ShloMosaic.Lib.ValueLayout
public import Idealize.ShloMosaic.Lib.ValueLayoutCasts
public import Idealize.ShloMosaic.Lib.WordCmp
public import Idealize.ShloMosaic.Lib.Pipeline.Value

@[expose] public section

set_option maxRecDepth 65536

noncomputable section

namespace Cert.KernelIdeal.Tile

open Cert.KernelIdeal Cert.KernelIdeal.Gen Idealize.ShloMosaic Idealize.ShloMosaic.TcCoe Idealize.ShloMosaic.ValueIdx Idealize.SL.Sem Cert.Att
open scoped BigOperators

/-! ## The tiles of the dilated attention read at an index, on the extended reals -/

theorem bot_f32 : (FloatOps.ofBits .f32 0xFF800000#32 : Ideal .f32) = (⊥ : EReal) := by
  show Ideal.ofBits .f32 0xFF800000#32 = ⊥
  exact bits_bot

theorem lane256 (j : Fin 256) (k : Fin 128) : k0_pay7 (ix2 j k) = BitVec.ofBool (decide (k.val < 64)) :=
  (congrArg (IntOp.cmpi .slt · 64#32) (iota_single_apply _ _ _ _ _ _)).trans
    (WordCmp.cmpi_slt_ofNat (w := 32) (b := 64) (by show k.val < _; have := k.isLt; norm_num; omega) (by norm_num))

theorem lane128 (j : Fin 128) (k : Fin 128) : k0_pay8 (ix2 j k) = BitVec.ofBool (decide (k.val < 64)) :=
  (congrArg (IntOp.cmpi .slt · 64#32) (iota_single_apply _ _ _ _ _ _)).trans
    (WordCmp.cmpi_slt_ofNat (w := 32) (b := 64) (by show k.val < _; have := k.isLt; norm_num; omega) (by norm_num))

theorem lane256' (j : Fin 256) (k : Fin 128) : hk (ix2 j k) = BitVec.ofBool (decide (64 ≤ k.val)) := by
  show IntOp.xori (k0_pay7 (ix2 j k)) 1#1 = _
  rw [lane256]
  by_cases h : k.val < 64
  · have h' : ¬ 64 ≤ k.val := by omega
    simp only [h, h', decide_true, decide_false]; rfl
  · have h' : 64 ≤ k.val := by omega
    simp only [h, h', decide_true, decide_false]; rfl

/-- One score of head `h` of a pair. -/
def hS (mask : IVec S128x256 1) (qp : FVec Ideal S128x128 .bf16) (kp : FVec Ideal S256x128 .bf16) (h : ℕ) (hh : h < 2) (a : Fin 128) (j : Fin 256) : EReal :=
  if mask (ix2 a j) = 1#1 then ∑ k : Fin 64, qp (ix2 a ⟨64 * h + k.val, by omega⟩) * kp (ix2 j ⟨64 * h + k.val, by omega⟩) else ⊥

theorem mask_named : (Named.named κ "mask" 0xF149F2CA#32 : Ideal .f32) = (⊥ : EReal) :=
  IdealRules.named_const.ideal_named_scalar _ _ _ _ rfl

theorem log2e_named : (Named.named κ "log2e" 0x3FB8AA3B#32 : Ideal .f32) = (((Real.log 2)⁻¹ : ℝ) : EReal) :=
  IdealRules.named_const.ideal_named_scalar _ _ _ _ rfl

theorem sc_apply (mask : IVec S128x256 1) (lk : IVec S256x128 1) (qp : FVec Ideal S128x128 .bf16) (kp : FVec Ideal S256x128 .bf16)
    (h : ℕ) (hh : h < 2) (p : Fin 128 → Prop) [DecidablePred p] (hl : ∀ j k, lk (ix2 j k) = BitVec.ofBool (decide (p k)))
    (hp : ∀ k : Fin 128, p k ↔ k.val / 64 = h) (a : Fin 128) (j : Fin 256) :
    sc mask lk qp kp (ix2 a j) = hS mask qp kp h hh a j := by
  unfold sc hS
  rw [select_apply, broadcast_apply, mask_named]
  by_cases hm : mask (ix2 a j) = 1#1
  · rw [if_pos hm, hm, select_one]
    refine (Ideal.matmul_transposedRhs_apply none qp _ _ a j).trans ?_
    rw [ValueIdx.constant_apply]
    rw [Ideal.ofBits_zero_f32, zero_add,
      ← sum_half h hh (fun k => qp (ix2 a k)) (fun k => kp (ix2 j k)) p hp]
    refine Finset.sum_congr rfl fun k _ => ?_
    rw [select_apply, hl, broadcast_apply, WordCmp.select_decide,
      show (Scalar.ofBits .bf16 0x0000#16 : Ideal .bf16) = (0 : EReal) from Ideal.ofBits_zero_bf16]
  · rw [if_neg hm, eq_zero_of_ne_one hm, select_zero]

theorem sc0_apply (mask : IVec S128x256 1) (qp : FVec Ideal S128x128 .bf16) (kp : FVec Ideal S256x128 .bf16) (a : Fin 128) (j : Fin 256) :
    sc mask k0_pay7 qp kp (ix2 a j) = hS mask qp kp 0 (by norm_num) a j :=
  sc_apply mask k0_pay7 qp kp 0 _ (fun k => k.val < 64) lane256 (fun k => by omega) a j

theorem sc1_apply (mask : IVec S128x256 1) (qp : FVec Ideal S128x128 .bf16) (kp : FVec Ideal S256x128 .bf16) (a : Fin 128) (j : Fin 256) :
    sc mask hk qp kp (ix2 a j) = hS mask qp kp 1 (by norm_num) a j :=
  sc_apply mask hk qp kp 1 _ (fun k => 64 ≤ k.val) lane256' (fun k => by have := k.isLt; omega) a j

theorem mx_apply (s : FVec Ideal S128x256 .f32) (a : Fin 128) (u : Fin 1) : mx s (ix2 a u) = aM fun j : Fin 256 => s (ix2 a j) := by
  unfold mx
  rw [shapeCast_a_a1_apply]
  refine (Ideal.multiReduction_maximumf_single _ _ _ _ _ _).trans ?_
  rw [bot_f32, ← fold_halves]
  refine congrArg (fun f => Finset.univ.fold max ⊥ f) (funext fun j : Fin 128 => ?_)
  show maximumf _ _ (reduces_S128x128_S128.lift (ix1 a) j) = _
  rw [show reduces_S128x128_S128.lift (ix1 a) j = ix2 a j from by
    funext d; apply Fin.ext
    match d with
    | ⟨0, _⟩ => rfl
    | ⟨1, _⟩ => rfl]
  show max (extractStridedSlice S128x128 ![0, 0] s slices_S128x256_o0_0_S128x128 (ix2 a j)) (extractStridedSlice S128x128 ![0, 128] s slices_S128x256_o0_128_S128x128 (ix2 a j)) = _
  rw [slice2_axis1_apply 0 s _ a j ⟨j.val, by omega⟩ (by simp),
    slice2_axis1_apply 128 s _ a j ⟨j.val + 128, by omega⟩ (by simp; omega)]

theorem mxb_apply (s : FVec Ideal S128x256 .f32) (a c : Fin 128) :
    broadcastTo S128x128 (mx s) broadcasts_S128x1_S128x128 (ix2 a c) = aM fun j : Fin 256 => s (ix2 a j) := by
  rw [← mx_apply s a 0]
  refine broadcastTo_apply _ _ (ix2 a c) (ix2 a 0) fun ax => ?_
  match ax with
  | ⟨0, _⟩ => rfl
  | ⟨1, _⟩ => rfl

theorem pr_apply (s : FVec Ideal S128x256 .f32) (a : Fin 128) (j : Fin 256) : pr s (ix2 a j) = aP (fun j => s (ix2 a j)) j := by
  unfold pr aP
  by_cases h : j.val < 128
  · rw [concatenate_pair_apply_left (s₁ := S128x128) (s₂ := S128x128) 1 _ _ _ (ix2 a j) rfl (ix2 a (⟨j.val, h⟩ : Fin 128)) (fun b => by
      match b with
      | ⟨0, _⟩ => rfl
      | ⟨1, _⟩ => rfl)]
    refine congrArg Ideal.exp2 ?_
    rw [ValueIdx.subf_apply, mxb_apply, slice2_axis1_apply 0 s _ a _ j (by simp)]
  · rw [concatenate_pair_apply_right (s₁ := S128x128) (s₂ := S128x128) 1 _ _ _ (ix2 a j) rfl rfl (ix2 a (⟨j.val - 128, by omega⟩ : Fin 128)) (fun b hb => by
      match b with
      | ⟨0, _⟩ => rfl
      | ⟨1, _⟩ => exact absurd rfl hb) (by show j.val - 128 + 128 = j.val; omega)]
    refine congrArg Ideal.exp2 ?_
    rw [ValueIdx.subf_apply, mxb_apply, slice2_axis1_apply 128 s _ a _ j (by simp; omega)]

theorem pv_apply (s : FVec Ideal S128x256 .f32) (ve : FVec Ideal S256x256 .bf16) (a : Fin 128) (c : Fin 256) :
    pv s ve (ix2 a c) = ∑ j : Fin 256, aP (fun j => s (ix2 a j)) j * ve (ix2 j c) := by
  unfold pv
  refine (Ideal.matmul_plain_apply none _ ve _ a c).trans ?_
  rw [ValueIdx.constant_apply, Ideal.ofBits_zero_f32, zero_add]
  refine Finset.sum_congr rfl fun j _ => ?_
  rw [ValueIdx.truncf_apply, pr_apply]

theorem vext_lo (vp : FVec Ideal S256x128 .bf16) (j : Fin 256) (c : Fin 256) (h : c.val < 128) : vext vp (ix2 j c) = vp (ix2 j ⟨c.val, h⟩) := by
  unfold vext
  rw [concatenate_pair_apply_left (s₁ := S256x128) (s₂ := S256x128) 1 _ _ _ (ix2 j c) rfl (ix2 j (⟨c.val, h⟩ : Fin 128)) (fun b => by
      match b with
      | ⟨0, _⟩ => rfl
      | ⟨1, _⟩ => rfl)]

theorem vext_hi (vp : FVec Ideal S256x128 .bf16) (j : Fin 256) (c : Fin 256) (h : ¬ c.val < 128) : vext vp (ix2 j c) = (1 : EReal) := by
  unfold vext
  rw [concatenate_pair_apply_right (s₁ := S256x128) (s₂ := S256x128) 1 _ _ _ (ix2 j c) rfl rfl (ix2 j (⟨c.val - 128, by omega⟩ : Fin 128)) (fun b hb => by
      match b with
      | ⟨0, _⟩ => rfl
      | ⟨1, _⟩ => exact absurd rfl hb) (by show c.val - 128 + 128 = c.val; omega)]
  exact Ideal.ofBits_one_bf16

theorem dn_apply (s : FVec Ideal S128x256 .f32) (vp : FVec Ideal S256x128 .bf16) (a c : Fin 128) :
    dn s (vext vp) (ix2 a c) = aD fun j : Fin 256 => s (ix2 a j) := by
  unfold dn aD
  rw [slice2_axis1_apply 128 _ _ a c ⟨c.val + 128, by omega⟩ (by simp; omega), pv_apply]
  exact Finset.sum_congr rfl fun j _ => by rw [vext_hi _ _ _ (by simp), mul_one]

theorem oH_apply (s : FVec Ideal S128x256 .f32) (vp : FVec Ideal S256x128 .bf16) (a c : Fin 128) :
    oH s (vext vp) (ix2 a c) = aO (fun j : Fin 256 => s (ix2 a j)) fun j => vp (ix2 j c) := by
  unfold oH aO
  rw [ValueIdx.divf_apply, dn_apply, slice2_axis1_apply 0 _ _ a c ⟨c.val, by omega⟩ (by simp), pv_apply]
  show Ideal.div _ _ = _
  congr 1
  exact Finset.sum_congr rfl fun j _ => by rw [vext_lo _ _ _ c.isLt]

theorem lH_apply (s : FVec Ideal S128x256 .f32) (vp : FVec Ideal S256x128 .bf16) (a c : Fin 128) :
    lH s (vext vp) (ix2 a c) = aL fun j : Fin 256 => s (ix2 a j) := by
  unfold lH aL
  rw [ValueIdx.addf_apply, mxb_apply, ValueIdx.mulf_apply, broadcast_apply, log2e_named]
  show _ + Ideal.log (dn s (vext vp) (ix2 a c)) * _ = _
  rw [dn_apply]

/-- The row of scores of lane `c`'s head. -/
def rS (mask : IVec S128x256 1) (qp : FVec Ideal S128x128 .bf16) (kp : FVec Ideal S256x128 .bf16) (a c : Fin 128) (j : Fin 256) : EReal :=
  hS mask qp kp (c.val / 64) (by omega) a j

theorem oT_apply (mask : IVec S128x256 1) (qp : FVec Ideal S128x128 .bf16) (kp vp : FVec Ideal S256x128 .bf16) (u : Fin 1) (a c : Fin 128) :
    oT mask qp kp vp (ix3 u a c) = aO (rS mask qp kp a c) fun j => vp (ix2 j c) := by
  unfold oT
  rw [shapeCast_ab_1ab_apply, ValueIdx.truncf_apply]
  show (select _ _ _ (ix2 a c) : EReal) = _
  rw [select_apply, lane128, WordCmp.select_decide]
  by_cases h : c.val < 64
  · rw [if_pos h, oH_apply]
    congr 1; funext j; rw [sc0_apply]; unfold rS; congr 1; omega
  · rw [if_neg h, oH_apply]
    congr 1; funext j; rw [sc1_apply]; unfold rS; congr 1; have := c.isLt; omega

theorem lT_apply (mask : IVec S128x256 1) (qp : FVec Ideal S128x128 .bf16) (kp vp : FVec Ideal S256x128 .bf16) (u : Fin 1) (a c : Fin 128) :
    lT mask qp kp vp (ix3 u a c) = aL (rS mask qp kp a c) := by
  unfold lT
  rw [shapeCast_ab_1ab_apply, select_apply, lane128, WordCmp.select_decide]
  by_cases h : c.val < 64
  · rw [if_pos h, lH_apply]
    congr 1; funext j; rw [sc0_apply]; unfold rS; congr 1; omega
  · rw [if_neg h, lH_apply]
    congr 1; funext j; rw [sc1_apply]; unfold rS; congr 1; have := c.isLt; omega

/-- The band. -/
theorem band_apply (a : Fin 128) (j : Fin 256) : k0_pay5 (ix2 a j) = BitVec.ofBool (decide (a.val ≤ j.val ∧ j.val ≤ a.val + 128)) := by
  show IntOp.andi (IntOp.cmpi .sge (iota .tc S128x256 32 [1] iota_S128x256_d1_w32 (ix2 a j)) (iota .tc S128x256 32 [0] iota_S128x256_d0_w32 (ix2 a j)))
    (IntOp.cmpi .sle (iota .tc S128x256 32 [1] iota_S128x256_d1_w32 (ix2 a j)) (iota .tc S128x256 32 [0] iota_S128x256_d0_w32 (ix2 a j) + 128#32)) = _
  rw [iota_single_apply, iota_single_apply]
  show IntOp.andi (IntOp.cmpi .sge (BitVec.ofNat 32 j.val) (BitVec.ofNat 32 a.val))
    (IntOp.cmpi .sle (BitVec.ofNat 32 j.val) (BitVec.ofNat 32 a.val + 128#32)) = _
  have := a.isLt
  have := j.isLt
  rw [show BitVec.ofNat 32 a.val + 128#32 = BitVec.ofNat 32 (a.val + 128) from by apply BitVec.eq_of_toNat_eq; simp,
    WordCmp.cmpi_sge_ofNat (by norm_num; omega) (by norm_num; omega), WordCmp.cmpi_sle_ofNat (by norm_num; omega) (by norm_num; omega)]
  by_cases h1 : a.val ≤ j.val <;> by_cases h2 : j.val ≤ a.val + 128 <;> simp only [h1, h2, decide_true, decide_false, and_true, and_false, and_self] <;> rfl

/-- The band with the block before the first masked out. -/
theorem band0_apply (i : grid0.Coords) (hi : (i 2).val < 4) (a : Fin 128) (j : Fin 256) :
    k0_pay6 i (ix2 a j) = BitVec.ofBool (decide ((a.val ≤ j.val ∧ j.val ≤ a.val + 128) ∧ (128 ≤ j.val ∨ 0 < (i 2).val))) := by
  show IntOp.andi (k0_pay5 (ix2 a j)) (IntOp.ori (IntOp.cmpi .sge (iota .tc S128x256 32 [1] iota_S128x256_d1_w32 (ix2 a j)) (BitVec.ofNat 32 128))
    (IntOp.cmpi .sgt (BitVec.ofNat 32 (i 2).val) (BitVec.ofNat 32 0))) = _
  rw [iota_single_apply]
  show IntOp.andi (k0_pay5 (ix2 a j)) (IntOp.ori (IntOp.cmpi .sge (BitVec.ofNat 32 j.val) (BitVec.ofNat 32 128))
    (IntOp.cmpi .sgt (BitVec.ofNat 32 (i 2).val) (BitVec.ofNat 32 0))) = _
  have := a.isLt
  have := j.isLt
  rw [band_apply, WordCmp.cmpi_sge_ofNat (by norm_num; omega) (by norm_num), WordCmp.cmpi_sgt_ofNat (by norm_num; omega) (by norm_num)]
  by_cases h1 : a.val ≤ j.val ∧ j.val ≤ a.val + 128 <;> by_cases h2 : 128 ≤ j.val <;> by_cases h3 : 0 < (i 2).val <;>
    simp only [h1, h2, h3, decide_true, decide_false, and_true, and_false, and_self, or_true, or_false, or_self] <;> rfl

theorem q0_apply (x : Vec Ideal S1x128x256 .bf16) (a : Fin 128) (c : Fin 128) : q0 x (ix2 a c) = x (ix3 0 a ⟨c.val, by omega⟩) := by
  unfold q0
  rw [slice2_axis1_apply 0 _ _ a c ⟨c.val, by omega⟩ (by simp), shapeCast_1ab_ab_apply]
theorem q1_apply (x : Vec Ideal S1x128x256 .bf16) (a : Fin 128) (c : Fin 128) : q1 x (ix2 a c) = x (ix3 0 a ⟨128 + c.val, by omega⟩) := by
  unfold q1
  rw [slice2_axis1_apply 128 _ _ a c ⟨128 + c.val, by omega⟩ (by simp), shapeCast_1ab_ab_apply]
theorem c0_apply (x : FVec Ideal S256x256 .bf16) (j : Fin 256) (c : Fin 128) : c0 x (ix2 j c) = x (ix2 j ⟨c.val, by omega⟩) := by
  unfold c0
  rw [slice2_axis1_apply 0 _ _ j c ⟨c.val, by omega⟩ (by simp)]
theorem c1_apply (x : FVec Ideal S256x256 .bf16) (j : Fin 256) (c : Fin 128) : c1 x (ix2 j c) = x (ix2 j ⟨128 + c.val, by omega⟩) := by
  unfold c1
  rw [slice2_axis1_apply 128 _ _ j c ⟨128 + c.val, by omega⟩ (by simp)]
theorem kin_apply (x : Vec Ideal S1x256x256 .bf16) (j c : Fin 256) : kin x (ix2 j c) = x (ix3 0 j c) := by
  unfold kin
  rw [shapeCast_1ab_ab_apply]
theorem kfirst_apply (x y : Vec Ideal S1x128x256 .bf16) (j c : Fin 256) :
    kfirst x y (ix2 j c) = if h : j.val < 128 then x (ix3 0 ⟨j.val, h⟩ c) else y (ix3 0 ⟨j.val - 128, by omega⟩ c) := by
  unfold kfirst
  by_cases h : j.val < 128
  · rw [dif_pos h, concatenate_pair_apply_left (s₁ := S128x256) (s₂ := S128x256) 0 _ _ _ (ix2 j c) rfl (ix2 (⟨j.val, h⟩ : Fin 128) c) (fun b => by
      match b with
      | ⟨0, _⟩ => rfl
      | ⟨1, _⟩ => rfl), shapeCast_1ab_ab_apply]
  · rw [dif_neg h, concatenate_pair_apply_right (s₁ := S128x256) (s₂ := S128x256) 0 _ _ _ (ix2 j c) rfl rfl (ix2 (⟨j.val - 128, by omega⟩ : Fin 128) c) (fun b hb => by
      match b with
      | ⟨0, _⟩ => exact absurd rfl hb
      | ⟨1, _⟩ => rfl) (by show j.val - 128 + 128 = j.val; omega), shapeCast_1ab_ab_apply]

end Cert.KernelIdeal.Tile

end
-- ==== Proof.Kern.lean ====
module

public import proofs.«01_k».proof.Proof.TileVal
public import Idealize.ShloMosaic.Lib.Pipeline.ValueKit.Tiles

@[expose] public section

set_option maxRecDepth 65536

noncomputable section

namespace Cert.KernelIdeal.Kern

open Cert.KernelIdeal Cert.KernelIdeal.Gen Cert.KernelIdeal.Tile Idealize.ShloMosaic Idealize.ShloMosaic.TcCoe Idealize.ShloMosaic.ValueIdx Idealize.SL.Sem Cert.Att
open Idealize.ShloMosaic.Pipeline (Dat)
open scoped BigOperators

/-! ## A tile is the window attention of the rows and lanes it holds -/

section Core

variable (Q K V : ℕ → ℕ → ℕ → EReal) (b l0 C0 : ℕ)

/-- The masked scores of a tile are the window scores. -/
theorem rS_eq (hl : l0 % 128 = 0) (hC : C0 % 128 = 0) (mask : IVec S128x256 1) (qp : FVec Ideal S128x128 .bf16) (kp : FVec Ideal S256x128 .bf16)
    (hm : ∀ (a : Fin 128) (j : Fin 256), mask (ix2 a j) = BitVec.ofBool (decide ((a.val ≤ j.val ∧ j.val ≤ a.val + 128) ∧ (128 ≤ j.val ∨ 0 < l0))))
    (hq : ∀ (a k : Fin 128), qp (ix2 a k) = Q b (l0 + a.val) (C0 + k.val))
    (hk : ∀ (j : Fin 256) (k : Fin 128), 128 ≤ j.val ∨ 0 < l0 → kp (ix2 j k) = K b (l0 + j.val - 128) (C0 + k.val)) (a c : Fin 128) :
    rS mask qp kp a c = sN Q K b (l0 + a.val) (C0 + c.val) := by
  funext j
  have ha := a.isLt
  have hc := c.isLt
  unfold rS hS sN
  rw [hm]
  by_cases h : (a.val ≤ j.val ∧ j.val ≤ a.val + 128) ∧ (128 ≤ j.val ∨ 0 < l0)
  · have h' : (l0 + a.val) % 128 ≤ j.val ∧ j.val ≤ (l0 + a.val) % 128 + 128 ∧ (128 ≤ j.val ∨ 128 ≤ l0 + a.val) := by omega
    rw [if_pos (by rw [decide_eq_true h]; rfl), if_pos h']
    refine Finset.sum_congr rfl fun k _ => ?_
    rw [hq, hk j _ h.2]
    have e1 : C0 + (64 * (c.val / 64) + k.val) = 64 * ((C0 + c.val) / 64) + k.val := by omega
    have e2 : l0 + j.val - 128 = (l0 + a.val) / 128 * 128 + j.val - 128 := by omega
    show Q b (l0 + a.val) (C0 + (64 * (c.val / 64) + k.val)) * K b (l0 + j.val - 128) (C0 + (64 * (c.val / 64) + k.val)) = _
    rw [e1, e2]
  · have h' : ¬ ((l0 + a.val) % 128 ≤ j.val ∧ j.val ≤ (l0 + a.val) % 128 + 128 ∧ (128 ≤ j.val ∨ 128 ≤ l0 + a.val)) := by omega
    rw [if_neg (by rw [decide_eq_false h]; decide), if_neg h']

theorem oT_eq (hl : l0 % 128 = 0) (hC : C0 % 128 = 0) (mask : IVec S128x256 1) (qp : FVec Ideal S128x128 .bf16) (kp vp : FVec Ideal S256x128 .bf16)
    (hm : ∀ (a : Fin 128) (j : Fin 256), mask (ix2 a j) = BitVec.ofBool (decide ((a.val ≤ j.val ∧ j.val ≤ a.val + 128) ∧ (128 ≤ j.val ∨ 0 < l0))))
    (hq : ∀ (a k : Fin 128), qp (ix2 a k) = Q b (l0 + a.val) (C0 + k.val))
    (hk : ∀ (j : Fin 256) (k : Fin 128), 128 ≤ j.val ∨ 0 < l0 → kp (ix2 j k) = K b (l0 + j.val - 128) (C0 + k.val))
    (hv : ∀ (j : Fin 256) (k : Fin 128), 128 ≤ j.val ∨ 0 < l0 → vp (ix2 j k) = V b (l0 + j.val - 128) (C0 + k.val)) (u : Fin 1) (a c : Fin 128) :
    oT mask qp kp vp (ix3 u a c) = oN Q K V b (l0 + a.val) (C0 + c.val) := by
  have ha := a.isLt
  rw [oT_apply, rS_eq Q K b l0 C0 hl hC mask qp kp hm hq hk]
  unfold oN
  refine aO_congr _ _ _ fun j hj => ?_
  unfold sN at hj
  have h : (l0 + a.val) % 128 ≤ j.val ∧ j.val ≤ (l0 + a.val) % 128 + 128 ∧ (128 ≤ j.val ∨ 128 ≤ l0 + a.val) := by
    by_contra h; rw [if_neg h] at hj; exact hj rfl
  rw [hv j c (by omega)]
  have e2 : l0 + j.val - 128 = (l0 + a.val) / 128 * 128 + j.val - 128 := by omega
  rw [e2]

theorem lT_eq (hl : l0 % 128 = 0) (hC : C0 % 128 = 0) (mask : IVec S128x256 1) (qp : FVec Ideal S128x128 .bf16) (kp vp : FVec Ideal S256x128 .bf16)
    (hm : ∀ (a : Fin 128) (j : Fin 256), mask (ix2 a j) = BitVec.ofBool (decide ((a.val ≤ j.val ∧ j.val ≤ a.val + 128) ∧ (128 ≤ j.val ∨ 0 < l0))))
    (hq : ∀ (a k : Fin 128), qp (ix2 a k) = Q b (l0 + a.val) (C0 + k.val))
    (hk : ∀ (j : Fin 256) (k : Fin 128), 128 ≤ j.val ∨ 0 < l0 → kp (ix2 j k) = K b (l0 + j.val - 128) (C0 + k.val)) (u : Fin 1) (a c : Fin 128) :
    lT mask qp kp vp (ix3 u a c) = lN Q K b (l0 + a.val) (C0 + c.val) := by
  rw [lT_apply, rS_eq Q K b l0 C0 hl hC mask qp kp hm hq hk]
  rfl

end Core

/-! ## The blocks one grid point reads -/

/-- What the five input blocks hold, as parts of three arrays: batch `b`, row block `n` of 1024, lanes from `C0`. -/
structure Blocks (Q K V : ℕ → ℕ → ℕ → EReal) (b n C0 : ℕ) (x0 : Vec Ideal S1x1024x256 .bf16) (x1 : Vec Ideal S1x128x256 .bf16) (x2 : Vec Ideal S1x1024x256 .bf16)
    (x3 : Vec Ideal S1x128x256 .bf16) (x4 : Vec Ideal S1x1024x256 .bf16) : Prop where
  h0 : ∀ (R : Fin 1024) (c : Fin 256), x0 (ix3 0 R c) = Q b (n * 1024 + R.val) (C0 + c.val)
  h1 : ∀ (R : Fin 128) (c : Fin 256), 0 < n → x1 (ix3 0 R c) = K b (n * 1024 + R.val - 128) (C0 + c.val)
  h2 : ∀ (R : Fin 1024) (c : Fin 256), x2 (ix3 0 R c) = K b (n * 1024 + R.val) (C0 + c.val)
  h3 : ∀ (R : Fin 128) (c : Fin 256), 0 < n → x3 (ix3 0 R c) = V b (n * 1024 + R.val - 128) (C0 + c.val)
  h4 : ∀ (R : Fin 1024) (c : Fin 256), x4 (ix3 0 R c) = V b (n * 1024 + R.val) (C0 + c.val)

section Pieces

variable {Q K V : ℕ → ℕ → ℕ → EReal} {b n C0 : ℕ} {x0 x2 x4 : Vec Ideal S1x1024x256 .bf16} {x1 x3 : Vec Ideal S1x128x256 .bf16}

/-- A load of rows `o …` of a block. -/
theorem ld128 (x : Vec Ideal S1x1024x256 .bf16) (o : ℕ) (h : ∀ a, (![0, o, 0] : Fin 3 → ℕ) a + S1x128x256.size a ≤ S1x1024x256.size a) (a : Fin 128) (c : Fin 256)
    (ho : o + a.val < 1024) :
    View.ld x (Rect.unit (s := S1x1024x256) ![0, o, 0] S1x128x256.size h) (ix3 0 a c) = x (ix3 0 ⟨o + a.val, ho⟩ c) :=
  View.ld_unit_apply_of x _ _ h _ _ fun ax => by
    match ax with
    | ⟨0, _⟩ => rfl
    | ⟨1, _⟩ => rfl
    | ⟨2, _⟩ => exact (Nat.zero_add _).symm

theorem ld256 (x : Vec Ideal S1x1024x256 .bf16) (o : ℕ) (h : ∀ a, (![0, o, 0] : Fin 3 → ℕ) a + S1x256x256.size a ≤ S1x1024x256.size a) (a : Fin 256) (c : Fin 256)
    (ho : o + a.val < 1024) :
    View.ld x (Rect.unit (s := S1x1024x256) ![0, o, 0] S1x256x256.size h) (ix3 0 a c) = x (ix3 0 ⟨o + a.val, ho⟩ c) :=
  View.ld_unit_apply_of x _ _ h _ _ fun ax => by
    match ax with
    | ⟨0, _⟩ => rfl
    | ⟨1, _⟩ => rfl
    | ⟨2, _⟩ => exact (Nat.zero_add _).symm

theorem ldw (x : Vec Ideal S1x128x256 .bf16) (a : Fin 128) (c : Fin 256) : View.ld x r0_0 (ix3 0 a c) = x (ix3 0 a c) :=
  View.ld_unit_apply_of x _ _ _ _ _ fun ax => by
    match ax with
    | ⟨0, _⟩ => rfl
    | ⟨1, _⟩ => exact (Nat.zero_add _).symm
    | ⟨2, _⟩ => exact (Nat.zero_add _).symm

/-- The two head pairs of a row block, at lane offset `p`. -/
def qh (p : ℕ) : Vec Ideal S1x128x256 .bf16 → FVec Ideal S128x128 .bf16 := if p = 0 then q0 else q1
def ch (p : ℕ) : FVec Ideal S256x256 .bf16 → FVec Ideal S256x128 .bf16 := if p = 0 then c0 else c1

theorem qh_apply (p : ℕ) (hp : p = 0 ∨ p = 128) (x : Vec Ideal S1x128x256 .bf16) (a c : Fin 128) :
    qh p x (ix2 a c) = x (ix3 0 a ⟨p + c.val, by omega⟩) := by
  rcases hp with rfl | rfl
  · refine (q0_apply x a c).trans (congrArg x ?_)
    congr 1; exact Fin.ext (Nat.zero_add _).symm
  · exact q1_apply x a c

theorem ch_apply (p : ℕ) (hp : p = 0 ∨ p = 128) (x : FVec Ideal S256x256 .bf16) (a : Fin 256) (c : Fin 128) :
    ch p x (ix2 a c) = x (ix2 a ⟨p + c.val, by omega⟩) := by
  rcases hp with rfl | rfl
  · refine (c0_apply x a c).trans (congrArg x ?_)
    congr 1; exact Fin.ext (Nat.zero_add _).symm
  · exact c1_apply x a c

/-- The rectangle of a tile, its indices in the block. -/
theorem emb_tile (o p : ℕ) (h : ∀ a, (![0, o, p] : Fin 3 → ℕ) a + S1x128x128.size a ≤ S1x1024x256.size a) (x : S1x128x128.Idx) :
    ((Rect.unit (s := S1x1024x256) ![0, o, p] S1x128x128.size h).emb x 1).val = o + (x 1).val
      ∧ ((Rect.unit (s := S1x1024x256) ![0, o, p] S1x128x128.size h).emb x 2).val = p + (x 2).val :=
  ⟨show o + 1 * (x 1).val = _ by omega, show p + 1 * (x 2).val = _ by omega⟩

variable (B : Blocks Q K V b n C0 x0 x1 x2 x3 x4) (hC : C0 % 256 = 0)
include B hC

/-- The facts of an inner tile: rows `o + 128 …` against the rows from `o`. -/
theorem inner (o o' p : ℕ) (ho' : o' = o + 128) (ho : o % 128 = 0) (hb : o + 256 ≤ 1024) (hp : p = 0 ∨ p = 128)
    (hq : ∀ a, (![0, o', 0] : Fin 3 → ℕ) a + S1x128x256.size a ≤ S1x1024x256.size a)
    (hk : ∀ a, (![0, o, 0] : Fin 3 → ℕ) a + S1x256x256.size a ≤ S1x1024x256.size a)
    (hs : ∀ a, (![0, o', p] : Fin 3 → ℕ) a + S1x128x128.size a ≤ S1x1024x256.size a) (x : S1x128x128.Idx) :
    oT k0_pay5 (qh p (View.ld x0 (Rect.unit (s := S1x1024x256) ![0, o', 0] S1x128x256.size hq)))
        (ch p (kin (View.ld x2 (Rect.unit (s := S1x1024x256) ![0, o, 0] S1x256x256.size hk))))
        (ch p (kin (View.ld x4 (Rect.unit (s := S1x1024x256) ![0, o, 0] S1x256x256.size hk)))) x
      = (fun y : S1x1024x256.Idx => oN Q K V b (n * 1024 + (y 1).val) (C0 + (y 2).val)) ((Rect.unit (s := S1x1024x256) ![0, o', p] S1x128x128.size hs).emb x)
    ∧ lT k0_pay5 (qh p (View.ld x0 (Rect.unit (s := S1x1024x256) ![0, o', 0] S1x128x256.size hq)))
        (ch p (kin (View.ld x2 (Rect.unit (s := S1x1024x256) ![0, o, 0] S1x256x256.size hk))))
        (ch p (kin (View.ld x4 (Rect.unit (s := S1x1024x256) ![0, o, 0] S1x256x256.size hk)))) x
      = (fun y : S1x1024x256.Idx => lN Q K b (n * 1024 + (y 1).val) (C0 + (y 2).val)) ((Rect.unit (s := S1x1024x256) ![0, o', p] S1x128x128.size hs).emb x) := by
  have hx1 : (x 1).val < 128 := (x 1).isLt
  have hx2 : (x 2).val < 128 := (x 2).isLt
  have hl0 : (n * 1024 + o') % 128 = 0 := by omega
  have hC0 : (C0 + p) % 128 = 0 := by omega
  have hm : ∀ (a : Fin 128) (j : Fin 256), k0_pay5 (ix2 a j) = BitVec.ofBool (decide ((a.val ≤ j.val ∧ j.val ≤ a.val + 128) ∧ (128 ≤ j.val ∨ 0 < n * 1024 + o'))) := by
    intro a j
    rw [band_apply]
    congr 1
    exact decide_eq_decide.2 (by omega)
  have hq' : ∀ (a k : Fin 128), qh p (View.ld x0 (Rect.unit (s := S1x1024x256) ![0, o', 0] S1x128x256.size hq)) (ix2 a k)
      = Q b (n * 1024 + o' + a.val) (C0 + p + k.val) := by
    intro a k
    rw [qh_apply p hp, ld128 x0 o' hq a _ (by omega), B.h0, Nat.add_assoc, Nat.add_assoc]
  have hk' : ∀ (j : Fin 256) (k : Fin 128), 128 ≤ j.val ∨ 0 < n * 1024 + o' →
      ch p (kin (View.ld x2 (Rect.unit (s := S1x1024x256) ![0, o, 0] S1x256x256.size hk))) (ix2 j k) = K b (n * 1024 + o' + j.val - 128) (C0 + p + k.val) := by
    intro j k _
    rw [ch_apply p hp, kin_apply, ld256 x2 o hk j _ (by omega), B.h2, Nat.add_assoc C0]
    congr 1
    show n * 1024 + (o + j.val) = _
    omega
  have hv' : ∀ (j : Fin 256) (k : Fin 128), 128 ≤ j.val ∨ 0 < n * 1024 + o' →
      ch p (kin (View.ld x4 (Rect.unit (s := S1x1024x256) ![0, o, 0] S1x256x256.size hk))) (ix2 j k) = V b (n * 1024 + o' + j.val - 128) (C0 + p + k.val) := by
    intro j k _
    rw [ch_apply p hp, kin_apply, ld256 x4 o hk j _ (by omega), B.h4, Nat.add_assoc C0]
    congr 1
    show n * 1024 + (o + j.val) = _
    omega
  obtain ⟨e1, e2⟩ := emb_tile o' p hs x
  have ex : x = ix3 (x 0) (x 1) (x 2) := eq_ix3 x
  constructor
  · show _ = oN Q K V b (n * 1024 + ((Rect.unit (s := S1x1024x256) ![0, o', p] S1x128x128.size hs).emb x 1).val)
      (C0 + ((Rect.unit (s := S1x1024x256) ![0, o', p] S1x128x128.size hs).emb x 2).val)
    rw [e1, e2, ← Nat.add_assoc, ← Nat.add_assoc]
    exact (congrArg _ ex).trans (oT_eq Q K V b (n * 1024 + o') (C0 + p) hl0 hC0 _ _ _ _ hm hq' hk' hv' (x 0) (x 1) (x 2))
  · show _ = lN Q K b (n * 1024 + ((Rect.unit (s := S1x1024x256) ![0, o', p] S1x128x128.size hs).emb x 1).val)
      (C0 + ((Rect.unit (s := S1x1024x256) ![0, o', p] S1x128x128.size hs).emb x 2).val)
    rw [e1, e2, ← Nat.add_assoc, ← Nat.add_assoc]
    exact (congrArg _ ex).trans (lT_eq Q K b (n * 1024 + o') (C0 + p) hl0 hC0 _ _ _ _ hm hq' hk' (x 0) (x 1) (x 2))

/-- The facts of a tile of the first rows, against the block before and the first rows. -/
theorem first (i : grid0.Coords) (hi : (i 2).val = n) (hn : n < 4) (p : ℕ) (hp : p = 0 ∨ p = 128)
    (hs : ∀ a, (![0, 0, p] : Fin 3 → ℕ) a + S1x128x128.size a ≤ S1x1024x256.size a) (x : S1x128x128.Idx) :
    oT (k0_pay6 i) (qh p (View.ld x0 r0_1)) (ch p (kfirst (View.ld x1 r0_0) (View.ld x2 r0_1))) (ch p (kfirst (View.ld x3 r0_0) (View.ld x4 r0_1))) x
      = (fun y : S1x1024x256.Idx => oN Q K V b (n * 1024 + (y 1).val) (C0 + (y 2).val)) ((Rect.unit (s := S1x1024x256) ![0, 0, p] S1x128x128.size hs).emb x)
    ∧ lT (k0_pay6 i) (qh p (View.ld x0 r0_1)) (ch p (kfirst (View.ld x1 r0_0) (View.ld x2 r0_1))) (ch p (kfirst (View.ld x3 r0_0) (View.ld x4 r0_1))) x
      = (fun y : S1x1024x256.Idx => lN Q K b (n * 1024 + (y 1).val) (C0 + (y 2).val)) ((Rect.unit (s := S1x1024x256) ![0, 0, p] S1x128x128.size hs).emb x) := by
  have hx1 : (x 1).val < 128 := (x 1).isLt
  have hx2 : (x 2).val < 128 := (x 2).isLt
  have hl0 : (n * 1024) % 128 = 0 := by omega
  have hC0 : (C0 + p) % 128 = 0 := by omega
  have hm : ∀ (a : Fin 128) (j : Fin 256), k0_pay6 i (ix2 a j) = BitVec.ofBool (decide ((a.val ≤ j.val ∧ j.val ≤ a.val + 128) ∧ (128 ≤ j.val ∨ 0 < n * 1024))) := by
    intro a j
    rw [band0_apply i (by omega), hi]
    congr 1
    exact decide_eq_decide.2 (by omega)
  have hq' : ∀ (a k : Fin 128), qh p (View.ld x0 r0_1) (ix2 a k) = Q b (n * 1024 + a.val) (C0 + p + k.val) := by
    intro a k
    rw [qh_apply p hp, ld128 x0 0 _ a _ (by omega), B.h0, Nat.add_assoc C0]
    congr 1
    show n * 1024 + (0 + a.val) = _
    omega
  have hk' : ∀ (j : Fin 256) (k : Fin 128), 128 ≤ j.val ∨ 0 < n * 1024 →
      ch p (kfirst (View.ld x1 r0_0) (View.ld x2 r0_1)) (ix2 j k) = K b (n * 1024 + j.val - 128) (C0 + p + k.val) := by
    intro j k h
    rw [ch_apply p hp, kfirst_apply]
    by_cases hj : j.val < 128
    · rw [dif_pos hj, ldw, B.h1 _ _ (by omega), Nat.add_assoc C0]
    · rw [dif_neg hj, ld128 x2 0 _ _ _ (by show 0 + (j.val - 128) < 1024; omega), B.h2, Nat.add_assoc C0]
      congr 1
      show n * 1024 + (0 + (j.val - 128)) = _
      omega
  have hv' : ∀ (j : Fin 256) (k : Fin 128), 128 ≤ j.val ∨ 0 < n * 1024 →
      ch p (kfirst (View.ld x3 r0_0) (View.ld x4 r0_1)) (ix2 j k) = V b (n * 1024 + j.val - 128) (C0 + p + k.val) := by
    intro j k h
    rw [ch_apply p hp, kfirst_apply]
    by_cases hj : j.val < 128
    · rw [dif_pos hj, ldw, B.h3 _ _ (by omega), Nat.add_assoc C0]
    · rw [dif_neg hj, ld128 x4 0 _ _ _ (by show 0 + (j.val - 128) < 1024; omega), B.h4, Nat.add_assoc C0]
      congr 1
      show n * 1024 + (0 + (j.val - 128)) = _
      omega
  obtain ⟨e1, e2⟩ := emb_tile 0 p hs x
  have ex : x = ix3 (x 0) (x 1) (x 2) := eq_ix3 x
  constructor
  · show _ = oN Q K V b (n * 1024 + ((Rect.unit (s := S1x1024x256) ![0, 0, p] S1x128x128.size hs).emb x 1).val)
      (C0 + ((Rect.unit (s := S1x1024x256) ![0, 0, p] S1x128x128.size hs).emb x 2).val)
    rw [e1, e2, Nat.zero_add, ← Nat.add_assoc]
    exact (congrArg _ ex).trans (oT_eq Q K V b (n * 1024) (C0 + p) hl0 hC0 _ _ _ _ hm hq' hk' hv' (x 0) (x 1) (x 2))
  · show _ = lN Q K b (n * 1024 + ((Rect.unit (s := S1x1024x256) ![0, 0, p] S1x128x128.size hs).emb x 1).val)
      (C0 + ((Rect.unit (s := S1x1024x256) ![0, 0, p] S1x128x128.size hs).emb x 2).val)
    rw [e1, e2, Nat.zero_add, ← Nat.add_assoc]
    exact (congrArg _ ex).trans (lT_eq Q K b (n * 1024) (C0 + p) hl0 hC0 _ _ _ _ hm hq' hk' (x 0) (x 1) (x 2))

/-- The output block of a grid point. -/
theorem out5_eq (i : grid0.Coords) (hi : (i 2).val = n) (hn : n < 4) (y : S1x1024x256.Idx) :
    out0_5 i x0 x1 x2 x3 x4 y = oN Q K V b (n * 1024 + (y 1).val) (C0 + (y 2).val) := by
  rw [out5_tiles]
  refine View.canon_apply_of_pieces (Val := Elt Ideal) (fun y : S1x1024x256.Idx => oN Q K V b (n * 1024 + (y 1).val) (C0 + (y 2).val)) _ ?_ y
    (cover0_5 _ _ _ _ _ _ _ _ _ _ _ _ _ _ _ _ y)
  simp only [List.forall_mem_cons]
  refine ⟨?_, ?_, ?_, ?_, ?_, ?_, ?_, ?_, ?_, ?_, ?_, ?_, ?_, ?_, ?_, ?_, ?_⟩
  · exact fun x => (inner B hC 768 896 128 rfl rfl (by norm_num) (.inr rfl) _ _ _ x).1
  · exact fun x => (inner B hC 768 896 0 rfl rfl (by norm_num) (.inl rfl) _ _ _ x).1
  · exact fun x => (inner B hC 640 768 128 rfl rfl (by norm_num) (.inr rfl) _ _ _ x).1
  · exact fun x => (inner B hC 640 768 0 rfl rfl (by norm_num) (.inl rfl) _ _ _ x).1
  · exact fun x => (inner B hC 512 640 128 rfl rfl (by norm_num) (.inr rfl) _ _ _ x).1
  · exact fun x => (inner B hC 512 640 0 rfl rfl (by norm_num) (.inl rfl) _ _ _ x).1
  · exact fun x => (inner B hC 384 512 128 rfl rfl (by norm_num) (.inr rfl) _ _ _ x).1
  · exact fun x => (inner B hC 384 512 0 rfl rfl (by norm_num) (.inl rfl) _ _ _ x).1
  · exact fun x => (inner B hC 256 384 128 rfl rfl (by norm_num) (.inr rfl) _ _ _ x).1
  · exact fun x => (inner B hC 256 384 0 rfl rfl (by norm_num) (.inl rfl) _ _ _ x).1
  · exact fun x => (inner B hC 128 256 128 rfl rfl (by norm_num) (.inr rfl) _ _ _ x).1
  · exact fun x => (inner B hC 128 256 0 rfl rfl (by norm_num) (.inl rfl) _ _ _ x).1
  · exact fun x => (inner B hC 0 128 128 rfl rfl (by norm_num) (.inr rfl) _ _ _ x).1
  · exact fun x => (inner B hC 0 128 0 rfl rfl (by norm_num) (.inl rfl) _ _ _ x).1
  · exact fun x => (first B hC i hi hn 128 (.inr rfl) _ x).1
  · exact fun x => (first B hC i hi hn 0 (.inl rfl) _ x).1
  · exact fun p hp => absurd hp (List.not_mem_nil)

/-- The log sums of a grid point. -/
theorem out6_eq (i : grid0.Coords) (hi : (i 2).val = n) (hn : n < 4) (y : S1x1024x256.Idx) :
    out0_6 i x0 x1 x2 x3 x4 y = lN Q K b (n * 1024 + (y 1).val) (C0 + (y 2).val) := by
  rw [out6_tiles]
  refine View.canon_apply_of_pieces (Val := Elt Ideal) (fun y : S1x1024x256.Idx => lN Q K b (n * 1024 + (y 1).val) (C0 + (y 2).val)) _ ?_ y
    (cover0_6 _ _ _ _ _ _ _ _ _ _ _ _ _ _ _ _ y)
  simp only [List.forall_mem_cons]
  refine ⟨?_, ?_, ?_, ?_, ?_, ?_, ?_, ?_, ?_, ?_, ?_, ?_, ?_, ?_, ?_, ?_, ?_⟩
  · exact fun x => (inner B hC 768 896 128 rfl rfl (by norm_num) (.inr rfl) _ _ _ x).2
  · exact fun x => (inner B hC 768 896 0 rfl rfl (by norm_num) (.inl rfl) _ _ _ x).2
  · exact fun x => (inner B hC 640 768 128 rfl rfl (by norm_num) (.inr rfl) _ _ _ x).2
  · exact fun x => (inner B hC 640 768 0 rfl rfl (by norm_num) (.inl rfl) _ _ _ x).2
  · exact fun x => (inner B hC 512 640 128 rfl rfl (by norm_num) (.inr rfl) _ _ _ x).2
  · exact fun x => (inner B hC 512 640 0 rfl rfl (by norm_num) (.inl rfl) _ _ _ x).2
  · exact fun x => (inner B hC 384 512 128 rfl rfl (by norm_num) (.inr rfl) _ _ _ x).2
  · exact fun x => (inner B hC 384 512 0 rfl rfl (by norm_num) (.inl rfl) _ _ _ x).2
  · exact fun x => (inner B hC 256 384 128 rfl rfl (by norm_num) (.inr rfl) _ _ _ x).2
  · exact fun x => (inner B hC 256 384 0 rfl rfl (by norm_num) (.inl rfl) _ _ _ x).2
  · exact fun x => (inner B hC 128 256 128 rfl rfl (by norm_num) (.inr rfl) _ _ _ x).2
  · exact fun x => (inner B hC 128 256 0 rfl rfl (by norm_num) (.inl rfl) _ _ _ x).2
  · exact fun x => (inner B hC 0 128 128 rfl rfl (by norm_num) (.inr rfl) _ _ _ x).2
  · exact fun x => (inner B hC 0 128 0 rfl rfl (by norm_num) (.inl rfl) _ _ _ x).2
  · exact fun x => (first B hC i hi hn 128 (.inr rfl) _ x).2
  · exact fun x => (first B hC i hi hn 0 (.inl rfl) _ x).2
  · exact fun p hp => absurd hp (List.not_mem_nil)

end Pieces

end Cert.KernelIdeal.Kern

end
-- ==== Proof.KernRun.lean ====
module

public import proofs.«01_k».proof.Proof.Kern
public import Idealize.ShloMosaic.Lib.StableHlo.RunRead
public import Idealize.ShloMosaic.Lib.Pipeline.Value

@[expose] public section

set_option maxRecDepth 65536

noncomputable section

namespace Cert.KernelIdeal.Kern

open Cert.KernelIdeal Cert.KernelIdeal.Gen Cert.KernelIdeal.Tile Idealize.ShloMosaic Idealize.ShloMosaic.TcCoe Idealize.ShloMosaic.ValueIdx Idealize.SL.Sem Cert.Att
open Idealize.ShloMosaic.Pipeline (Dat)
open scoped BigOperators

variable (m : (ℓ : Loc nD τ sig) → Buf (Elt Ideal) ℓ) (ρ : Dev nD → PrngReg)

/-! ## Where each grid point's blocks lie -/

theorem idx_cur : ∀ t : Fin cfg0.N, win0_0.index t = ![(grid0.coords t 0).val, (grid0.coords t 2).val, (grid0.coords t 1).val]
    ∧ win0_2.index t = ![(grid0.coords t 0).val, (grid0.coords t 2).val, (grid0.coords t 1).val]
    ∧ win0_4.index t = ![(grid0.coords t 0).val, (grid0.coords t 2).val, (grid0.coords t 1).val]
    ∧ win0_5.index t = ![(grid0.coords t 0).val, (grid0.coords t 2).val, (grid0.coords t 1).val]
    ∧ win0_6.index t = ![(grid0.coords t 0).val, (grid0.coords t 2).val, (grid0.coords t 1).val]
    ∧ win0_1.index t = ![(grid0.coords t 0).val, (grid0.coords t 2).val * 8 - 1, (grid0.coords t 1).val]
    ∧ win0_3.index t = ![(grid0.coords t 0).val, (grid0.coords t 2).val * 8 - 1, (grid0.coords t 1).val] :=
  (by decide +kernel : ∀ t : Fin grid0.N, win0_0.index t = ![(grid0.coords t 0).val, (grid0.coords t 2).val, (grid0.coords t 1).val]
    ∧ win0_2.index t = ![(grid0.coords t 0).val, (grid0.coords t 2).val, (grid0.coords t 1).val]
    ∧ win0_4.index t = ![(grid0.coords t 0).val, (grid0.coords t 2).val, (grid0.coords t 1).val]
    ∧ win0_5.index t = ![(grid0.coords t 0).val, (grid0.coords t 2).val, (grid0.coords t 1).val]
    ∧ win0_6.index t = ![(grid0.coords t 0).val, (grid0.coords t 2).val, (grid0.coords t 1).val]
    ∧ win0_1.index t = ![(grid0.coords t 0).val, (grid0.coords t 2).val * 8 - 1, (grid0.coords t 1).val]
    ∧ win0_3.index t = ![(grid0.coords t 0).val, (grid0.coords t 2).val * 8 - 1, (grid0.coords t 1).val])

theorem coord_n (t : Fin cfg0.N) : (grid0.coords t 2).val < 2 := (grid0.coords t 2).isLt

/-- The queries, keys and values as the region finds them. -/
abbrev QA (c : Dev nD) : ℕ → ℕ → ℕ → EReal := at3 (n0 := 4) (n1 := 2048) (n2 := 1024) (V m c main_v8)
abbrev KA (c : Dev nD) : ℕ → ℕ → ℕ → EReal := at3 (n0 := 4) (n1 := 2048) (n2 := 1024) (V m c main_v9)
abbrev VA (c : Dev nD) : ℕ → ℕ → ℕ → EReal := at3 (n0 := 4) (n1 := 2048) (n2 := 1024) (V m c main_v11)

/-- The same keys and values feed the windows of the current and of the previous rows. -/
theorem V7 (c : Dev nD) : (V m c main_v10 : S4x2048x1024.Idx → EReal) = V m c main_v9 := by
  unfold V; after_reads_simp
  rfl
theorem V9 (c : Dev nD) : (V m c main_v12 : S4x2048x1024.Idx → EReal) = V m c main_v11 := by
  unfold V; after_reads_simp
  rfl

/-- What the blocks of point `t` hold. -/
theorem blocks_at (c : Dev nD) (t : Fin cfg0.N) :
    Blocks (QA m c) (KA m c) (VA m c) (grid0.coords t 0).val (grid0.coords t 2).val ((grid0.coords t 1).val * 256)
      (iblk m c 0 t) (iblk m c 1 t) (iblk m c 2 t) (iblk m c 3 t) (iblk m c 4 t) := by
  obtain ⟨e0, e2, e4, _, _, e1, e3⟩ := idx_cur t
  refine ⟨fun R k => ?_, fun R k hn => ?_, fun R k => ?_, fun R k hn => ?_, fun R k => ?_⟩
  · show (V m c main_v8 : S4x2048x1024.Idx → EReal) ((win0_0.rect t).emb (ix3 0 R k)) = _
    refine at3_eq _ _ _ _ _ ?_ ?_ ?_
    · refine (win0_0.rect_emb_val t _ _).trans ?_; rw [e0]; exact Nat.mul_one _
    · refine (win0_0.rect_emb_val t _ _).trans ?_; rw [e0]; rfl
    · refine (win0_0.rect_emb_val t _ _).trans ?_; rw [e0]; rfl
  · show (V m c main_v9 : S4x2048x1024.Idx → EReal) ((win0_1.rect t).emb (ix3 0 R k)) = _
    refine at3_eq _ _ _ _ _ ?_ ?_ ?_
    · refine (win0_1.rect_emb_val t _ _).trans ?_; rw [e1]; exact Nat.mul_one _
    · refine (win0_1.rect_emb_val t _ _).trans ?_; rw [e1]
      show ((grid0.coords t 2).val * 8 - 1) * 128 + R.val = _
      omega
    · refine (win0_1.rect_emb_val t _ _).trans ?_; rw [e1]; rfl
  · show (V m c main_v10 : S4x2048x1024.Idx → EReal) ((win0_2.rect t).emb (ix3 0 R k)) = _
    rw [V7]
    refine at3_eq _ _ _ _ _ ?_ ?_ ?_
    · refine (win0_2.rect_emb_val t _ _).trans ?_; rw [e2]; exact Nat.mul_one _
    · refine (win0_2.rect_emb_val t _ _).trans ?_; rw [e2]; rfl
    · refine (win0_2.rect_emb_val t _ _).trans ?_; rw [e2]; rfl
  · show (V m c main_v11 : S4x2048x1024.Idx → EReal) ((win0_3.rect t).emb (ix3 0 R k)) = _
    refine at3_eq _ _ _ _ _ ?_ ?_ ?_
    · refine (win0_3.rect_emb_val t _ _).trans ?_; rw [e3]; exact Nat.mul_one _
    · refine (win0_3.rect_emb_val t _ _).trans ?_; rw [e3]
      show ((grid0.coords t 2).val * 8 - 1) * 128 + R.val = _
      omega
    · refine (win0_3.rect_emb_val t _ _).trans ?_; rw [e3]; rfl
  · show (V m c main_v12 : S4x2048x1024.Idx → EReal) ((win0_4.rect t).emb (ix3 0 R k)) = _
    rw [V9]
    refine at3_eq _ _ _ _ _ ?_ ?_ ?_
    · refine (win0_4.rect_emb_val t _ _).trans ?_; rw [e4]; exact Nat.mul_one _
    · refine (win0_4.rect_emb_val t _ _).trans ?_; rw [e4]; rfl
    · refine (win0_4.rect_emb_val t _ _).trans ?_; rw [e4]; rfl

/-- The outputs as whole arrays. -/
def G5 (c : Dev nD) : S4x2048x1024.Idx → EReal := fun i => oN (QA m c) (KA m c) (VA m c) (i 0).val (i 1).val (i 2).val
def G6 (c : Dev nD) : S4x2048x1024.Idx → EReal := fun i => lN (QA m c) (KA m c) (i 0).val (i 1).val (i 2).val

theorem flushed5_eq (c : Dev nD) (t : Fin cfg0.N) :
    (dats m 0 c).flushed 5 t = (win0_5.blk t).view.read (Elt Ideal) (G5 m c) := by
  rw [Value.flushed5]
  obtain ⟨_, _, _, e5, _⟩ := idx_cur t
  funext y
  show out0_5 (grid0.coords t) (iblk m c 0 t) (iblk m c 1 t) (iblk m c 2 t) (iblk m c 3 t) (iblk m c 4 t) y = G5 m c ((win0_5.rect t).emb y)
  rw [out5_eq (blocks_at m c t) (by omega) (grid0.coords t) rfl (by have := coord_n t; omega) y]
  unfold G5
  have hy : (y 0).val < 1 := (y 0).isLt
  have a0 : ((win0_5.rect t).emb y 0).val = (grid0.coords t 0).val := by
    refine (win0_5.rect_emb_val t _ _).trans ?_; rw [e5]
    show (grid0.coords t 0).val * 1 + (y 0).val = _
    omega
  have a1 : ((win0_5.rect t).emb y 1).val = (grid0.coords t 2).val * 1024 + (y 1).val := by
    refine (win0_5.rect_emb_val t _ _).trans ?_; rw [e5]; rfl
  have a2 : ((win0_5.rect t).emb y 2).val = (grid0.coords t 1).val * 256 + (y 2).val := by
    refine (win0_5.rect_emb_val t _ _).trans ?_; rw [e5]; rfl
  rw [a0, a1, a2]

theorem flushed6_eq (c : Dev nD) (t : Fin cfg0.N) :
    (dats m 0 c).flushed 6 t = (win0_6.blk t).view.read (Elt Ideal) (G6 m c) := by
  rw [Value.flushed6]
  obtain ⟨_, _, _, _, e6, _⟩ := idx_cur t
  funext y
  show out0_6 (grid0.coords t) (iblk m c 0 t) (iblk m c 1 t) (iblk m c 2 t) (iblk m c 3 t) (iblk m c 4 t) y = G6 m c ((win0_6.rect t).emb y)
  rw [out6_eq (blocks_at m c t) (by omega) (grid0.coords t) rfl (by have := coord_n t; omega) y]
  unfold G6
  have hy : (y 0).val < 1 := (y 0).isLt
  have a0 : ((win0_6.rect t).emb y 0).val = (grid0.coords t 0).val := by
    refine (win0_6.rect_emb_val t _ _).trans ?_; rw [e6]
    show (grid0.coords t 0).val * 1 + (y 0).val = _
    omega
  have a1 : ((win0_6.rect t).emb y 1).val = (grid0.coords t 2).val * 1024 + (y 1).val := by
    refine (win0_6.rect_emb_val t _ _).trans ?_; rw [e6]; rfl
  have a2 : ((win0_6.rect t).emb y 2).val = (grid0.coords t 1).val * 256 + (y 2).val := by
    refine (win0_6.rect_emb_val t _ _).trans ?_; rw [e6]; rfl
  rw [a0, a1, a2]

/-- Some point's block holds each index. -/
theorem pt_exists : ∀ (a : Fin 4) (b : Fin 2) (d : Fin 4), ∃ t : Fin cfg0.N,
    (grid0.coords t 0).val = a.val ∧ (grid0.coords t 2).val = b.val ∧ (grid0.coords t 1).val = d.val :=
  (by decide +kernel : ∀ (a : Fin 4) (b : Fin 2) (d : Fin 4), ∃ t : Fin grid0.N,
    (grid0.coords t 0).val = a.val ∧ (grid0.coords t 2).val = b.val ∧ (grid0.coords t 1).val = d.val)

theorem cover5 (i : S4x2048x1024.Idx) : ∃ t : Fin cfg0.N, (cfg0.win 5).flush t = true ∧ i ∈ ((cfg0.win 5).blk t).view.set := by
  have h0 : (i 0).val < 4 := (i 0).isLt
  have h1 : (i 1).val < 2048 := (i 1).isLt
  have h2 : (i 2).val < 1024 := (i 2).isLt
  obtain ⟨t, ha, hb, hd⟩ := pt_exists ⟨(i 0).val, h0⟩ ⟨(i 1).val / 1024, by omega⟩ ⟨(i 2).val / 256, by omega⟩
  obtain ⟨_, _, _, e5, _⟩ := idx_cur t
  refine ⟨t, flush0_5 t, ?_⟩
  show i ∈ ((View.whole main_v13_0).slice (win0_5.rect t)).set
  rw [View.set_slice_whole, Rect.mem_set_unit]
  intro a
  show win0_5.index t a * S1x1024x256.size a ≤ (i a : Nat) ∧ (i a : Nat) < win0_5.index t a * S1x1024x256.size a + S1x1024x256.size a
  rw [e5]
  match a with
  | ⟨0, _⟩ => show (grid0.coords t 0).val * 1 ≤ (i 0).val ∧ (i 0).val < (grid0.coords t 0).val * 1 + 1; dsimp only at ha; omega
  | ⟨1, _⟩ => show (grid0.coords t 2).val * 1024 ≤ (i 1).val ∧ (i 1).val < (grid0.coords t 2).val * 1024 + 1024; dsimp only at hb; omega
  | ⟨2, _⟩ => show (grid0.coords t 1).val * 256 ≤ (i 2).val ∧ (i 2).val < (grid0.coords t 1).val * 256 + 256; dsimp only at hd; omega

theorem cover6 (i : S4x2048x1024.Idx) : ∃ t : Fin cfg0.N, (cfg0.win 6).flush t = true ∧ i ∈ ((cfg0.win 6).blk t).view.set := by
  have h0 : (i 0).val < 4 := (i 0).isLt
  have h1 : (i 1).val < 2048 := (i 1).isLt
  have h2 : (i 2).val < 1024 := (i 2).isLt
  obtain ⟨t, ha, hb, hd⟩ := pt_exists ⟨(i 0).val, h0⟩ ⟨(i 1).val / 1024, by omega⟩ ⟨(i 2).val / 256, by omega⟩
  obtain ⟨_, _, _, _, e6, _⟩ := idx_cur t
  refine ⟨t, flush0_6 t, ?_⟩
  show i ∈ ((View.whole main_v13_1).slice (win0_6.rect t)).set
  rw [View.set_slice_whole, Rect.mem_set_unit]
  intro a
  show win0_6.index t a * S1x1024x256.size a ≤ (i a : Nat) ∧ (i a : Nat) < win0_6.index t a * S1x1024x256.size a + S1x1024x256.size a
  rw [e6]
  match a with
  | ⟨0, _⟩ => show (grid0.coords t 0).val * 1 ≤ (i 0).val ∧ (i 0).val < (grid0.coords t 0).val * 1 + 1; dsimp only at ha; omega
  | ⟨1, _⟩ => show (grid0.coords t 2).val * 1024 ≤ (i 1).val ∧ (i 1).val < (grid0.coords t 2).val * 1024 + 1024; dsimp only at hb; omega
  | ⟨2, _⟩ => show (grid0.coords t 1).val * 256 ≤ (i 2).val ∧ (i 2).val < (grid0.coords t 1).val * 256 + 256; dsimp only at hd; omega

theorem final5 (c : Dev nD) : (dats m 0 c).arrAt 5 cfg0.N = G5 m c :=
  (dats m 0 c).arrAt_eq_of_cover 5 (G5 m c) (fun t _ => flushed5_eq m c t) cover5
theorem final6 (c : Dev nD) : (dats m 0 c).arrAt 6 cfg0.N = G6 m c :=
  (dats m 0 c).arrAt_eq_of_cover 6 (G6 m c) (fun t _ => flushed6_eq m c t) cover6

/-! ## The arrays the region finds, from the arguments -/

theorem cast_arg (x : S4x8192x4x64.Idx → EReal) (b l C : ℕ) :
    at3 (n0 := 4) (n1 := 2048) (n2 := 1024) (shapeCast S4x2048x1024 x shapeCasts_S4x8192x4x64_S4x2048x1024) b l C = arg x b l C := by
  unfold at3 arg
  by_cases h : b < 4 ∧ l < 2048 ∧ C < 1024
  · rw [dif_pos h, dif_pos h]
    refine shapeCast_apply _ _ _ _ ?_
    rw [Shape.rowMajor_val_four, Shape.rowMajor_val_three]
    show ((b * 8192 + (4 * l + C / 256)) * 4 + C / 64 % 4) * 64 + C % 64 = (b * 2048 + l) * 1024 + C
    omega
  · rw [dif_neg h, dif_neg h]

theorem K_eq (c : Dev nD) (b l C : ℕ) : KA m c b l C = arg (m ((c : Thread nD τ).loc main_arg1)) b l C := by
  rw [← cast_arg]
  show at3 (V m c main_v9) b l C = _
  unfold V; after_reads_simp
  rfl
theorem V_eq (c : Dev nD) (b l C : ℕ) : VA m c b l C = arg (m ((c : Thread nD τ).loc main_arg2)) b l C := by
  rw [← cast_arg]
  show at3 (V m c main_v11) b l C = _
  unfold V; after_reads_simp
  rfl

/-- The queries with the softmax scale `1/8` and the change of base `1/log 2` applied. -/
def scaled (x : S4x8192x4x64.Idx → EReal) : S4x8192x4x64.Idx → EReal :=
  fun i => x i * ((8⁻¹ : ℝ) : EReal) * (((Real.log 2)⁻¹ : ℝ) : EReal)

theorem Q_eq (c : Dev nD) (b l C : ℕ) : QA m c b l C = arg (scaled (m ((c : Thread nD τ).loc main_arg0))) b l C := by
  rw [← cast_arg]
  show at3 (V m c main_v8) b l C = _
  have e : (V m c main_v8 : S4x2048x1024.Idx → EReal)
      = shapeCast S4x2048x1024 (scaled (m ((c : Thread nD τ).loc main_arg0))) shapeCasts_S4x8192x4x64_S4x2048x1024 := by
    unfold V; after_reads_simp
    refine congrArg (fun x : S4x8192x4x64.Idx → EReal => shapeCast S4x2048x1024 x shapeCasts_S4x8192x4x64_S4x2048x1024) (funext fun i => ?_)
    show Ideal.div (@HMul.hMul EReal EReal EReal _ (m ((c : Thread nD τ).loc main_arg0) i) (Ideal.ofBits .f32 0x3E000000#32))
      (Ideal.log (Ideal.ofBits .f32 0x40000000#32)) = _
    rw [bits_two, div_log_two, bits_eighth]
    rfl
  rw [e]

end Cert.KernelIdeal.Kern

end
-- ==== Proof.Ref.lean ====
module

public import proofs.«01_k».proof.Proof.Gen.ReferenceIdeal.Read
public import proofs.«01_k».proof.Proof.EMath
public import proofs.«01_k».proof.Proof.Consts
public import Idealize.ShloMosaic.Lib.WordCmp
public import Idealize.ShloMosaic.Lib.KernelVsHost
public import Idealize.ShloMosaic.Lib.Pipeline.Value

@[expose] public section

set_option maxRecDepth 65536

noncomputable section

namespace Cert.ReferenceIdeal.Ref

open Cert.ReferenceIdeal Cert.ReferenceIdeal.Gen Cert.ReferenceIdeal.Read Idealize.ShloMosaic Idealize.ShloMosaic.TcCoe Idealize.ShloMosaic.ValueIdx Idealize.SL.Sem Cert.Att
open scoped BigOperators

/-! ## The reference's layouts -/

/-- The strided view of an argument. -/
theorem strided_at (x : S4x8192x4x64.Idx → EReal) (z : Fin 64) (n : Fin 16) (a : Fin 128) (d : Fin 64) :
    shapeCast S64x16x128x64 (transpose S4x16x2048x64 [0, 2, 1, 3] (shapeCast S4x2048x16x64 x shapeCasts_S4x8192x4x64_S4x2048x16x64)
      transposes_S4x2048x16x64_S4x16x2048x64_0_2_1_3) shapeCasts_S4x16x2048x64_S64x16x128x64 (ix4 z n a d)
    = arg x (z.val / 16) (n.val * 128 + a.val) (64 * (z.val % 16) + d.val) := by
  have hz := z.isLt; have hn := n.isLt; have ha := a.isLt; have hd := d.isLt
  rw [shapeCast_apply _ _ _ (ix4 (n0 := 4) (n1 := 16) (n2 := 2048) (n3 := 64) ⟨z.val / 16, by omega⟩ ⟨z.val % 16, by omega⟩ ⟨n.val * 128 + a.val, by omega⟩ d) (by
      rw [Shape.rowMajor_val_four, Shape.rowMajor_val_four]
      show ((z.val / 16 * 16 + z.val % 16) * 2048 + (n.val * 128 + a.val)) * 64 + d.val = ((z.val * 16 + n.val) * 128 + a.val) * 64 + d.val
      omega)]
  refine (transpose_apply (s := S4x2048x16x64) (t := S4x16x2048x64) [0, 2, 1, 3] _ _ _ (ix4 (n0 := 4) (n1 := 2048) (n2 := 16) (n3 := 64) ⟨z.val / 16, by omega⟩ ⟨n.val * 128 + a.val, by omega⟩ ⟨z.val % 16, by omega⟩ d)
    (fun b => match b with | ⟨0, _⟩ => rfl | ⟨1, _⟩ => rfl | ⟨2, _⟩ => rfl | ⟨3, _⟩ => rfl)).trans ?_
  unfold arg
  rw [dif_pos (by omega)]
  refine shapeCast_apply _ _ _ _ ?_
  rw [Shape.rowMajor_val_four, Shape.rowMajor_val_four]
  show ((z.val / 16 * 8192 + (4 * (n.val * 128 + a.val) + (64 * (z.val % 16) + d.val) / 256)) * 4 + (64 * (z.val % 16) + d.val) / 64 % 4) * 64 + (64 * (z.val % 16) + d.val) % 64
    = ((z.val / 16 * 2048 + (n.val * 128 + a.val)) * 16 + z.val % 16) * 64 + d.val
  omega

/-- A block array laid out as rows and lanes. -/
theorem rows_at (y : S64x16x128x64.Idx → EReal) (i : S4x2048x1024.Idx) :
    shapeCast S4x2048x1024 (transpose S4x2048x16x64 [0, 2, 1, 3] (shapeCast S4x16x2048x64 y shapeCasts_S64x16x128x64_S4x16x2048x64)
      transposes_S4x16x2048x64_S4x2048x16x64_0_2_1_3) shapeCasts_S4x2048x16x64_S4x2048x1024 i
    = y (ix4 ⟨16 * (i 0).val + (i 2).val / 64, by have h0 : (i 0).val < 4 := (i 0).isLt; have h2 : (i 2).val < 1024 := (i 2).isLt; omega⟩
        ⟨(i 1).val / 128, by have h1 : (i 1).val < 2048 := (i 1).isLt; omega⟩ ⟨(i 1).val % 128, by omega⟩ ⟨(i 2).val % 64, by omega⟩) := by
  have h0 : (i 0).val < 4 := (i 0).isLt
  have h1 : (i 1).val < 2048 := (i 1).isLt
  have h2 : (i 2).val < 1024 := (i 2).isLt
  rw [shapeCast_apply _ _ _ (ix4 (n0 := 4) (n1 := 2048) (n2 := 16) (n3 := 64) ⟨(i 0).val, h0⟩ ⟨(i 1).val, h1⟩ ⟨(i 2).val / 64, by omega⟩ ⟨(i 2).val % 64, by omega⟩) (by
      rw [Shape.rowMajor_val_four, Shape.rowMajor_val_three]
      show (((i 0).val * 2048 + (i 1).val) * 16 + (i 2).val / 64) * 64 + (i 2).val % 64 = ((i 0).val * 2048 + (i 1).val) * 1024 + (i 2).val
      omega)]
  refine (transpose_apply (s := S4x16x2048x64) (t := S4x2048x16x64) [0, 2, 1, 3] _ _ _ (ix4 (n0 := 4) (n1 := 16) (n2 := 2048) (n3 := 64) ⟨(i 0).val, h0⟩ ⟨(i 2).val / 64, by omega⟩ ⟨(i 1).val, h1⟩ ⟨(i 2).val % 64, by omega⟩)
    (fun b => match b with | ⟨0, _⟩ => rfl | ⟨1, _⟩ => rfl | ⟨2, _⟩ => rfl | ⟨3, _⟩ => rfl)).trans ?_
  refine shapeCast_apply _ _ _ _ ?_
  rw [Shape.rowMajor_val_four, Shape.rowMajor_val_four]
  show (((16 * (i 0).val + (i 2).val / 64) * 16 + (i 1).val / 128) * 128 + (i 1).val % 128) * 64 + (i 2).val % 64
    = (((i 0).val * 16 + (i 2).val / 64) * 2048 + (i 1).val) * 64 + (i 2).val % 64
  omega

/-- The band: the previous block's rows (of a nonzero block), then the block's own. -/
theorem band_at (w : S64x1x128x64.Idx → EReal) (y : S64x16x128x64.Idx → EReal) (z : Fin 64) (n : Fin 16) (j : Fin 256) (d : Fin 64)
    (hj : 128 ≤ j.val ∨ 1 ≤ n.val) :
    concatenate S64x16x256x64 2 [⟨S64x16x128x64, concatenate S64x16x128x64 1 [⟨S64x1x128x64, w⟩, ⟨S64x15x128x64,
        extractStridedSlice S64x15x128x64 ![0, 0, 0, 0] y slices_S64x16x128x64_S64x15x128x64_0_0_0_0⟩] concatenates_S64x1x128x64_S64x15x128x64_S64x16x128x64_d1⟩,
      ⟨S64x16x128x64, y⟩] concatenates_S64x16x128x64_S64x16x128x64_S64x16x256x64_d2 (ix4 z n j d)
    = y (ix4 z ⟨(n.val * 128 + j.val - 128) / 128, by omega⟩ ⟨j.val % 128, by omega⟩ d) := by
  have hn := n.isLt; have hjl := j.isLt
  by_cases h : 128 ≤ j.val
  · rw [concatenate_pair_apply_right (t := S64x16x256x64) (s₁ := S64x16x128x64) (s₂ := S64x16x128x64) _ _ _ _ _ rfl rfl
      (ix4 z n ⟨j.val - 128, by omega⟩ d)
      (fun b hb => match b with | ⟨0, _⟩ => rfl | ⟨1, _⟩ => rfl | ⟨2, _⟩ => absurd rfl hb | ⟨3, _⟩ => rfl)
      (by show j.val - 128 + 128 = j.val; omega)]
    refine congrArg y (funext fun b => Fin.ext ?_)
    match b with
    | ⟨0, _⟩ => rfl
    | ⟨1, _⟩ => show n.val = (n.val * 128 + j.val - 128) / 128; omega
    | ⟨2, _⟩ => show j.val - 128 = j.val % 128; omega
    | ⟨3, _⟩ => rfl
  · rw [concatenate_pair_apply_left (t := S64x16x256x64) (s₁ := S64x16x128x64) (s₂ := S64x16x128x64) _ _ _ _ _ rfl
      (ix4 z n ⟨j.val, by omega⟩ d)
      (fun b => match b with | ⟨0, _⟩ => rfl | ⟨1, _⟩ => rfl | ⟨2, _⟩ => rfl | ⟨3, _⟩ => rfl)]
    rw [concatenate_pair_apply_right (t := S64x16x128x64) (s₁ := S64x1x128x64) (s₂ := S64x15x128x64) _ _ _ _ _ rfl rfl
      (ix4 z (⟨n.val - 1, by omega⟩ : Fin 15) ⟨j.val, by omega⟩ d)
      (fun b hb => match b with | ⟨0, _⟩ => rfl | ⟨1, _⟩ => absurd rfl hb | ⟨2, _⟩ => rfl | ⟨3, _⟩ => rfl)
      (by show n.val - 1 + 1 = n.val; omega)]
    rw [extractStridedSlice_apply ![0, 0, 0, 0] y _ _ (ix4 z (⟨n.val - 1, by omega⟩ : Fin 16) ⟨j.val, by omega⟩ d)
      (fun b => match b with
        | ⟨0, _⟩ => by show z.val = 0 + z.val; omega
        | ⟨1, _⟩ => by show n.val - 1 = 0 + (n.val - 1); omega
        | ⟨2, _⟩ => by show j.val = 0 + j.val; omega
        | ⟨3, _⟩ => by show d.val = 0 + d.val; omega)]
    refine congrArg y (funext fun b => Fin.ext ?_)
    match b with
    | ⟨0, _⟩ => rfl
    | ⟨1, _⟩ => show n.val - 1 = (n.val * 128 + j.val - 128) / 128; omega
    | ⟨2, _⟩ => show j.val = j.val % 128; omega
    | ⟨3, _⟩ => rfl

theorem q_at (x : S4x8192x4x64.Idx → EReal) (z : Fin 64) (n : Fin 16) (a : Fin 128) (d : Fin 64) :
    val_main_v2 (F := Ideal) x (ix4 z n a d) = arg x (z.val / 16) (n.val * 128 + a.val) (64 * (z.val % 16) + d.val) := by
  unfold val_main_v2 val_main_v1 val_main_v0
  exact strided_at x z n a d

theorem k_at (x : S4x8192x4x64.Idx → EReal) (z : Fin 64) (n : Fin 16) (j : Fin 256) (d : Fin 64) (hj : 128 ≤ j.val ∨ 1 ≤ n.val) :
    val_main_v9 (F := Ideal) x (ix4 z n j d) = arg x (z.val / 16) (n.val * 128 + j.val - 128) (64 * (z.val % 16) + d.val) := by
  unfold val_main_v9 val_main_v8 val_main_v7
  refine (band_at _ _ z n j d hj).trans ?_
  unfold val_main_v5 val_main_v4 val_main_v3
  refine (strided_at x _ _ _ d).trans ?_
  congr 1
  show (n.val * 128 + j.val - 128) / 128 * 128 + j.val % 128 = _
  omega

theorem v_at (x : S4x8192x4x64.Idx → EReal) (z : Fin 64) (n : Fin 16) (j : Fin 256) (d : Fin 64) (hj : 128 ≤ j.val ∨ 1 ≤ n.val) :
    val_main_v16 (F := Ideal) x (ix4 z n j d) = arg x (z.val / 16) (n.val * 128 + j.val - 128) (64 * (z.val % 16) + d.val) := by
  unfold val_main_v16 val_main_v15 val_main_v14
  refine (band_at _ _ z n j d hj).trans ?_
  unfold val_main_v12 val_main_v11 val_main_v10
  refine (strided_at x _ _ _ d).trans ?_
  congr 1
  show (n.val * 128 + j.val - 128) / 128 * 128 + j.val % 128 = _
  omega

/-! ## The band's mask -/

theorem dist_words : ∀ (a : Fin 128) (j : Fin 256),
    IntOp.andi (IntOp.cmpi .sge (IntOp.subi (IntOp.addi (BitVec.ofNat 32 a.val) 128#32) (BitVec.ofNat 32 j.val)) 0#32)
      (IntOp.cmpi .sle (IntOp.subi (IntOp.addi (BitVec.ofNat 32 a.val) 128#32) (BitVec.ofNat 32 j.val)) 128#32)
    = BitVec.ofBool (decide (a.val ≤ j.val ∧ j.val ≤ a.val + 128)) := by decide +kernel

theorem mask_at (n : Fin 16) (a : Fin 128) (j : Fin 256) :
    val_main_v36 (F := Ideal) (ix3 n a j)
      = BitVec.ofBool (decide (a.val ≤ j.val ∧ j.val ≤ a.val + 128 ∧ (128 ≤ j.val ∨ 1 ≤ n.val))) := by
  have hn := n.isLt; have hj := j.isLt
  have e : val_main_v36 (F := Ideal) (ix3 n a j)
      = IntOp.andi (IntOp.andi (IntOp.cmpi .sge (IntOp.subi (IntOp.addi (BitVec.ofNat 32 a.val) 128#32) (BitVec.ofNat 32 j.val)) 0#32)
          (IntOp.cmpi .sle (IntOp.subi (IntOp.addi (BitVec.ofNat 32 a.val) 128#32) (BitVec.ofNat 32 j.val)) 128#32))
        (IntOp.ori (IntOp.cmpi .sgt (BitVec.ofNat 32 n.val) 0#32) (IntOp.cmpi .sge (BitVec.ofNat 32 j.val) 128#32)) := by
    rw [val_main_v36_apply, val_main_v30_apply, val_main_v35_apply, val_main_v27_apply, val_main_v29_apply, val_main_v32_apply,
      val_main_v34_apply, val_main_v25_apply, val_main_v24_apply, val_main_v26_apply, val_main_v28_apply, val_main_v31_apply,
      val_main_v33_apply, val_main_v23_apply, val_main_v20_apply, val_main_v21_apply, val_main_v22_apply, val_main_c_apply,
      val_main_c_2_apply, val_main_c_3_apply, val_main_c_4_apply, val_main_c_5_apply]
  rw [e, dist_words, WordCmp.cmpi_sgt_ofNat (w := 32) (b := 0) (by norm_num; omega) (by norm_num),
    WordCmp.cmpi_sge_ofNat (w := 32) (b := 128) (by norm_num; omega) (by norm_num), WordCmp.ori_ofBool, WordCmp.andi_ofBool]
  congr 1
  rw [← Bool.decide_or, ← Bool.decide_and]
  refine decide_eq_decide.mpr ?_
  omega

/-! ## One row of the reference -/

/-- The masked natural scores. -/
def sR (x0 x1 : S4x8192x4x64.Idx → EReal) (b l C : ℕ) (j : Fin 256) : EReal :=
  if l % 128 ≤ j.val ∧ j.val ≤ l % 128 + 128 ∧ (128 ≤ j.val ∨ 128 ≤ l) then
    (∑ k : Fin 64, arg x0 b l (64 * (C / 64) + k.val) * arg x1 b (l / 128 * 128 + j.val - 128) (64 * (C / 64) + k.val)) * ((8⁻¹ : ℝ) : EReal) else ⊥

section
variable (x0 x1 x2 : S4x8192x4x64.Idx → EReal) (i : S4x2048x1024.Idx)

theorem i0 : (i 0).val < 4 := (i 0).isLt
theorem i1 : (i 1).val < 2048 := (i 1).isLt
theorem i2 : (i 2).val < 1024 := (i 2).isLt

/-- The head and batch an output lane belongs to, its block, its row. -/
abbrev zz : Fin 64 := ⟨16 * (i 0).val + (i 2).val / 64, by have := i0 i; have := i2 i; omega⟩
abbrev nn : Fin 16 := ⟨(i 1).val / 128, by have := i1 i; omega⟩
abbrev aa : Fin 128 := ⟨(i 1).val % 128, by omega⟩
abbrev dd : Fin 64 := ⟨(i 2).val % 64, by omega⟩

theorem score_at (j : Fin 256) :
    val_main_v37 (F := Ideal) x0 x1 (ix4 (zz i) (nn i) (aa i) j) = sR x0 x1 (i 0).val (i 1).val (i 2).val j := by
  have h0 := i0 i; have h1 := i1 i; have h2 := i2 i; have hj := j.isLt
  rw [val_main_v37_apply, val_main_call0_v1_apply, val_main_call0_v2_apply, val_main_call0_v0_apply, val_main_cst_6_apply,
    show (FloatOps.ofBits .f32 0xFF800000#32 : Ideal .f32) = (⊥ : EReal) from bits_bot,
    show idx_main_call0_v1 (ix4 (zz i) (nn i) (aa i) j) = ix3 (nn i) (aa i) j from
      funext fun b => match b with | ⟨0, _⟩ => rfl | ⟨1, _⟩ => rfl | ⟨2, _⟩ => rfl,
    mask_at, WordCmp.select_decide]
  unfold sR
  refine (ite_congr (propext ?_) (fun hm => ?_) fun _ => rfl)
  · show (i 1).val % 128 ≤ j.val ∧ j.val ≤ (i 1).val % 128 + 128 ∧ (128 ≤ j.val ∨ 1 ≤ (i 1).val / 128) ↔ _
    omega
  · rw [val_main_v19_apply, val_main_v18_apply, val_main_cst_1_apply, val_main_v17_apply]
    show @HMul.hMul EReal EReal EReal _ (∑ k : Fin 64, _) (Ideal.ofBits .f32 0x3E000000#32) = _
    rw [bits_eighth]
    refine congrArg (· * ((8⁻¹ : ℝ) : EReal)) (Finset.sum_congr rfl fun k _ => ?_)
    have el : lidx_main_v17 (ix4 (zz i) (nn i) (aa i) j) k = ix4 (zz i) (nn i) (aa i) k :=
      funext fun b => match b with | ⟨0, _⟩ => rfl | ⟨1, _⟩ => rfl | ⟨2, _⟩ => rfl | ⟨3, _⟩ => rfl
    have er : ridx_main_v17 (ix4 (zz i) (nn i) (aa i) j) k = ix4 (zz i) (nn i) j k :=
      funext fun b => match b with | ⟨0, _⟩ => rfl | ⟨1, _⟩ => rfl | ⟨2, _⟩ => rfl | ⟨3, _⟩ => rfl
    rw [el, er, q_at, k_at x1 _ _ j k (by show _ ∨ 1 ≤ (i 1).val / 128; omega)]
    refine congrArg₂ (fun x y : EReal => x * y) ?_ ?_
    · congr 1 <;> (dsimp only; omega)
    · congr 1 <;> (dsimp only; omega)

theorem max_at : val_main_v38 (F := Ideal) x0 x1 (ix3 (zz i) (nn i) (aa i)) = aM (sR x0 x1 (i 0).val (i 1).val (i 2).val) := by
  unfold val_main_v38 val_main_cst_7
  refine (congrFun (hostReduce_maximumf_eq_multiReduction (F := Ideal) (φ := .f32) (val_main_v37 (F := Ideal) x0 x1) 0xFF800000#32
    reducesTo_S64x16x128x256_S64x16x128_d3 h_S_ (by decide) (by decide) (by decide)) _).trans ?_
  refine (Ideal.multiReduction_maximumf_single _ _ _ _ _ _).trans ?_
  rw [show (FloatOps.ofBits .f32 0xFF800000#32 : Ideal .f32) = (⊥ : EReal) from bits_bot]
  unfold aM
  refine congrArg (fun f => Finset.univ.fold max ⊥ f) (funext fun j : Fin 256 => ?_)
  refine Eq.trans ?_ (score_at x0 x1 i j)
  exact congrArg (val_main_v37 (F := Ideal) x0 x1) (funext fun b => Fin.ext (by match b with | ⟨0, _⟩ => rfl | ⟨1, _⟩ => rfl | ⟨2, _⟩ => rfl | ⟨3, _⟩ => rfl))

theorem p_at (j : Fin 256) :
    val_main_v42 (F := Ideal) x0 x1 (ix4 (zz i) (nn i) (aa i) j) = eP (sR x0 x1 (i 0).val (i 1).val (i 2).val) j := by
  rw [val_main_v42_apply, val_main_v41_apply, val_main_v40_apply, val_main_v39_apply, score_at,
    show idx_main_v39 (idx_main_v40 (ix4 (zz i) (nn i) (aa i) j)) = ix3 (zz i) (nn i) (aa i) from
      funext fun b => match b with | ⟨0, _⟩ => rfl | ⟨1, _⟩ => rfl | ⟨2, _⟩ => rfl, max_at]
  rfl

theorem l_at : val_main_v43 (F := Ideal) x0 x1 (ix3 (zz i) (nn i) (aa i)) = eD (sR x0 x1 (i 0).val (i 1).val (i 2).val) := by
  rw [val_main_v43_apply, val_main_cst_8_apply,
    show (FloatOps.ofBits .f32 0x00000000#32 : Ideal .f32) = (0 : EReal) from Ideal.ofBits_zero_f32, zero_add]
  unfold eD
  refine Finset.sum_congr rfl fun j _ => ?_
  refine Eq.trans ?_ (p_at x0 x1 i j)
  exact congrArg (val_main_v42 (F := Ideal) x0 x1) (funext fun b => match b with | ⟨0, _⟩ => rfl | ⟨1, _⟩ => rfl | ⟨2, _⟩ => rfl | ⟨3, _⟩ => rfl)

/-- The reference's first result. -/
theorem out_at : val_main_v56 (F := Ideal) x0 x1 x2 i
    = eO (sR x0 x1 (i 0).val (i 1).val (i 2).val) fun j => arg x2 (i 0).val ((i 1).val / 128 * 128 + j.val - 128) (i 2).val := by
  have h0 := i0 i; have h1 := i1 i; have h2 := i2 i
  rw [val_main_v56_apply]
  show val_main_v55 (F := Ideal) x0 x1 x2 i = _
  unfold val_main_v55 val_main_v54 val_main_v53
  rw [rows_at, val_main_v47_apply, val_main_v46_apply, val_main_v44_apply,
    show idx_main_v44 (idx_main_v46 (ix4 (zz i) (nn i) (aa i) (dd i))) = ix3 (zz i) (nn i) (aa i) from
      funext fun b => match b with | ⟨0, _⟩ => rfl | ⟨1, _⟩ => rfl | ⟨2, _⟩ => rfl, l_at, val_main_v45_apply]
  have hv : ∀ j : Fin 256, sR x0 x1 (i 0).val (i 1).val (i 2).val j ≠ ⊥ →
      val_main_v16 (F := Ideal) x2 (ix4 (zz i) (nn i) j (dd i)) = arg x2 (i 0).val ((i 1).val / 128 * 128 + j.val - 128) (i 2).val := by
    intro j hj
    unfold sR at hj
    have hm := (ite_ne_right_iff.mp hj).1
    rw [v_at x2 _ _ j _ (by show _ ∨ 1 ≤ (i 1).val / 128; omega)]
    congr 1 <;> (dsimp only; omega)
  rw [← eO_congr _ _ _ hv]
  unfold eO
  refine congrArg (Ideal.div · _) (Finset.sum_congr rfl fun j _ => ?_)
  refine congrArg₂ (fun x y : EReal => x * y) (Eq.trans ?_ (p_at x0 x1 i j)) ?_
  · exact congrArg (val_main_v42 (F := Ideal) x0 x1) (funext fun b => match b with | ⟨0, _⟩ => rfl | ⟨1, _⟩ => rfl | ⟨2, _⟩ => rfl | ⟨3, _⟩ => rfl)
  · exact congrArg (val_main_v16 (F := Ideal) x2) (funext fun b => match b with | ⟨0, _⟩ => rfl | ⟨1, _⟩ => rfl | ⟨2, _⟩ => rfl | ⟨3, _⟩ => rfl)

/-- The reference's second result. -/
theorem lse_at : val_main_v60 (F := Ideal) x0 x1 i = eL (sR x0 x1 (i 0).val (i 1).val (i 2).val) := by
  unfold val_main_v60 val_main_v59 val_main_v58
  rw [rows_at, val_main_v57_apply, val_main_v52_apply, val_main_v49_apply, val_main_v48_apply, val_main_v39_apply, val_main_v44_apply,
    show idx_main_v39 (idx_main_v57 (ix4 (zz i) (nn i) (aa i) (dd i))) = ix3 (zz i) (nn i) (aa i) from
      funext fun b => match b with | ⟨0, _⟩ => rfl | ⟨1, _⟩ => rfl | ⟨2, _⟩ => rfl,
    show idx_main_v44 (idx_main_v57 (ix4 (zz i) (nn i) (aa i) (dd i))) = ix3 (zz i) (nn i) (aa i) from
      funext fun b => match b with | ⟨0, _⟩ => rfl | ⟨1, _⟩ => rfl | ⟨2, _⟩ => rfl,
    l_at, max_at, val_main_v51_apply, val_main_v50_apply, val_main_cst_9_apply]
  show Ideal.div (aM _ + Ideal.log (eD _)) (Ideal.log (Ideal.ofBits .f32 0x40000000#32)) = _
  rw [bits_two, div_log_two]
  rfl

end

end Cert.ReferenceIdeal.Ref

end
-- ==== Proof.Attn.lean ====
module

public import proofs.«01_k».proof.Defs
public import proofs.«01_k».proof.Proof.Gen.Kernel.Frame
public import proofs.«01_k».proof.Proof.Gen.ReferenceIdeal.Run
public import proofs.«01_k».proof.Proof.KernRun
public import proofs.«01_k».proof.Proof.Ref
public import Idealize.ShloMosaic.Lib.Quiescent

@[expose] public section

noncomputable section

namespace Cert.Proof.Attn

open Idealize.ShloMosaic Idealize.ShloMosaic.TcCoe Idealize.SL.Sem Cert.Att
open scoped BigOperators

/-! ## The kernel's rows are the reference's -/

theorem arg_scaled (x : Cert.KernelIdeal.S4x8192x4x64.Idx → EReal) (b l C : ℕ) :
    arg (Cert.KernelIdeal.Kern.scaled x) b l C = arg x b l C * ((8⁻¹ : ℝ) : EReal) * (((Real.log 2)⁻¹ : ℝ) : EReal) := by
  unfold arg
  split
  · rfl
  · rw [zero_mul, zero_mul]

theorem scores (q k : Cert.KernelIdeal.S4x8192x4x64.Idx → EReal) (b l C : ℕ) (j : Fin 256) :
    sN (arg (Cert.KernelIdeal.Kern.scaled q)) (arg k) b l C j
      = (((Real.log 2)⁻¹ : ℝ) : EReal) * Cert.ReferenceIdeal.Ref.sR q k b l C j := by
  unfold sN Cert.ReferenceIdeal.Ref.sR
  split
  · rw [mul_comm (∑ k : Fin 64, _) ((8⁻¹ : ℝ) : EReal), coe_mul_sum _ _ (by norm_num), coe_mul_sum _ _ log2_pos]
    refine Finset.sum_congr rfl fun d _ => ?_
    rw [arg_scaled]
    ac_rfl
  · rw [EReal.coe_mul_bot_of_pos log2_pos]

variable (m : (ℓ : Loc Cert.KernelIdeal.nD Cert.KernelIdeal.τ Cert.KernelIdeal.sig) → Buf (Elt Ideal) ℓ)

theorem QA_fun (c : Dev Cert.KernelIdeal.nD) : Cert.KernelIdeal.Kern.QA m c
    = arg (Cert.KernelIdeal.Kern.scaled (m ((c.tc : Thread Cert.KernelIdeal.nD Cert.KernelIdeal.τ).loc Cert.KernelIdeal.main_arg0))) :=
  funext fun b => funext fun l => funext fun C => Cert.KernelIdeal.Kern.Q_eq m c b l C
theorem KA_fun (c : Dev Cert.KernelIdeal.nD) : Cert.KernelIdeal.Kern.KA m c
    = arg (m ((c.tc : Thread Cert.KernelIdeal.nD Cert.KernelIdeal.τ).loc Cert.KernelIdeal.main_arg1)) :=
  funext fun b => funext fun l => funext fun C => Cert.KernelIdeal.Kern.K_eq m c b l C
theorem VA_fun (c : Dev Cert.KernelIdeal.nD) : Cert.KernelIdeal.Kern.VA m c
    = arg (m ((c.tc : Thread Cert.KernelIdeal.nD Cert.KernelIdeal.τ).loc Cert.KernelIdeal.main_arg2)) :=
  funext fun b => funext fun l => funext fun C => Cert.KernelIdeal.Kern.V_eq m c b l C

theorem out_eq (c : Dev Cert.KernelIdeal.nD) : Cert.KernelIdeal.Kern.G5 m c
    = Cert.ReferenceIdeal.Read.val_main_v56 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) := by
  funext i
  refine Eq.trans ?_ (Cert.ReferenceIdeal.Ref.out_at _ _ _ i).symm
  unfold Cert.KernelIdeal.Kern.G5 oN
  rw [QA_fun, KA_fun, VA_fun, ← aO_scale]
  exact congrArg (fun s : Fin 256 → EReal => aO s _) (funext fun j => scores _ _ _ _ _ j)

theorem lse_eq (c : Dev Cert.KernelIdeal.nD) : Cert.KernelIdeal.Kern.G6 m c
    = Cert.ReferenceIdeal.Read.val_main_v60 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) := by
  funext i
  refine Eq.trans ?_ (Cert.ReferenceIdeal.Ref.lse_at _ _ i).symm
  unfold Cert.KernelIdeal.Kern.G6 lN
  rw [QA_fun, KA_fun, ← aL_scale]
  exact congrArg (fun s : Fin 256 → EReal => aL s) (funext fun j => scores _ _ _ _ _ j)

/-! ## The claims -/

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem preserves_p : Cert.preserves_Kernel_KernelIdeal :=
  ⟨IdealRules.named_const.statement Cert.KernelIdeal.κ "mask" .f32 0xF149F2CA#32 (⊥ : EReal) rfl,
    IdealRules.named_const.statement Cert.KernelIdeal.κ "log2e" .f32 0x3FB8AA3B#32 (((Real.log 2)⁻¹ : ℝ) : EReal) rfl⟩

theorem algebraic : Cert.algebraic_KernelIdeal_ReferenceIdeal := by
  intro m ρ m' ρ' _ hagree
  refine ⟨fun c => Cert.KernelIdeal.Kern.G5 m c, fun c => Cert.KernelIdeal.Kern.G6 m c, ?_, ?_⟩
  · exact (θ_run Cert.KernelIdeal.defs _ _).mono
      (fun _ h c => ⟨(h c).1.trans (Cert.KernelIdeal.Kern.final5 m c), (h c).2.1.trans (Cert.KernelIdeal.Kern.final6 m c), (h c).2.2⟩)
      (Cert.KernelIdeal.Value.run_blocks (F := Ideal) m ρ)
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v56_eq, (hagree c).1, (hagree c).2.1, (hagree c).2.2]
    exact (out_eq m c).symm
  · rw [Cert.ReferenceIdeal.Read.val_main_v60_eq, (hagree c).1, (hagree c).2.1]
    exact (lse_eq m c).symm

end Cert.Proof.Attn

end
-- ==== Proof.MoeRuns.lean ====
module

public import proofs.«01_k».proof.Proof.Gen.Moe.Skeleton
public import proofs.«01_k».proof.Proof.Gen.Moe.Launch
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Moe.Run

open Cert.Moe Cert.Moe.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # One point of the grouped-swiglu pipeline, by the way its three branches go

A tile is used or not (its entry of the second table), and each tile has two points. The four cases: an unused
tile's first point writes zeros, its second does nothing; a used tile's first point fills the scratch buffer with the
first half's product, its second adds the second half and writes the eight row classes. -/

/-- The tables and the scratch buffer, whole. -/
abbrev tb0 : Memref sig .tc .smem S136 .i32 := Memref.whole main_arg0
abbrev tb1 : Memref sig .tc .smem S136 .i32 := Memref.whole main_arg1
abbrev tb2 : Memref sig .tc .smem S136 .i32 := Memref.whole main_arg2
abbrev sc0 : Memref sig .tc .vmem S512x1024 .f32 := Memref.whole cc0_scratch0

/-- The word of the second table the body reads at a point, and reads again. -/
abbrev wdA (i : grid0.Coords) (T1 : S136.Idx → Elt F .i32) : Elt F .i32 :=
  View.readAt (Elt F) tb1.view (Rect.unit (s := S136) (k0_off1 i) S1.size (k0_off1_inb i)).toLoadRect T1 (Shape.Idx.first (numel1_S1.symm ▸ Nat.one_pos))
abbrev wdB (i : grid0.Coords) (T1 : S136.Idx → Elt F .i32) : Elt F .i32 :=
  View.readAt (Elt F) tb1.view (Rect.unit (s := S136) (k0_off2 i) S1.size (k0_off2_inb i)).toLoadRect T1 (Shape.Idx.first (numel1_S1.symm ▸ Nat.one_pos))

/-- The three branch conditions at a point. -/
abbrev cnd1 (i : grid0.Coords) (T1 : S136.Idx → Elt F .i32) : Prop := k0_cond1 i (wdA (F := F) i T1) = 1#1
abbrev cnd2 (i : grid0.Coords) (T1 : S136.Idx → Elt F .i32) : Prop :=
  Scalar.cmpi .ne (Scalar.extui (Scalar.andi (Scalar.cmpi .sgt (wdB (F := F) i T1) 0#32) (Scalar.cmpi .eq (BitVec.ofNat 32 (i 1).val) 0#32))) 0#32 = 1#1
abbrev cnd3 (i : grid0.Coords) (T1 : S136.Idx → Elt F .i32) : Prop := k0_cond3 i (wdB (F := F) i T1) = 1#1

set_option backward.proofsInPublic true in
set_option maxHeartbeats 8000000 in
/-- An unused tile, first point: the whole output block is stored. -/
noncomputable def runZ (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 T1 T2 : S136.Idx → Elt F .i32) (x0 : S4096x128.Idx → Elt F .f32) (x1 : S1x1024x1792.Idx → Elt F .bf16) (x2 : S1x1024x1792.Idx → Elt F .bf16) (x3 : S1x1792x1024.Idx → Elt F .bf16) (h1 : cnd1 (F := F) i T1) (h2 : ¬(cnd2 (F := F) i T1)) (h3 : ¬(cnd3 (F := F) i T1)) :
    { out : List (View.Piece (Elt F) S4096x128 .f32) // ∀ (xa : Buf (Elt F) ((c : Thread nD τ).loc cc0_scratch0)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (∃ d, owns (c : Thread nD τ) arg9 fullShare d)
          ∗ (sc0.view.loc (c : Thread nD τ) ↦{fullShare} xa)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (∃ f, arg9.view.loc (c : Thread nD τ) ↦[arg9.view.set]{fullShare} arg9.view.writes (Elt F) f out)
          ∗ (sc0.view.loc (c : Thread nD τ) ↦{fullShare} xa)) -∗ K ⟨⟩))
          ⊢ wp frame (wpE (defs₀ (F := F)) Variants.none c none) Set.univ (cc0_grouped_swiglu i tb0 (Memref.isWhole_whole _) tb1 (Memref.isWhole_whole _) tb2 (Memref.isWhole_whole _) arg5 harg5 arg6 harg6 arg7 harg7 arg8 harg8 arg9 harg9 sc0 (Memref.isWhole_whole _)) K } :=
  ⟨_, fun xa K => by
    unfold owns
    rw [cc0_grouped_swiglu_eq_skeleton]; unfold cc0_grouped_swiglu_skel
    iintro ⟨H0, H1, H2, H3, HT0, HT1, HT2, ⟨%d9, %f9, -, HO⟩, HS, Hk⟩
    have hS0 : sc0.IsWhole := Memref.isWhole_whole _
    have hT0 : tb0.IsWhole := Memref.isWhole_whole _
    have hT1 : tb1.IsWhole := Memref.isWhole_whole _
    have hT2 : tb2.IsWhole := Memref.isWhole_whole _
    sl_exec! (disch := first | (guard_target = k0_cond1 _ _ = _; exact h1) | (guard_target = ¬(Scalar.cmpi = _); exact h2) | (guard_target = ¬(k0_cond3 _ _ = _); exact h3) | exact h1 | exact h2 | exact h3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO]; · iexists _; iexact HO
    iexact HS⟩

set_option backward.proofsInPublic true in
set_option maxHeartbeats 8000000 in
/-- An unused tile, second point: nothing happens. -/
theorem runI (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 T1 T2 : S136.Idx → Elt F .i32) (x0 : S4096x128.Idx → Elt F .f32) (x1 : S1x1024x1792.Idx → Elt F .bf16) (x2 : S1x1024x1792.Idx → Elt F .bf16) (x3 : S1x1792x1024.Idx → Elt F .bf16) (h1 : ¬(cnd1 (F := F) i T1)) (h2 : ¬(cnd2 (F := F) i T1)) (h3 : ¬(cnd3 (F := F) i T1)) :
    ∀ (y : S4096x128.Idx → Elt F .f32) (xa : Buf (Elt F) ((c : Thread nD τ).loc cc0_scratch0)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg9 fullShare y
          ∗ (sc0.view.loc (c : Thread nD τ) ↦{fullShare} xa)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg9 fullShare y
          ∗ (sc0.view.loc (c : Thread nD τ) ↦{fullShare} xa)) -∗ K ⟨⟩))
          ⊢ wp frame (wpE (defs₀ (F := F)) Variants.none c none) Set.univ (cc0_grouped_swiglu i tb0 (Memref.isWhole_whole _) tb1 (Memref.isWhole_whole _) tb2 (Memref.isWhole_whole _) arg5 harg5 arg6 harg6 arg7 harg7 arg8 harg8 arg9 harg9 sc0 (Memref.isWhole_whole _)) K := by
    intro y xa K
    unfold owns
    rw [cc0_grouped_swiglu_eq_skeleton]; unfold cc0_grouped_swiglu_skel
    iintro ⟨H0, H1, H2, H3, HT0, HT1, HT2, ⟨%f9, %hf9, HO⟩, HS, Hk⟩
    obtain rfl := harg9.eq_unread hf9
    have hS0 : sc0.IsWhole := Memref.isWhole_whole _
    have hT0 : tb0.IsWhole := Memref.isWhole_whole _
    have hT1 : tb1.IsWhole := Memref.isWhole_whole _
    have hT2 : tb2.IsWhole := Memref.isWhole_whole _
    sl_exec! (disch := first | (guard_target = ¬(k0_cond1 _ _ = _); exact h1) | (guard_target = ¬(Scalar.cmpi = _); exact h2) | (guard_target = ¬(k0_cond3 _ _ = _); exact h3) | exact h1 | exact h2 | exact h3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO]
    · iexists _; isplitr; · ipureintro; exact harg9.read_unread _
      iexact HO
    iexact HS

set_option backward.proofsInPublic true in
set_option maxHeartbeats 8000000 in
/-- A used tile, first point: the scratch buffer takes the first half's product. -/
noncomputable def runA (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 T1 T2 : S136.Idx → Elt F .i32) (x0 : S4096x128.Idx → Elt F .f32) (x1 : S1x1024x1792.Idx → Elt F .bf16) (x2 : S1x1024x1792.Idx → Elt F .bf16) (x3 : S1x1792x1024.Idx → Elt F .bf16) (h1 : ¬(cnd1 (F := F) i T1)) (h2 : cnd2 (F := F) i T1) (h3 : ¬(cnd3 (F := F) i T1)) :
    { outs : Buf (Elt F) ((c : Thread nD τ).loc cc0_scratch0) // ∀ (y : S4096x128.Idx → Elt F .f32) (xa : Buf (Elt F) ((c : Thread nD τ).loc cc0_scratch0)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg9 fullShare y
          ∗ (sc0.view.loc (c : Thread nD τ) ↦{fullShare} xa)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg9 fullShare y
          ∗ (sc0.view.loc (c : Thread nD τ) ↦{fullShare} outs)) -∗ K ⟨⟩))
          ⊢ wp frame (wpE (defs₀ (F := F)) Variants.none c none) Set.univ (cc0_grouped_swiglu i tb0 (Memref.isWhole_whole _) tb1 (Memref.isWhole_whole _) tb2 (Memref.isWhole_whole _) arg5 harg5 arg6 harg6 arg7 harg7 arg8 harg8 arg9 harg9 sc0 (Memref.isWhole_whole _)) K } :=
  ⟨_, fun y xa K => by
    unfold owns
    rw [cc0_grouped_swiglu_eq_skeleton]; unfold cc0_grouped_swiglu_skel
    iintro ⟨H0, H1, H2, H3, HT0, HT1, HT2, ⟨%f9, %hf9, HO⟩, HS, Hk⟩
    obtain rfl := harg9.eq_unread hf9
    have hS0 : sc0.IsWhole := Memref.isWhole_whole _
    have hT0 : tb0.IsWhole := Memref.isWhole_whole _
    have hT1 : tb1.IsWhole := Memref.isWhole_whole _
    have hT2 : tb2.IsWhole := Memref.isWhole_whole _
    sl_exec! (disch := first | (guard_target = ¬(k0_cond1 _ _ = _); exact h1) | (guard_target = Scalar.cmpi = _; exact h2) | (guard_target = ¬(k0_cond3 _ _ = _); exact h3) | exact h1 | exact h2 | exact h3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO]
    · iexists _; isplitr; · ipureintro; exact harg9.read_unread _
      iexact HO
    iexact HS⟩

set_option backward.proofsInPublic true in
set_option maxHeartbeats 8000000 in
/-- A used tile, second point: the sum of the two halves is stored by row class. -/
noncomputable def runB (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 T1 T2 : S136.Idx → Elt F .i32) (x0 : S4096x128.Idx → Elt F .f32) (x1 : S1x1024x1792.Idx → Elt F .bf16) (x2 : S1x1024x1792.Idx → Elt F .bf16) (x3 : S1x1792x1024.Idx → Elt F .bf16) (xa : Buf (Elt F) ((c : Thread nD τ).loc cc0_scratch0)) (h1 : ¬(cnd1 (F := F) i T1)) (h2 : ¬(cnd2 (F := F) i T1)) (h3 : cnd3 (F := F) i T1) :
    { out : List (View.Piece (Elt F) S4096x128 .f32) // ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (∃ d, owns (c : Thread nD τ) arg9 fullShare d)
          ∗ (sc0.view.loc (c : Thread nD τ) ↦{fullShare} xa)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (∃ f, arg9.view.loc (c : Thread nD τ) ↦[arg9.view.set]{fullShare} arg9.view.writes (Elt F) f out)
          ∗ (sc0.view.loc (c : Thread nD τ) ↦{fullShare} xa)) -∗ K ⟨⟩))
          ⊢ wp frame (wpE (defs₀ (F := F)) Variants.none c none) Set.univ (cc0_grouped_swiglu i tb0 (Memref.isWhole_whole _) tb1 (Memref.isWhole_whole _) tb2 (Memref.isWhole_whole _) arg5 harg5 arg6 harg6 arg7 harg7 arg8 harg8 arg9 harg9 sc0 (Memref.isWhole_whole _)) K } :=
  ⟨_, fun K => by
    unfold owns
    rw [cc0_grouped_swiglu_eq_skeleton]; unfold cc0_grouped_swiglu_skel
    iintro ⟨H0, H1, H2, H3, HT0, HT1, HT2, ⟨%d9, %f9, -, HO⟩, HS, Hk⟩
    have hS0 : sc0.IsWhole := Memref.isWhole_whole _
    have hT0 : tb0.IsWhole := Memref.isWhole_whole _
    have hT1 : tb1.IsWhole := Memref.isWhole_whole _
    have hT2 : tb2.IsWhole := Memref.isWhole_whole _
    sl_exec! (disch := first | (guard_target = ¬(k0_cond1 _ _ = _); exact h1) | (guard_target = ¬(Scalar.cmpi = _); exact h2) | (guard_target = k0_cond3 _ _ = _; exact h3) | exact h1 | exact h2 | exact h3)
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    isplitl [HO]; · iexists _; iexact HO
    iexact HS⟩

end Cert.Moe.Run

end
-- ==== Proof.MoeSched.lean ====
module

public import proofs.«01_k».proof.Proof.MoeRuns

@[expose] public section

set_option maxRecDepth 16384
set_option Elab.async false

noncomputable section

namespace Cert.Moe.Run

open Cert.Moe Cert.Moe.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! # The pipeline at any tables in range

A tile's expert is one of eight, its used flag is zero or one, the tile of rows it reads is one of the 136. At such
tables every block lies inside its array, and the three branch conditions say which of the four cases a point is. -/

/-- The tables are in range. -/
structure Rng (T0 T1 T2 : S136.Idx → BitVec 32) : Prop where
  te : ∀ x, (T0 x).toNat < 8
  tv : ∀ x, T1 x = 0#32 ∨ T1 x = 1#32
  ts : ∀ x, (T2 x).toNat < 136

set_option backward.proofsInPublic true in
/-- The tables as the pipeline's contents. -/
def pfT (T0 T1 T2 : S136.Idx → BitVec 32) : pre0.Contents (Elt F) :=
  fun | ⟨0, _⟩ => T0 | ⟨1, _⟩ => T1 | ⟨2, _⟩ => T2 | ⟨_ + 3, h⟩ => absurd h (by simp)

theorem size136 (a : Fin S136.rank) : S136.size a = 136 := by
  obtain ⟨a, ha⟩ := a
  have h0 : a = 0 := by have : a < 1 := ha; omega
  subst h0; rfl

/-- The tables' entry `n`. -/
abbrev sIx (n : ℕ) (h : n < 136) : S136.Idx := fun a => ⟨n, by rw [size136]; exact h⟩

/-- A point's tile. -/
abbrev tix (i : grid0.Coords) : S136.Idx := sIx (i 0).val (i 0).isLt

theorem ofNat_cast : ∀ v : Fin 136, (Scalar.indexCast (BitVec.ofNat 32 v.val) : Index).toNat = v.val := by decide +kernel

theorem off1_eq (i : grid0.Coords) : k0_off1 i = ![(i 0).val] := by
  unfold k0_off1; exact congrArg (fun n : ℕ => (![n] : Fin 1 → ℕ)) (ofNat_cast (i 0))

theorem off2_eq (i : grid0.Coords) : k0_off2 i = ![(i 0).val] := by
  unfold k0_off2; exact congrArg (fun n : ℕ => (![n] : Fin 1 → ℕ)) (ofNat_cast (i 0))

theorem emb_tix (i : grid0.Coords) (off : Fin 1 → ℕ) (hoff : off = ![(i 0).val]) (inb) (h) :
    (Rect.unit (s := S136) off S1.size inb).emb (Shape.Idx.first h) = tix i := by
  subst hoff
  funext a
  obtain ⟨a, ha⟩ := a
  have h0 : a = 0 := by have : a < 1 := ha; omega
  subst h0
  exact Fin.ext (show (i 0).val + 1 * 0 = (i 0).val by omega)

theorem wdA_eq (i : grid0.Coords) (T1 : S136.Idx → BitVec 32) : wdA (F := F) i T1 = T1 (tix i) := by
  show T1 ((Rect.unit (s := S136) (k0_off1 i) S1.size (k0_off1_inb i)).emb (Shape.Idx.first _)) = _
  rw [emb_tix i _ (off1_eq i)]

theorem wdB_eq (i : grid0.Coords) (T1 : S136.Idx → BitVec 32) : wdB (F := F) i T1 = T1 (tix i) := by
  show T1 ((Rect.unit (s := S136) (k0_off2 i) S1.size (k0_off2_inb i)).emb (Shape.Idx.first _)) = _
  rw [emb_tix i _ (off2_eq i)]

theorem atD_eq1 (T0 T1 T2 : S136.Idx → BitVec 32) (i : grid0.Coords) :
    (pfT (F := F) T0 T1 T2).atD 1 (k0_off1 i) = T1 (tix i) := by
  have h : ∀ a, k0_off1 i a + 1 ≤ S136.size a := by
    rw [off1_eq]; intro a; obtain ⟨a, ha⟩ := a
    have h0 : a = 0 := by have : a < 1 := ha; omega
    subst h0; exact (i 0).isLt
  refine (dif_pos h).trans ?_
  show T1 _ = T1 _
  congr 1; funext a; obtain ⟨a, ha⟩ := a
  have h0 : a = 0 := by have : a < 1 := ha; omega
  subst h0
  exact Fin.ext (congrFun (off1_eq i) 0)

theorem atD_eq2 (T0 T1 T2 : S136.Idx → BitVec 32) (i : grid0.Coords) :
    (pfT (F := F) T0 T1 T2).atD 1 (k0_off2 i) = T1 (tix i) := by
  have e : k0_off2 i = k0_off1 i := (off2_eq i).trans (off1_eq i).symm
  rw [e]; exact atD_eq1 T0 T1 T2 i

theorem one_lt2 (i : grid0.Coords) : (i 1).val = 0 ∨ (i 1).val = 1 := by
  have h : (i 1).val < 2 := (i 1).isLt
  omega

/-! ## The branch conditions -/

theorem c1_iff (i : grid0.Coords) (v : BitVec 32) (hv : v = 0#32 ∨ v = 1#32) :
    k0_cond1 i v = 1#1 ↔ v = 0#32 ∧ (i 1).val = 0 := by
  unfold k0_cond1
  rcases hv with rfl | rfl <;> rcases one_lt2 i with h | h <;> rw [h] <;> decide

theorem c2_iff (i : grid0.Coords) (v : BitVec 32) (hv : v = 0#32 ∨ v = 1#32) :
    (Scalar.cmpi .ne (Scalar.extui (Scalar.andi (Scalar.cmpi .sgt v 0#32) (Scalar.cmpi .eq (BitVec.ofNat 32 (i 1).val) 0#32)) : BitVec 32) 0#32 = 1#1)
      ↔ v = 1#32 ∧ (i 1).val = 0 := by
  rcases hv with rfl | rfl <;> rcases one_lt2 i with h | h <;> rw [h] <;> decide

theorem c3_iff (i : grid0.Coords) (v : BitVec 32) (hv : v = 0#32 ∨ v = 1#32) :
    k0_cond3 i v = 1#1 ↔ v = 1#32 ∧ (i 1).val = 1 := by
  unfold k0_cond3
  rcases hv with rfl | rfl <;> rcases one_lt2 i with h | h <;> rw [h] <;> decide

variable {T0 T1 T2 : S136.Idx → BitVec 32} (hR : Rng T0 T1 T2)
include hR

theorem cnd1_iff (i : grid0.Coords) : cnd1 (F := F) i T1 ↔ T1 (tix i) = 0#32 ∧ (i 1).val = 0 := by
  unfold cnd1; rw [wdA_eq]; exact c1_iff i _ (hR.tv _)

theorem cnd2_iff (i : grid0.Coords) : cnd2 (F := F) i T1 ↔ T1 (tix i) = 1#32 ∧ (i 1).val = 0 := by
  unfold cnd2; rw [wdB_eq]; exact c2_iff i _ (hR.tv _)

theorem cnd3_iff (i : grid0.Coords) : cnd3 (F := F) i T1 ↔ T1 (tix i) = 1#32 ∧ (i 1).val = 1 := by
  unfold cnd3; rw [wdB_eq]; exact c3_iff i _ (hR.tv _)

/-- The output is left alone exactly at the points where neither the zeros nor the sum is stored. -/
theorem idle_iff (i : grid0.Coords) :
    idle0 (pfT (F := F) T0 T1 T2) 4 i = decide (T1 (tix i) = 0#32 ↔ (i 1).val = 1) := by
  have h1 := c1_iff i _ (hR.tv (tix i))
  have h3 := c3_iff i _ (hR.tv (tix i))
  show (!(k0_cond1 i ((pfT (F := F) T0 T1 T2).atD 1 (k0_off1 i)) == 1#1) && !(k0_cond3 i ((pfT (F := F) T0 T1 T2).atD 1 (k0_off2 i)) == 1#1)) = _
  rw [atD_eq1, atD_eq2]
  rw [show (k0_cond1 i (T1 (tix i)) == 1#1) = decide (T1 (tix i) = 0#32 ∧ (i 1).val = 0) from by
      rw [Bool.eq_iff_iff, beq_iff_eq, decide_eq_true_iff]; exact h1,
    show (k0_cond3 i (T1 (tix i)) == 1#1) = decide (T1 (tix i) = 1#32 ∧ (i 1).val = 1) from by
      rw [Bool.eq_iff_iff, beq_iff_eq, decide_eq_true_iff]; exact h3]
  rcases hR.tv (tix i) with hv | hv <;> rcases one_lt2 i with hc | hc <;> rw [hv, hc] <;> decide

/-! ## The blocks -/

omit hR in
theorem ix0_eq (i : grid0.Coords) : cc0_transform_0 k0_off1_inb numel1_S1 (pfT (F := F) T0 T1 T2) i = ![(T2 (tix i)).toNat, 0] := by
  have e : (pfT (F := F) T0 T1 T2).at 2 (Rect.unit (s := S136) (k0_off1 i) S1.size (k0_off1_inb i)) numel1_S1 = T2 (tix i) := by
    exact congrArg T2 (emb_tix i _ (off1_eq i) _ _)
  exact congrArg (fun v : BitVec 32 => (![v.toNat, 0] : Fin 2 → ℕ)) e

omit hR in
theorem muli_half : ∀ (c : Fin 2), (Scalar.muli (BitVec.ofNat 32 c.val) 0#32 : BitVec 32).toNat = 0 ∧ (Scalar.muli (BitVec.ofNat 32 c.val) 1#32 : BitVec 32).toNat = c.val := by decide

/-- Which half of the weights a point works on: its own half at a used tile, the first at an unused. -/
abbrev half (T1 : S136.Idx → BitVec 32) (i : grid0.Coords) : ℕ := if T1 (tix i) = 1#32 then (i 1).val else 0

theorem muli_eq (i : grid0.Coords) : (Scalar.muli (BitVec.ofNat 32 (i 1).val) (T1 (tix i)) : BitVec 32).toNat = half T1 i := by
  unfold half
  rcases hR.tv (tix i) with hv | hv <;> rw [hv]
  · exact (muli_half (i 1)).1
  · exact (muli_half (i 1)).2

theorem ix1_eq (i : grid0.Coords) : cc0_transform_1 k0_off1_inb numel1_S1 (pfT (F := F) T0 T1 T2) i = ![(T0 (tix i)).toNat, 0, half T1 i] := by
  have e0 : (pfT (F := F) T0 T1 T2).at 0 (Rect.unit (s := S136) (k0_off1 i) S1.size (k0_off1_inb i)) numel1_S1 = T0 (tix i) := by
    exact congrArg T0 (emb_tix i _ (off1_eq i) _ _)
  have e1 : (pfT (F := F) T0 T1 T2).at 1 (Rect.unit (s := S136) (k0_off1 i) S1.size (k0_off1_inb i)) numel1_S1 = T1 (tix i) := by
    exact congrArg T1 (emb_tix i _ (off1_eq i) _ _)
  refine (congrArg₂ (fun v w : BitVec 32 => (![v.toNat, 0, (Scalar.muli (BitVec.ofNat 32 (i 1).val) w : BitVec 32).toNat] : Fin 3 → ℕ)) e0 e1).trans ?_
  dsimp only; rw [muli_eq hR]

theorem ix2_eq (i : grid0.Coords) : cc0_transform_2 k0_off1_inb numel1_S1 (pfT (F := F) T0 T1 T2) i = ![(T0 (tix i)).toNat, 0, half T1 i] :=
  ix1_eq (F := F) hR i

theorem ix3_eq (i : grid0.Coords) : cc0_transform_3 k0_off1_inb numel1_S1 (pfT (F := F) T0 T1 T2) i = ![(T0 (tix i)).toNat, half T1 i, 0] := by
  have e0 : (pfT (F := F) T0 T1 T2).at 0 (Rect.unit (s := S136) (k0_off1 i) S1.size (k0_off1_inb i)) numel1_S1 = T0 (tix i) := by
    exact congrArg T0 (emb_tix i _ (off1_eq i) _ _)
  have e1 : (pfT (F := F) T0 T1 T2).at 1 (Rect.unit (s := S136) (k0_off1 i) S1.size (k0_off1_inb i)) numel1_S1 = T1 (tix i) := by
    exact congrArg T1 (emb_tix i _ (off1_eq i) _ _)
  refine (congrArg₂ (fun v w : BitVec 32 => (![v.toNat, (Scalar.muli (BitVec.ofNat 32 (i 1).val) w : BitVec 32).toNat, 0] : Fin 3 → ℕ)) e0 e1).trans ?_
  dsimp only; rw [muli_eq hR]

omit hR in
theorem half_lt (i : grid0.Coords) : half T1 i < 2 := by
  unfold half; split
  · exact (i 1).isLt
  · omega

theorem ok_of : ok0 (F := F) (pfT T0 T1 T2) := by
  have b1 : ∀ i : grid0.Coords, ∀ a, ((![(T0 (tix i)).toNat, 0, half T1 i] : Fin 3 → ℕ) a + 1) * S1x1024x1792.size a ≤ S8x1024x3584.size a := by
    intro i a
    have h0 := hR.te (tix i); have h1 := half_lt (T1 := T1) i
    match a with
    | ⟨0, _⟩ => show ((T0 (tix i)).toNat + 1) * 1 ≤ 8; omega
    | ⟨1, _⟩ => show (0 + 1) * 1024 ≤ 1024; omega
    | ⟨2, _⟩ => show (half T1 i + 1) * 1792 ≤ 3584; omega
  refine ⟨fun i => ⟨?_, .inl rfl⟩, fun i => ⟨?_, .inr (Affine.block_words_dvd (s := S8x1024x3584) (p := EltTy.packing .bf16) (by decide) (by decide))⟩,
    fun i => ⟨?_, .inr (Affine.block_words_dvd (s := S8x1024x3584) (p := EltTy.packing .bf16) (by decide) (by decide))⟩,
    fun i => ⟨?_, .inr (Affine.block_words_dvd (s := S8x3584x1024) (p := EltTy.packing .bf16) (by decide) (by decide))⟩⟩
  · rw [ix0_eq]; intro a
    have h0 := hR.ts (tix i)
    match a with
    | ⟨0, _⟩ => show ((T2 (tix i)).toNat + 1) * 4096 ≤ 557056; omega
    | ⟨1, _⟩ => show (0 + 1) * 128 ≤ 128; omega
  · rw [ix1_eq hR]; exact b1 i
  · rw [ix2_eq hR]; exact b1 i
  · rw [ix3_eq hR]; intro a
    have h0 := hR.te (tix i); have h1 := half_lt (T1 := T1) i
    match a with
    | ⟨0, _⟩ => show ((T0 (tix i)).toNat + 1) * 1 ≤ 8; omega
    | ⟨1, _⟩ => show (half T1 i + 1) * 1792 ≤ 3584; omega
    | ⟨2, _⟩ => show (0 + 1) * 1024 ≤ 1024; omega

/-! ## The pipeline, its points -/

/-- The admissible contents, the pipeline at them, as @main's one. -/
def adm : (pcfg0 (F := F)).Adm := ⟨pfT T0 T1 T2, ok_of hR⟩
abbrev cfgA : Pipeline.Cfg sig Λ₀ := cfg0 (F := F) (adm hR)
abbrev pcs : Fin 1 → Pipeline.Cfg sig Λ₀ := Pipeline.pin (pcfgs (F := F)) fun _ => adm hR

abbrev crd (t : Fin (cfgA (F := F) hR).N) : grid0.Coords := (cfgA (F := F) hR).grid.coords t

omit hR in
theorem crd0 : ∀ t : Fin grid0.N, (grid0.coords t 0).val = t.val / 2 := by decide +kernel
omit hR in
theorem crd1 : ∀ t : Fin grid0.N, (grid0.coords t 1).val = t.val % 2 := by decide +kernel
omit hR in
theorem flush4 : ∀ t : Fin grid0.N, Window.flushOf grid0 true cc0_transform_4 t = decide (t.val % 2 = 1) := by decide +kernel

theorem flush_eq (t : Fin (cfgA (F := F) hR).N) : ((cfgA (F := F) hR).win (4 : Fin 5)).flush t = decide (t.val % 2 = 1) :=
  (Window.flush_eq_flushOf _ t).trans (flush4 t)

/-- A tile's used flag. -/
def tvN (T1 : S136.Idx → BitVec 32) (n : ℕ) : BitVec 32 := if h : n < 136 then T1 (sIx n h) else 1#32

omit hR in
theorem tvN_crd (T1 : S136.Idx → BitVec 32) (t : Fin grid0.N) : T1 (tix (grid0.coords t)) = tvN T1 (t.val / 2) := by
  have h : t.val / 2 < 136 := by have h := Nat.lt_of_lt_of_eq t.isLt N_0; omega
  unfold tvN; rw [dif_pos h]
  congr 1; funext a; exact Fin.ext (crd0 t)

include hR in
theorem tvN_or (n : ℕ) : tvN T1 n = 0#32 ∨ tvN T1 n = 1#32 := by
  unfold tvN; split
  · exact hR.tv _
  · exact .inr rfl

theorem idle_eq (t : Fin (cfgA (F := F) hR).N) :
    (cfgA (F := F) hR).idle (4 : Fin 5) ((cfgA (F := F) hR).grid.coords t) = decide (tvN T1 (t.val / 2) = 0#32 ↔ t.val % 2 = 1) := by
  refine (idle_iff (F := F) hR (grid0.coords t)).trans ?_
  rw [tvN_crd T1 t, crd1 t]

/-- Whether nothing has been stored into the output's buffer since its last write-back. -/
def frTab (T1 : S136.Idx → BitVec 32) (n : ℕ) : Bool := decide (n % 2 = 0 ∨ tvN T1 (n / 2) = 1#32)

theorem frTab_step (t : Fin (cfgA (F := F) hR).N) :
    frTab T1 (t.val + 1) = (((cfgA (F := F) hR).win (4 : Fin 5)).flush t || ((cfgA (F := F) hR).idle (4 : Fin 5) ((cfgA (F := F) hR).grid.coords t) && frTab T1 t.val)) := by
  rw [flush_eq, idle_eq]
  unfold frTab
  have hv := tvN_or hR (t.val / 2)
  rcases Nat.mod_two_eq_zero_or_one t.val with h | h
  · have h1 : (t.val + 1) % 2 = 1 := by omega
    have h2 : (t.val + 1) / 2 = t.val / 2 := by omega
    rw [h1, h2, h]
    rcases hv with hv | hv <;> rw [hv] <;> decide
  · have h1 : (t.val + 1) % 2 = 0 := by omega
    rw [h1, h]; simp

theorem fresh_eq (t : Fin (cfgA (F := F) hR).N) : (cfgA (F := F) hR).fresh (4 : Fin 5) t.val = frTab T1 t.val :=
  Pipeline.Cfg.fresh_tab (cfgA (F := F) hR) (4 : Fin 5) (frTab T1) (by unfold frTab; rfl) (frTab_step hR) t.val (Nat.le_of_lt t.isLt)

end Cert.Moe.Run

end
-- ==== Proof.MoeClosed.lean ====
module

public import proofs.«01_k».proof.Proof.MoeRuns
public import Idealize.ShloMosaic.Lib.Pipeline.ValueKit

@[expose] public section

set_option maxRecDepth 16384
set_option Elab.async false

noncomputable section

namespace Cert.Moe.Run

open Cert.Moe Cert.Moe.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 400000

/-! # What each case leaves, with no buffer named -/

/-- Every eighth row of a token block from row `k` on: lanes `128 k ‥ 128 k + 127` of the 512 tokens. -/
abbrev ev {e : EltTy} (x : S4096x128.Idx → Elt F e) (k : ℕ)
    (inb : ∀ a, S512x128.size a = 0 ∨ (![k, 0] : Fin 2 → ℕ) a + (![8, 1] : Fin 2 → ℕ) a * (S512x128.size a - 1) < S4096x128.size a) : S512x128.Idx → Elt F e :=
  fun y => x ((⟨![k, 0], S512x128.size, ![8, 1], inb⟩ : LoadRect S4096x128).idx y)

/-- The half's product, from the staged blocks. -/
def partA (x0 : S4096x128.Idx → Elt F .f32) (x1 x2 : S1x1024x1792.Idx → Elt F .bf16) (x3 : S1x1792x1024.Idx → Elt F .bf16) :
    S512x1024.Idx → Elt F .f32 :=
  k0_pay2 (F := F) (ev x0 0 inb_S4096x128_S512x128_0_0_s_8_1) (ev x0 1 inb_S4096x128_S512x128_1_0_s_8_1) (ev x0 2 inb_S4096x128_S512x128_2_0_s_8_1)
    (ev x0 3 inb_S4096x128_S512x128_3_0_s_8_1) (ev x0 4 inb_S4096x128_S512x128_4_0_s_8_1) (ev x0 5 inb_S4096x128_S512x128_5_0_s_8_1)
    (ev x0 6 inb_S4096x128_S512x128_6_0_s_8_1) (ev x0 7 inb_S4096x128_S512x128_7_0_s_8_1) x1 x2 x3

/-- The scratch's value plus the half's product. -/
def sumB (x0 : S4096x128.Idx → Elt F .f32) (x1 x2 : S1x1024x1792.Idx → Elt F .bf16) (x3 : S1x1792x1024.Idx → Elt F .bf16)
    (xa : S512x1024.Idx → Elt F .f32) : S512x1024.Idx → Elt F .f32 :=
  k0_pay10 (F := F) (ev x0 0 inb_S4096x128_S512x128_0_0_s_8_1) (ev x0 1 inb_S4096x128_S512x128_1_0_s_8_1) (ev x0 2 inb_S4096x128_S512x128_2_0_s_8_1)
    (ev x0 3 inb_S4096x128_S512x128_3_0_s_8_1) (ev x0 4 inb_S4096x128_S512x128_4_0_s_8_1) (ev x0 5 inb_S4096x128_S512x128_5_0_s_8_1)
    (ev x0 6 inb_S4096x128_S512x128_6_0_s_8_1) (ev x0 7 inb_S4096x128_S512x128_7_0_s_8_1) x1 x2 x3 xa

/-- A token's row and lane of its 1024 values, of a 128-lane row and lane. -/
abbrev tokIx (y : S4096x128.Idx) : S512x1024.Idx :=
  fun | ⟨0, _⟩ => ⟨(y 0).val / 8, by have h : (y 0).val < 4096 := (y 0).isLt; show _ < 512; omega⟩
      | ⟨1, _⟩ => ⟨(y 0).val % 8 * 128 + (y 1).val, by have h : (y 1).val < 128 := (y 1).isLt; show _ < 1024; omega⟩

/-- The output block of a used tile. -/
def outB (x0 : S4096x128.Idx → Elt F .f32) (x1 x2 : S1x1024x1792.Idx → Elt F .bf16) (x3 : S1x1792x1024.Idx → Elt F .bf16)
    (xa : S512x1024.Idx → Elt F .f32) : S4096x128.Idx → Elt F .f32 :=
  fun y => sumB x0 x1 x2 x3 xa (tokIx y)

theorem readAt_full3 {S : Shape} {e : EltTy} (v : View sig .tc .vmem S e) (x : S.Idx → Elt F e) (off : Fin S.rank → ℕ)
    (h0 : ∀ a, off a = 0) (inb) :
    v.readAt (Elt F) (Rect.unit off S.size inb).toLoadRect (v.rep x) = x := by
  rw [View.readAt_rep]; funext y
  exact congrArg x (funext fun a => Fin.ext (by
    show off a + 1 * (y a).val = (y a).val
    rw [h0 a]; omega))

theorem unit0_mem {S : Shape} (off : Fin S.rank → ℕ) (h0 : ∀ a, off a = 0) (inb) (y : S.Idx) : y ∈ (Rect.unit (s := S) off S.size inb).set :=
  Rect.mem_set_unit.mpr fun a => by rw [h0 a]; exact ⟨Nat.zero_le _, by rw [Nat.zero_add]; exact (y a).isLt⟩

theorem unit0_emb {S : Shape} (off : Fin S.rank → ℕ) (h0 : ∀ a, off a = 0) (inb) (y) : (Rect.unit (s := S) off S.size inb).emb y = y :=
  funext fun a => Fin.ext (by show off a + 1 * (y a).val = (y a).val; rw [h0 a]; omega)

theorem z2 : ∀ a : Fin 2, (![0, 0] : Fin 2 → ℕ) a = 0 := by decide
theorem z3 : ∀ a : Fin 3, (![0, 0, 0] : Fin 3 → ℕ) a = 0 := by decide

theorem canon_whole {S : Shape} {e : EltTy} (off : Fin S.rank → ℕ) (h0 : ∀ a, off a = 0) (inb) (w : S.Idx → Elt F e) :
    View.canon (Val := Elt F) (s := S) (e := e) [⟨Rect.unit off S.size inb, w⟩] = w :=
  funext fun y => View.canon_apply_of_pieces w _ (by
    intro p hp x
    obtain rfl := List.mem_singleton.mp hp
    exact congrArg w (unit0_emb off h0 inb x).symm) y ⟨_, List.mem_singleton.mpr rfl, unit0_mem off h0 inb y⟩

theorem read_piece {S : Shape} {e : EltTy} (v : View sig .tc .vmem S e) (f) (off : Fin S.rank → ℕ) (h0 : ∀ a, off a = 0) (inb) (w : S.Idx → Elt F e) :
    v.read (Elt F) (v.writes (Elt F) f [⟨Rect.unit off S.size inb, w⟩]) = w := by
  rw [View.read_writes_eq_canon _ _ _ (fun y => ⟨_, List.mem_singleton.mpr rfl, unit0_mem off h0 inb y⟩)]
  exact canon_whole off h0 inb w

theorem readZ (v : View sig .tc .vmem S4096x128 .f32) (f) (L : List (View.Piece (Elt F) S4096x128 .f32)) (w : S4096x128.Idx → Elt F .f32)
    (hL : L = [⟨Rect.unit (s := S4096x128) ![0, 0] S4096x128.size inb_S4096x128_S4096x128_0_0, w⟩]) :
    v.read (Elt F) (v.writes (Elt F) f L) = w := by
  subst hL
  exact read_piece v f ![0, 0] z2 inb_S4096x128_S4096x128_0_0 w

theorem readA (v : View sig .tc .vmem S512x1024 .f32) (f) (L : List (View.Piece (Elt F) S512x1024 .f32)) (w : S512x1024.Idx → Elt F .f32)
    (hL : L = [⟨Rect.unit (s := S512x1024) ![0, 0] S512x1024.size inb_S512x1024_S512x1024_0_0, w⟩]) :
    v.read (Elt F) (v.writes (Elt F) f L) = w := by
  subst hL
  exact read_piece v f ![0, 0] z2 inb_S512x1024_S512x1024_0_0 w

theorem pcsZ_eq : runZ.sl.HO_1 (F := F) = [⟨Rect.unit (s := S4096x128) ![0, 0] S4096x128.size inb_S4096x128_S4096x128_0_0, k0_pay1 (F := F)⟩] := by
  unfold runZ.sl.HO_1; exact Eq.refl _

/-- An unused tile's first point leaves zeros. -/
theorem runZ_read (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 T1 T2 : S136.Idx → Elt F .i32) (x0 : S4096x128.Idx → Elt F .f32) (x1 : S1x1024x1792.Idx → Elt F .bf16) (x2 : S1x1024x1792.Idx → Elt F .bf16) (x3 : S1x1792x1024.Idx → Elt F .bf16) (h1 : cnd1 (F := F) i T1) (h2 : ¬(cnd2 (F := F) i T1)) (h3 : ¬(cnd3 (F := F) i T1))  (v : View sig .tc .vmem S4096x128 .f32) (f) :
    v.read (Elt F) (v.writes (Elt F) f (runZ c i arg5 harg5 arg6 harg6 arg7 harg7 arg8 harg8 arg9 harg9 T0 T1 T2 x0 x1 x2 x3 h1 h2 h3).1) = k0_pay1 (F := F) := by
  refine readZ v f _ _ ?_
  unfold runZ; dsimp only; exact pcsZ_eq

theorem pcsA_eq (arg5 : Memref sig .tc .vmem S4096x128 .f32) (arg6 arg7 : Memref sig .tc .vmem S1x1024x1792 .bf16)  (arg8 : Memref sig .tc .vmem S1x1792x1024 .bf16) (x0 : S4096x128.Idx → Elt F .f32) (x1 x2 : S1x1024x1792.Idx → Elt F .bf16) (x3 : S1x1792x1024.Idx → Elt F .bf16) : runA.sl.HS_1 (F := F) arg5 arg6 arg7 arg8 x0 x1 x2 x3
    = [⟨Rect.unit (s := S512x1024) ![0, 0] S512x1024.size inb_S512x1024_S512x1024_0_0, partA x0 x1 x2 x3⟩] := by
  unfold runA.sl.HS_1
  rw [readAt_full3 arg6.view x1 ![0, 0, 0] z3, readAt_full3 arg7.view x2 ![0, 0, 0] z3, readAt_full3 arg8.view x3 ![0, 0, 0] z3]
  rw [View.readAt_rep arg5.view, View.readAt_rep arg5.view, View.readAt_rep arg5.view, View.readAt_rep arg5.view, View.readAt_rep arg5.view, View.readAt_rep arg5.view, View.readAt_rep arg5.view, View.readAt_rep arg5.view]
  unfold partA ev
  exact Eq.refl _

/-- A used tile's first point leaves the first half's product in the scratch buffer. -/
theorem runA_eq (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 T1 T2 : S136.Idx → Elt F .i32) (x0 : S4096x128.Idx → Elt F .f32) (x1 : S1x1024x1792.Idx → Elt F .bf16) (x2 : S1x1024x1792.Idx → Elt F .bf16) (x3 : S1x1792x1024.Idx → Elt F .bf16) (h1 : ¬(cnd1 (F := F) i T1)) (h2 : cnd2 (F := F) i T1) (h3 : ¬(cnd3 (F := F) i T1))  : (runA c i arg5 harg5 arg6 harg6 arg7 harg7 arg8 harg8 arg9 harg9 T0 T1 T2 x0 x1 x2 x3 h1 h2 h3).1 = partA x0 x1 x2 x3 := by
  unfold runA; dsimp only
  have h := readA (F := F) (View.whole cc0_scratch0 : View sig .tc .vmem S512x1024 .f32) (View.whole cc0_scratch0 : View sig .tc .vmem S512x1024 .f32).junk _ _ (pcsA_eq arg5 arg6 arg7 arg8 x0 x1 x2 x3)
  rw [View.read_whole] at h
  exact h

/-- The eight stores of the sum `Y`, the last first. -/
def pcsB (Y : S512x1024.Idx → Elt F .f32) : List (View.Piece (Elt F) S4096x128 .f32) :=
  [
      ⟨⟨⟨![7, 0], ![512, 128], ![8, 1], inb_S4096x128_S512x128_7_0_s_8_1⟩, spos_8_1⟩, k0_pay9 (F := F) Y⟩,
      ⟨⟨⟨![6, 0], ![512, 128], ![8, 1], inb_S4096x128_S512x128_6_0_s_8_1⟩, spos_8_1⟩, k0_pay8 (F := F) Y⟩,
      ⟨⟨⟨![5, 0], ![512, 128], ![8, 1], inb_S4096x128_S512x128_5_0_s_8_1⟩, spos_8_1⟩, k0_pay7 (F := F) Y⟩,
      ⟨⟨⟨![4, 0], ![512, 128], ![8, 1], inb_S4096x128_S512x128_4_0_s_8_1⟩, spos_8_1⟩, k0_pay6 (F := F) Y⟩,
      ⟨⟨⟨![3, 0], ![512, 128], ![8, 1], inb_S4096x128_S512x128_3_0_s_8_1⟩, spos_8_1⟩, k0_pay5 (F := F) Y⟩,
      ⟨⟨⟨![2, 0], ![512, 128], ![8, 1], inb_S4096x128_S512x128_2_0_s_8_1⟩, spos_8_1⟩, k0_pay4 (F := F) Y⟩,
      ⟨⟨⟨![1, 0], ![512, 128], ![8, 1], inb_S4096x128_S512x128_1_0_s_8_1⟩, spos_8_1⟩, k0_pay3 (F := F) Y⟩,
      ⟨⟨⟨![0, 0], ![512, 128], ![8, 1], inb_S4096x128_S512x128_0_0_s_8_1⟩, spos_8_1⟩, extractStridedSlice S512x128 ![0, 0] Y slices_S512x1024_o0_0_S512x128⟩]

theorem pcsB_cover (Y : S512x1024.Idx → Elt F .f32) (y : S4096x128.Idx) : ∃ p ∈ pcsB Y, y ∈ p.1.set := by
  have h0 : (y 0).val < 4096 := (y 0).isLt
  have h1 : (y 1).val < 128 := (y 1).isLt
  have key : ∀ (k : ℕ) (inb) (sp), (y 0).val % 8 = k → y ∈ (⟨⟨![k, 0], ![512, 128], ![8, 1], inb⟩, sp⟩ : Rect S4096x128).set := by
    intro k inb sp hk
    refine LoadRect.mem_set (r := _) |>.mpr fun a => ?_
    match a with
    | ⟨0, _⟩ => exact ⟨(y 0).val / 8, by show _ < 512; omega, by show (y 0).val = k + 8 * ((y 0).val / 8); omega⟩
    | ⟨1, _⟩ => exact ⟨(y 1).val, h1, by show (y 1).val = 0 + 1 * (y 1).val; omega⟩
  have hlt : (y 0).val % 8 < 8 := Nat.mod_lt _ (by decide)
  unfold pcsB
  rcases (show (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 by omega) with h | h | h | h | h | h | h | h
  · exact ⟨_, List.mem_of_getElem? (i := 7) rfl, key 0 _ _ h⟩
  · exact ⟨_, List.mem_of_getElem? (i := 6) rfl, key 1 _ _ h⟩
  · exact ⟨_, List.mem_of_getElem? (i := 5) rfl, key 2 _ _ h⟩
  · exact ⟨_, List.mem_of_getElem? (i := 4) rfl, key 3 _ _ h⟩
  · exact ⟨_, List.mem_of_getElem? (i := 3) rfl, key 4 _ _ h⟩
  · exact ⟨_, List.mem_of_getElem? (i := 2) rfl, key 5 _ _ h⟩
  · exact ⟨_, List.mem_of_getElem? (i := 1) rfl, key 6 _ _ h⟩
  · exact ⟨_, List.mem_of_getElem? (i := 0) rfl, key 7 _ _ h⟩

/-- One class of rows: the slice of the sum is the sum at the token's place. -/
theorem slice_tok (Y : S512x1024.Idx → Elt F .f32) (k : ℕ) (hk : k < 8) (inb) (sp) (off : Fin 2 → ℕ) (ho : off = ![0, 128 * k]) (hs)
    (x : (⟨⟨![k, 0], ![512, 128], ![8, 1], inb⟩, sp⟩ : Rect S4096x128).shape.Idx) :
    extractStridedSlice S512x128 off Y hs x = Y (tokIx ((⟨⟨![k, 0], ![512, 128], ![8, 1], inb⟩, sp⟩ : Rect S4096x128).emb x)) := by
  subst ho
  have hx0 : (x 0).val < 512 := (x 0).isLt
  have hx1 : (x 1).val < 128 := (x 1).isLt
  refine congrArg Y (funext fun a => Fin.ext ?_)
  match a with
  | ⟨0, _⟩ => show 0 + (x 0).val = (k + 8 * (x 0).val) / 8; omega
  | ⟨1, _⟩ => show 128 * k + (x 1).val = (k + 8 * (x 0).val) % 8 * 128 + (0 + 1 * (x 1).val); omega

theorem pcsB_canon (Y : S512x1024.Idx → Elt F .f32) : View.canon (pcsB Y) = fun y => Y (tokIx y) :=
  funext fun y => View.canon_apply_of_pieces (fun y => Y (tokIx y)) _ (by
    intro p hp x
    simp only [pcsB, List.mem_cons, List.not_mem_nil, or_false] at hp
    rcases hp with rfl | rfl | rfl | rfl | rfl | rfl | rfl | rfl
    · exact slice_tok Y 7 (by decide) inb_S4096x128_S512x128_7_0_s_8_1 spos_8_1 _ rfl slices_S512x1024_o0_896_S512x128 x
    · exact slice_tok Y 6 (by decide) inb_S4096x128_S512x128_6_0_s_8_1 spos_8_1 _ rfl slices_S512x1024_o0_768_S512x128 x
    · exact slice_tok Y 5 (by decide) inb_S4096x128_S512x128_5_0_s_8_1 spos_8_1 _ rfl slices_S512x1024_o0_640_S512x128 x
    · exact slice_tok Y 4 (by decide) inb_S4096x128_S512x128_4_0_s_8_1 spos_8_1 _ rfl slices_S512x1024_o0_512_S512x128 x
    · exact slice_tok Y 3 (by decide) inb_S4096x128_S512x128_3_0_s_8_1 spos_8_1 _ rfl slices_S512x1024_o0_384_S512x128 x
    · exact slice_tok Y 2 (by decide) inb_S4096x128_S512x128_2_0_s_8_1 spos_8_1 _ rfl slices_S512x1024_o0_256_S512x128 x
    · exact slice_tok Y 1 (by decide) inb_S4096x128_S512x128_1_0_s_8_1 spos_8_1 _ rfl slices_S512x1024_o0_128_S512x128 x
    · exact slice_tok Y 0 (by decide) inb_S4096x128_S512x128_0_0_s_8_1 spos_8_1 _ rfl slices_S512x1024_o0_0_S512x128 x) y (pcsB_cover Y y)

theorem sumB_eq (c : Dev nD) (arg5 : Memref sig .tc .vmem S4096x128 .f32) (arg6 arg7 : Memref sig .tc .vmem S1x1024x1792 .bf16)  (arg8 : Memref sig .tc .vmem S1x1792x1024 .bf16) (x0 : S4096x128.Idx → Elt F .f32) (x1 x2 : S1x1024x1792.Idx → Elt F .bf16) (x3 : S1x1792x1024.Idx → Elt F .bf16) (xa) : runB.sl.r_2 (F := F) c arg5 arg6 arg7 arg8 x0 x1 x2 x3 xa = sumB x0 x1 x2 x3 xa := by
  unfold runB.sl.r_2
  have e2 : (View.whole cc0_scratch0).readAt (Elt F) (Rect.unit (s := S512x1024) ![0, 0] S512x1024.size inb_S512x1024_S512x1024_0_0).toLoadRect xa = xa := by
    funext y
    exact congrArg xa (unit0_emb (S := S512x1024) ![0, 0] z2 _ y)
  rw [e2]
  rw [readAt_full3 arg6.view x1 ![0, 0, 0] z3, readAt_full3 arg7.view x2 ![0, 0, 0] z3, readAt_full3 arg8.view x3 ![0, 0, 0] z3]
  rw [View.readAt_rep arg5.view, View.readAt_rep arg5.view, View.readAt_rep arg5.view, View.readAt_rep arg5.view, View.readAt_rep arg5.view, View.readAt_rep arg5.view, View.readAt_rep arg5.view, View.readAt_rep arg5.view]
  unfold sumB ev
  exact Eq.refl _

/-- A used tile's second point leaves the sum, each token's 1024 values over eight rows. -/
theorem runB_read (c : Dev nD) (i : grid0.Coords) (arg5 : Memref sig .tc .vmem S4096x128 .f32) (harg5 : arg5.IsWhole) (arg6 : Memref sig .tc .vmem S1x1024x1792 .bf16) (harg6 : arg6.IsWhole) (arg7 : Memref sig .tc .vmem S1x1024x1792 .bf16) (harg7 : arg7.IsWhole) (arg8 : Memref sig .tc .vmem S1x1792x1024 .bf16) (harg8 : arg8.IsWhole) (arg9 : Memref sig .tc .vmem S4096x128 .f32) (harg9 : arg9.IsWhole) (T0 T1 T2 : S136.Idx → Elt F .i32) (x0 : S4096x128.Idx → Elt F .f32) (x1 : S1x1024x1792.Idx → Elt F .bf16) (x2 : S1x1024x1792.Idx → Elt F .bf16) (x3 : S1x1792x1024.Idx → Elt F .bf16) (xa : Buf (Elt F) ((c : Thread nD τ).loc cc0_scratch0)) (h1 : ¬(cnd1 (F := F) i T1)) (h2 : ¬(cnd2 (F := F) i T1)) (h3 : cnd3 (F := F) i T1)  (v : View sig .tc .vmem S4096x128 .f32) (f) :
    v.read (Elt F) (v.writes (Elt F) f (runB c i arg5 harg5 arg6 harg6 arg7 harg7 arg8 harg8 arg9 harg9 T0 T1 T2 x0 x1 x2 x3 xa h1 h2 h3).1) = outB x0 x1 x2 x3 xa := by
  have e : (runB c i arg5 harg5 arg6 harg6 arg7 harg7 arg8 harg8 arg9 harg9 T0 T1 T2 x0 x1 x2 x3 xa h1 h2 h3).1 = pcsB (runB.sl.r_2 (F := F) c arg5 arg6 arg7 arg8 x0 x1 x2 x3 xa) := by
    unfold runB; dsimp only; exact Eq.refl _
  rw [e, sumB_eq, View.read_writes_eq_canon _ _ _ (pcsB_cover _), pcsB_canon]
  exact Eq.refl _

end Cert.Moe.Run

end
-- ==== Proof.MoeCert.lean ====
module

public import proofs.«01_k».proof.Proof.MoeSched
public import proofs.«01_k».proof.Proof.MoeClosed
public import Idealize.ShloMosaic.Lib.Pipeline.Quiescent
public import Idealize.ShloMosaic.Lib.Claim

@[expose] public section

set_option maxRecDepth 16384
set_option Elab.async false

noncomputable section

namespace Cert.Moe.Run

open Cert.Moe Cert.Moe.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The grouped-swiglu pipeline, run at any tables in range -/

variable {T0 T1 T2 : S136.Idx → BitVec 32} (hR : Rng T0 T1 T2)
variable (m : (ℓ : Loc nD τ sig) → Buf (Elt F) ℓ) (ρ : Dev nD → PrngReg)

/-- The buffers when the region is entered: after the three casts. -/
abbrev V (c : Dev nD) (b : Ref sig .tc) : Buf (Elt F) ((c : Thread nD τ).loc b) := StableHlo.after hostOps0 (fun b => m (c, b)) b

abbrev ms0 (t : Fin (cfgA (F := F) hR).N) : Memref sig .tc .vmem S4096x128 .f32 := spec0_0.stage ((cfgA (F := F) hR).slots t (0 : Fin 5))
abbrev hs0 (t : Fin (cfgA (F := F) hR).N) : (ms0 (F := F) hR t).IsWhole := hstage0_0 (((cfgA (F := F) hR).slots t (0 : Fin 5)).cast nbuf0_0)
abbrev ms1 (t : Fin (cfgA (F := F) hR).N) : Memref sig .tc .vmem S1x1024x1792 .bf16 := spec0_1.stage ((cfgA (F := F) hR).slots t (1 : Fin 5))
abbrev hs1 (t : Fin (cfgA (F := F) hR).N) : (ms1 (F := F) hR t).IsWhole := hstage0_1 (((cfgA (F := F) hR).slots t (1 : Fin 5)).cast nbuf0_1)
abbrev ms2 (t : Fin (cfgA (F := F) hR).N) : Memref sig .tc .vmem S1x1024x1792 .bf16 := spec0_2.stage ((cfgA (F := F) hR).slots t (2 : Fin 5))
abbrev hs2 (t : Fin (cfgA (F := F) hR).N) : (ms2 (F := F) hR t).IsWhole := hstage0_2 (((cfgA (F := F) hR).slots t (2 : Fin 5)).cast nbuf0_2)
abbrev ms3 (t : Fin (cfgA (F := F) hR).N) : Memref sig .tc .vmem S1x1792x1024 .bf16 := spec0_3.stage ((cfgA (F := F) hR).slots t (3 : Fin 5))
abbrev hs3 (t : Fin (cfgA (F := F) hR).N) : (ms3 (F := F) hR t).IsWhole := hstage0_3 (((cfgA (F := F) hR).slots t (3 : Fin 5)).cast nbuf0_3)
abbrev ms4 (t : Fin (cfgA (F := F) hR).N) : Memref sig .tc .vmem S4096x128 .f32 := spec0_4.stage ((cfgA (F := F) hR).slots t (4 : Fin 5))
abbrev hs4 (t : Fin (cfgA (F := F) hR).N) : (ms4 (F := F) hR t).IsWhole := hstage0_4 (((cfgA (F := F) hR).slots t (4 : Fin 5)).cast nbuf0_4)

/-- Window `w`'s block at point `t`. -/
def iblk (c : Dev nD) (w : Fin (cfgA (F := F) hR).W) (t : Fin (cfgA (F := F) hR).N) :
    (((cfgA (F := F) hR).win w).xblock (crd hR t)).Idx → Elt F ((cfgA (F := F) hR).win w).elt :=
  (((cfgA (F := F) hR).win w).blk t).view.read (Elt F) (V m c (Pipeline.arrRef spec0 w))

/-- The half's product of the blocks at point `t`. -/
def pA (c : Dev nD) (t : Fin (cfgA (F := F) hR).N) : S512x1024.Idx → Elt F .f32 :=
  partA (iblk hR m c (0 : Fin 5) t) (iblk hR m c (1 : Fin 5) t) (iblk hR m c (2 : Fin 5) t) (iblk hR m c (3 : Fin 5) t)

/-- What the output's buffer is left with at point `t` (its last store, where one is left untouched). -/
def outAt (c : Dev nD) (t : Fin (cfgA (F := F) hR).N) : S4096x128.Idx → Elt F .f32 :=
  if tvN T1 (t.val / 2) = 1#32 then
    outB (iblk hR m c (0 : Fin 5) t) (iblk hR m c (1 : Fin 5) t) (iblk hR m c (2 : Fin 5) t) (iblk hR m c (3 : Fin 5) t) (pA hR m c ⟨t.val - 1, by omega⟩)
  else k0_pay1 (F := F)

/-- The invariant: after a used tile's first point the scratch buffer holds the first half's product. -/
def Phi (c : Dev nD) (t : Fin ((cfgA (F := F) hR).N + 1)) : sProp 𝕄 :=
  iprop((∃ a, ⌜∀ n (h : n < (cfgA (F := F) hR).N), t.val = n + 1 → n % 2 = 0 → tvN T1 (n / 2) = 1#32 → a = pA hR m c ⟨n, h⟩⌝
      ∗ (sc0.view.loc (c : Thread nD τ) ↦{fullShare} a))
    ∗ (tb0.view.loc (c : Thread nD τ) ↦{fullShare.right} T0) ∗ (tb1.view.loc (c : Thread nD τ) ↦{fullShare.right} T1)
    ∗ (tb2.view.loc (c : Thread nD τ) ↦{fullShare.right} T2) ∗ (∃ r, prngReg c r))

/-- The proof data of the one pipeline on core `c`. -/
def dats (_ : Fin 1) (c : Dev nD) : Dat τ (Elt F) Unit ℕ (UR sig nD τ) ℕ (cfgA (F := F) hR) c where
  A w := V m c (Pipeline.arrRef spec0 w)
  after w t := match w with
    | ⟨0, _⟩ => iblk hR m c (0 : Fin 5) t
    | ⟨1, _⟩ => iblk hR m c (1 : Fin 5) t
    | ⟨2, _⟩ => iblk hR m c (2 : Fin 5) t
    | ⟨3, _⟩ => iblk hR m c (3 : Fin 5) t
    | ⟨4, _⟩ => outAt hR m c t
  Φ t := Phi hR m c t
  q _ := fullShare
  owed _ := 0

theorem after0 (c : Dev nD) (t : Fin (cfgA (F := F) hR).N) : (dats hR m 0 c).after (0 : Fin 5) t = iblk hR m c (0 : Fin 5) t := rfl
theorem after1 (c : Dev nD) (t : Fin (cfgA (F := F) hR).N) : (dats hR m 0 c).after (1 : Fin 5) t = iblk hR m c (1 : Fin 5) t := rfl
theorem after2 (c : Dev nD) (t : Fin (cfgA (F := F) hR).N) : (dats hR m 0 c).after (2 : Fin 5) t = iblk hR m c (2 : Fin 5) t := rfl
theorem after3 (c : Dev nD) (t : Fin (cfgA (F := F) hR).N) : (dats hR m 0 c).after (3 : Fin 5) t = iblk hR m c (3 : Fin 5) t := rfl
theorem after4 (c : Dev nD) (t : Fin (cfgA (F := F) hR).N) : (dats hR m 0 c).after (4 : Fin 5) t = outAt hR m c t := rfl

theorem before0 (c : Dev nD) (t : Fin (cfgA (F := F) hR).N) (d) : (dats hR m 0 c).before (0 : Fin 5) t d = iblk hR m c (0 : Fin 5) t :=
  ((dats hR m 0 c).before_in_eq_fetched (0 : Fin 5) rfl (fun _ => rfl) (fun _ _ _ => rfl) (fun t => by rw [after0]; unfold Dat.blockOf iblk; rfl) t d).trans
    (by unfold Dat.fetched Dat.blockOf iblk; rfl)

theorem before1 (c : Dev nD) (t : Fin (cfgA (F := F) hR).N) (d) : (dats hR m 0 c).before (1 : Fin 5) t d = iblk hR m c (1 : Fin 5) t :=
  ((dats hR m 0 c).before_in_eq_fetched (1 : Fin 5) rfl (fun _ => rfl) (fun _ _ _ => rfl) (fun t => by rw [after1]; unfold Dat.blockOf iblk; rfl) t d).trans
    (by unfold Dat.fetched Dat.blockOf iblk; rfl)

theorem before2 (c : Dev nD) (t : Fin (cfgA (F := F) hR).N) (d) : (dats hR m 0 c).before (2 : Fin 5) t d = iblk hR m c (2 : Fin 5) t :=
  ((dats hR m 0 c).before_in_eq_fetched (2 : Fin 5) rfl (fun _ => rfl) (fun _ _ _ => rfl) (fun t => by rw [after2]; unfold Dat.blockOf iblk; rfl) t d).trans
    (by unfold Dat.fetched Dat.blockOf iblk; rfl)

theorem before3 (c : Dev nD) (t : Fin (cfgA (F := F) hR).N) (d) : (dats hR m 0 c).before (3 : Fin 5) t d = iblk hR m c (3 : Fin 5) t :=
  ((dats hR m 0 c).before_in_eq_fetched (3 : Fin 5) rfl (fun _ => rfl) (fun _ _ _ => rfl) (fun t => by rw [after3]; unfold Dat.blockOf iblk; rfl) t d).trans
    (by unfold Dat.fetched Dat.blockOf iblk; rfl)

theorem outAt_zero (c : Dev nD) (t : Fin (cfgA (F := F) hR).N) (h : tvN T1 (t.val / 2) = 0#32) : outAt hR m c t = k0_pay1 (F := F) := by
  unfold outAt; rw [if_neg (by rw [h]; decide)]

/-- Where the output is left alone after a store, it is left with what the store wrote. -/
theorem hcarry (c : Dev nD) : ∀ (t : Fin (cfgA (F := F) hR).N) (ht : t.val ≠ 0), (cfgA (F := F) hR).idle (4 : Fin 5) ((cfgA (F := F) hR).grid.coords t) = true →
    (cfgA (F := F) hR).fresh (4 : Fin 5) t.val = false →
    (dats hR m 0 c).after (4 : Fin 5) t = (dats hR m 0 c).after (4 : Fin 5) ⟨t.val - 1, by omega⟩ := by
  intro t ht hi hf
  rw [fresh_eq] at hf
  unfold frTab at hf
  rw [decide_eq_false_iff_not, not_or] at hf
  have h0 : tvN T1 (t.val / 2) = 0#32 := (tvN_or hR _).resolve_right hf.2
  have e : (t.val - 1) / 2 = t.val / 2 := by omega
  rw [after4, after4, outAt_zero hR m c t h0, outAt_zero hR m c ⟨t.val - 1, by omega⟩ (by show tvN T1 ((t.val - 1) / 2) = _; rw [e]; exact h0)]

theorem before4 (c : Dev nD) (t : Fin (cfgA (F := F) hR).N) (d) :
    (dats hR m 0 c).before (4 : Fin 5) t d = if frTab T1 t.val then d else k0_pay1 (F := F) := by
  rw [(dats hR m 0 c).before_out_traj (4 : Fin 5) rfl (fun _ _ => rfl) (hcarry hR m c) t.val t rfl d, fresh_eq]
  by_cases hf : frTab T1 t.val = true
  · simp only [hf, ↓reduceIte]
  · have hf' := hf
    unfold frTab at hf'
    rw [decide_eq_true_iff, not_or] at hf'
    have h0 : tvN T1 (t.val / 2) = 0#32 := (tvN_or hR _).resolve_right hf'.2
    have e : (t.val - 1) / 2 = t.val / 2 := by omega
    rw [Bool.not_eq_true] at hf
    simp only [hf, Bool.false_eq_true, ↓reduceIte]
    have hlt : t.val - 1 < (cfgA (F := F) hR).N := by omega
    exact (after4 hR m c ⟨t.val - 1, hlt⟩).trans (outAt_zero hR m c ⟨t.val - 1, hlt⟩ (by show tvN T1 ((t.val - 1) / 2) = _; rw [e]; exact h0))

abbrev bodyAt (t : Fin (cfgA (F := F) hR).N) : Prog (TpuEff nD τ sig (Elt F) Λ₀ .tc) PUnit :=
  cc0_grouped_swiglu (crd hR t) tb0 (Memref.isWhole_whole _) tb1 (Memref.isWhole_whole _) tb2 (Memref.isWhole_whole _) (ms0 hR t) (hs0 hR t) (ms1 hR t) (hs1 hR t) (ms2 hR t) (hs2 hR t) (ms3 hR t) (hs3 hR t) (ms4 hR t) (hs4 hR t) sc0 (Memref.isWhole_whole _)

set_option maxHeartbeats 4000000 in
/-- The body's obligation at a point, by the four cases. -/
theorem sound_body (c : Dev nD) (t : Fin (cfgA (F := F) hR).N) :
    iprop((dats hR m 0 c).Φ t.castSucc ∗ (dats hR m 0 c).owesAt () t.castSucc
        ∗ (∃ d, owns (c : Thread nD τ) (ms0 hR t) fullShare ((dats hR m 0 c).before (0 : Fin 5) t d))
        ∗ (∃ d, owns (c : Thread nD τ) (ms1 hR t) fullShare ((dats hR m 0 c).before (1 : Fin 5) t d))
        ∗ (∃ d, owns (c : Thread nD τ) (ms2 hR t) fullShare ((dats hR m 0 c).before (2 : Fin 5) t d))
        ∗ (∃ d, owns (c : Thread nD τ) (ms3 hR t) fullShare ((dats hR m 0 c).before (3 : Fin 5) t d))
        ∗ (∃ d, owns (c : Thread nD τ) (ms4 hR t) fullShare ((dats hR m 0 c).before (4 : Fin 5) t d)))
      ⊢ wp frame (wpE (defs₀ (F := F)) Variants.none c none) Set.univ (bodyAt hR t) fun _ =>
          iprop((dats hR m 0 c).Φ t.succ ∗ (dats hR m 0 c).owesAt () t.succ
            ∗ bigSep Finset.univ fun w : Fin (cfgA (F := F) hR).W =>
                match (cfgA (F := F) hR).idle w ((cfgA (F := F) hR).grid.coords t) with
                | true =>
                  match ((cfgA (F := F) hR).win w).flush t with
                  | false => iprop(∃ d, owns (c : Thread nD τ) (((cfgA (F := F) hR).win w).stage ((cfgA (F := F) hR).slots t w)) fullShare ((dats hR m 0 c).before w t d))
                  | true => owns (c : Thread nD τ) (((cfgA (F := F) hR).win w).stage ((cfgA (F := F) hR).slots t w)) fullShare ((dats hR m 0 c).after w t)
                | false => owns (c : Thread nD τ) (((cfgA (F := F) hR).win w).stage ((cfgA (F := F) hR).slots t w)) fullShare ((dats hR m 0 c).after w t)) := by
  rw [bigSep_W0]
  have hv := tvN_or hR (t.val / 2)
  have hc := Nat.mod_two_eq_zero_or_one t.val
  have ev : T1 (tix (crd hR t)) = tvN T1 (t.val / 2) := tvN_crd T1 t
  have ec : (crd (F := F) hR t 1).val = t.val % 2 := crd1 t
  have n1 := cnd1_iff (F := F) hR (crd hR t)
  have n2 := cnd2_iff (F := F) hR (crd hR t)
  have n3 := cnd3_iff (F := F) hR (crd hR t)
  rw [ev, ec] at n1 n2 n3
  have i4 := idle_eq (F := F) hR t
  have f4 := flush_eq (F := F) hR t
  have fr4 : frTab T1 t.val = decide (t.val % 2 = 0 ∨ tvN T1 (t.val / 2) = 1#32) := rfl
  rcases hv with hv | hv <;> rcases hc with hc | hc <;> rw [hv, hc] at n1 n2 n3 i4 fr4 <;> rw [hc] at f4
  · have h1 : cnd1 (F := F) (crd hR t) T1 := n1.mpr (by decide)
    have h2 : ¬ cnd2 (F := F) (crd hR t) T1 := (fun h => absurd (n2.mp h) (by decide))
    have h3 : ¬ cnd3 (F := F) (crd hR t) T1 := (fun h => absurd (n3.mp h) (by decide))
    replace i4 := i4.trans (by decide : _ = false)
    replace f4 := f4.trans (by decide : _ = false)
    replace fr4 := fr4.trans (by decide : _ = true)
    rewrite [i4]
    simp only [before0, before1, before2, before3, before4, after0, after1, after2, after3, after4, f4, fr4]
    simp only [Bool.false_eq_true, ↓reduceIte]
    rewrite [show (dats hR m 0 c).Φ t.succ = Phi hR m c t.succ from rfl, show (dats hR m 0 c).Φ t.castSucc = Phi hR m c t.castSucc from rfl,
      show (dats hR m 0 c).owesAt () t.succ = (dats hR m 0 c).owesAt () t.castSucc from rfl]
    unfold Phi; simp only [Fin.val_castSucc, Fin.val_succ]
    iintro ⟨⟨⟨%a0, %ha0, HS0⟩, HT0, HT1, HT2, HP⟩, Ho, ⟨%d0, H0⟩, ⟨%d1, H1⟩, ⟨%d2, H2⟩, ⟨%d3, H3⟩, ⟨%d4, H4⟩⟩
    iapply ((runZ (F := F) c (crd hR t) (ms0 hR t) (hs0 hR t) (ms1 hR t) (hs1 hR t) (ms2 hR t) (hs2 hR t) (ms3 hR t) (hs3 hR t) (ms4 hR t) (hs4 hR t) T0 T1 T2 (iblk hR m c (0 : Fin 5) t) (iblk hR m c (1 : Fin 5) t) (iblk hR m c (2 : Fin 5) t) (iblk hR m c (3 : Fin 5) t) h1 h2 h3).2 a0 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [HT2]; · iexact HT2
    isplitl [H4]; · iexists _; iexact H4
    isplitl [HS0]; · iexact HS0
    iintro ⟨H0, H1, H2, H3, HT0, HT1, HT2, ⟨%e4, H4⟩, HS0⟩
    isplitl [HS0 HT0 HT1 HT2 HP]
    · isplitl [HS0]
      · iexists _; isplitr; swap
        · iexact HS0
        · ipureintro; intro n h e _ hn; obtain rfl : t.val = n := by omega
          rw [hv] at hn; exact absurd hn (by decide)
      isplitl [HT0]; · iexact HT0
      isplitl [HT1]; · iexact HT1
      isplitl [HT2]; · iexact HT2
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact (runZ_read c (crd hR t) (ms0 hR t) (hs0 hR t) (ms1 hR t) (hs1 hR t) (ms2 hR t) (hs2 hR t) (ms3 hR t) (hs3 hR t) (ms4 hR t) (hs4 hR t) T0 T1 T2 (iblk hR m c (0 : Fin 5) t) (iblk hR m c (1 : Fin 5) t) (iblk hR m c (2 : Fin 5) t) (iblk hR m c (3 : Fin 5) t) h1 h2 h3 (ms4 hR t).view e4).trans (outAt_zero hR m c t hv).symm
  · have h1 : ¬ cnd1 (F := F) (crd hR t) T1 := (fun h => absurd (n1.mp h) (by decide))
    have h2 : ¬ cnd2 (F := F) (crd hR t) T1 := (fun h => absurd (n2.mp h) (by decide))
    have h3 : ¬ cnd3 (F := F) (crd hR t) T1 := (fun h => absurd (n3.mp h) (by decide))
    replace i4 := i4.trans (by decide : _ = true)
    replace f4 := f4.trans (by decide : _ = true)
    replace fr4 := fr4.trans (by decide : _ = false)
    rewrite [i4]
    simp only [before0, before1, before2, before3, before4, after0, after1, after2, after3, after4, f4, fr4]
    simp only [Bool.false_eq_true, ↓reduceIte]
    rewrite [show (dats hR m 0 c).Φ t.succ = Phi hR m c t.succ from rfl, show (dats hR m 0 c).Φ t.castSucc = Phi hR m c t.castSucc from rfl,
      show (dats hR m 0 c).owesAt () t.succ = (dats hR m 0 c).owesAt () t.castSucc from rfl]
    unfold Phi; simp only [Fin.val_castSucc, Fin.val_succ]
    iintro ⟨⟨⟨%a0, %ha0, HS0⟩, HT0, HT1, HT2, HP⟩, Ho, ⟨%d0, H0⟩, ⟨%d1, H1⟩, ⟨%d2, H2⟩, ⟨%d3, H3⟩, ⟨%d4, H4⟩⟩
    iapply (runI (F := F) c (crd hR t) (ms0 hR t) (hs0 hR t) (ms1 hR t) (hs1 hR t) (ms2 hR t) (hs2 hR t) (ms3 hR t) (hs3 hR t) (ms4 hR t) (hs4 hR t) T0 T1 T2 (iblk hR m c (0 : Fin 5) t) (iblk hR m c (1 : Fin 5) t) (iblk hR m c (2 : Fin 5) t) (iblk hR m c (3 : Fin 5) t) h1 h2 h3 (k0_pay1 (F := F)) a0 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [HT2]; · iexact HT2
    isplitl [H4]; · iexact H4
    isplitl [HS0]; · iexact HS0
    iintro ⟨H0, H1, H2, H3, HT0, HT1, HT2, H4, HS0⟩
    isplitl [HS0 HT0 HT1 HT2 HP]
    · isplitl [HS0]
      · iexists _; isplitr; swap
        · iexact HS0
        · ipureintro; intro n h e h0; omega
      isplitl [HT0]; · iexact HT0
      isplitl [HT1]; · iexact HT1
      isplitl [HT2]; · iexact HT2
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    rw [outAt_zero hR m c t hv]
    iexact H4
  · have h1 : ¬ cnd1 (F := F) (crd hR t) T1 := (fun h => absurd (n1.mp h) (by decide))
    have h2 : cnd2 (F := F) (crd hR t) T1 := n2.mpr (by decide)
    have h3 : ¬ cnd3 (F := F) (crd hR t) T1 := (fun h => absurd (n3.mp h) (by decide))
    replace i4 := i4.trans (by decide : _ = true)
    replace f4 := f4.trans (by decide : _ = false)
    replace fr4 := fr4.trans (by decide : _ = true)
    rewrite [i4]
    simp only [before0, before1, before2, before3, before4, after0, after1, after2, after3, after4, f4, fr4]
    simp only [Bool.false_eq_true, ↓reduceIte]
    rewrite [show (dats hR m 0 c).Φ t.succ = Phi hR m c t.succ from rfl, show (dats hR m 0 c).Φ t.castSucc = Phi hR m c t.castSucc from rfl,
      show (dats hR m 0 c).owesAt () t.succ = (dats hR m 0 c).owesAt () t.castSucc from rfl]
    unfold Phi; simp only [Fin.val_castSucc, Fin.val_succ]
    iintro ⟨⟨⟨%a0, %ha0, HS0⟩, HT0, HT1, HT2, HP⟩, Ho, ⟨%d0, H0⟩, ⟨%d1, H1⟩, ⟨%d2, H2⟩, ⟨%d3, H3⟩, ⟨%d4, H4⟩⟩
    iapply ((runA (F := F) c (crd hR t) (ms0 hR t) (hs0 hR t) (ms1 hR t) (hs1 hR t) (ms2 hR t) (hs2 hR t) (ms3 hR t) (hs3 hR t) (ms4 hR t) (hs4 hR t) T0 T1 T2 (iblk hR m c (0 : Fin 5) t) (iblk hR m c (1 : Fin 5) t) (iblk hR m c (2 : Fin 5) t) (iblk hR m c (3 : Fin 5) t) h1 h2 h3).2 d4 a0 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [HT2]; · iexact HT2
    isplitl [H4]; · iexact H4
    isplitl [HS0]; · iexact HS0
    iintro ⟨H0, H1, H2, H3, HT0, HT1, HT2, H4, HS0⟩
    isplitl [HS0 HT0 HT1 HT2 HP]
    · isplitl [HS0]
      · iexists _; isplitr; swap
        · iexact HS0
        · ipureintro; intro n h e _ _; obtain rfl : t.val = n := by omega
          exact runA_eq c (crd hR t) (ms0 hR t) (hs0 hR t) (ms1 hR t) (hs1 hR t) (ms2 hR t) (hs2 hR t) (ms3 hR t) (hs3 hR t) (ms4 hR t) (hs4 hR t) T0 T1 T2 (iblk hR m c (0 : Fin 5) t) (iblk hR m c (1 : Fin 5) t) (iblk hR m c (2 : Fin 5) t) (iblk hR m c (3 : Fin 5) t) h1 h2 h3
      isplitl [HT0]; · iexact HT0
      isplitl [HT1]; · iexact HT1
      isplitl [HT2]; · iexact HT2
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    iexists d4; iexact H4
  · have h1 : ¬ cnd1 (F := F) (crd hR t) T1 := (fun h => absurd (n1.mp h) (by decide))
    have h2 : ¬ cnd2 (F := F) (crd hR t) T1 := (fun h => absurd (n2.mp h) (by decide))
    have h3 : cnd3 (F := F) (crd hR t) T1 := n3.mpr (by decide)
    replace i4 := i4.trans (by decide : _ = false)
    replace f4 := f4.trans (by decide : _ = true)
    replace fr4 := fr4.trans (by decide : _ = true)
    rewrite [i4]
    simp only [before0, before1, before2, before3, before4, after0, after1, after2, after3, after4, f4, fr4]
    simp only [Bool.false_eq_true, ↓reduceIte]
    rewrite [show (dats hR m 0 c).Φ t.succ = Phi hR m c t.succ from rfl, show (dats hR m 0 c).Φ t.castSucc = Phi hR m c t.castSucc from rfl,
      show (dats hR m 0 c).owesAt () t.succ = (dats hR m 0 c).owesAt () t.castSucc from rfl]
    unfold Phi; simp only [Fin.val_castSucc, Fin.val_succ]
    iintro ⟨⟨⟨%a0, %ha0, HS0⟩, HT0, HT1, HT2, HP⟩, Ho, ⟨%d0, H0⟩, ⟨%d1, H1⟩, ⟨%d2, H2⟩, ⟨%d3, H3⟩, ⟨%d4, H4⟩⟩
    have ht1 : t.val - 1 < (cfgA (F := F) hR).N := by omega
    obtain rfl : a0 = pA hR m c ⟨t.val - 1, ht1⟩ := ha0 (t.val - 1) ht1 (by omega) (by omega) (by rw [show (t.val - 1) / 2 = t.val / 2 by omega]; exact hv)
    iapply ((runB (F := F) c (crd hR t) (ms0 hR t) (hs0 hR t) (ms1 hR t) (hs1 hR t) (ms2 hR t) (hs2 hR t) (ms3 hR t) (hs3 hR t) (ms4 hR t) (hs4 hR t) T0 T1 T2 (iblk hR m c (0 : Fin 5) t) (iblk hR m c (1 : Fin 5) t) (iblk hR m c (2 : Fin 5) t) (iblk hR m c (3 : Fin 5) t) (pA hR m c ⟨t.val - 1, ht1⟩) h1 h2 h3).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [HT2]; · iexact HT2
    isplitl [H4]; · iexists _; iexact H4
    isplitl [HS0]; · iexact HS0
    iintro ⟨H0, H1, H2, H3, HT0, HT1, HT2, ⟨%e4, H4⟩, HS0⟩
    isplitl [HS0 HT0 HT1 HT2 HP]
    · isplitl [HS0]
      · iexists _; isplitr; swap
        · iexact HS0
        · ipureintro; intro n h e h0; omega
      isplitl [HT0]; · iexact HT0
      isplitl [HT1]; · iexact HT1
      isplitl [HT2]; · iexact HT2
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro
      refine (runB_read c (crd hR t) (ms0 hR t) (hs0 hR t) (ms1 hR t) (hs1 hR t) (ms2 hR t) (hs2 hR t) (ms3 hR t) (hs3 hR t) (ms4 hR t) (hs4 hR t) T0 T1 T2 (iblk hR m c (0 : Fin 5) t) (iblk hR m c (1 : Fin 5) t) (iblk hR m c (2 : Fin 5) t) (iblk hR m c (3 : Fin 5) t) (pA hR m c ⟨t.val - 1, ht1⟩) h1 h2 h3 (ms4 hR t).view e4).trans ?_
      unfold outAt; rw [if_pos hv]

theorem body_obligation (c : Dev nD) : BodyObligation (dats hR m 0 c) (defs₀ (F := F)) Variants.none () Set.univ := fun t => by
  rw [bigSep_W0]
  exact sound_body hR m c t

end Cert.Moe.Run

end
-- ==== Proof.MoeLaunch.lean ====
module

public import proofs.«01_k».proof.Proof.MoeCert
public import Idealize.ShloMosaic.Lib.Pipeline.ValueKit

@[expose] public section

set_option maxRecDepth 16384
set_option Elab.async false

noncomputable section

namespace Cert.Moe.Run

open Cert.Moe Cert.Moe.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The launch: every run ends with the output array at the blocks the pipeline wrote back -/

variable {T0 T1 T2 : S136.Idx → BitVec 32} (hR : Rng T0 T1 T2)
variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor

theorem V_keep (c : Dev nD) (b : Ref sig .tc) (h0 : b ≠ main_v0) (h1 : b ≠ main_v1) (h2 : b ≠ main_v2) : V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

theorem share_eq (c : Dev nD) (w : Fin (cfgA (F := F) hR).W) : (dats hR m 0 c).share w = fullShare := by unfold Dat.share; split <;> rfl

theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem phi_intro (c : Dev nD) :
    iprop(Pipeline.ΦA (U := UR sig nD τ) (Val := Elt F) spec0 c ∗ Pipeline.ΦT (U := UR sig nD τ) pre0 (adm (F := F) hR).1 c) ⊢ (dats hR m 0 c).Φ 0 := by
  unfold Pipeline.ΦA Pipeline.ΦT
  rw [prefHeld_eq, scopedRest0_eq, show (dats hR m 0 c).Φ 0 = Phi hR m c 0 from rfl]
  unfold Phi
  iintro ⟨⟨⟨%a0, HS0⟩, HP⟩, HT0, HT1, HT2⟩
  isplitl [HS0]
  · iexists a0; isplitr; swap
    · iexact HS0
    · ipureintro; intro n h e; exact absurd e (by simp)
  isplitl [HT0]; · iexact HT0
  isplitl [HT1]; · iexact HT1
  isplitl [HT2]; · iexact HT2
  iexact HP

theorem phi_exit (c : Dev nD) : (dats hR m 0 c).Φ (Fin.last (cfgA (F := F) hR).N) ⊢ Pipeline.ΦA (U := UR sig nD τ) (Val := Elt F) spec0 c := by
  unfold Pipeline.ΦA
  rw [scopedRest0_eq, show (dats hR m 0 c).Φ (Fin.last (cfgA (F := F) hR).N) = Phi hR m c (Fin.last _) from rfl]
  unfold Phi
  iintro ⟨⟨%a0, -, HS0⟩, -, -, -, HP⟩
  isplitl [HS0]
  · iexists a0; iexact HS0
  iexact HP

/-- The launch memory's tables are these. -/
def Holds (T0 T1 T2 : S136.Idx → BitVec 32) : Prop :=
  ∀ c : Dev nD, m ((c : Thread nD τ).loc main_arg0) = T0 ∧ m ((c : Thread nD τ).loc main_arg1) = T1 ∧ m ((c : Thread nD τ).loc main_arg2) = T2

theorem V_pre (hm : Holds m T0 T1 T2) (c : Dev nD) (k : Fin 3) : V m c (pre0.ref k) = (adm (F := F) hR).1 k := by
  fin_cases k
  · exact (V_keep m c main_arg0 (by decide) (by decide) (by decide)).trans (hm c).1
  · exact (V_keep m c main_arg1 (by decide) (by decide) (by decide)).trans (hm c).2.1
  · exact (V_keep m c main_arg2 (by decide) (by decide) (by decide)).trans (hm c).2.2

set_option backward.isDefEq.respectTransparency.types false in
set_option maxHeartbeats 4000000 in
theorem run_main (hm : Holds m T0 T1 T2) :
    θ_run (defs (F := F)) (onTc (τ := τ) (main (F := F))) (s₀ m ρ)
      (fun r => Pipeline.FramePost (pcs (F := F) hR) (dats hR m) 0 (V m) r ∧ r.2.sem = fun _ => 0) :=
  Pipeline.θ_run_frameP_track (Q' := _) (pcfgs (F := F)) (fun _ => adm hR) (dats hR m) 0 (launch0 (F := F)) defs₀ Variants.none m ρ main
    (fun c => (body_obligation hR m c).loose) (share_eq hR m) (fun _ _ => rfl) (V m)
    (Pipeline.hmainP_prefix (pcfgs (F := F)) 0 defs₀ Variants.none m main hostOps0 hostOps0_sub hostOps0_fresh main_chain)
    (fun _ _ => rfl) (V_pre hR m hm) (phi_intro hR m) (phi_exit hR m)

/-- Every run: the output array at the blocks written back, the arguments unchanged, the counters at zero. -/
theorem run (hm : Holds m T0 T1 T2) :
    θ_run (defs (F := F)) (onTc (τ := τ) (main (F := F))) ⟨m, fun _ => 0, ρ⟩ (fun r => (∀ c : Dev nD,
      r.2.mem ((c.tc : Thread nD τ).loc main_v3) = (dats hR m 0 c).arrAt (4 : Fin 5) (cfgA (F := F) hR).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨(h.1 c).1 (4 : Fin 5),
      ((h.1 c).2 main_arg0 (Pipeline.mem_restRefs_of main_arg0 (by decide) (show ∀ w : Fin 5, (spec0 w).arr.view.ref ≠ main_arg0 from by decide))).trans (V_keep m c main_arg0 (by decide) (by decide) (by decide)),
      ((h.1 c).2 main_arg1 (Pipeline.mem_restRefs_of main_arg1 (by decide) (show ∀ w : Fin 5, (spec0 w).arr.view.ref ≠ main_arg1 from by decide))).trans (V_keep m c main_arg1 (by decide) (by decide) (by decide)),
      ((h.1 c).2 main_arg2 (Pipeline.mem_restRefs_of main_arg2 (by decide) (show ∀ w : Fin 5, (spec0 w).arr.view.ref ≠ main_arg2 from by decide))).trans (V_keep m c main_arg2 (by decide) (by decide) (by decide)),
      (((h.1 c).1 (0 : Fin 5)).trans ((dats hR m 0 c).arrAt_in (0 : Fin 5) rfl _)).trans (V_keep m c main_arg3 (by decide) (by decide) (by decide)),
      ((h.1 c).2 main_arg4 (Pipeline.mem_restRefs_of main_arg4 (by decide) (show ∀ w : Fin 5, (spec0 w).arr.view.ref ≠ main_arg4 from by decide))).trans (V_keep m c main_arg4 (by decide) (by decide) (by decide)),
      ((h.1 c).2 main_arg5 (Pipeline.mem_restRefs_of main_arg5 (by decide) (show ∀ w : Fin 5, (spec0 w).arr.view.ref ≠ main_arg5 from by decide))).trans (V_keep m c main_arg5 (by decide) (by decide) (by decide)),
      ((h.1 c).2 main_arg6 (Pipeline.mem_restRefs_of main_arg6 (by decide) (show ∀ w : Fin 5, (spec0 w).arr.view.ref ≠ main_arg6 from by decide))).trans (V_keep m c main_arg6 (by decide) (by decide) (by decide))⟩, h.2⟩) (run_main hR m ρ hm)

end Cert.Moe.Run

end
-- ==== Proof.MoePre.lean ====
/- What the precondition on the tables says, and the two frames of the grouped call. -/
module

public import proofs.«01_k».proof.Defs
public import proofs.«01_k».proof.Proof.MoeLaunch
public import proofs.«01_k».proof.Proof.Gen.Pre_in_range
public import proofs.«01_k».proof.Proof.Gen.MoeIdeal

@[expose] public section

noncomputable section

namespace Cert.MoeP

open Idealize.ShloMosaic Idealize.ShloMosaic.TcCoe Idealize.SL.Sem

theorem and_one (a b : Bool) (h : (BitVec.ofBool a &&& BitVec.ofBool b) = 1#1) : a = true ∧ b = true := by
  revert h; cases a <;> cases b <;> decide

theorem and_bool (a b : Bool) : (BitVec.ofBool a &&& BitVec.ofBool b) = BitVec.ofBool (a && b) := by
  cases a <;> cases b <;> rfl

theorem nonneg_toNat (a : BitVec 32) (n : ℕ) (hn : n < 2 ^ 31) (h0 : (0 : Int) ≤ a.toInt) (h1 : a.toInt < n) : a.toNat < n := by
  rw [BitVec.toInt_eq_toNat_cond] at h0 h1
  have := a.isLt
  split at h0 <;> omega

theorem words (a b c : BitVec 32)
    (h : BitVec.ofBool ((0#32).sle a) &&& BitVec.ofBool (a.slt 8#32) &&& BitVec.ofBool ((0#32).sle b) &&& BitVec.ofBool (b.sle 1#32)
      &&& BitVec.ofBool ((0#32).sle c) &&& BitVec.ofBool (c.slt 136#32) = 1#1) :
    a.toNat < 8 ∧ (b = 0#32 ∨ b = 1#32) ∧ c.toNat < 136 := by
  simp only [and_bool] at h
  have h' : (((((((0#32).sle a && a.slt 8#32) && (0#32).sle b) && b.sle 1#32) && (0#32).sle c) && c.slt 136#32)) = true := by
    revert h; generalize (((((((0#32).sle a && a.slt 8#32) && (0#32).sle b) && b.sle 1#32) && (0#32).sle c) && c.slt 136#32)) = t
    cases t <;> decide
  simp only [Bool.and_eq_true, BitVec.sle_iff_toInt_le, BitVec.slt_iff_toInt_lt] at h'
  obtain ⟨⟨⟨⟨⟨ha0, ha1⟩, hb0⟩, hb1⟩, hc0⟩, hc1⟩ := h'
  have e0 : (0#32).toInt = 0 := by decide
  have e1 : (1#32).toInt = 1 := by decide
  have e8 : (8#32).toInt = 8 := by decide
  have e136 : (136#32).toInt = 136 := by decide
  rw [e0] at ha0 hb0 hc0; rw [e8] at ha1; rw [e1] at hb1; rw [e136] at hc1
  have hb : b.toNat < 2 := nonneg_toNat b 2 (by decide) hb0 (by omega)
  refine ⟨nonneg_toNat a 8 (by decide) ha0 (by omega), ?_, nonneg_toNat c 136 (by decide) hc0 (by omega)⟩
  rcases (by omega : b.toNat = 0 ∨ b.toNat = 1) with e | e
  · exact Or.inl (BitVec.eq_of_toNat_eq e)
  · exact Or.inr (BitVec.eq_of_toNat_eq e)

/-- The precondition, read: the expert of every tile is below 8, its valid flag 0 or 1, its source tile below 136. -/
theorem rng {F : FTy → Type} [FloatOps F] (T0 T1 T2 : IVec Cert.Pre_in_range.S136 32) (x3 : FVec F Cert.Pre_in_range.S557056x128 .f32)
    (x4 x5 : FVec F Cert.Pre_in_range.S8x1024x3584 .f32) (x6 : FVec F Cert.Pre_in_range.S8x3584x1024 .f32)
    (h : Cert.Pre_in_range.fn (F := F) T0 T1 T2 x3 x4 x5 x6 = fun _ => 1#1) : Cert.Moe.Run.Rng T0 T1 T2 :=
  ⟨fun x => (words (T0 x) (T1 x) (T2 x) (congrFun h x)).1, fun x => (words (T0 x) (T1 x) (T2 x) (congrFun h x)).2.1,
   fun x => (words (T0 x) (T1 x) (T2 x) (congrFun h x)).2.2⟩

theorem dev0 (c : Dev Cert.Moe.nD) : c = (0 : Fin 1) := Fin.ext (by have h : c.val < 1 := c.isLt; show c.val = 0; omega)

theorem frame_p : Cert.quiescent_Moe (hMoe := Cert.Moe.Gen.facts) (hPre_in_range := Cert.Pre_in_range.Gen.facts) := by
  intro m g hp
  have hR := rng (F := Bits) _ _ _ _ _ _ _ (hp (0 : Fin 1))
  exact (θ_run _ _ _).mono (fun _ h => ⟨fun c => (h.1 c).2, h.2⟩)
    (Cert.Moe.Run.run (F := Bits) hR m g (fun c => by rw [dev0 c]; exact ⟨rfl, rfl, rfl⟩))

end Cert.MoeP

end
-- ==== Proof.MoeTwin.lean ====
/- The idealized grouped call has the text of the call itself, so the one run serves both. -/
module

public import proofs.«01_k».proof.Proof.MoePre

@[expose] public section
noncomputable section
namespace Cert.MoeP
open Idealize.ShloMosaic Idealize.ShloMosaic.TcCoe Idealize.SL.Sem
local instance : Cert.Moe.Facts := Cert.Moe.Gen.facts
local instance : Cert.MoeIdeal.Facts := Cert.MoeIdeal.Gen.facts

/-- The two programs have the same text, so one run serves both: their tables of bodies are equal. -/
theorem defs₀_eq : Cert.MoeIdeal.defs₀ (F := Ideal) = Cert.Moe.defs₀ (F := Ideal) := by
  unfold Cert.MoeIdeal.defs₀ Cert.Moe.defs₀
  refine congrArg Defs.onTc (funext fun l => funext fun x => ?_)
  match l, x with
  | ⟨0, _⟩, (t, s) => rfl
  | ⟨_ + 1, h⟩, _ => exact absurd h (Nat.not_lt.2 (Nat.le_add_left _ _))

set_option maxHeartbeats 4000000 in
theorem defs_eq : Cert.MoeIdeal.defs (F := Ideal) = Cert.Moe.defs (F := Ideal) :=
  (show Cert.MoeIdeal.defs (F := Ideal) = Pipeline.defs Cert.Moe.pcfgs (Cert.MoeIdeal.defs₀ (F := Ideal)) from rfl).trans
    (congrArg (Pipeline.defs Cert.Moe.pcfgs) defs₀_eq)

theorem main_eq : Cert.MoeIdeal.main (F := Ideal) = Cert.Moe.main (F := Ideal) := rfl

set_option maxHeartbeats 4000000 in
/-- A run of the one is a run of the other. -/
theorem xfer (s : MemSt Cert.Moe.nD Cert.Moe.τ Cert.Moe.sig (Elt Ideal))
    (Q : PUnit × MemSt Cert.Moe.nD Cert.Moe.τ Cert.Moe.sig (Elt Ideal) → Prop)
    (h : θ_run (Cert.Moe.defs (F := Ideal)) (onTc (τ := Cert.Moe.τ) (Cert.Moe.main (F := Ideal))) s Q) :
    θ_run (Cert.MoeIdeal.defs (F := Ideal)) (onTc (τ := Cert.MoeIdeal.τ) (Cert.MoeIdeal.main (F := Ideal))) s Q := by
  rw [defs_eq]; exact h

theorem frame_pi : Cert.quiescent_MoeIdeal (hMoeIdeal := Cert.MoeIdeal.Gen.facts) (hPre_in_range := Cert.Pre_in_range.Gen.facts) := by
  intro m g hp
  have hR := rng (F := Ideal) _ _ _ _ _ _ _ (hp (0 : Fin 1))
  have key := (θ_run (Cert.Moe.defs (F := Ideal)) _ _).mono (fun _ h => (⟨fun c => (h.1 c).2, h.2⟩ : _ ∧ _))
    (Cert.Moe.Run.run (F := Ideal) hR m g (fun c => by rw [dev0 c]; exact ⟨rfl, rfl, rfl⟩))
  exact xfer _ _ key

end Cert.MoeP

end
-- ==== Proof.MoeSpec.lean ====
/- What the grouped expert call computes, on the extended reals. -/
module

public import Idealize.ShloMosaic.PureOps.Ideal.Laws
public import Idealize.ShloMosaic.Lib.ValueIdx
public import Idealize.ShloMosaic.Lib.IdealHost
public import Mathlib.Algebra.BigOperators.Fin

@[expose] public section

noncomputable section

namespace Cert.MoeV

open Idealize.ShloMosaic Idealize.ShloMosaic.ValueIdx
open scoped BigOperators

/-- The token rows, in rows of 128 lanes: token `n` is rows `8 n ‥ 8 n + 7`. -/
abbrev SX : Shape := ⟨2, ![557056, 128]⟩
/-- The gate and up weights of the eight experts. -/
abbrev SW : Shape := ⟨3, ![8, 1024, 3584]⟩
/-- The down weights. -/
abbrev SD : Shape := ⟨3, ![8, 3584, 1024]⟩
/-- A table of the 136 tiles. -/
abbrev ST : Shape := ⟨1, ![136]⟩

/-- Token `a` of the 512 tokens of tile `s`, its 1024 values. -/
def row (x : SX.Idx → EReal) (s a : ℕ) (d : Fin 1024) : EReal :=
  if h : s < 136 ∧ a < 512 then x (ix2 ⟨(s * 512 + a) * 8 + d.val / 128, by have := d.isLt; omega⟩ ⟨d.val % 128, by omega⟩) else 0

/-- A row times a column of an expert's matrix. -/
def gt (h : Fin 1024 → EReal) (w : SW.Idx → EReal) (e : Fin 8) (n : Fin 3584) : EReal := ∑ d : Fin 1024, h d * w (ix3 e d n)

/-- The gated hidden value: `silu` of the gate times the up value. -/
def mid (h : Fin 1024 → EReal) (wg wu : SW.Idx → EReal) (e : Fin 8) (n : Fin 3584) : EReal :=
  gt h wg e n * Ideal.logistic (gt h wg e n) * gt h wu e n

/-- One expert's layer at a token. -/
def ffn (h : Fin 1024 → EReal) (wg wu : SW.Idx → EReal) (wd : SD.Idx → EReal) (e : Fin 8) (k : Fin 1024) : EReal :=
  ∑ n : Fin 3584, mid h wg wu e n * wd (ix3 e n k)

/-- A tile's word in a table. -/
abbrev word (T : ST.Idx → BitVec 32) (j : ℕ) (h : j < 136) : BitVec 32 := T (ix1 ⟨j, h⟩)

/-- Entry `(r, l)` of the result: tile `r / 4096`'s expert at token `r % 4096 / 8`, or zero at an unused tile. -/
def out (T0 T1 T2 : ST.Idx → BitVec 32) (xs : SX.Idx → EReal) (wg wu : SW.Idx → EReal) (wd : SD.Idx → EReal)
    (r : Fin 557056) (l : Fin 128) : EReal :=
  if word T1 (r.val / 4096) (by omega) = 1#32 then
    (if he : (word T0 (r.val / 4096) (by omega)).toNat < 8 then
      ffn (row xs (word T2 (r.val / 4096) (by omega)).toNat (r.val % 4096 / 8)) wg wu wd ⟨_, he⟩ ⟨r.val % 8 * 128 + l.val, by omega⟩
    else 0)
  else 0

/-- The two halves of the hidden width. -/
theorem sum_halves (f : Fin 3584 → EReal) :
    ∑ n : Fin 3584, f n = ∑ n : Fin 1792, f ⟨n.val, by omega⟩ + ∑ n : Fin 1792, f ⟨1792 + n.val, by omega⟩ :=
  Fin.sum_univ_add (a := 1792) (b := 1792) f

end Cert.MoeV

end
-- ==== Proof.MoeTile.lean ====
/- The grouped call's tile arithmetic read at an entry, on the extended reals. -/
module

public import proofs.«01_k».proof.Proof.MoeClosed
public import proofs.«01_k».proof.Proof.MoeSpec
public import Idealize.ShloMosaic.Lib.ValueLayout
public import Idealize.ShloMosaic.Lib.ValueLayoutCasts
public import Idealize.ShloMosaic.Lib.MatmulPlain
public import Idealize.ShloMosaic.Lib.Pipeline.Value

@[expose] public section

set_option maxRecDepth 65536

noncomputable section

namespace Cert.MoeV

open Cert.Moe Cert.Moe.Gen Cert.Moe.Run Idealize.ShloMosaic.TcCoe Idealize.ShloMosaic.ValueIdx Idealize.SL.Sem
open Idealize.ShloMosaic hiding ix1 ix2 ix3
open scoped BigOperators

/-- Among pieces all of width `w`, position `c` lies in piece `c / w` at offset `c % w`. -/
theorem locate_even (w : ℕ) (hw : 0 < w) : ∀ (ns : List ℕ) (_ : ∀ x ∈ ns, x = w) (c : ℕ) (h : c < ns.sum),
    ((locate ns c h).1 : ℕ) = c / w ∧ ((locate ns c h).2 : ℕ) = c % w
  | [], _, _, h => absurd h (by simp)
  | n :: ns, hns, c, h => by
    obtain rfl : n = w := hns n (by simp)
    by_cases hc : c < n
    · rw [locate, dif_pos hc, Nat.div_eq_of_lt hc, Nat.mod_eq_of_lt hc]; exact ⟨rfl, rfl⟩
    · rw [locate, dif_neg hc]
      obtain ⟨i1, i2⟩ := locate_even n hw ns (fun x hx => hns x (by simp [hx])) (c - n) (by rw [List.sum_cons] at h; omega)
      rw [Nat.div_eq_sub_div hw (Nat.le_of_not_lt hc), Nat.mod_eq_sub_mod (Nat.le_of_not_lt hc)]
      exact ⟨by rw [← i1]; rfl, i2⟩

/-- A concatenation of pieces all of width `w`: the entry at `j` is `v` if the piece `j` names has `v` at the offset. -/
theorem cat_even {α : Type} {t : Shape} (a : Fin t.rank) (xs : List ((s : Shape) × (s.Idx → α)))
    (h : Shape.Concatenates (xs.map (·.1)) t a) (j : t.Idx) (v : α) (w : ℕ) (hw : 0 < w)
    (hu : ∀ s ∈ xs.map (·.1), (if h : s.rank = t.rank then s.size (a.cast h.symm) else 0) = w)
    (H : ∀ (k : ℕ) (hk : k < xs.length) (hr : xs[k].1.rank = t.rank) (i : xs[k].1.Idx), (j a : ℕ) / w = k →
      (i (a.cast hr.symm) : ℕ) = (j a : ℕ) % w → (∀ b : Fin t.rank, b ≠ a → (i (b.cast hr.symm) : ℕ) = j b) → xs[k].2 i = v) :
    concatenate t a xs h j = v := by
  unfold concatenate
  dsimp only
  have E := locate_even w hw ((xs.map (·.1)).map fun s => if h : s.rank = t.rank then s.size (a.cast h.symm) else 0)
    (fun x hx => by
      obtain ⟨s, hs, rfl⟩ := List.mem_map.mp hx
      exact hu s hs) (j a).val (by rw [h.2.2]; exact (j a).isLt)
  refine H _ (lt_of_lt_of_eq (locate _ (j a).val _).1.isLt (by rw [List.length_map, List.length_map])) ((h.2.1 _ (List.mem_map.2 ⟨_, List.getElem_mem _, rfl⟩)).1) _ E.1.symm ?_ ?_
  · exact (congrArg Fin.val (dif_pos (Fin.ext rfl))).trans E.2
  · intro b hb
    exact (congrArg Fin.val (dif_neg (fun hc => hb (Fin.ext (congrArg Fin.val hc))))).trans rfl

/-- The row of 1024 values that eight strided reads of 128 lanes give. -/
theorem cat_rows (x0 : S4096x128.Idx → EReal) (a : Fin 512) (d : Fin 1024) :
    concatenate S512x1024 1 [⟨S512x128, ev (F := Ideal) (e := .f32) x0 0 inb_S4096x128_S512x128_0_0_s_8_1⟩, ⟨S512x128, ev (F := Ideal) (e := .f32) x0 1 inb_S4096x128_S512x128_1_0_s_8_1⟩,
      ⟨S512x128, ev (F := Ideal) (e := .f32) x0 2 inb_S4096x128_S512x128_2_0_s_8_1⟩, ⟨S512x128, ev (F := Ideal) (e := .f32) x0 3 inb_S4096x128_S512x128_3_0_s_8_1⟩,
      ⟨S512x128, ev (F := Ideal) (e := .f32) x0 4 inb_S4096x128_S512x128_4_0_s_8_1⟩, ⟨S512x128, ev (F := Ideal) (e := .f32) x0 5 inb_S4096x128_S512x128_5_0_s_8_1⟩,
      ⟨S512x128, ev (F := Ideal) (e := .f32) x0 6 inb_S4096x128_S512x128_6_0_s_8_1⟩, ⟨S512x128, ev (F := Ideal) (e := .f32) x0 7 inb_S4096x128_S512x128_7_0_s_8_1⟩]
      concatenates_S512x128_S512x128_S512x128_S512x128_S512x128_S512x128_S512x128_S512x128_S512x1024_d1 (ix2 a d)
    = x0 (ix2 ⟨8 * a.val + d.val / 128, by omega⟩ ⟨d.val % 128, by omega⟩) := by
  have key : ∀ (k : ℕ) (inb) (i : S512x128.Idx), d.val / 128 = k → (i 1).val = d.val % 128 → (i 0).val = a.val →
      ev (F := Ideal) (e := .f32) x0 k inb i = x0 (ix2 ⟨8 * a.val + d.val / 128, by omega⟩ ⟨d.val % 128, by omega⟩) := by
    intro k inb i hk h1 h0
    refine congrArg x0 (funext fun b => Fin.ext ?_)
    match b with
    | ⟨0, _⟩ => show k + 8 * (i 0).val = 8 * a.val + d.val / 128; omega
    | ⟨1, _⟩ => show 0 + 1 * (i 1).val = d.val % 128; omega
  refine cat_even 1 _ _ (ix2 a d) _ 128 (by norm_num) ?_ ?_
  · intro s hs
    simp only [List.map, List.mem_cons, List.not_mem_nil, or_false, or_self] at hs
    subst hs; rfl
  · intro k hk hr i hj h1 h0
    have h0' := h0 0 (by decide)
    match k, hk with
    | 0, _ => exact key 0 _ i hj h1 h0'
    | 1, _ => exact key 1 _ i hj h1 h0'
    | 2, _ => exact key 2 _ i hj h1 h0'
    | 3, _ => exact key 3 _ i hj h1 h0'
    | 4, _ => exact key 4 _ i hj h1 h0'
    | 5, _ => exact key 5 _ i hj h1 h0'
    | 6, _ => exact key 6 _ i hj h1 h0'
    | 7, _ => exact key 7 _ i hj h1 h0'
    | k + 8, hk => exact absurd hk (by simp)

/-- A product of a row and a half's column. -/
def gA (h : Fin 1024 → EReal) (w : S1x1024x1792.Idx → EReal) (n : Fin 1792) : EReal := ∑ d : Fin 1024, h d * w (ix3 0 d n)

/-- The half's product at an entry. -/
def ffA (h : Fin 1024 → EReal) (x1 x2 : S1x1024x1792.Idx → EReal) (x3 : S1x1792x1024.Idx → EReal) (k : Fin 1024) : EReal :=
  ∑ n : Fin 1792, gA h x1 n * Ideal.logistic (gA h x1 n) * gA h x2 n * x3 (ix3 0 n k)

/-- A row of the staged block. -/
def rowA (x0 : S4096x128.Idx → EReal) (a : Fin 512) (d : Fin 1024) : EReal :=
  x0 (ix2 ⟨8 * a.val + d.val / 128, by omega⟩ ⟨d.val % 128, by omega⟩)

theorem mm_gate (X : FVec Ideal S512x1024 .bf16) (w : S1x1024x1792.Idx → EReal) (h : Fin 1024 → EReal) (a : Fin 512)
    (hX : ∀ d, X (ix2 a d) = h d) (n : Fin 1792) :
    matmul dot_S512x1024_S1024x1792_S512x1792_1_0_0_1_n_n none X
      (shapeCast S1024x1792 w shapeCasts_S1x1024x1792_S1024x1792 : FVec Ideal S1024x1792 .bf16)
      (constant S512x1792 .f32 0x00000000#32) (ix2 a n) = gA h w n := by
  refine (Ideal.matmul_plain_apply none X _ _ a n).trans ?_
  rw [ValueIdx.constant_apply, Ideal.ofBits_zero_f32, zero_add]
  unfold gA
  refine Finset.sum_congr rfl fun d _ => ?_
  rw [hX d]
  refine congrArg (h d * ·) ?_
  refine shapeCast_apply _ _ _ _ ?_
  rw [Shape.rowMajor_val_two, Shape.rowMajor_val_three]
  show (0 * 1024 + d.val) * 1792 + n.val = d.val * 1792 + n.val
  omega

theorem mm_down (X : FVec Ideal S512x1792 .bf16) (w : S1x1792x1024.Idx → EReal) (h : Fin 1792 → EReal) (a : Fin 512)
    (hX : ∀ d, X (ix2 a d) = h d) (n : Fin 1024) :
    matmul dot_S512x1792_S1792x1024_S512x1024_1_0_0_1_n_n none X
      (shapeCast S1792x1024 w shapeCasts_S1x1792x1024_S1792x1024 : FVec Ideal S1792x1024 .bf16)
      (constant S512x1024 .f32 0x00000000#32) (ix2 a n) = ∑ d : Fin 1792, h d * w (ix3 0 d n) := by
  refine (Ideal.matmul_plain_apply none X _ _ a n).trans ?_
  rw [ValueIdx.constant_apply, Ideal.ofBits_zero_f32, zero_add]
  refine Finset.sum_congr rfl fun d _ => ?_
  rw [hX d]
  refine congrArg (h d * ·) ?_
  refine shapeCast_apply _ _ _ _ ?_
  rw [Shape.rowMajor_val_two, Shape.rowMajor_val_three]
  show (0 * 1792 + d.val) * 1024 + n.val = d.val * 1024 + n.val
  omega

/-- The staged rows put side by side, as the body forms them. -/
def cat (x0 : S4096x128.Idx → EReal) : FVec Ideal S512x1024 .bf16 :=
  truncf .bf16 (concatenate S512x1024 1 [⟨S512x128, ev (F := Ideal) (e := .f32) x0 0 inb_S4096x128_S512x128_0_0_s_8_1⟩, ⟨S512x128, ev (F := Ideal) (e := .f32) x0 1 inb_S4096x128_S512x128_1_0_s_8_1⟩,
      ⟨S512x128, ev (F := Ideal) (e := .f32) x0 2 inb_S4096x128_S512x128_2_0_s_8_1⟩, ⟨S512x128, ev (F := Ideal) (e := .f32) x0 3 inb_S4096x128_S512x128_3_0_s_8_1⟩,
      ⟨S512x128, ev (F := Ideal) (e := .f32) x0 4 inb_S4096x128_S512x128_4_0_s_8_1⟩, ⟨S512x128, ev (F := Ideal) (e := .f32) x0 5 inb_S4096x128_S512x128_5_0_s_8_1⟩,
      ⟨S512x128, ev (F := Ideal) (e := .f32) x0 6 inb_S4096x128_S512x128_6_0_s_8_1⟩, ⟨S512x128, ev (F := Ideal) (e := .f32) x0 7 inb_S4096x128_S512x128_7_0_s_8_1⟩]
      concatenates_S512x128_S512x128_S512x128_S512x128_S512x128_S512x128_S512x128_S512x128_S512x1024_d1 : FVec Ideal S512x1024 .f32) bitsLt_bf16_f32

theorem cat_apply (x0 : S4096x128.Idx → EReal) (a : Fin 512) (d : Fin 1024) : cat x0 (ix2 a d) = rowA x0 a d := by
  unfold cat
  exact cat_rows x0 a d

/-- The gate and up products, as the body forms them. -/
def gup (x0 : S4096x128.Idx → EReal) (w : S1x1024x1792.Idx → EReal) : FVec Ideal S512x1792 .f32 :=
  matmul dot_S512x1024_S1024x1792_S512x1792_1_0_0_1_n_n none (cat x0)
      (shapeCast S1024x1792 w shapeCasts_S1x1024x1792_S1024x1792 : FVec Ideal S1024x1792 .bf16)
      (constant S512x1792 .f32 0x00000000#32)

theorem gup_apply (x0 : S4096x128.Idx → EReal) (w : S1x1024x1792.Idx → EReal) (a : Fin 512) (n : Fin 1792) :
    gup x0 w (ix2 a n) = gA (rowA x0 a) w n := by
  unfold gup
  exact mm_gate (cat x0) w (rowA x0 a) a (cat_apply x0 a) n

/-- The gated hidden values, as the body forms them. -/
def hid (x0 : S4096x128.Idx → EReal) (x1 x2 : S1x1024x1792.Idx → EReal) : FVec Ideal S512x1792 .bf16 :=
  truncf .bf16 (mulf (mulf (gup x0 x1) (logistic (gup x0 x1))) (gup x0 x2)) bitsLt_bf16_f32

theorem hid_apply (x0 : S4096x128.Idx → EReal) (x1 x2 : S1x1024x1792.Idx → EReal) (a : Fin 512) (n : Fin 1792) :
    hid x0 x1 x2 (ix2 a n) = gA (rowA x0 a) x1 n * Ideal.logistic (gA (rowA x0 a) x1 n) * gA (rowA x0 a) x2 n := by
  rw [← gup_apply x0 x1 a n, ← gup_apply x0 x2 a n]
  unfold hid
  rfl

/-- The half's product, as the body forms it. -/
def prod (x0 : S4096x128.Idx → EReal) (x1 x2 : S1x1024x1792.Idx → EReal) (x3 : S1x1792x1024.Idx → EReal) : FVec Ideal S512x1024 .f32 :=
  matmul dot_S512x1792_S1792x1024_S512x1024_1_0_0_1_n_n none (hid x0 x1 x2)
      (shapeCast S1792x1024 x3 shapeCasts_S1x1792x1024_S1792x1024 : FVec Ideal S1792x1024 .bf16)
      (constant S512x1024 .f32 0x00000000#32)

theorem prod_apply (x0 : S4096x128.Idx → EReal) (x1 x2 : S1x1024x1792.Idx → EReal) (x3 : S1x1792x1024.Idx → EReal)
    (a : Fin 512) (k : Fin 1024) : prod x0 x1 x2 x3 (ix2 a k) = ffA (rowA x0 a) x1 x2 x3 k := by
  unfold prod
  exact mm_down (hid x0 x1 x2) x3 _ a (hid_apply x0 x1 x2 a) k

theorem sumB_apply (x0 : S4096x128.Idx → EReal) (x1 x2 : S1x1024x1792.Idx → EReal) (x3 : S1x1792x1024.Idx → EReal)
    (xa : S512x1024.Idx → EReal) (a : Fin 512) (k : Fin 1024) :
    sumB (F := Ideal) x0 x1 x2 x3 xa (ix2 a k) = xa (ix2 a k) + ffA (rowA x0 a) x1 x2 x3 k := by
  rw [← prod_apply]
  unfold sumB k0_pay10 prod hid gup cat
  exact ValueIdx.addf_apply _ _ _

theorem partA_apply (x0 : S4096x128.Idx → EReal) (x1 x2 : S1x1024x1792.Idx → EReal) (x3 : S1x1792x1024.Idx → EReal)
    (a : Fin 512) (k : Fin 1024) :
    partA (F := Ideal) x0 x1 x2 x3 (ix2 a k) = ffA (rowA x0 a) x1 x2 x3 k := by
  rw [← prod_apply]
  unfold partA k0_pay2 prod hid gup cat
  exact shapeCast_apply _ _ _ (ix2 a k) rfl

end Cert.MoeV

end
-- ==== Proof.MoeVal.lean ====
/- What the grouped call leaves in its result, on the extended reals: each tile's expert at each of the tile's tokens. -/
module

public import proofs.«01_k».proof.Proof.MoeLaunch
public import proofs.«01_k».proof.Proof.MoeTile
public import Idealize.ShloMosaic.Lib.StableHlo.RunRead

@[expose] public section

set_option maxRecDepth 65536

noncomputable section

namespace Cert.MoeV

open Cert.Moe Cert.Moe.Gen Cert.Moe.Run Idealize.ShloMosaic.TcCoe Idealize.ShloMosaic.ValueIdx Idealize.SL.Sem
open Idealize.ShloMosaic hiding ix1 ix2 ix3
open Idealize.ShloMosaic.Pipeline (Dat Window)
open scoped BigOperators

variable {T0 T1 T2 : S136.Idx → BitVec 32} (hR : Rng T0 T1 T2)
variable (m : (ℓ : Loc nD τ sig) → Buf (Elt Ideal) ℓ)

abbrev XS (c : Dev nD) : SX.Idx → EReal := m ((c : Thread nD τ).loc main_arg3)
abbrev WG (c : Dev nD) : SW.Idx → EReal := m ((c : Thread nD τ).loc main_arg4)
abbrev WU (c : Dev nD) : SW.Idx → EReal := m ((c : Thread nD τ).loc main_arg5)
abbrev WD (c : Dev nD) : SD.Idx → EReal := m ((c : Thread nD τ).loc main_arg6)

/-- A change of format leaves the weights as they are. -/
theorem V0_eq (c : Dev nD) : (V m c main_v0 : SW.Idx → EReal) = WG m c := by
  unfold V; after_reads_simp
  rfl
theorem V1_eq (c : Dev nD) : (V m c main_v1 : SW.Idx → EReal) = WU m c := by
  unfold V; after_reads_simp
  rfl
theorem V2_eq (c : Dev nD) : (V m c main_v2 : SD.Idx → EReal) = WD m c := by
  unfold V; after_reads_simp
  rfl
theorem V3_eq (c : Dev nD) : (V m c main_arg3 : SX.Idx → EReal) = XS m c :=
  V_keep m c main_arg3 (by decide) (by decide) (by decide)

/-- A point's entry of a table. -/
theorem tix_eq (t : Fin grid0.N) (j : ℕ) (hj : j < 136) (h : t.val / 2 = j) : tix (grid0.coords t) = (ix1 ⟨j, hj⟩ : ST.Idx) := by
  funext a
  obtain ⟨a, ha⟩ := a
  have h0 : a = 0 := by have : a < 1 := ha; omega
  subst h0
  exact Fin.ext ((crd0 t).trans h)

theorem blk0 (c : Dev nD) (t : Fin (cfgA (F := Ideal) hR).N) (y : S4096x128.Idx) (i : SX.Idx)
    (h0 : (i 0).val = (T2 (tix (crd (F := Ideal) hR t))).toNat * 4096 + (y 0).val) (h1 : (i 1).val = (y 1).val) :
    (iblk hR m c (0 : Fin 5) t : S4096x128.Idx → EReal) y = XS m c i := by
  have e : ((cfgA (F := Ideal) hR).win (0 : Fin 5)).index t = ![(T2 (tix (crd (F := Ideal) hR t))).toNat, 0] :=
    ix0_eq (F := Ideal) (crd (F := Ideal) hR t)
  show (V m c main_arg3 : SX.Idx → EReal) ((((cfgA (F := Ideal) hR).win (0 : Fin 5)).rect t).emb y) = _
  rw [V3_eq]
  refine congrArg (XS m c) (funext fun a => Fin.ext ?_)
  match a with
  | ⟨0, _⟩ =>
    refine (((cfgA (F := Ideal) hR).win (0 : Fin 5)).rect_emb_val t _ _).trans ?_
    rw [e]; exact h0.symm
  | ⟨1, _⟩ =>
    refine (((cfgA (F := Ideal) hR).win (0 : Fin 5)).rect_emb_val t _ _).trans ?_
    rw [e]; show 0 * 128 + (y 1).val = _; rw [Nat.zero_mul, Nat.zero_add]; exact h1.symm

theorem blk1 (c : Dev nD) (t : Fin (cfgA (F := Ideal) hR).N) (y : S1x1024x1792.Idx) (i : SW.Idx)
    (h0 : (i 0).val = (T0 (tix (crd (F := Ideal) hR t))).toNat) (h1 : (i 1).val = (y 1).val)
    (h2 : (i 2).val = half T1 (crd (F := Ideal) hR t) * 1792 + (y 2).val) :
    (iblk hR m c (1 : Fin 5) t : S1x1024x1792.Idx → EReal) y = WG m c i := by
  have e : ((cfgA (F := Ideal) hR).win (1 : Fin 5)).index t = ![(T0 (tix (crd (F := Ideal) hR t))).toNat, 0, half T1 (crd (F := Ideal) hR t)] :=
    ix1_eq (F := Ideal) hR (crd (F := Ideal) hR t)
  have hy : (y 0).val < 1 := (y 0).isLt
  show (V m c main_v0 : SW.Idx → EReal) ((((cfgA (F := Ideal) hR).win (1 : Fin 5)).rect t).emb y) = _
  rw [V0_eq]
  refine congrArg (WG m c) (funext fun a => Fin.ext ?_)
  match a with
  | ⟨0, _⟩ =>
    refine (((cfgA (F := Ideal) hR).win (1 : Fin 5)).rect_emb_val t _ _).trans ?_
    rw [e]; show (T0 (tix (crd (F := Ideal) hR t))).toNat * 1 + (y 0).val = (i 0).val; omega
  | ⟨1, _⟩ =>
    refine (((cfgA (F := Ideal) hR).win (1 : Fin 5)).rect_emb_val t _ _).trans ?_
    rw [e]; show 0 * 1024 + (y 1).val = (i 1).val; omega
  | ⟨2, _⟩ =>
    refine (((cfgA (F := Ideal) hR).win (1 : Fin 5)).rect_emb_val t _ _).trans ?_
    rw [e]; exact h2.symm

theorem blk2 (c : Dev nD) (t : Fin (cfgA (F := Ideal) hR).N) (y : S1x1024x1792.Idx) (i : SW.Idx)
    (h0 : (i 0).val = (T0 (tix (crd (F := Ideal) hR t))).toNat) (h1 : (i 1).val = (y 1).val)
    (h2 : (i 2).val = half T1 (crd (F := Ideal) hR t) * 1792 + (y 2).val) :
    (iblk hR m c (2 : Fin 5) t : S1x1024x1792.Idx → EReal) y = WU m c i := by
  have e : ((cfgA (F := Ideal) hR).win (2 : Fin 5)).index t = ![(T0 (tix (crd (F := Ideal) hR t))).toNat, 0, half T1 (crd (F := Ideal) hR t)] :=
    ix2_eq (F := Ideal) hR (crd (F := Ideal) hR t)
  have hy : (y 0).val < 1 := (y 0).isLt
  show (V m c main_v1 : SW.Idx → EReal) ((((cfgA (F := Ideal) hR).win (2 : Fin 5)).rect t).emb y) = _
  rw [V1_eq]
  refine congrArg (WU m c) (funext fun a => Fin.ext ?_)
  match a with
  | ⟨0, _⟩ =>
    refine (((cfgA (F := Ideal) hR).win (2 : Fin 5)).rect_emb_val t _ _).trans ?_
    rw [e]; show (T0 (tix (crd (F := Ideal) hR t))).toNat * 1 + (y 0).val = (i 0).val; omega
  | ⟨1, _⟩ =>
    refine (((cfgA (F := Ideal) hR).win (2 : Fin 5)).rect_emb_val t _ _).trans ?_
    rw [e]; show 0 * 1024 + (y 1).val = (i 1).val; omega
  | ⟨2, _⟩ =>
    refine (((cfgA (F := Ideal) hR).win (2 : Fin 5)).rect_emb_val t _ _).trans ?_
    rw [e]; exact h2.symm

theorem blk3 (c : Dev nD) (t : Fin (cfgA (F := Ideal) hR).N) (y : S1x1792x1024.Idx) (i : SD.Idx)
    (h0 : (i 0).val = (T0 (tix (crd (F := Ideal) hR t))).toNat)
    (h1 : (i 1).val = half T1 (crd (F := Ideal) hR t) * 1792 + (y 1).val) (h2 : (i 2).val = (y 2).val) :
    (iblk hR m c (3 : Fin 5) t : S1x1792x1024.Idx → EReal) y = WD m c i := by
  have e : ((cfgA (F := Ideal) hR).win (3 : Fin 5)).index t = ![(T0 (tix (crd (F := Ideal) hR t))).toNat, half T1 (crd (F := Ideal) hR t), 0] :=
    ix3_eq (F := Ideal) hR (crd (F := Ideal) hR t)
  have hy : (y 0).val < 1 := (y 0).isLt
  show (V m c main_v2 : SD.Idx → EReal) ((((cfgA (F := Ideal) hR).win (3 : Fin 5)).rect t).emb y) = _
  rw [V2_eq]
  refine congrArg (WD m c) (funext fun a => Fin.ext ?_)
  match a with
  | ⟨0, _⟩ =>
    refine (((cfgA (F := Ideal) hR).win (3 : Fin 5)).rect_emb_val t _ _).trans ?_
    rw [e]; show (T0 (tix (crd (F := Ideal) hR t))).toNat * 1 + (y 0).val = (i 0).val; omega
  | ⟨1, _⟩ =>
    refine (((cfgA (F := Ideal) hR).win (3 : Fin 5)).rect_emb_val t _ _).trans ?_
    rw [e]; exact h1.symm
  | ⟨2, _⟩ =>
    refine (((cfgA (F := Ideal) hR).win (3 : Fin 5)).rect_emb_val t _ _).trans ?_
    rw [e]; show 0 * 1024 + (y 2).val = (i 2).val; omega

/-- The half `q` of the tile `j`'s expert at a token. -/
theorem half_val (c : Dev nD) (j : ℕ) (hj : j < 136) (q : ℕ) (hq : q < 2) (t : Fin (cfgA (F := Ideal) hR).N) (ht : t.val = 2 * j + q)
    (hv : word T1 j hj = 1#32) (a : Fin 512) (k : Fin 1024) :
    ffA (rowA (iblk hR m c (0 : Fin 5) t) a) (iblk hR m c (1 : Fin 5) t) (iblk hR m c (2 : Fin 5) t) (iblk hR m c (3 : Fin 5) t) k
      = ∑ n : Fin 1792, mid (row (XS m c) (word T2 j hj).toNat a.val) (WG m c) (WU m c) ⟨(word T0 j hj).toNat, hR.te _⟩ ⟨q * 1792 + n.val, by omega⟩
          * WD m c (ix3 ⟨(word T0 j hj).toNat, hR.te _⟩ ⟨q * 1792 + n.val, by omega⟩ k) := by
  have ex : tix (crd (F := Ideal) hR t) = (ix1 ⟨j, hj⟩ : ST.Idx) := tix_eq t j hj (by omega)
  have eh : half T1 (crd (F := Ideal) hR t) = q := by
    unfold half
    rw [ex, if_pos hv]
    exact (crd1 t).trans (by omega)
  have er : rowA (iblk hR m c (0 : Fin 5) t) a = row (XS m c) (word T2 j hj).toNat a.val := by
    funext d
    have hs : (word T2 j hj).toNat < 136 := hR.ts _
    unfold rowA row
    rw [dif_pos ⟨hs, a.isLt⟩]
    refine blk0 hR m c t _ _ ?_ rfl
    rw [ex]
    show ((word T2 j hj).toNat * 512 + a.val) * 8 + d.val / 128 = (word T2 j hj).toNat * 4096 + (8 * a.val + d.val / 128)
    omega
  have eg : ∀ n : Fin 1792, gA (rowA (iblk hR m c (0 : Fin 5) t) a) (iblk hR m c (1 : Fin 5) t) n
      = gt (row (XS m c) (word T2 j hj).toNat a.val) (WG m c) ⟨(word T0 j hj).toNat, hR.te _⟩ ⟨q * 1792 + n.val, by omega⟩ := by
    intro n
    unfold gA gt
    refine Finset.sum_congr rfl fun d _ => ?_
    rw [er]
    refine congrArg (_ * ·) (blk1 hR m c t _ _ ?_ rfl ?_)
    · rw [ex]
    · rw [eh]
  have eu : ∀ n : Fin 1792, gA (rowA (iblk hR m c (0 : Fin 5) t) a) (iblk hR m c (2 : Fin 5) t) n
      = gt (row (XS m c) (word T2 j hj).toNat a.val) (WU m c) ⟨(word T0 j hj).toNat, hR.te _⟩ ⟨q * 1792 + n.val, by omega⟩ := by
    intro n
    unfold gA gt
    refine Finset.sum_congr rfl fun d _ => ?_
    rw [er]
    refine congrArg (_ * ·) (blk2 hR m c t _ _ ?_ rfl ?_)
    · rw [ex]
    · rw [eh]
  unfold ffA
  refine Finset.sum_congr rfl fun n _ => ?_
  rw [eg n, eu n]
  unfold mid
  refine congrArg (_ * ·) (blk3 hR m c t _ _ ?_ ?_ rfl)
  · rw [ex]
  · rw [eh]

/-- The result as a whole array. -/
def G (T0 T1 T2 : S136.Idx → BitVec 32) (c : Dev nD) : S557056x128.Idx → EReal :=
  fun i => out T0 T1 T2 (XS m c) (WG m c) (WU m c) (WD m c) (i 0) (i 1)

theorem tok_ix (y : S4096x128.Idx) : tokIx y
    = ix2 ⟨(y 0).val / 8, by have h : (y 0).val < 4096 := (y 0).isLt; omega⟩ ⟨(y 0).val % 8 * 128 + (y 1).val, by have h : (y 1).val < 128 := (y 1).isLt; omega⟩ := by
  funext a
  match a with
  | ⟨0, _⟩ => rfl
  | ⟨1, _⟩ => rfl

/-- What a tile's last point leaves. -/
theorem outAt_val (c : Dev nD) (t : Fin (cfgA (F := Ideal) hR).N) (j : ℕ) (hj : j < 136) (ht : t.val = 2 * j + 1) (y : S4096x128.Idx)
    (i : S557056x128.Idx) (h0 : (i 0).val = j * 4096 + (y 0).val) (h1 : (i 1).val = (y 1).val) :
    outAt hR m c t y = G m T0 T1 T2 c i := by
  have hy0 : (y 0).val < 4096 := (y 0).isLt
  have hy1 : (y 1).val < 128 := (y 1).isLt
  have ev : tvN T1 (t.val / 2) = word T1 j hj := by
    rw [← tvN_crd T1 t, tix_eq t j hj (by omega)]
  have ej : (i 0).val / 4096 = j := by omega
  unfold outAt G out
  rw [ev]
  have eW : ∀ (T : ST.Idx → BitVec 32) (h : (i 0).val / 4096 < 136), word T ((i 0).val / 4096) h = word T j hj := by
    intro T h; subst ej; rfl
  have ea : (i 0).val % 4096 / 8 = (y 0).val / 8 := by omega
  by_cases hv : word T1 j hj = 1#32
  · rw [if_pos hv]
    refine Eq.trans ?_ (if_pos ((eW T1 _).trans hv)).symm
    have he : (word T0 ((i 0).val / 4096) (by have := (i 0).isLt; omega)).toNat < 8 := hR.te _
    refine Eq.trans ?_ (dif_pos he).symm
    unfold outB
    rw [tok_ix]
    refine (sumB_apply _ _ _ _ _ _ _).trans ?_
    unfold pA
    rw [partA_apply, half_val hR m c j hj 0 (by omega) ⟨t.val - 1, by omega⟩ (by show t.val - 1 = _; omega) hv,
      half_val hR m c j hj 1 (by omega) t ht hv]
    unfold ffn
    rw [sum_halves]
    have eE : ∀ (h : (i 0).val / 4096 < 136) (h') , (⟨(word T0 ((i 0).val / 4096) h).toNat, h'⟩ : Fin 8) = ⟨(word T0 j hj).toNat, hR.te _⟩ := by
      intro h h'; exact Fin.ext (congrArg BitVec.toNat (eW T0 h))
    have eK : ∀ h h' , (⟨(i 0).val % 8 * 128 + (i 1).val, h⟩ : Fin 1024) = ⟨(y 0).val % 8 * 128 + (y 1).val, h'⟩ := by
      intro h h'; exact Fin.ext (show _ = _ by dsimp only; omega)
    have eS : ∀ h, row (XS m c) (word T2 ((i 0).val / 4096) h).toNat ((i 0).val % 4096 / 8) = row (XS m c) (word T2 j hj).toNat ((y 0).val / 8) := by
      intro h; rw [eW T2 h, ea]
    rw [eS, eE, eK]
    refine congrArg₂ (fun u v : EReal => u + v) ?_ ?_
    · refine Finset.sum_congr rfl fun n _ => ?_
      have en : (⟨0 * 1792 + n.val, by omega⟩ : Fin 3584) = ⟨n.val, by omega⟩ := Fin.ext (by show 0 * 1792 + n.val = n.val; omega)
      rw [en]
    · refine Finset.sum_congr rfl fun n _ => ?_
      have en : (⟨1 * 1792 + n.val, by omega⟩ : Fin 3584) = ⟨1792 + n.val, by omega⟩ := Fin.ext (by show 1 * 1792 + n.val = 1792 + n.val; omega)
      rw [en]
  · rw [if_neg hv]
    refine Eq.trans ?_ (if_neg (fun h => hv ((eW T1 _).symm.trans h))).symm
    exact Ideal.ofBits_zero_f32

theorem idx4 : ∀ t : Fin grid0.N, cc0_transform_4 (grid0.coords t) = ![t.val / 2, 0] := by decide +kernel

theorem flushed4_eq (c : Dev nD) (t : Fin (cfgA (F := Ideal) hR).N) (hf : ((cfgA (F := Ideal) hR).win (4 : Fin 5)).flush t = true) :
    (dats hR m 0 c).flushed (4 : Fin 5) t = (((cfgA (F := Ideal) hR).win (4 : Fin 5)).blk t).view.read (Elt Ideal) (G m T0 T1 T2 c) := by
  have hodd : t.val % 2 = 1 := by rw [flush_eq] at hf; exact of_decide_eq_true hf
  have hN : t.val < 272 := Nat.lt_of_lt_of_eq t.isLt N_0
  have e : ((cfgA (F := Ideal) hR).win (4 : Fin 5)).index t = ![t.val / 2, 0] := idx4 t
  funext y
  show outAt hR m c t y = G m T0 T1 T2 c ((((cfgA (F := Ideal) hR).win (4 : Fin 5)).rect t).emb y)
  refine outAt_val hR m c t (t.val / 2) (by omega) (by omega) y _ ?_ ?_
  · refine (((cfgA (F := Ideal) hR).win (4 : Fin 5)).rect_emb_val t _ _).trans ?_
    rw [e]; rfl
  · refine (((cfgA (F := Ideal) hR).win (4 : Fin 5)).rect_emb_val t _ _).trans ?_
    rw [e]; show 0 * 128 + (y 1).val = (y 1).val; omega

theorem cover4 (i : S557056x128.Idx) : ∃ t : Fin (cfgA (F := Ideal) hR).N, ((cfgA (F := Ideal) hR).win (4 : Fin 5)).flush t = true
    ∧ i ∈ (((cfgA (F := Ideal) hR).win (4 : Fin 5)).blk t).view.set := by
  have h0 : (i 0).val < 557056 := (i 0).isLt
  have h1 : (i 1).val < 128 := (i 1).isLt
  have hlt : 2 * ((i 0).val / 4096) + 1 < (cfgA (F := Ideal) hR).N := lt_of_lt_of_eq (by omega) N_0.symm
  have e : ((cfgA (F := Ideal) hR).win (4 : Fin 5)).index ⟨2 * ((i 0).val / 4096) + 1, hlt⟩ = ![(2 * ((i 0).val / 4096) + 1) / 2, 0] := idx4 ⟨_, hlt⟩
  refine ⟨⟨2 * ((i 0).val / 4096) + 1, hlt⟩, ?_, ?_⟩
  · rw [flush_eq]; exact decide_eq_true (by show (2 * ((i 0).val / 4096) + 1) % 2 = 1; omega)
  · show i ∈ ((View.whole main_v3).slice (((cfgA (F := Ideal) hR).win (4 : Fin 5)).rect ⟨2 * ((i 0).val / 4096) + 1, hlt⟩)).set
    rw [View.set_slice_whole, Rect.mem_set_unit]
    intro a
    show ((cfgA (F := Ideal) hR).win (4 : Fin 5)).index ⟨2 * ((i 0).val / 4096) + 1, hlt⟩ a * S4096x128.size a ≤ (i a : Nat)
      ∧ (i a : Nat) < ((cfgA (F := Ideal) hR).win (4 : Fin 5)).index ⟨2 * ((i 0).val / 4096) + 1, hlt⟩ a * S4096x128.size a + S4096x128.size a
    rw [e]
    match a with
    | ⟨0, _⟩ =>
      show (2 * ((i 0).val / 4096) + 1) / 2 * 4096 ≤ (i 0).val ∧ (i 0).val < (2 * ((i 0).val / 4096) + 1) / 2 * 4096 + 4096
      omega
    | ⟨1, _⟩ => show 0 * 128 ≤ (i 1).val ∧ (i 1).val < 0 * 128 + 128; omega

/-- The result after the last point. -/
theorem final (c : Dev nD) : (dats hR m 0 c).arrAt (4 : Fin 5) (cfgA (F := Ideal) hR).N = G m T0 T1 T2 c :=
  (dats hR m 0 c).arrAt_eq_of_cover (4 : Fin 5) (G m T0 T1 T2 c) (fun t hf => flushed4_eq hR m c t hf) (cover4 hR)

end Cert.MoeV

end
-- ==== Proof.MoeRef.lean ====
/- The grouped call's reference, on the extended reals: the experts' sum at a token, and its one term that is not zero. -/
module

public import proofs.«01_k».proof.Proof.MoeSpec
public import proofs.«01_k».proof.Proof.Gen.MoeReferenceIdeal.Read

@[expose] public section

set_option maxRecDepth 65536

noncomputable section

namespace Cert.MoeV

open Cert.MoeReferenceIdeal Cert.MoeReferenceIdeal.Gen Cert.MoeReferenceIdeal.Read Idealize.ShloMosaic Idealize.ShloMosaic.ValueIdx
open scoped BigOperators

/-! ## The gathered rows -/

/-- A table's word below the tile count is not negative, so its wrapped form is itself. -/
theorem src_word (x2 : ST.Idx → BitVec 32) (i : S136.Idx) (h : (x2 i).toNat < 136) : val_main_v5 (F := Ideal) x2 i = x2 i := by
  rw [val_main_v5_apply, val_main_v2_apply, val_main_v1_apply, val_main_c_apply]
  have hc : IntOp.cmpi .slt (x2 i) (0#32) = 0#1 := by
    have h2 : (x2 i).slt (0#32) = false := by
      rw [BitVec.slt_eq_decide, BitVec.toInt_eq_toNat_of_lt (by omega)]
      exact decide_eq_false (by simp)
    show BitVec.ofBool ((x2 i).slt 0#32) = 0#1
    rw [h2]; rfl
  rw [hc]; rfl

/-- The gather's dimension numbers. -/
abbrev DG := gather_S136x512x1024_S136x1_S136x512x1024_12_0_n_n_0_1_15121024

/-- The gathered tile at an entry: the source tile's. -/
theorem gather_row (x2 : ST.Idx → BitVec 32) (x3 : SX.Idx → EReal) (i : S136x512x1024.Idx)
    (h : (x2 (ix1 ⟨(i 0).val, (i 0).isLt⟩)).toNat < 136) (k : S136x512x1024.Idx)
    (h0 : (k 0).val = (x2 (ix1 ⟨(i 0).val, (i 0).isLt⟩)).toNat) (h1 : (k 1).val = (i 1).val) (h2 : (k 2).val = (i 2).val) :
    val_main_v7 (F := Ideal) x2 x3 i = val_main_v0 (F := Ideal) x3 k := by
  unfold val_main_v7
  generalize val_main_v0 (F := Ideal) x3 = y
  have hw : val_main_v6 (F := Ideal) x2 (ix2 ⟨(i 0).val, (i 0).isLt⟩ ⟨0, Nat.one_pos⟩ : S136x1.Idx) = x2 (ix1 ⟨(i 0).val, (i 0).isLt⟩) := by
    have e : idx_main_v6 (ix2 ⟨(i 0).val, (i 0).isLt⟩ ⟨0, Nat.one_pos⟩ : S136x1.Idx) = ix1 ⟨(i 0).val, (i 0).isLt⟩ := by
      funext b
      match b with
      | ⟨0, _⟩ => rfl
    rw [val_main_v6_apply, e]
    exact src_word x2 _ h
  have hi : (x2 (ix1 ⟨(i 0).val, (i 0).isLt⟩)).toInt.toNat = (x2 (ix1 ⟨(i 0).val, (i 0).isLt⟩)).toNat := by
    rw [BitVec.toInt_eq_toNat_of_lt (by omega)]; rfl
  have hsi : DG.siIdx i ⟨List.idxOf (0 : Fin 3) DG.startIndexMap, List.idxOf_lt_length_iff.2 (List.mem_singleton.mpr rfl)⟩
      = (ix2 ⟨(i 0).val, (i 0).isLt⟩ ⟨0, Nat.one_pos⟩ : S136x1.Idx) := by
    funext b
    match b with
    | ⟨0, _⟩ => rfl
    | ⟨1, _⟩ => rfl
  have s0 : DG.start i (val_main_v6 (F := Ideal) x2) (0 : Fin 3) = (x2 (ix1 ⟨(i 0).val, (i 0).isLt⟩)).toNat := by
    unfold GatherDims.start
    refine (dif_pos (show (0 : Fin 3) ∈ DG.startIndexMap from List.mem_singleton.mpr rfl)).trans ?_
    refine Eq.trans (congrArg (fun u : ℕ => min u (136 - 1))
      ((congrArg (fun j => (val_main_v6 (F := Ideal) x2 j).toInt.toNat) hsi).trans ((congrArg (fun w : BitVec 32 => w.toInt.toNat) hw).trans hi))) ?_
    show min (x2 (ix1 ⟨(i 0).val, (i 0).isLt⟩)).toNat (136 - 1) = (x2 (ix1 ⟨(i 0).val, (i 0).isLt⟩)).toNat
    omega
  have s1 : DG.start i (val_main_v6 (F := Ideal) x2) (1 : Fin 3) = 0 := by
    unfold GatherDims.start
    exact dif_neg (show ¬ (1 : Fin 3) ∈ DG.startIndexMap from by decide)
  have s2 : DG.start i (val_main_v6 (F := Ideal) x2) (2 : Fin 3) = 0 := by
    unfold GatherDims.start
    exact dif_neg (show ¬ (2 : Fin 3) ∈ DG.startIndexMap from by decide)
  have o0 : DG.offCoord i (0 : Fin 3) = 0 :=
    GatherDims.offCoord_eq_zero _ _ _ (fun h => ((GatherDims.mem_sKept _ _).mp h).1 (List.mem_singleton.mpr rfl))
  have o1 : DG.offCoord i (1 : Fin 3) = (i 1).val := rfl
  have o2 : DG.offCoord i (2 : Fin 3) = (i 2).val := rfl
  have bz : ∀ a : Fin 3, DG.batchCoord i a = 0 := fun a => GatherDims.batchCoord_eq_zero _ _ _ List.not_mem_nil
  unfold Host.gather
  refine congrArg y (funext fun a => Fin.ext ?_)
  match a with
  | ⟨0, _⟩ =>
    show DG.start i (val_main_v6 (F := Ideal) x2) (0 : Fin 3) + DG.batchCoord i (0 : Fin 3) + DG.offCoord i (0 : Fin 3) = (k 0).val
    rw [s0, bz, o0, h0, Nat.add_zero]
  | ⟨1, _⟩ =>
    show DG.start i (val_main_v6 (F := Ideal) x2) (1 : Fin 3) + DG.batchCoord i (1 : Fin 3) + DG.offCoord i (1 : Fin 3) = (k 1).val
    rw [s1, bz, o1, h1, Nat.zero_add]
  | ⟨2, _⟩ =>
    show DG.start i (val_main_v6 (F := Ideal) x2) (2 : Fin 3) + DG.batchCoord i (2 : Fin 3) + DG.offCoord i (2 : Fin 3) = (k 2).val
    rw [s2, bz, o2, h2, Nat.zero_add]

/-- The row a token of the gathered rows is. -/
abbrev rowR (x2 : ST.Idx → BitVec 32) (x3 : SX.Idx → EReal) (r : Fin 69632) : Fin 1024 → EReal :=
  row x3 (word x2 (r.val / 512) (by omega)).toNat (r.val % 512)

theorem hrow (x2 : ST.Idx → BitVec 32) (x3 : SX.Idx → EReal) (hs : ∀ x, (x2 x).toNat < 136) (i : S69632x1024.Idx) :
    val_main_v8 (F := Ideal) x2 x3 i = rowR x2 x3 (i 0) (i 1) := by
  have h0 : (i 0).val < 69632 := (i 0).isLt
  have h1 : (i 1).val < 1024 := (i 1).isLt
  rw [val_main_v8_apply]
  have hw : x2 (ix1 ⟨(idx_main_v8 i 0).val, (idx_main_v8 i 0).isLt⟩) = word x2 ((i 0).val / 512) (by omega) := by
    refine congrArg x2 (funext fun a => ?_)
    match a with
    | ⟨0, _⟩ => exact Fin.ext (show ((i 0).val * 1024 + (i 1).val) / 524288 = (i 0).val / 512 by omega)
  have hS : (word x2 ((i 0).val / 512) (by omega)).toNat < 136 := hs _
  refine (gather_row x2 x3 (idx_main_v8 i) (hs _) (ix3 ⟨_, hS⟩ ⟨(i 0).val % 512, by omega⟩ ⟨(i 1).val, h1⟩) (congrArg BitVec.toNat hw.symm)
    (show (i 0).val % 512 = ((i 0).val * 1024 + (i 1).val) / 1024 % 512 by omega)
    (show (i 1).val = ((i 0).val * 1024 + (i 1).val) % 1024 by omega)).trans ?_
  rw [val_main_v0_apply]
  unfold rowR row
  rw [dif_pos ⟨hS, by omega⟩]
  refine congrArg x3 (funext fun a => Fin.ext ?_)
  match a with
  | ⟨0, _⟩ =>
    show (((word x2 ((i 0).val / 512) _).toNat * 512 + (i 0).val % 512) * 1024 + (i 1).val) / 128
      = ((word x2 ((i 0).val / 512) _).toNat * 512 + (i 0).val % 512) * 8 + (i 1).val / 128
    omega
  | ⟨1, _⟩ =>
    show (((word x2 ((i 0).val / 512) _).toNat * 512 + (i 0).val % 512) * 1024 + (i 1).val) % 128 = (i 1).val % 128
    omega

/-! ## The gates -/

theorem gate_eq (x0 x1 : ST.Idx → BitVec 32) (r : Fin 69632) (e : Fin 8) :
    val_main_v16 (F := Ideal) x0 x1 (ix2 r e)
      = (((IntOp.cmpi .eq (word x0 (r.val / 512) (by omega)) (BitVec.ofNat 32 e.val)).toNat : ℝ) : EReal)
        * (((word x1 (r.val / 512) (by omega)).toInt : ℝ) : EReal) := by
  rw [val_main_v16_apply, val_main_v15_apply, val_main_v14_apply, val_main_v13_apply, val_main_v9_apply, val_main_call0_v4_apply,
    val_main_call0_v2_apply, val_main_call0_v0_apply, val_main_call0_v3_apply, val_main_call0_v1_apply, val_main_v12_apply,
    val_main_v11_apply, val_main_v10_apply]
  refine congrArg₂ (fun u v : EReal => u * v) ?_ ?_
  · refine congrArg₂ (fun (u v : BitVec 32) => (((IntOp.cmpi .eq u v).toNat : ℝ) : EReal)) ?_ ?_
    · refine congrArg x0 (funext fun a => ?_)
      match a with
      | ⟨0, _⟩ => exact Fin.ext (show (r.val * 8 + e.val) / 4096 = r.val / 512 by omega)
    · exact congrArg (BitVec.ofNat 32) (show (r.val * 8 + e.val) % 8 = e.val by omega)
  · refine congrArg (fun u : BitVec 32 => ((u.toInt : ℝ) : EReal)) (congrArg x1 (funext fun a => ?_))
    match a with
    | ⟨0, _⟩ => exact Fin.ext (show (r.val * 8 + e.val) / 4096 = r.val / 512 by omega)

/-- The gate of a token's own expert is one. -/
theorem gate_one (x0 x1 : ST.Idx → BitVec 32) (r : Fin 69632) (e : Fin 8) (h1 : word x1 (r.val / 512) (by omega) = 1#32)
    (he : (word x0 (r.val / 512) (by omega)).toNat = e.val) : val_main_v16 (F := Ideal) x0 x1 (ix2 r e) = 1 := by
  have hw : word x0 (r.val / 512) (by omega) = BitVec.ofNat 32 e.val := by
    rw [← he, BitVec.ofNat_toNat, BitVec.setWidth_eq]
  rw [gate_eq, h1, hw]
  have hb : IntOp.cmpi .eq (BitVec.ofNat 32 e.val) (BitVec.ofNat 32 e.val) = 1#1 := by
    show BitVec.ofBool (BitVec.ofNat 32 e.val == BitVec.ofNat 32 e.val) = 1#1
    rw [beq_self_eq_true]; rfl
  rw [hb]
  norm_num

/-- Every other expert's gate is zero. -/
theorem gate_other (x0 x1 : ST.Idx → BitVec 32) (r : Fin 69632) (e : Fin 8)
    (he : (word x0 (r.val / 512) (by omega)).toNat ≠ e.val) : val_main_v16 (F := Ideal) x0 x1 (ix2 r e) = 0 := by
  rw [gate_eq]
  have hb : IntOp.cmpi .eq (word x0 (r.val / 512) (by omega)) (BitVec.ofNat 32 e.val) = 0#1 := by
    have hn : (word x0 (r.val / 512) (by omega) == BitVec.ofNat 32 e.val) = false := by
      rw [beq_eq_false_iff_ne]
      intro h
      refine he ?_
      rw [h, BitVec.toNat_ofNat]
      exact Nat.mod_eq_of_lt (by omega)
    show BitVec.ofBool (word x0 (r.val / 512) _ == BitVec.ofNat 32 e.val) = 0#1
    rw [hn]; rfl
  rw [hb]
  norm_num

/-- On an unused tile every gate is zero. -/
theorem gate_unused (x0 x1 : ST.Idx → BitVec 32) (r : Fin 69632) (e : Fin 8) (h1 : word x1 (r.val / 512) (by omega) = 0#32) :
    val_main_v16 (F := Ideal) x0 x1 (ix2 r e) = 0 := by
  rw [gate_eq, h1]
  norm_num

/-! ## The experts' terms -/

theorem one_f32 : (FloatOps.ofBits .f32 0x3F800000#32 : Ideal .f32) = (1 : EReal) := Ideal.ofBits_one_f32

section
variable (x0 x1 x2 : ST.Idx → BitVec 32) (x3 : SX.Idx → EReal) (x4 x5 : SW.Idx → EReal) (x6 : SD.Idx → EReal)
variable (hs : ∀ x, (x2 x).toNat < 136)
include hs

theorem gate_mul0 (i : S69632x3584.Idx) : val_main_v21 (F := Ideal) x2 x3 x4 i = gt (rowR x2 x3 (i 0)) x4 0 (i 1) := by
  rw [val_main_v21_apply]
  unfold gt
  refine Finset.sum_congr rfl fun k _ => congrArg₂ (fun u v : EReal => u * v) (hrow x2 x3 hs _) ?_
  rw [val_main_v20_apply, val_main_v19_apply]
  refine congrArg x4 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem up_mul0 (i : S69632x3584.Idx) : val_main_v25 (F := Ideal) x2 x3 x5 i = gt (rowR x2 x3 (i 0)) x5 0 (i 1) := by
  rw [val_main_v25_apply]
  unfold gt
  refine Finset.sum_congr rfl fun k _ => congrArg₂ (fun u v : EReal => u * v) (hrow x2 x3 hs _) ?_
  rw [val_main_v24_apply, val_main_v23_apply]
  refine congrArg x5 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem hid_mul0 (i : S69632x3584.Idx) : val_main_v26 (F := Ideal) x2 x3 x4 x5 i = mid (rowR x2 x3 (i 0)) x4 x5 0 (i 1) := by
  rw [val_main_v26_apply, val_main_v22_apply, val_main_call1_v5_apply, val_main_call1_v4_apply, val_main_call1_cst_0_apply,
    val_main_call1_v3_apply, val_main_call1_v2_apply, val_main_call1_cst_apply, val_main_call1_v1_apply, val_main_call1_v0_apply,
    gate_mul0 x2 x3 x4 hs, up_mul0 x2 x3 x5 hs, one_f32]
  rfl

theorem down_mul0 (i : S69632x1024.Idx) : val_main_v29 (F := Ideal) x2 x3 x4 x5 x6 i = ffn (rowR x2 x3 (i 0)) x4 x5 x6 0 (i 1) := by
  rw [val_main_v29_apply]
  unfold ffn
  refine Finset.sum_congr rfl fun k _ => congrArg₂ (fun u v : EReal => u * v) (hid_mul0 x2 x3 x4 x5 hs _) ?_
  rw [val_main_v28_apply, val_main_v27_apply]
  refine congrArg x6 (funext fun a => ?_)
  have h1 : (i 1).val < 1024 := (i 1).isLt
  match a with
  | ⟨0, _⟩ => rfl
  | ⟨1, _⟩ => exact Fin.ext (show (k.val * 1024 + (i 1).val) / 1024 % 3584 = k.val by omega)
  | ⟨2, _⟩ => exact Fin.ext (show (k.val * 1024 + (i 1).val) % 1024 = (i 1).val by omega)

theorem term0 (i : S69632x1024.Idx) : val_main_v31 (F := Ideal) x0 x1 x2 x3 x4 x5 x6 i
    = val_main_v16 (F := Ideal) x0 x1 (ix2 (i 0) (0 : Fin 8)) * ffn (rowR x2 x3 (i 0)) x4 x5 x6 0 (i 1) := by
  rw [val_main_v31_apply, down_mul0 x2 x3 x4 x5 x6 hs, val_main_v30_apply, val_main_v18_apply]
  refine congrArg (fun u : S69632x8.Idx => val_main_v16 (F := Ideal) x0 x1 u * ffn (rowR x2 x3 (i 0)) x4 x5 x6 0 (i 1)) (funext fun a => ?_)
  match a with
  | ⟨0, _⟩ => rfl
  | ⟨1, _⟩ => rfl

theorem gate_mul1 (i : S69632x3584.Idx) : val_main_v36 (F := Ideal) x2 x3 x4 i = gt (rowR x2 x3 (i 0)) x4 1 (i 1) := by
  rw [val_main_v36_apply]
  unfold gt
  refine Finset.sum_congr rfl fun k _ => congrArg₂ (fun u v : EReal => u * v) (hrow x2 x3 hs _) ?_
  rw [val_main_v35_apply, val_main_v34_apply]
  refine congrArg x4 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem up_mul1 (i : S69632x3584.Idx) : val_main_v40 (F := Ideal) x2 x3 x5 i = gt (rowR x2 x3 (i 0)) x5 1 (i 1) := by
  rw [val_main_v40_apply]
  unfold gt
  refine Finset.sum_congr rfl fun k _ => congrArg₂ (fun u v : EReal => u * v) (hrow x2 x3 hs _) ?_
  rw [val_main_v39_apply, val_main_v38_apply]
  refine congrArg x5 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem hid_mul1 (i : S69632x3584.Idx) : val_main_v41 (F := Ideal) x2 x3 x4 x5 i = mid (rowR x2 x3 (i 0)) x4 x5 1 (i 1) := by
  rw [val_main_v41_apply, val_main_v37_apply, val_main_call2_v5_apply, val_main_call2_v4_apply, val_main_call2_cst_0_apply,
    val_main_call2_v3_apply, val_main_call2_v2_apply, val_main_call2_cst_apply, val_main_call2_v1_apply, val_main_call2_v0_apply,
    gate_mul1 x2 x3 x4 hs, up_mul1 x2 x3 x5 hs, one_f32]
  rfl

theorem down_mul1 (i : S69632x1024.Idx) : val_main_v44 (F := Ideal) x2 x3 x4 x5 x6 i = ffn (rowR x2 x3 (i 0)) x4 x5 x6 1 (i 1) := by
  rw [val_main_v44_apply]
  unfold ffn
  refine Finset.sum_congr rfl fun k _ => congrArg₂ (fun u v : EReal => u * v) (hid_mul1 x2 x3 x4 x5 hs _) ?_
  rw [val_main_v43_apply, val_main_v42_apply]
  refine congrArg x6 (funext fun a => ?_)
  have h1 : (i 1).val < 1024 := (i 1).isLt
  match a with
  | ⟨0, _⟩ => rfl
  | ⟨1, _⟩ => exact Fin.ext (show (k.val * 1024 + (i 1).val) / 1024 % 3584 = k.val by omega)
  | ⟨2, _⟩ => exact Fin.ext (show (k.val * 1024 + (i 1).val) % 1024 = (i 1).val by omega)

theorem term1 (i : S69632x1024.Idx) : val_main_v46 (F := Ideal) x0 x1 x2 x3 x4 x5 x6 i
    = val_main_v16 (F := Ideal) x0 x1 (ix2 (i 0) (1 : Fin 8)) * ffn (rowR x2 x3 (i 0)) x4 x5 x6 1 (i 1) := by
  rw [val_main_v46_apply, down_mul1 x2 x3 x4 x5 x6 hs, val_main_v45_apply, val_main_v33_apply]
  refine congrArg (fun u : S69632x8.Idx => val_main_v16 (F := Ideal) x0 x1 u * ffn (rowR x2 x3 (i 0)) x4 x5 x6 1 (i 1)) (funext fun a => ?_)
  match a with
  | ⟨0, _⟩ => rfl
  | ⟨1, _⟩ => rfl

theorem gate_mul2 (i : S69632x3584.Idx) : val_main_v51 (F := Ideal) x2 x3 x4 i = gt (rowR x2 x3 (i 0)) x4 2 (i 1) := by
  rw [val_main_v51_apply]
  unfold gt
  refine Finset.sum_congr rfl fun k _ => congrArg₂ (fun u v : EReal => u * v) (hrow x2 x3 hs _) ?_
  rw [val_main_v50_apply, val_main_v49_apply]
  refine congrArg x4 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem up_mul2 (i : S69632x3584.Idx) : val_main_v55 (F := Ideal) x2 x3 x5 i = gt (rowR x2 x3 (i 0)) x5 2 (i 1) := by
  rw [val_main_v55_apply]
  unfold gt
  refine Finset.sum_congr rfl fun k _ => congrArg₂ (fun u v : EReal => u * v) (hrow x2 x3 hs _) ?_
  rw [val_main_v54_apply, val_main_v53_apply]
  refine congrArg x5 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem hid_mul2 (i : S69632x3584.Idx) : val_main_v56 (F := Ideal) x2 x3 x4 x5 i = mid (rowR x2 x3 (i 0)) x4 x5 2 (i 1) := by
  rw [val_main_v56_apply, val_main_v52_apply, val_main_call3_v5_apply, val_main_call3_v4_apply, val_main_call3_cst_0_apply,
    val_main_call3_v3_apply, val_main_call3_v2_apply, val_main_call3_cst_apply, val_main_call3_v1_apply, val_main_call3_v0_apply,
    gate_mul2 x2 x3 x4 hs, up_mul2 x2 x3 x5 hs, one_f32]
  rfl

theorem down_mul2 (i : S69632x1024.Idx) : val_main_v59 (F := Ideal) x2 x3 x4 x5 x6 i = ffn (rowR x2 x3 (i 0)) x4 x5 x6 2 (i 1) := by
  rw [val_main_v59_apply]
  unfold ffn
  refine Finset.sum_congr rfl fun k _ => congrArg₂ (fun u v : EReal => u * v) (hid_mul2 x2 x3 x4 x5 hs _) ?_
  rw [val_main_v58_apply, val_main_v57_apply]
  refine congrArg x6 (funext fun a => ?_)
  have h1 : (i 1).val < 1024 := (i 1).isLt
  match a with
  | ⟨0, _⟩ => rfl
  | ⟨1, _⟩ => exact Fin.ext (show (k.val * 1024 + (i 1).val) / 1024 % 3584 = k.val by omega)
  | ⟨2, _⟩ => exact Fin.ext (show (k.val * 1024 + (i 1).val) % 1024 = (i 1).val by omega)

theorem term2 (i : S69632x1024.Idx) : val_main_v61 (F := Ideal) x0 x1 x2 x3 x4 x5 x6 i
    = val_main_v16 (F := Ideal) x0 x1 (ix2 (i 0) (2 : Fin 8)) * ffn (rowR x2 x3 (i 0)) x4 x5 x6 2 (i 1) := by
  rw [val_main_v61_apply, down_mul2 x2 x3 x4 x5 x6 hs, val_main_v60_apply, val_main_v48_apply]
  refine congrArg (fun u : S69632x8.Idx => val_main_v16 (F := Ideal) x0 x1 u * ffn (rowR x2 x3 (i 0)) x4 x5 x6 2 (i 1)) (funext fun a => ?_)
  match a with
  | ⟨0, _⟩ => rfl
  | ⟨1, _⟩ => rfl

theorem gate_mul3 (i : S69632x3584.Idx) : val_main_v66 (F := Ideal) x2 x3 x4 i = gt (rowR x2 x3 (i 0)) x4 3 (i 1) := by
  rw [val_main_v66_apply]
  unfold gt
  refine Finset.sum_congr rfl fun k _ => congrArg₂ (fun u v : EReal => u * v) (hrow x2 x3 hs _) ?_
  rw [val_main_v65_apply, val_main_v64_apply]
  refine congrArg x4 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem up_mul3 (i : S69632x3584.Idx) : val_main_v70 (F := Ideal) x2 x3 x5 i = gt (rowR x2 x3 (i 0)) x5 3 (i 1) := by
  rw [val_main_v70_apply]
  unfold gt
  refine Finset.sum_congr rfl fun k _ => congrArg₂ (fun u v : EReal => u * v) (hrow x2 x3 hs _) ?_
  rw [val_main_v69_apply, val_main_v68_apply]
  refine congrArg x5 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem hid_mul3 (i : S69632x3584.Idx) : val_main_v71 (F := Ideal) x2 x3 x4 x5 i = mid (rowR x2 x3 (i 0)) x4 x5 3 (i 1) := by
  rw [val_main_v71_apply, val_main_v67_apply, val_main_call4_v5_apply, val_main_call4_v4_apply, val_main_call4_cst_0_apply,
    val_main_call4_v3_apply, val_main_call4_v2_apply, val_main_call4_cst_apply, val_main_call4_v1_apply, val_main_call4_v0_apply,
    gate_mul3 x2 x3 x4 hs, up_mul3 x2 x3 x5 hs, one_f32]
  rfl

theorem down_mul3 (i : S69632x1024.Idx) : val_main_v74 (F := Ideal) x2 x3 x4 x5 x6 i = ffn (rowR x2 x3 (i 0)) x4 x5 x6 3 (i 1) := by
  rw [val_main_v74_apply]
  unfold ffn
  refine Finset.sum_congr rfl fun k _ => congrArg₂ (fun u v : EReal => u * v) (hid_mul3 x2 x3 x4 x5 hs _) ?_
  rw [val_main_v73_apply, val_main_v72_apply]
  refine congrArg x6 (funext fun a => ?_)
  have h1 : (i 1).val < 1024 := (i 1).isLt
  match a with
  | ⟨0, _⟩ => rfl
  | ⟨1, _⟩ => exact Fin.ext (show (k.val * 1024 + (i 1).val) / 1024 % 3584 = k.val by omega)
  | ⟨2, _⟩ => exact Fin.ext (show (k.val * 1024 + (i 1).val) % 1024 = (i 1).val by omega)

theorem term3 (i : S69632x1024.Idx) : val_main_v76 (F := Ideal) x0 x1 x2 x3 x4 x5 x6 i
    = val_main_v16 (F := Ideal) x0 x1 (ix2 (i 0) (3 : Fin 8)) * ffn (rowR x2 x3 (i 0)) x4 x5 x6 3 (i 1) := by
  rw [val_main_v76_apply, down_mul3 x2 x3 x4 x5 x6 hs, val_main_v75_apply, val_main_v63_apply]
  refine congrArg (fun u : S69632x8.Idx => val_main_v16 (F := Ideal) x0 x1 u * ffn (rowR x2 x3 (i 0)) x4 x5 x6 3 (i 1)) (funext fun a => ?_)
  match a with
  | ⟨0, _⟩ => rfl
  | ⟨1, _⟩ => rfl

theorem gate_mul4 (i : S69632x3584.Idx) : val_main_v81 (F := Ideal) x2 x3 x4 i = gt (rowR x2 x3 (i 0)) x4 4 (i 1) := by
  rw [val_main_v81_apply]
  unfold gt
  refine Finset.sum_congr rfl fun k _ => congrArg₂ (fun u v : EReal => u * v) (hrow x2 x3 hs _) ?_
  rw [val_main_v80_apply, val_main_v79_apply]
  refine congrArg x4 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem up_mul4 (i : S69632x3584.Idx) : val_main_v85 (F := Ideal) x2 x3 x5 i = gt (rowR x2 x3 (i 0)) x5 4 (i 1) := by
  rw [val_main_v85_apply]
  unfold gt
  refine Finset.sum_congr rfl fun k _ => congrArg₂ (fun u v : EReal => u * v) (hrow x2 x3 hs _) ?_
  rw [val_main_v84_apply, val_main_v83_apply]
  refine congrArg x5 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem hid_mul4 (i : S69632x3584.Idx) : val_main_v86 (F := Ideal) x2 x3 x4 x5 i = mid (rowR x2 x3 (i 0)) x4 x5 4 (i 1) := by
  rw [val_main_v86_apply, val_main_v82_apply, val_main_call5_v5_apply, val_main_call5_v4_apply, val_main_call5_cst_0_apply,
    val_main_call5_v3_apply, val_main_call5_v2_apply, val_main_call5_cst_apply, val_main_call5_v1_apply, val_main_call5_v0_apply,
    gate_mul4 x2 x3 x4 hs, up_mul4 x2 x3 x5 hs, one_f32]
  rfl

theorem down_mul4 (i : S69632x1024.Idx) : val_main_v89 (F := Ideal) x2 x3 x4 x5 x6 i = ffn (rowR x2 x3 (i 0)) x4 x5 x6 4 (i 1) := by
  rw [val_main_v89_apply]
  unfold ffn
  refine Finset.sum_congr rfl fun k _ => congrArg₂ (fun u v : EReal => u * v) (hid_mul4 x2 x3 x4 x5 hs _) ?_
  rw [val_main_v88_apply, val_main_v87_apply]
  refine congrArg x6 (funext fun a => ?_)
  have h1 : (i 1).val < 1024 := (i 1).isLt
  match a with
  | ⟨0, _⟩ => rfl
  | ⟨1, _⟩ => exact Fin.ext (show (k.val * 1024 + (i 1).val) / 1024 % 3584 = k.val by omega)
  | ⟨2, _⟩ => exact Fin.ext (show (k.val * 1024 + (i 1).val) % 1024 = (i 1).val by omega)

theorem term4 (i : S69632x1024.Idx) : val_main_v91 (F := Ideal) x0 x1 x2 x3 x4 x5 x6 i
    = val_main_v16 (F := Ideal) x0 x1 (ix2 (i 0) (4 : Fin 8)) * ffn (rowR x2 x3 (i 0)) x4 x5 x6 4 (i 1) := by
  rw [val_main_v91_apply, down_mul4 x2 x3 x4 x5 x6 hs, val_main_v90_apply, val_main_v78_apply]
  refine congrArg (fun u : S69632x8.Idx => val_main_v16 (F := Ideal) x0 x1 u * ffn (rowR x2 x3 (i 0)) x4 x5 x6 4 (i 1)) (funext fun a => ?_)
  match a with
  | ⟨0, _⟩ => rfl
  | ⟨1, _⟩ => rfl

theorem gate_mul5 (i : S69632x3584.Idx) : val_main_v96 (F := Ideal) x2 x3 x4 i = gt (rowR x2 x3 (i 0)) x4 5 (i 1) := by
  rw [val_main_v96_apply]
  unfold gt
  refine Finset.sum_congr rfl fun k _ => congrArg₂ (fun u v : EReal => u * v) (hrow x2 x3 hs _) ?_
  rw [val_main_v95_apply, val_main_v94_apply]
  refine congrArg x4 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem up_mul5 (i : S69632x3584.Idx) : val_main_v100 (F := Ideal) x2 x3 x5 i = gt (rowR x2 x3 (i 0)) x5 5 (i 1) := by
  rw [val_main_v100_apply]
  unfold gt
  refine Finset.sum_congr rfl fun k _ => congrArg₂ (fun u v : EReal => u * v) (hrow x2 x3 hs _) ?_
  rw [val_main_v99_apply, val_main_v98_apply]
  refine congrArg x5 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem hid_mul5 (i : S69632x3584.Idx) : val_main_v101 (F := Ideal) x2 x3 x4 x5 i = mid (rowR x2 x3 (i 0)) x4 x5 5 (i 1) := by
  rw [val_main_v101_apply, val_main_v97_apply, val_main_call6_v5_apply, val_main_call6_v4_apply, val_main_call6_cst_0_apply,
    val_main_call6_v3_apply, val_main_call6_v2_apply, val_main_call6_cst_apply, val_main_call6_v1_apply, val_main_call6_v0_apply,
    gate_mul5 x2 x3 x4 hs, up_mul5 x2 x3 x5 hs, one_f32]
  rfl

theorem down_mul5 (i : S69632x1024.Idx) : val_main_v104 (F := Ideal) x2 x3 x4 x5 x6 i = ffn (rowR x2 x3 (i 0)) x4 x5 x6 5 (i 1) := by
  rw [val_main_v104_apply]
  unfold ffn
  refine Finset.sum_congr rfl fun k _ => congrArg₂ (fun u v : EReal => u * v) (hid_mul5 x2 x3 x4 x5 hs _) ?_
  rw [val_main_v103_apply, val_main_v102_apply]
  refine congrArg x6 (funext fun a => ?_)
  have h1 : (i 1).val < 1024 := (i 1).isLt
  match a with
  | ⟨0, _⟩ => rfl
  | ⟨1, _⟩ => exact Fin.ext (show (k.val * 1024 + (i 1).val) / 1024 % 3584 = k.val by omega)
  | ⟨2, _⟩ => exact Fin.ext (show (k.val * 1024 + (i 1).val) % 1024 = (i 1).val by omega)

theorem term5 (i : S69632x1024.Idx) : val_main_v106 (F := Ideal) x0 x1 x2 x3 x4 x5 x6 i
    = val_main_v16 (F := Ideal) x0 x1 (ix2 (i 0) (5 : Fin 8)) * ffn (rowR x2 x3 (i 0)) x4 x5 x6 5 (i 1) := by
  rw [val_main_v106_apply, down_mul5 x2 x3 x4 x5 x6 hs, val_main_v105_apply, val_main_v93_apply]
  refine congrArg (fun u : S69632x8.Idx => val_main_v16 (F := Ideal) x0 x1 u * ffn (rowR x2 x3 (i 0)) x4 x5 x6 5 (i 1)) (funext fun a => ?_)
  match a with
  | ⟨0, _⟩ => rfl
  | ⟨1, _⟩ => rfl

theorem gate_mul6 (i : S69632x3584.Idx) : val_main_v111 (F := Ideal) x2 x3 x4 i = gt (rowR x2 x3 (i 0)) x4 6 (i 1) := by
  rw [val_main_v111_apply]
  unfold gt
  refine Finset.sum_congr rfl fun k _ => congrArg₂ (fun u v : EReal => u * v) (hrow x2 x3 hs _) ?_
  rw [val_main_v110_apply, val_main_v109_apply]
  refine congrArg x4 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem up_mul6 (i : S69632x3584.Idx) : val_main_v115 (F := Ideal) x2 x3 x5 i = gt (rowR x2 x3 (i 0)) x5 6 (i 1) := by
  rw [val_main_v115_apply]
  unfold gt
  refine Finset.sum_congr rfl fun k _ => congrArg₂ (fun u v : EReal => u * v) (hrow x2 x3 hs _) ?_
  rw [val_main_v114_apply, val_main_v113_apply]
  refine congrArg x5 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem hid_mul6 (i : S69632x3584.Idx) : val_main_v116 (F := Ideal) x2 x3 x4 x5 i = mid (rowR x2 x3 (i 0)) x4 x5 6 (i 1) := by
  rw [val_main_v116_apply, val_main_v112_apply, val_main_call7_v5_apply, val_main_call7_v4_apply, val_main_call7_cst_0_apply,
    val_main_call7_v3_apply, val_main_call7_v2_apply, val_main_call7_cst_apply, val_main_call7_v1_apply, val_main_call7_v0_apply,
    gate_mul6 x2 x3 x4 hs, up_mul6 x2 x3 x5 hs, one_f32]
  rfl

theorem down_mul6 (i : S69632x1024.Idx) : val_main_v119 (F := Ideal) x2 x3 x4 x5 x6 i = ffn (rowR x2 x3 (i 0)) x4 x5 x6 6 (i 1) := by
  rw [val_main_v119_apply]
  unfold ffn
  refine Finset.sum_congr rfl fun k _ => congrArg₂ (fun u v : EReal => u * v) (hid_mul6 x2 x3 x4 x5 hs _) ?_
  rw [val_main_v118_apply, val_main_v117_apply]
  refine congrArg x6 (funext fun a => ?_)
  have h1 : (i 1).val < 1024 := (i 1).isLt
  match a with
  | ⟨0, _⟩ => rfl
  | ⟨1, _⟩ => exact Fin.ext (show (k.val * 1024 + (i 1).val) / 1024 % 3584 = k.val by omega)
  | ⟨2, _⟩ => exact Fin.ext (show (k.val * 1024 + (i 1).val) % 1024 = (i 1).val by omega)

theorem term6 (i : S69632x1024.Idx) : val_main_v121 (F := Ideal) x0 x1 x2 x3 x4 x5 x6 i
    = val_main_v16 (F := Ideal) x0 x1 (ix2 (i 0) (6 : Fin 8)) * ffn (rowR x2 x3 (i 0)) x4 x5 x6 6 (i 1) := by
  rw [val_main_v121_apply, down_mul6 x2 x3 x4 x5 x6 hs, val_main_v120_apply, val_main_v108_apply]
  refine congrArg (fun u : S69632x8.Idx => val_main_v16 (F := Ideal) x0 x1 u * ffn (rowR x2 x3 (i 0)) x4 x5 x6 6 (i 1)) (funext fun a => ?_)
  match a with
  | ⟨0, _⟩ => rfl
  | ⟨1, _⟩ => rfl

theorem gate_mul7 (i : S69632x3584.Idx) : val_main_v126 (F := Ideal) x2 x3 x4 i = gt (rowR x2 x3 (i 0)) x4 7 (i 1) := by
  rw [val_main_v126_apply]
  unfold gt
  refine Finset.sum_congr rfl fun k _ => congrArg₂ (fun u v : EReal => u * v) (hrow x2 x3 hs _) ?_
  rw [val_main_v125_apply, val_main_v124_apply]
  refine congrArg x4 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem up_mul7 (i : S69632x3584.Idx) : val_main_v130 (F := Ideal) x2 x3 x5 i = gt (rowR x2 x3 (i 0)) x5 7 (i 1) := by
  rw [val_main_v130_apply]
  unfold gt
  refine Finset.sum_congr rfl fun k _ => congrArg₂ (fun u v : EReal => u * v) (hrow x2 x3 hs _) ?_
  rw [val_main_v129_apply, val_main_v128_apply]
  refine congrArg x5 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem hid_mul7 (i : S69632x3584.Idx) : val_main_v131 (F := Ideal) x2 x3 x4 x5 i = mid (rowR x2 x3 (i 0)) x4 x5 7 (i 1) := by
  rw [val_main_v131_apply, val_main_v127_apply, val_main_call8_v5_apply, val_main_call8_v4_apply, val_main_call8_cst_0_apply,
    val_main_call8_v3_apply, val_main_call8_v2_apply, val_main_call8_cst_apply, val_main_call8_v1_apply, val_main_call8_v0_apply,
    gate_mul7 x2 x3 x4 hs, up_mul7 x2 x3 x5 hs, one_f32]
  rfl

theorem down_mul7 (i : S69632x1024.Idx) : val_main_v134 (F := Ideal) x2 x3 x4 x5 x6 i = ffn (rowR x2 x3 (i 0)) x4 x5 x6 7 (i 1) := by
  rw [val_main_v134_apply]
  unfold ffn
  refine Finset.sum_congr rfl fun k _ => congrArg₂ (fun u v : EReal => u * v) (hid_mul7 x2 x3 x4 x5 hs _) ?_
  rw [val_main_v133_apply, val_main_v132_apply]
  refine congrArg x6 (funext fun a => ?_)
  have h1 : (i 1).val < 1024 := (i 1).isLt
  match a with
  | ⟨0, _⟩ => rfl
  | ⟨1, _⟩ => exact Fin.ext (show (k.val * 1024 + (i 1).val) / 1024 % 3584 = k.val by omega)
  | ⟨2, _⟩ => exact Fin.ext (show (k.val * 1024 + (i 1).val) % 1024 = (i 1).val by omega)

theorem term7 (i : S69632x1024.Idx) : val_main_v136 (F := Ideal) x0 x1 x2 x3 x4 x5 x6 i
    = val_main_v16 (F := Ideal) x0 x1 (ix2 (i 0) (7 : Fin 8)) * ffn (rowR x2 x3 (i 0)) x4 x5 x6 7 (i 1) := by
  rw [val_main_v136_apply, down_mul7 x2 x3 x4 x5 x6 hs, val_main_v135_apply, val_main_v123_apply]
  refine congrArg (fun u : S69632x8.Idx => val_main_v16 (F := Ideal) x0 x1 u * ffn (rowR x2 x3 (i 0)) x4 x5 x6 7 (i 1)) (funext fun a => ?_)
  match a with
  | ⟨0, _⟩ => rfl
  | ⟨1, _⟩ => rfl

theorem total (i : S69632x1024.Idx) : val_main_v137 (F := Ideal) x0 x1 x2 x3 x4 x5 x6 i
    = ∑ e : Fin 8, val_main_v16 (F := Ideal) x0 x1 (ix2 (i 0) e) * ffn (rowR x2 x3 (i 0)) x4 x5 x6 e (i 1) := by
  rw [val_main_v137_apply, val_main_v122_apply, val_main_v107_apply, val_main_v92_apply, val_main_v77_apply, val_main_v62_apply,
    val_main_v47_apply, val_main_v32_apply, val_main_v17_apply, val_main_cst_apply,
    term0 x0 x1 x2 x3 x4 x5 x6 hs, term1 x0 x1 x2 x3 x4 x5 x6 hs, term2 x0 x1 x2 x3 x4 x5 x6 hs, term3 x0 x1 x2 x3 x4 x5 x6 hs,
    term4 x0 x1 x2 x3 x4 x5 x6 hs, term5 x0 x1 x2 x3 x4 x5 x6 hs, term6 x0 x1 x2 x3 x4 x5 x6 hs, term7 x0 x1 x2 x3 x4 x5 x6 hs,
    Fin.sum_univ_eight]
  have hz : (FloatOps.ofBits .f32 0x00000000#32 : Ideal .f32) = (0 : EReal) := Ideal.ofBits_zero_f32
  rw [hz]
  have hadd : ∀ u v w : EReal, (FloatOps.addf (F := Ideal) (φ := .f32) ((0 : EReal)) u) = u := fun u _ _ => zero_add u
  rw [hadd _ 0 0]
  rfl

/-- The reference's result is each tile's expert at each of the tile's tokens. -/
theorem ref_out (he : ∀ x, (x0 x).toNat < 8) (hv : ∀ x, x1 x = 0#32 ∨ x1 x = 1#32) (i : S557056x128.Idx) :
    val_main_v138 (F := Ideal) x0 x1 x2 x3 x4 x5 x6 i = out x0 x1 x2 x3 x4 x5 x6 (i 0) (i 1) := by
  have h0 : (i 0).val < 557056 := (i 0).isLt
  have h1 : (i 1).val < 128 := (i 1).isLt
  rw [val_main_v138_apply, total x0 x1 x2 x3 x4 x5 x6 hs]
  have hq : (idx_main_v138 i 0).val / 512 = (i 0).val / 4096 := by
    show ((i 0).val * 128 + (i 1).val) / 1024 / 512 = (i 0).val / 4096; omega
  have hr : (idx_main_v138 i 0).val % 512 = (i 0).val % 4096 / 8 := by
    show ((i 0).val * 128 + (i 1).val) / 1024 % 512 = (i 0).val % 4096 / 8; omega
  have hk : (idx_main_v138 i 1) = (⟨(i 0).val % 8 * 128 + (i 1).val, by omega⟩ : Fin 1024) :=
    Fin.ext (show ((i 0).val * 128 + (i 1).val) % 1024 = (i 0).val % 8 * 128 + (i 1).val by omega)
  have eW : ∀ (T : ST.Idx → BitVec 32) (h) , word T ((idx_main_v138 i 0).val / 512) h = word T ((i 0).val / 4096) (by omega) := by
    intro T h
    exact congrArg T (congrArg ix1 (Fin.ext hq))
  have eR : rowR x2 x3 (idx_main_v138 i 0) = row x3 (word x2 ((i 0).val / 4096) (by omega)).toNat ((i 0).val % 4096 / 8) := by
    unfold rowR; rw [eW x2, hr]
  unfold out
  by_cases hv1 : word x1 ((i 0).val / 4096) (by omega) = 1#32
  · refine Eq.trans ?_ (if_pos hv1).symm
    have hlt : (word x0 ((i 0).val / 4096) (by omega)).toNat < 8 := he _
    refine Eq.trans ?_ (dif_pos hlt).symm
    rw [Finset.sum_eq_single (⟨(word x0 ((i 0).val / 4096) (by omega)).toNat, hlt⟩ : Fin 8)]
    · rw [gate_one x0 x1 _ _ ((eW x1 _).trans hv1) (congrArg BitVec.toNat (eW x0 _)), one_mul, eR, hk]
    · intro e _ hne
      rw [gate_other x0 x1 _ e (fun h => hne (Fin.ext (h.symm.trans (congrArg BitVec.toNat (eW x0 _))))), zero_mul]
    · intro h; exact absurd (Finset.mem_univ _) h
  · refine Eq.trans ?_ (if_neg hv1).symm
    have hv0 : word x1 ((i 0).val / 4096) (by omega) = 0#32 := (hv _).resolve_right hv1
    refine Finset.sum_eq_zero fun e _ => ?_
    rw [gate_unused x0 x1 _ e ((eW x1 _).trans hv0), zero_mul]

end

end Cert.MoeV

end
-- ==== Proof.MoeAlg.lean ====
/- The grouped call's claims: the reference's frame, and the equality of the call's result with the reference's on the
   extended reals. -/
module

public import proofs.«01_k».proof.Proof.MoeTwin
public import proofs.«01_k».proof.Proof.MoeVal
public import proofs.«01_k».proof.Proof.MoeRef

@[expose] public section

noncomputable section

namespace Cert.MoeP

open Idealize.ShloMosaic Idealize.ShloMosaic.TcCoe Idealize.SL.Sem
local instance : Cert.Moe.Facts := Cert.Moe.Gen.facts
local instance : Cert.MoeIdeal.Facts := Cert.MoeIdeal.Gen.facts
local instance : Cert.MoeReferenceIdeal.Facts := Cert.MoeReferenceIdeal.Gen.facts

theorem frame_ri : Cert.quiescent_MoeReferenceIdeal (hMoeReferenceIdeal := Cert.MoeReferenceIdeal.Gen.facts) (hPre_in_range := Cert.Pre_in_range.Gen.facts) :=
  fun m ρ _ => (θ_run Cert.MoeReferenceIdeal.defs _ _).mono (fun r h => ⟨fun c => (h c).2,
      Idealize.ShloMosaic.sem_eq_zero_of_no_sems (by decide) r.2⟩)
    (Cert.MoeReferenceIdeal.Value.run (F := Ideal) m ρ)

theorem preserves_p : Cert.preserves_Moe_MoeIdeal := trivial

/-- The reference's result at the kernel's arguments. -/
theorem ref_eq {T0 T1 T2 : Cert.Moe.S136.Idx → BitVec 32} (hR : Cert.Moe.Run.Rng T0 T1 T2)
    (m : (ℓ : Loc Cert.Moe.nD Cert.Moe.τ Cert.Moe.sig) → Buf (Elt Ideal) ℓ) (c : Dev Cert.Moe.nD) :
    Cert.MoeReferenceIdeal.Read.val_main_v138 (F := Ideal) T0 T1 T2 (Cert.MoeV.XS m c) (Cert.MoeV.WG m c) (Cert.MoeV.WU m c) (Cert.MoeV.WD m c)
      = Cert.MoeV.G m T0 T1 T2 c :=
  funext fun i => Cert.MoeV.ref_out T0 T1 T2 _ _ _ _ hR.ts hR.te hR.tv i

/-- Equal arguments, equal results. -/
theorem ref_congr {x0 y0 x1 y1 x2 y2 : Cert.MoeV.ST.Idx → BitVec 32} {x3 y3 : Cert.MoeV.SX.Idx → EReal} {x4 y4 x5 y5 : Cert.MoeV.SW.Idx → EReal}
    {x6 y6 : Cert.MoeV.SD.Idx → EReal} (h0 : x0 = y0) (h1 : x1 = y1) (h2 : x2 = y2) (h3 : x3 = y3) (h4 : x4 = y4) (h5 : x5 = y5) (h6 : x6 = y6) :
    Cert.MoeReferenceIdeal.Read.val_main_v138 (F := Ideal) x0 x1 x2 x3 x4 x5 x6 = Cert.MoeReferenceIdeal.Read.val_main_v138 (F := Ideal) y0 y1 y2 y3 y4 y5 y6 := by
  subst h0 h1 h2 h3 h4 h5 h6
  rfl

theorem algebraic : Cert.algebraic_MoeIdeal_MoeReferenceIdeal (hMoeIdeal := Cert.MoeIdeal.Gen.facts)
    (hMoeReferenceIdeal := Cert.MoeReferenceIdeal.Gen.facts) (hPre_in_range := Cert.Pre_in_range.Gen.facts) := by
  intro m g m' g' hp hagree
  have hR := rng (F := Ideal) _ _ _ _ _ _ _ (hp (0 : Fin 1))
  refine ⟨fun c => Cert.MoeV.G m (m ((Dev.tc (0 : Fin 1) : Thread Cert.MoeIdeal.nD Cert.MoeIdeal.τ).loc Cert.MoeIdeal.main_arg0)) (m ((Dev.tc (0 : Fin 1) : Thread Cert.MoeIdeal.nD Cert.MoeIdeal.τ).loc Cert.MoeIdeal.main_arg1))
    (m ((Dev.tc (0 : Fin 1) : Thread Cert.MoeIdeal.nD Cert.MoeIdeal.τ).loc Cert.MoeIdeal.main_arg2)) c, ?_, ?_⟩
  rotate_left
  · refine (θ_run Cert.MoeReferenceIdeal.defs _ _).mono (fun _ h c => ⟨(h c).1.trans ?_, (h c).2⟩)
      (Cert.MoeReferenceIdeal.Value.run (F := Ideal) m' g')
    obtain ⟨a0, a1, a2, a3, a4, a5, a6⟩ := hagree c
    rw [Cert.MoeReferenceIdeal.Read.val_main_v138_eq]
    obtain rfl : c = (0 : Fin 1) := dev0 c
    exact (ref_congr a0 a1 a2 a3 a4 a5 a6).trans (ref_eq hR m (0 : Fin 1))
  · have key := (θ_run (Cert.Moe.defs (F := Ideal)) _ _).mono
      (fun _ h => (fun c => ⟨(h.1 c).1.trans (Cert.MoeV.final hR m c), (h.1 c).2⟩ : ∀ c : Dev Cert.Moe.nD, _ ∧ _))
      (Cert.Moe.Run.run (F := Ideal) hR m g (fun c => by rw [dev0 c]; exact ⟨rfl, rfl, rfl⟩))
    exact xfer _ _ key

end Cert.MoeP

end
-- ==== Proof.DenseRuns.lean ====
module

public import proofs.«01_k».proof.Proof.Gen.Dense.Skeleton
public import proofs.«01_k».proof.Proof.Gen.Dense.Launch
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Dense.Run

open Cert.Dense Cert.Dense.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # One point of the dense swiglu pipeline, by the way its three branches go

A tile is used or not (its entry of the second table), and each tile has two points. The four cases: an unused
tile's first point writes zeros, its second does nothing; a used tile's first point fills the scratch buffer with the
first half's product, its second adds the second half and writes the eight row classes. -/

/-- The tables and the scratch buffer, whole. -/
abbrev tb0 : Memref sig .tc .smem S64 .i32 := Memref.whole main_v5
abbrev tb1 : Memref sig .tc .smem S64 .i32 := Memref.whole main_v6
abbrev tb2 : Memref sig .tc .smem S64 .i32 := Memref.whole main_v0
abbrev sc0 : Memref sig .tc .vmem S512x1024 .f32 := Memref.whole cc0_scratch0

/-- The word of the second table the body reads at a point, and reads again. -/
abbrev wdA (i : grid0.Coords) (T1 : S64.Idx → Elt F .i32) : Elt F .i32 :=
  View.readAt (Elt F) tb1.view (Rect.unit (s := S64) (k0_off1 i) S1.size (k0_off1_inb i)).toLoadRect T1 (Shape.Idx.first (numel1_S1.symm ▸ Nat.one_pos))
abbrev wdB (i : grid0.Coords) (T1 : S64.Idx → Elt F .i32) : Elt F .i32 :=
  View.readAt (Elt F) tb1.view (Rect.unit (s := S64) (k0_off2 i) S1.size (k0_off2_inb i)).toLoadRect T1 (Shape.Idx.first (numel1_S1.symm ▸ Nat.one_pos))

/-- The three branch conditions at a point. -/
abbrev cnd1 (i : grid0.Coords) (T1 : S64.Idx → Elt F .i32) : Prop := k0_cond1 i (wdA (F := F) i T1) = 1#1
abbrev cnd2 (i : grid0.Coords) (T1 : S64.Idx → Elt F .i32) : Prop :=
  Scalar.cmpi .ne (Scalar.extui (Scalar.andi (Scalar.cmpi .sgt (wdB (F := F) i T1) 0#32) (Scalar.cmpi .eq (BitVec.ofNat 32 (i 1).val) 0#32))) 0#32 = 1#1
abbrev cnd3 (i : grid0.Coords) (T1 : S64.Idx → Elt F .i32) : Prop := k0_cond3 i (wdB (F := F) i T1) = 1#1

set_option backward.proofsInPublic true in
set_option maxHeartbeats 8000000 in
/-- An unused tile, first point: the whole output block is stored. -/
noncomputable def runZ (c : Dev nD) (i : grid0.Coords) (arg5 : Memref sig .tc .vmem S512x1024 .bf16) (harg5 : arg5.IsWhole) (arg6 : Memref sig .tc .vmem S512x1024 .f32) (harg6 : arg6.IsWhole) (arg7 : Memref sig .tc .vmem S1x1024x1792 .bf16) (harg7 : arg7.IsWhole) (arg8 : Memref sig .tc .vmem S1x1024x1792 .bf16) (harg8 : arg8.IsWhole) (arg9 : Memref sig .tc .vmem S1x1792x1024 .bf16) (harg9 : arg9.IsWhole) (arg10 : Memref sig .tc .vmem S512x1024 .f32) (harg10 : arg10.IsWhole) (T0 T1 T2 : S64.Idx → Elt F .i32) (x0 : S512x1024.Idx → Elt F .bf16) (x1 : S512x1024.Idx → Elt F .f32) (x2 : S1x1024x1792.Idx → Elt F .bf16) (x3 : S1x1024x1792.Idx → Elt F .bf16) (x4 : S1x1792x1024.Idx → Elt F .bf16) (h1 : cnd1 (F := F) i T1) (h2 : ¬(cnd2 (F := F) i T1)) (h3 : ¬(cnd3 (F := F) i T1)) :
    { out : List (View.Piece (Elt F) S512x1024 .f32) // ∀ (xa : Buf (Elt F) ((c : Thread nD τ).loc cc0_scratch0)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (∃ d, owns (c : Thread nD τ) arg10 fullShare d)
          ∗ (sc0.view.loc (c : Thread nD τ) ↦{fullShare} xa)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (∃ f, arg10.view.loc (c : Thread nD τ) ↦[arg10.view.set]{fullShare} arg10.view.writes (Elt F) f out)
          ∗ (sc0.view.loc (c : Thread nD τ) ↦{fullShare} xa)) -∗ K ⟨⟩))
          ⊢ wp frame (wpE (defs₀ (F := F)) Variants.none c none) Set.univ (cc0_grouped_swiglu_res i tb0 (Memref.isWhole_whole _) tb1 (Memref.isWhole_whole _) tb2 (Memref.isWhole_whole _) arg5 harg5 arg6 harg6 arg7 harg7 arg8 harg8 arg9 harg9 arg10 harg10 sc0 (Memref.isWhole_whole _)) K } :=
  ⟨_, fun xa K => by
    unfold owns
    rw [cc0_grouped_swiglu_res_eq_skeleton]; unfold cc0_grouped_swiglu_res_skel
    iintro ⟨H0, H1, H2, H3, H4, HT0, HT1, HT2, ⟨%d9, %f9, -, HO⟩, HS, Hk⟩
    have hS0 : sc0.IsWhole := Memref.isWhole_whole _
    have hT0 : tb0.IsWhole := Memref.isWhole_whole _
    have hT1 : tb1.IsWhole := Memref.isWhole_whole _
    have hT2 : tb2.IsWhole := Memref.isWhole_whole _
    sl_exec! (disch := first | (guard_target = k0_cond1 _ _ = _; exact h1) | (guard_target = ¬(Scalar.cmpi = _); exact h2) | (guard_target = ¬(k0_cond3 _ _ = _); exact h3) | exact h1 | exact h2 | exact h3)
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    isplitl [HO]; · iexists _; iexact HO
    iexact HS⟩

set_option backward.proofsInPublic true in
set_option maxHeartbeats 8000000 in
/-- An unused tile, second point: nothing happens. -/
theorem runI (c : Dev nD) (i : grid0.Coords) (arg5 : Memref sig .tc .vmem S512x1024 .bf16) (harg5 : arg5.IsWhole) (arg6 : Memref sig .tc .vmem S512x1024 .f32) (harg6 : arg6.IsWhole) (arg7 : Memref sig .tc .vmem S1x1024x1792 .bf16) (harg7 : arg7.IsWhole) (arg8 : Memref sig .tc .vmem S1x1024x1792 .bf16) (harg8 : arg8.IsWhole) (arg9 : Memref sig .tc .vmem S1x1792x1024 .bf16) (harg9 : arg9.IsWhole) (arg10 : Memref sig .tc .vmem S512x1024 .f32) (harg10 : arg10.IsWhole) (T0 T1 T2 : S64.Idx → Elt F .i32) (x0 : S512x1024.Idx → Elt F .bf16) (x1 : S512x1024.Idx → Elt F .f32) (x2 : S1x1024x1792.Idx → Elt F .bf16) (x3 : S1x1024x1792.Idx → Elt F .bf16) (x4 : S1x1792x1024.Idx → Elt F .bf16) (h1 : ¬(cnd1 (F := F) i T1)) (h2 : ¬(cnd2 (F := F) i T1)) (h3 : ¬(cnd3 (F := F) i T1)) :
    ∀ (y : S512x1024.Idx → Elt F .f32) (xa : Buf (Elt F) ((c : Thread nD τ).loc cc0_scratch0)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg10 fullShare y
          ∗ (sc0.view.loc (c : Thread nD τ) ↦{fullShare} xa)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg10 fullShare y
          ∗ (sc0.view.loc (c : Thread nD τ) ↦{fullShare} xa)) -∗ K ⟨⟩))
          ⊢ wp frame (wpE (defs₀ (F := F)) Variants.none c none) Set.univ (cc0_grouped_swiglu_res i tb0 (Memref.isWhole_whole _) tb1 (Memref.isWhole_whole _) tb2 (Memref.isWhole_whole _) arg5 harg5 arg6 harg6 arg7 harg7 arg8 harg8 arg9 harg9 arg10 harg10 sc0 (Memref.isWhole_whole _)) K := by
    intro y xa K
    unfold owns
    rw [cc0_grouped_swiglu_res_eq_skeleton]; unfold cc0_grouped_swiglu_res_skel
    iintro ⟨H0, H1, H2, H3, H4, HT0, HT1, HT2, ⟨%f9, %hf9, HO⟩, HS, Hk⟩
    obtain rfl := harg10.eq_unread hf9
    have hS0 : sc0.IsWhole := Memref.isWhole_whole _
    have hT0 : tb0.IsWhole := Memref.isWhole_whole _
    have hT1 : tb1.IsWhole := Memref.isWhole_whole _
    have hT2 : tb2.IsWhole := Memref.isWhole_whole _
    sl_exec! (disch := first | (guard_target = ¬(k0_cond1 _ _ = _); exact h1) | (guard_target = ¬(Scalar.cmpi = _); exact h2) | (guard_target = ¬(k0_cond3 _ _ = _); exact h3) | exact h1 | exact h2 | exact h3)
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    isplitl [HO]
    · iexists _; isplitr; · ipureintro; exact harg10.read_unread _
      iexact HO
    iexact HS

set_option backward.proofsInPublic true in
set_option maxHeartbeats 8000000 in
/-- A used tile, first point: the scratch buffer takes the first half's product. -/
noncomputable def runA (c : Dev nD) (i : grid0.Coords) (arg5 : Memref sig .tc .vmem S512x1024 .bf16) (harg5 : arg5.IsWhole) (arg6 : Memref sig .tc .vmem S512x1024 .f32) (harg6 : arg6.IsWhole) (arg7 : Memref sig .tc .vmem S1x1024x1792 .bf16) (harg7 : arg7.IsWhole) (arg8 : Memref sig .tc .vmem S1x1024x1792 .bf16) (harg8 : arg8.IsWhole) (arg9 : Memref sig .tc .vmem S1x1792x1024 .bf16) (harg9 : arg9.IsWhole) (arg10 : Memref sig .tc .vmem S512x1024 .f32) (harg10 : arg10.IsWhole) (T0 T1 T2 : S64.Idx → Elt F .i32) (x0 : S512x1024.Idx → Elt F .bf16) (x1 : S512x1024.Idx → Elt F .f32) (x2 : S1x1024x1792.Idx → Elt F .bf16) (x3 : S1x1024x1792.Idx → Elt F .bf16) (x4 : S1x1792x1024.Idx → Elt F .bf16) (h1 : ¬(cnd1 (F := F) i T1)) (h2 : cnd2 (F := F) i T1) (h3 : ¬(cnd3 (F := F) i T1)) :
    { outs : Buf (Elt F) ((c : Thread nD τ).loc cc0_scratch0) // ∀ (y : S512x1024.Idx → Elt F .f32) (xa : Buf (Elt F) ((c : Thread nD τ).loc cc0_scratch0)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg10 fullShare y
          ∗ (sc0.view.loc (c : Thread nD τ) ↦{fullShare} xa)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg10 fullShare y
          ∗ (sc0.view.loc (c : Thread nD τ) ↦{fullShare} outs)) -∗ K ⟨⟩))
          ⊢ wp frame (wpE (defs₀ (F := F)) Variants.none c none) Set.univ (cc0_grouped_swiglu_res i tb0 (Memref.isWhole_whole _) tb1 (Memref.isWhole_whole _) tb2 (Memref.isWhole_whole _) arg5 harg5 arg6 harg6 arg7 harg7 arg8 harg8 arg9 harg9 arg10 harg10 sc0 (Memref.isWhole_whole _)) K } :=
  ⟨_, fun y xa K => by
    unfold owns
    rw [cc0_grouped_swiglu_res_eq_skeleton]; unfold cc0_grouped_swiglu_res_skel
    iintro ⟨H0, H1, H2, H3, H4, HT0, HT1, HT2, ⟨%f9, %hf9, HO⟩, HS, Hk⟩
    obtain rfl := harg10.eq_unread hf9
    have hS0 : sc0.IsWhole := Memref.isWhole_whole _
    have hT0 : tb0.IsWhole := Memref.isWhole_whole _
    have hT1 : tb1.IsWhole := Memref.isWhole_whole _
    have hT2 : tb2.IsWhole := Memref.isWhole_whole _
    sl_exec! (disch := first | (guard_target = ¬(k0_cond1 _ _ = _); exact h1) | (guard_target = Scalar.cmpi = _; exact h2) | (guard_target = ¬(k0_cond3 _ _ = _); exact h3) | exact h1 | exact h2 | exact h3)
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    isplitl [HO]
    · iexists _; isplitr; · ipureintro; exact harg10.read_unread _
      iexact HO
    iexact HS⟩

set_option backward.proofsInPublic true in
set_option maxHeartbeats 8000000 in
/-- A used tile, second point: the sum of the two halves is stored by row class. -/
noncomputable def runB (c : Dev nD) (i : grid0.Coords) (arg5 : Memref sig .tc .vmem S512x1024 .bf16) (harg5 : arg5.IsWhole) (arg6 : Memref sig .tc .vmem S512x1024 .f32) (harg6 : arg6.IsWhole) (arg7 : Memref sig .tc .vmem S1x1024x1792 .bf16) (harg7 : arg7.IsWhole) (arg8 : Memref sig .tc .vmem S1x1024x1792 .bf16) (harg8 : arg8.IsWhole) (arg9 : Memref sig .tc .vmem S1x1792x1024 .bf16) (harg9 : arg9.IsWhole) (arg10 : Memref sig .tc .vmem S512x1024 .f32) (harg10 : arg10.IsWhole) (T0 T1 T2 : S64.Idx → Elt F .i32) (x0 : S512x1024.Idx → Elt F .bf16) (x1 : S512x1024.Idx → Elt F .f32) (x2 : S1x1024x1792.Idx → Elt F .bf16) (x3 : S1x1024x1792.Idx → Elt F .bf16) (x4 : S1x1792x1024.Idx → Elt F .bf16) (xa : Buf (Elt F) ((c : Thread nD τ).loc cc0_scratch0)) (h1 : ¬(cnd1 (F := F) i T1)) (h2 : ¬(cnd2 (F := F) i T1)) (h3 : cnd3 (F := F) i T1) :
    { out : List (View.Piece (Elt F) S512x1024 .f32) // ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (∃ d, owns (c : Thread nD τ) arg10 fullShare d)
          ∗ (sc0.view.loc (c : Thread nD τ) ↦{fullShare} xa)
          ∗ (iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (arg9.view.loc (c : Thread nD τ) ↦[arg9.view.set]{fullShare} arg9.view.rep x4)
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ (∃ f, arg10.view.loc (c : Thread nD τ) ↦[arg10.view.set]{fullShare} arg10.view.writes (Elt F) f out)
          ∗ (sc0.view.loc (c : Thread nD τ) ↦{fullShare} xa)) -∗ K ⟨⟩))
          ⊢ wp frame (wpE (defs₀ (F := F)) Variants.none c none) Set.univ (cc0_grouped_swiglu_res i tb0 (Memref.isWhole_whole _) tb1 (Memref.isWhole_whole _) tb2 (Memref.isWhole_whole _) arg5 harg5 arg6 harg6 arg7 harg7 arg8 harg8 arg9 harg9 arg10 harg10 sc0 (Memref.isWhole_whole _)) K } :=
  ⟨_, fun K => by
    unfold owns
    rw [cc0_grouped_swiglu_res_eq_skeleton]; unfold cc0_grouped_swiglu_res_skel
    iintro ⟨H0, H1, H2, H3, H4, HT0, HT1, HT2, ⟨%d9, %f9, -, HO⟩, HS, Hk⟩
    have hS0 : sc0.IsWhole := Memref.isWhole_whole _
    have hT0 : tb0.IsWhole := Memref.isWhole_whole _
    have hT1 : tb1.IsWhole := Memref.isWhole_whole _
    have hT2 : tb2.IsWhole := Memref.isWhole_whole _
    sl_exec! (disch := first | (guard_target = ¬(k0_cond1 _ _ = _); exact h1) | (guard_target = ¬(Scalar.cmpi = _); exact h2) | (guard_target = k0_cond3 _ _ = _; exact h3) | exact h1 | exact h2 | exact h3)
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    isplitl [HO]; · iexists _; iexact HO
    iexact HS⟩

end Cert.Dense.Run

end
-- ==== Proof.DenseSched.lean ====
module

public import proofs.«01_k».proof.Proof.DenseRuns

@[expose] public section

set_option maxRecDepth 16384
set_option Elab.async false

noncomputable section

namespace Cert.Dense.Run

open Cert.Dense Cert.Dense.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! # The pipeline at any tables in range

A tile's expert is one of eight, its used flag is zero or one, the tile of rows it reads is one of the 64. At such
tables every block lies inside its array, and the three branch conditions say which of the four cases a point is. -/

/-- The tables are in range. -/
structure Rng (T0 T1 T2 : S64.Idx → BitVec 32) : Prop where
  te : ∀ x, (T0 x).toNat < 1
  tv : ∀ x, T1 x = 0#32 ∨ T1 x = 1#32
  ts : ∀ x, (T2 x).toNat < 64

set_option backward.proofsInPublic true in
/-- The tables as the pipeline's contents. -/
def pfT (T0 T1 T2 : S64.Idx → BitVec 32) : pre0.Contents (Elt F) :=
  fun | ⟨0, _⟩ => T0 | ⟨1, _⟩ => T1 | ⟨2, _⟩ => T2 | ⟨_ + 3, h⟩ => absurd h (by simp)

theorem size64 (a : Fin S64.rank) : S64.size a = 64 := by
  obtain ⟨a, ha⟩ := a
  have h0 : a = 0 := by have : a < 1 := ha; omega
  subst h0; rfl

/-- The tables' entry `n`. -/
abbrev sIx (n : ℕ) (h : n < 64) : S64.Idx := fun a => ⟨n, by rw [size64]; exact h⟩

/-- A point's tile. -/
abbrev tix (i : grid0.Coords) : S64.Idx := sIx (i 0).val (i 0).isLt

theorem ofNat_cast : ∀ v : Fin 64, (Scalar.indexCast (BitVec.ofNat 32 v.val) : Index).toNat = v.val := by decide +kernel

theorem off1_eq (i : grid0.Coords) : k0_off1 i = ![(i 0).val] := by
  unfold k0_off1; exact congrArg (fun n : ℕ => (![n] : Fin 1 → ℕ)) (ofNat_cast (i 0))

theorem off2_eq (i : grid0.Coords) : k0_off2 i = ![(i 0).val] := by
  unfold k0_off2; exact congrArg (fun n : ℕ => (![n] : Fin 1 → ℕ)) (ofNat_cast (i 0))

theorem emb_tix (i : grid0.Coords) (off : Fin 1 → ℕ) (hoff : off = ![(i 0).val]) (inb) (h) :
    (Rect.unit (s := S64) off S1.size inb).emb (Shape.Idx.first h) = tix i := by
  subst hoff
  funext a
  obtain ⟨a, ha⟩ := a
  have h0 : a = 0 := by have : a < 1 := ha; omega
  subst h0
  exact Fin.ext (show (i 0).val + 1 * 0 = (i 0).val by omega)

theorem wdA_eq (i : grid0.Coords) (T1 : S64.Idx → BitVec 32) : wdA (F := F) i T1 = T1 (tix i) := by
  show T1 ((Rect.unit (s := S64) (k0_off1 i) S1.size (k0_off1_inb i)).emb (Shape.Idx.first _)) = _
  rw [emb_tix i _ (off1_eq i)]

theorem wdB_eq (i : grid0.Coords) (T1 : S64.Idx → BitVec 32) : wdB (F := F) i T1 = T1 (tix i) := by
  show T1 ((Rect.unit (s := S64) (k0_off2 i) S1.size (k0_off2_inb i)).emb (Shape.Idx.first _)) = _
  rw [emb_tix i _ (off2_eq i)]

theorem atD_eq1 (T0 T1 T2 : S64.Idx → BitVec 32) (i : grid0.Coords) :
    (pfT (F := F) T0 T1 T2).atD 1 (k0_off1 i) = T1 (tix i) := by
  have h : ∀ a, k0_off1 i a + 1 ≤ S64.size a := by
    rw [off1_eq]; intro a; obtain ⟨a, ha⟩ := a
    have h0 : a = 0 := by have : a < 1 := ha; omega
    subst h0; exact (i 0).isLt
  refine (dif_pos h).trans ?_
  show T1 _ = T1 _
  congr 1; funext a; obtain ⟨a, ha⟩ := a
  have h0 : a = 0 := by have : a < 1 := ha; omega
  subst h0
  exact Fin.ext (congrFun (off1_eq i) 0)

theorem atD_eq2 (T0 T1 T2 : S64.Idx → BitVec 32) (i : grid0.Coords) :
    (pfT (F := F) T0 T1 T2).atD 1 (k0_off2 i) = T1 (tix i) := by
  have e : k0_off2 i = k0_off1 i := (off2_eq i).trans (off1_eq i).symm
  rw [e]; exact atD_eq1 T0 T1 T2 i

theorem one_lt2 (i : grid0.Coords) : (i 1).val = 0 ∨ (i 1).val = 1 := by
  have h : (i 1).val < 2 := (i 1).isLt
  omega

/-! ## The branch conditions -/

theorem c1_iff (i : grid0.Coords) (v : BitVec 32) (hv : v = 0#32 ∨ v = 1#32) :
    k0_cond1 i v = 1#1 ↔ v = 0#32 ∧ (i 1).val = 0 := by
  unfold k0_cond1
  rcases hv with rfl | rfl <;> rcases one_lt2 i with h | h <;> rw [h] <;> decide

theorem c2_iff (i : grid0.Coords) (v : BitVec 32) (hv : v = 0#32 ∨ v = 1#32) :
    (Scalar.cmpi .ne (Scalar.extui (Scalar.andi (Scalar.cmpi .sgt v 0#32) (Scalar.cmpi .eq (BitVec.ofNat 32 (i 1).val) 0#32)) : BitVec 32) 0#32 = 1#1)
      ↔ v = 1#32 ∧ (i 1).val = 0 := by
  rcases hv with rfl | rfl <;> rcases one_lt2 i with h | h <;> rw [h] <;> decide

theorem c3_iff (i : grid0.Coords) (v : BitVec 32) (hv : v = 0#32 ∨ v = 1#32) :
    k0_cond3 i v = 1#1 ↔ v = 1#32 ∧ (i 1).val = 1 := by
  unfold k0_cond3
  rcases hv with rfl | rfl <;> rcases one_lt2 i with h | h <;> rw [h] <;> decide

variable {T0 T1 T2 : S64.Idx → BitVec 32} (hR : Rng T0 T1 T2)
include hR

theorem cnd1_iff (i : grid0.Coords) : cnd1 (F := F) i T1 ↔ T1 (tix i) = 0#32 ∧ (i 1).val = 0 := by
  unfold cnd1; rw [wdA_eq]; exact c1_iff i _ (hR.tv _)

theorem cnd2_iff (i : grid0.Coords) : cnd2 (F := F) i T1 ↔ T1 (tix i) = 1#32 ∧ (i 1).val = 0 := by
  unfold cnd2; rw [wdB_eq]; exact c2_iff i _ (hR.tv _)

theorem cnd3_iff (i : grid0.Coords) : cnd3 (F := F) i T1 ↔ T1 (tix i) = 1#32 ∧ (i 1).val = 1 := by
  unfold cnd3; rw [wdB_eq]; exact c3_iff i _ (hR.tv _)

/-- The output is left alone exactly at the points where neither the zeros nor the sum is stored. -/
theorem idle_iff (i : grid0.Coords) :
    idle0 (pfT (F := F) T0 T1 T2) 5 i = decide (T1 (tix i) = 0#32 ↔ (i 1).val = 1) := by
  have h1 := c1_iff i _ (hR.tv (tix i))
  have h3 := c3_iff i _ (hR.tv (tix i))
  show (!(k0_cond1 i ((pfT (F := F) T0 T1 T2).atD 1 (k0_off1 i)) == 1#1) && !(k0_cond3 i ((pfT (F := F) T0 T1 T2).atD 1 (k0_off2 i)) == 1#1)) = _
  rw [atD_eq1, atD_eq2]
  rw [show (k0_cond1 i (T1 (tix i)) == 1#1) = decide (T1 (tix i) = 0#32 ∧ (i 1).val = 0) from by
      rw [Bool.eq_iff_iff, beq_iff_eq, decide_eq_true_iff]; exact h1,
    show (k0_cond3 i (T1 (tix i)) == 1#1) = decide (T1 (tix i) = 1#32 ∧ (i 1).val = 1) from by
      rw [Bool.eq_iff_iff, beq_iff_eq, decide_eq_true_iff]; exact h3]
  rcases hR.tv (tix i) with hv | hv <;> rcases one_lt2 i with hc | hc <;> rw [hv, hc] <;> decide

/-! ## The blocks -/

omit hR in
theorem ix0_eq (i : grid0.Coords) : cc0_transform_0 k0_off1_inb numel1_S1 (pfT (F := F) T0 T1 T2) i = ![(T2 (tix i)).toNat, 0] := by
  have e : (pfT (F := F) T0 T1 T2).at 2 (Rect.unit (s := S64) (k0_off1 i) S1.size (k0_off1_inb i)) numel1_S1 = T2 (tix i) := by
    exact congrArg T2 (emb_tix i _ (off1_eq i) _ _)
  exact congrArg (fun v : BitVec 32 => (![v.toNat, 0] : Fin 2 → ℕ)) e

omit hR in
theorem muli_half : ∀ (c : Fin 2), (Scalar.muli (BitVec.ofNat 32 c.val) 0#32 : BitVec 32).toNat = 0 ∧ (Scalar.muli (BitVec.ofNat 32 c.val) 1#32 : BitVec 32).toNat = c.val := by decide

/-- Which half of the weights a point works on: its own half at a used tile, the first at an unused. -/
abbrev half (T1 : S64.Idx → BitVec 32) (i : grid0.Coords) : ℕ := if T1 (tix i) = 1#32 then (i 1).val else 0

theorem muli_eq (i : grid0.Coords) : (Scalar.muli (BitVec.ofNat 32 (i 1).val) (T1 (tix i)) : BitVec 32).toNat = half T1 i := by
  unfold half
  rcases hR.tv (tix i) with hv | hv <;> rw [hv]
  · exact (muli_half (i 1)).1
  · exact (muli_half (i 1)).2

theorem ix1_eq (i : grid0.Coords) : cc0_transform_2 k0_off1_inb numel1_S1 (pfT (F := F) T0 T1 T2) i = ![(T0 (tix i)).toNat, 0, half T1 i] := by
  have e0 : (pfT (F := F) T0 T1 T2).at 0 (Rect.unit (s := S64) (k0_off1 i) S1.size (k0_off1_inb i)) numel1_S1 = T0 (tix i) := by
    exact congrArg T0 (emb_tix i _ (off1_eq i) _ _)
  have e1 : (pfT (F := F) T0 T1 T2).at 1 (Rect.unit (s := S64) (k0_off1 i) S1.size (k0_off1_inb i)) numel1_S1 = T1 (tix i) := by
    exact congrArg T1 (emb_tix i _ (off1_eq i) _ _)
  refine (congrArg₂ (fun v w : BitVec 32 => (![v.toNat, 0, (Scalar.muli (BitVec.ofNat 32 (i 1).val) w : BitVec 32).toNat] : Fin 3 → ℕ)) e0 e1).trans ?_
  dsimp only; rw [muli_eq hR]

theorem ix2_eq (i : grid0.Coords) : cc0_transform_3 k0_off1_inb numel1_S1 (pfT (F := F) T0 T1 T2) i = ![(T0 (tix i)).toNat, 0, half T1 i] :=
  ix1_eq (F := F) hR i

theorem ix3_eq (i : grid0.Coords) : cc0_transform_4 k0_off1_inb numel1_S1 (pfT (F := F) T0 T1 T2) i = ![(T0 (tix i)).toNat, half T1 i, 0] := by
  have e0 : (pfT (F := F) T0 T1 T2).at 0 (Rect.unit (s := S64) (k0_off1 i) S1.size (k0_off1_inb i)) numel1_S1 = T0 (tix i) := by
    exact congrArg T0 (emb_tix i _ (off1_eq i) _ _)
  have e1 : (pfT (F := F) T0 T1 T2).at 1 (Rect.unit (s := S64) (k0_off1 i) S1.size (k0_off1_inb i)) numel1_S1 = T1 (tix i) := by
    exact congrArg T1 (emb_tix i _ (off1_eq i) _ _)
  refine (congrArg₂ (fun v w : BitVec 32 => (![v.toNat, (Scalar.muli (BitVec.ofNat 32 (i 1).val) w : BitVec 32).toNat, 0] : Fin 3 → ℕ)) e0 e1).trans ?_
  dsimp only; rw [muli_eq hR]

omit hR in
theorem half_lt (i : grid0.Coords) : half T1 i < 2 := by
  unfold half; split
  · exact (i 1).isLt
  · omega

theorem ok_of : ok0 (F := F) (pfT T0 T1 T2) := by
  have b1 : ∀ i : grid0.Coords, ∀ a, ((![(T0 (tix i)).toNat, 0, half T1 i] : Fin 3 → ℕ) a + 1) * S1x1024x1792.size a ≤ S1x1024x3584.size a := by
    intro i a
    have h0 := hR.te (tix i); have h1 := half_lt (T1 := T1) i
    match a with
    | ⟨0, _⟩ => show ((T0 (tix i)).toNat + 1) * 1 ≤ 1; omega
    | ⟨1, _⟩ => show (0 + 1) * 1024 ≤ 1024; omega
    | ⟨2, _⟩ => show (half T1 i + 1) * 1792 ≤ 3584; omega
  refine ⟨fun i => ⟨?_, .inr (Affine.block_words_dvd (s := S32768x1024) (p := EltTy.packing .bf16) (by decide) (by decide))⟩, fun i => ⟨?_, .inl rfl⟩, fun i => ⟨?_, .inr (Affine.block_words_dvd (s := S1x1024x3584) (p := EltTy.packing .bf16) (by decide) (by decide))⟩,
    fun i => ⟨?_, .inr (Affine.block_words_dvd (s := S1x1024x3584) (p := EltTy.packing .bf16) (by decide) (by decide))⟩,
    fun i => ⟨?_, .inr (Affine.block_words_dvd (s := S1x3584x1024) (p := EltTy.packing .bf16) (by decide) (by decide))⟩⟩
  · rw [ix0_eq]; intro a
    have h0 := hR.ts (tix i)
    match a with
    | ⟨0, _⟩ => show ((T2 (tix i)).toNat + 1) * 512 ≤ 32768; omega
    | ⟨1, _⟩ => show (0 + 1) * 1024 ≤ 1024; omega
  · show ∀ a, (cc0_transform_0 k0_off1_inb numel1_S1 (pfT (F := F) T0 T1 T2) i a + 1) * S512x1024.size a ≤ S32768x1024.size a; rw [ix0_eq]; intro a
    have h0 := hR.ts (tix i)
    match a with
    | ⟨0, _⟩ => show ((T2 (tix i)).toNat + 1) * 512 ≤ 32768; omega
    | ⟨1, _⟩ => show (0 + 1) * 1024 ≤ 1024; omega
  · rw [ix1_eq hR]; exact b1 i
  · rw [ix2_eq hR]; exact b1 i
  · rw [ix3_eq hR]; intro a
    have h0 := hR.te (tix i); have h1 := half_lt (T1 := T1) i
    match a with
    | ⟨0, _⟩ => show ((T0 (tix i)).toNat + 1) * 1 ≤ 1; omega
    | ⟨1, _⟩ => show (half T1 i + 1) * 1792 ≤ 3584; omega
    | ⟨2, _⟩ => show (0 + 1) * 1024 ≤ 1024; omega

/-! ## The pipeline, its points -/

/-- The admissible contents, the pipeline at them, as @main's one. -/
def adm : (pcfg0 (F := F)).Adm := ⟨pfT T0 T1 T2, ok_of hR⟩
abbrev cfgA : Pipeline.Cfg sig Λ₀ := cfg0 (F := F) (adm hR)
abbrev pcs : Fin 1 → Pipeline.Cfg sig Λ₀ := Pipeline.pin (pcfgs (F := F)) fun _ => adm hR

abbrev crd (t : Fin (cfgA (F := F) hR).N) : grid0.Coords := (cfgA (F := F) hR).grid.coords t

omit hR in
theorem crd0 : ∀ t : Fin grid0.N, (grid0.coords t 0).val = t.val / 2 := by decide +kernel
omit hR in
theorem crd1 : ∀ t : Fin grid0.N, (grid0.coords t 1).val = t.val % 2 := by decide +kernel
omit hR in
theorem flush4 : ∀ t : Fin grid0.N, Window.flushOf grid0 true cc0_transform_5 t = decide (t.val % 2 = 1) := by decide +kernel

theorem flush_eq (t : Fin (cfgA (F := F) hR).N) : ((cfgA (F := F) hR).win (5 : Fin 6)).flush t = decide (t.val % 2 = 1) :=
  (Window.flush_eq_flushOf _ t).trans (flush4 t)

/-- A tile's used flag. -/
def tvN (T1 : S64.Idx → BitVec 32) (n : ℕ) : BitVec 32 := if h : n < 64 then T1 (sIx n h) else 1#32

omit hR in
theorem tvN_crd (T1 : S64.Idx → BitVec 32) (t : Fin grid0.N) : T1 (tix (grid0.coords t)) = tvN T1 (t.val / 2) := by
  have h : t.val / 2 < 64 := by have h := Nat.lt_of_lt_of_eq t.isLt N_0; omega
  unfold tvN; rw [dif_pos h]
  congr 1; funext a; exact Fin.ext (crd0 t)

include hR in
theorem tvN_or (n : ℕ) : tvN T1 n = 0#32 ∨ tvN T1 n = 1#32 := by
  unfold tvN; split
  · exact hR.tv _
  · exact .inr rfl

theorem idle_eq (t : Fin (cfgA (F := F) hR).N) :
    (cfgA (F := F) hR).idle (5 : Fin 6) ((cfgA (F := F) hR).grid.coords t) = decide (tvN T1 (t.val / 2) = 0#32 ↔ t.val % 2 = 1) := by
  refine (idle_iff (F := F) hR (grid0.coords t)).trans ?_
  rw [tvN_crd T1 t, crd1 t]

/-- Whether nothing has been stored into the output's buffer since its last write-back. -/
def frTab (T1 : S64.Idx → BitVec 32) (n : ℕ) : Bool := decide (n % 2 = 0 ∨ tvN T1 (n / 2) = 1#32)

theorem frTab_step (t : Fin (cfgA (F := F) hR).N) :
    frTab T1 (t.val + 1) = (((cfgA (F := F) hR).win (5 : Fin 6)).flush t || ((cfgA (F := F) hR).idle (5 : Fin 6) ((cfgA (F := F) hR).grid.coords t) && frTab T1 t.val)) := by
  rw [flush_eq, idle_eq]
  unfold frTab
  have hv := tvN_or hR (t.val / 2)
  rcases Nat.mod_two_eq_zero_or_one t.val with h | h
  · have h1 : (t.val + 1) % 2 = 1 := by omega
    have h2 : (t.val + 1) / 2 = t.val / 2 := by omega
    rw [h1, h2, h]
    rcases hv with hv | hv <;> rw [hv] <;> decide
  · have h1 : (t.val + 1) % 2 = 0 := by omega
    rw [h1, h]; simp

theorem fresh_eq (t : Fin (cfgA (F := F) hR).N) : (cfgA (F := F) hR).fresh (5 : Fin 6) t.val = frTab T1 t.val :=
  Pipeline.Cfg.fresh_tab (cfgA (F := F) hR) (5 : Fin 6) (frTab T1) (by unfold frTab; rfl) (frTab_step hR) t.val (Nat.le_of_lt t.isLt)

end Cert.Dense.Run

end
-- ==== Proof.DenseClosed.lean ====
module

public import proofs.«01_k».proof.Proof.DenseRuns
public import Idealize.ShloMosaic.Lib.Pipeline.ValueKit

@[expose] public section

set_option maxRecDepth 16384
set_option Elab.async false

noncomputable section

namespace Cert.Dense.Run

open Cert.Dense Cert.Dense.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 400000

/-! # What each case leaves, with no buffer named -/

/-- The half's product, from the staged blocks. -/
def partA (x0 : S512x1024.Idx → Elt F .bf16) (x2 x3 : S1x1024x1792.Idx → Elt F .bf16) (x4 : S1x1792x1024.Idx → Elt F .bf16) :
    S512x1024.Idx → Elt F .f32 :=
  k0_pay2 (F := F) x0 x2 x3 x4

/-- The residual plus the two halves' products, the first one from the scratch buffer. -/
def outB (x0 : S512x1024.Idx → Elt F .bf16) (x1 : S512x1024.Idx → Elt F .f32) (x2 x3 : S1x1024x1792.Idx → Elt F .bf16)
    (x4 : S1x1792x1024.Idx → Elt F .bf16) (xa : S512x1024.Idx → Elt F .f32) : S512x1024.Idx → Elt F .f32 :=
  k0_pay3 (F := F) x0 x2 x3 x4 xa x1

theorem readAt_full3 {S : Shape} {e : EltTy} (v : View sig .tc .vmem S e) (x : S.Idx → Elt F e) (off : Fin S.rank → ℕ)
    (h0 : ∀ a, off a = 0) (inb) :
    v.readAt (Elt F) (Rect.unit off S.size inb).toLoadRect (v.rep x) = x := by
  rw [View.readAt_rep]; funext y
  exact congrArg x (funext fun a => Fin.ext (by
    show off a + 1 * (y a).val = (y a).val
    rw [h0 a]; omega))

theorem unit0_mem {S : Shape} (off : Fin S.rank → ℕ) (h0 : ∀ a, off a = 0) (inb) (y : S.Idx) : y ∈ (Rect.unit (s := S) off S.size inb).set :=
  Rect.mem_set_unit.mpr fun a => by rw [h0 a]; exact ⟨Nat.zero_le _, by rw [Nat.zero_add]; exact (y a).isLt⟩

theorem unit0_emb {S : Shape} (off : Fin S.rank → ℕ) (h0 : ∀ a, off a = 0) (inb) (y) : (Rect.unit (s := S) off S.size inb).emb y = y :=
  funext fun a => Fin.ext (by show off a + 1 * (y a).val = (y a).val; rw [h0 a]; omega)

theorem z2 : ∀ a : Fin 2, (![0, 0] : Fin 2 → ℕ) a = 0 := by decide
theorem z3 : ∀ a : Fin 3, (![0, 0, 0] : Fin 3 → ℕ) a = 0 := by decide

theorem canon_whole {S : Shape} {e : EltTy} (off : Fin S.rank → ℕ) (h0 : ∀ a, off a = 0) (inb) (w : S.Idx → Elt F e) :
    View.canon (Val := Elt F) (s := S) (e := e) [⟨Rect.unit off S.size inb, w⟩] = w :=
  funext fun y => View.canon_apply_of_pieces w _ (by
    intro p hp x
    obtain rfl := List.mem_singleton.mp hp
    exact congrArg w (unit0_emb off h0 inb x).symm) y ⟨_, List.mem_singleton.mpr rfl, unit0_mem off h0 inb y⟩

theorem read_piece {S : Shape} {e : EltTy} (v : View sig .tc .vmem S e) (f) (off : Fin S.rank → ℕ) (h0 : ∀ a, off a = 0) (inb) (w : S.Idx → Elt F e) :
    v.read (Elt F) (v.writes (Elt F) f [⟨Rect.unit off S.size inb, w⟩]) = w := by
  rw [View.read_writes_eq_canon _ _ _ (fun y => ⟨_, List.mem_singleton.mpr rfl, unit0_mem off h0 inb y⟩)]
  exact canon_whole off h0 inb w

theorem readA (v : View sig .tc .vmem S512x1024 .f32) (f) (L : List (View.Piece (Elt F) S512x1024 .f32)) (w : S512x1024.Idx → Elt F .f32)
    (hL : L = [⟨Rect.unit (s := S512x1024) ![0, 0] S512x1024.size inb_S512x1024_S512x1024_0_0, w⟩]) :
    v.read (Elt F) (v.writes (Elt F) f L) = w := by
  subst hL
  exact read_piece v f ![0, 0] z2 inb_S512x1024_S512x1024_0_0 w

theorem pcsZ_eq : runZ.sl.HO_1 (F := F) = [⟨Rect.unit (s := S512x1024) ![0, 0] S512x1024.size inb_S512x1024_S512x1024_0_0, k0_pay1 (F := F)⟩] := by
  unfold runZ.sl.HO_1; exact Eq.refl _

/-- An unused tile's first point leaves zeros. -/
theorem runZ_read (c : Dev nD) (i : grid0.Coords) (arg5 : Memref sig .tc .vmem S512x1024 .bf16) (harg5 : arg5.IsWhole) (arg6 : Memref sig .tc .vmem S512x1024 .f32) (harg6 : arg6.IsWhole) (arg7 : Memref sig .tc .vmem S1x1024x1792 .bf16) (harg7 : arg7.IsWhole) (arg8 : Memref sig .tc .vmem S1x1024x1792 .bf16) (harg8 : arg8.IsWhole) (arg9 : Memref sig .tc .vmem S1x1792x1024 .bf16) (harg9 : arg9.IsWhole) (arg10 : Memref sig .tc .vmem S512x1024 .f32) (harg10 : arg10.IsWhole) (T0 T1 T2 : S64.Idx → Elt F .i32) (x0 : S512x1024.Idx → Elt F .bf16) (x1 : S512x1024.Idx → Elt F .f32) (x2 : S1x1024x1792.Idx → Elt F .bf16) (x3 : S1x1024x1792.Idx → Elt F .bf16) (x4 : S1x1792x1024.Idx → Elt F .bf16) (h1 : cnd1 (F := F) i T1) (h2 : ¬(cnd2 (F := F) i T1)) (h3 : ¬(cnd3 (F := F) i T1))  (v : View sig .tc .vmem S512x1024 .f32) (f) :
    v.read (Elt F) (v.writes (Elt F) f (runZ c i arg5 harg5 arg6 harg6 arg7 harg7 arg8 harg8 arg9 harg9 arg10 harg10 T0 T1 T2 x0 x1 x2 x3 x4 h1 h2 h3).1) = k0_pay1 (F := F) := by
  refine readA v f _ _ ?_
  unfold runZ; dsimp only; exact pcsZ_eq

theorem pcsA_eq (arg5 : Memref sig .tc .vmem S512x1024 .bf16) (arg7 arg8 : Memref sig .tc .vmem S1x1024x1792 .bf16) (arg9 : Memref sig .tc .vmem S1x1792x1024 .bf16)
    (x0 : S512x1024.Idx → Elt F .bf16) (x2 x3 : S1x1024x1792.Idx → Elt F .bf16) (x4 : S1x1792x1024.Idx → Elt F .bf16) :
    runA.sl.HS_1 (F := F) arg5 arg7 arg8 arg9 x0 x2 x3 x4
    = [⟨Rect.unit (s := S512x1024) ![0, 0] S512x1024.size inb_S512x1024_S512x1024_0_0, partA x0 x2 x3 x4⟩] := by
  unfold runA.sl.HS_1
  rw [readAt_full3 arg5.view x0 ![0, 0] z2, readAt_full3 arg7.view x2 ![0, 0, 0] z3, readAt_full3 arg8.view x3 ![0, 0, 0] z3, readAt_full3 arg9.view x4 ![0, 0, 0] z3]
  unfold partA
  exact Eq.refl _

/-- A used tile's first point leaves the first half's product in the scratch buffer. -/
theorem runA_eq (c : Dev nD) (i : grid0.Coords) (arg5 : Memref sig .tc .vmem S512x1024 .bf16) (harg5 : arg5.IsWhole) (arg6 : Memref sig .tc .vmem S512x1024 .f32) (harg6 : arg6.IsWhole) (arg7 : Memref sig .tc .vmem S1x1024x1792 .bf16) (harg7 : arg7.IsWhole) (arg8 : Memref sig .tc .vmem S1x1024x1792 .bf16) (harg8 : arg8.IsWhole) (arg9 : Memref sig .tc .vmem S1x1792x1024 .bf16) (harg9 : arg9.IsWhole) (arg10 : Memref sig .tc .vmem S512x1024 .f32) (harg10 : arg10.IsWhole) (T0 T1 T2 : S64.Idx → Elt F .i32) (x0 : S512x1024.Idx → Elt F .bf16) (x1 : S512x1024.Idx → Elt F .f32) (x2 : S1x1024x1792.Idx → Elt F .bf16) (x3 : S1x1024x1792.Idx → Elt F .bf16) (x4 : S1x1792x1024.Idx → Elt F .bf16) (h1 : ¬(cnd1 (F := F) i T1)) (h2 : cnd2 (F := F) i T1) (h3 : ¬(cnd3 (F := F) i T1))  : (runA c i arg5 harg5 arg6 harg6 arg7 harg7 arg8 harg8 arg9 harg9 arg10 harg10 T0 T1 T2 x0 x1 x2 x3 x4 h1 h2 h3).1 = partA x0 x2 x3 x4 := by
  unfold runA; dsimp only
  have h := readA (F := F) (View.whole cc0_scratch0 : View sig .tc .vmem S512x1024 .f32) (View.whole cc0_scratch0 : View sig .tc .vmem S512x1024 .f32).junk _ _ (pcsA_eq arg5 arg7 arg8 arg9 x0 x2 x3 x4)
  rw [View.read_whole] at h
  exact h

theorem pcsB_eq (c : Dev nD) (arg5 : Memref sig .tc .vmem S512x1024 .bf16) (arg6 : Memref sig .tc .vmem S512x1024 .f32) (arg7 arg8 : Memref sig .tc .vmem S1x1024x1792 .bf16) (arg9 : Memref sig .tc .vmem S1x1792x1024 .bf16)
    (x0 : S512x1024.Idx → Elt F .bf16) (x1 : S512x1024.Idx → Elt F .f32) (x2 x3 : S1x1024x1792.Idx → Elt F .bf16) (x4 : S1x1792x1024.Idx → Elt F .bf16) (xa) :
    runB.sl.HO_1 (F := F) c arg5 arg6 arg7 arg8 arg9 x0 x1 x2 x3 x4 xa
    = [⟨Rect.unit (s := S512x1024) ![0, 0] S512x1024.size inb_S512x1024_S512x1024_0_0, outB x0 x1 x2 x3 x4 xa⟩] := by
  unfold runB.sl.HO_1
  have e2 : (View.whole cc0_scratch0).readAt (Elt F) (Rect.unit (s := S512x1024) ![0, 0] S512x1024.size inb_S512x1024_S512x1024_0_0).toLoadRect xa = xa := by
    funext y
    exact congrArg xa (unit0_emb (S := S512x1024) ![0, 0] z2 _ y)
  rw [e2]
  rw [readAt_full3 arg5.view x0 ![0, 0] z2, readAt_full3 arg6.view x1 ![0, 0] z2, readAt_full3 arg7.view x2 ![0, 0, 0] z3, readAt_full3 arg8.view x3 ![0, 0, 0] z3, readAt_full3 arg9.view x4 ![0, 0, 0] z3]
  unfold outB
  exact Eq.refl _

/-- A used tile's second point leaves the sum, the residual added. -/
theorem runB_read (c : Dev nD) (i : grid0.Coords) (arg5 : Memref sig .tc .vmem S512x1024 .bf16) (harg5 : arg5.IsWhole) (arg6 : Memref sig .tc .vmem S512x1024 .f32) (harg6 : arg6.IsWhole) (arg7 : Memref sig .tc .vmem S1x1024x1792 .bf16) (harg7 : arg7.IsWhole) (arg8 : Memref sig .tc .vmem S1x1024x1792 .bf16) (harg8 : arg8.IsWhole) (arg9 : Memref sig .tc .vmem S1x1792x1024 .bf16) (harg9 : arg9.IsWhole) (arg10 : Memref sig .tc .vmem S512x1024 .f32) (harg10 : arg10.IsWhole) (T0 T1 T2 : S64.Idx → Elt F .i32) (x0 : S512x1024.Idx → Elt F .bf16) (x1 : S512x1024.Idx → Elt F .f32) (x2 : S1x1024x1792.Idx → Elt F .bf16) (x3 : S1x1024x1792.Idx → Elt F .bf16) (x4 : S1x1792x1024.Idx → Elt F .bf16) (xa : Buf (Elt F) ((c : Thread nD τ).loc cc0_scratch0)) (h1 : ¬(cnd1 (F := F) i T1)) (h2 : ¬(cnd2 (F := F) i T1)) (h3 : cnd3 (F := F) i T1)  (v : View sig .tc .vmem S512x1024 .f32) (f) :
    v.read (Elt F) (v.writes (Elt F) f (runB c i arg5 harg5 arg6 harg6 arg7 harg7 arg8 harg8 arg9 harg9 arg10 harg10 T0 T1 T2 x0 x1 x2 x3 x4 xa h1 h2 h3).1) = outB x0 x1 x2 x3 x4 xa := by
  refine readA v f _ _ ?_
  unfold runB; dsimp only; exact pcsB_eq _ _ _ _ _ _ _ _ _ _ _ _

end Cert.Dense.Run

end
-- ==== Proof.DenseCert.lean ====
module

public import proofs.«01_k».proof.Proof.DenseSched
public import proofs.«01_k».proof.Proof.DenseClosed
public import Idealize.ShloMosaic.Lib.Pipeline.Quiescent
public import Idealize.ShloMosaic.Lib.Claim

@[expose] public section

set_option maxRecDepth 16384
set_option Elab.async false

noncomputable section

namespace Cert.Dense.Run

open Cert.Dense Cert.Dense.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The dense swiglu pipeline, run at any tables in range -/

variable {T0 T1 T2 : S64.Idx → BitVec 32} (hR : Rng T0 T1 T2)
variable (m : (ℓ : Loc nD τ sig) → Buf (Elt F) ℓ) (ρ : Dev nD → PrngReg)

/-- The buffers when the region is entered: after the three casts. -/
abbrev V (c : Dev nD) (b : Ref sig .tc) : Buf (Elt F) ((c : Thread nD τ).loc b) := StableHlo.after hostOps0 (fun b => m (c, b)) b

abbrev ms0 (t : Fin (cfgA (F := F) hR).N) : Memref sig .tc .vmem S512x1024 .bf16 := spec0_0.stage ((cfgA (F := F) hR).slots t (0 : Fin 6))
abbrev hs0 (t : Fin (cfgA (F := F) hR).N) : (ms0 (F := F) hR t).IsWhole := hstage0_0 (((cfgA (F := F) hR).slots t (0 : Fin 6)).cast nbuf0_0)
abbrev ms1 (t : Fin (cfgA (F := F) hR).N) : Memref sig .tc .vmem S512x1024 .f32 := spec0_1.stage ((cfgA (F := F) hR).slots t (1 : Fin 6))
abbrev hs1 (t : Fin (cfgA (F := F) hR).N) : (ms1 (F := F) hR t).IsWhole := hstage0_1 (((cfgA (F := F) hR).slots t (1 : Fin 6)).cast nbuf0_1)
abbrev ms2 (t : Fin (cfgA (F := F) hR).N) : Memref sig .tc .vmem S1x1024x1792 .bf16 := spec0_2.stage ((cfgA (F := F) hR).slots t (2 : Fin 6))
abbrev hs2 (t : Fin (cfgA (F := F) hR).N) : (ms2 (F := F) hR t).IsWhole := hstage0_2 (((cfgA (F := F) hR).slots t (2 : Fin 6)).cast nbuf0_2)
abbrev ms3 (t : Fin (cfgA (F := F) hR).N) : Memref sig .tc .vmem S1x1024x1792 .bf16 := spec0_3.stage ((cfgA (F := F) hR).slots t (3 : Fin 6))
abbrev hs3 (t : Fin (cfgA (F := F) hR).N) : (ms3 (F := F) hR t).IsWhole := hstage0_3 (((cfgA (F := F) hR).slots t (3 : Fin 6)).cast nbuf0_3)
abbrev ms4 (t : Fin (cfgA (F := F) hR).N) : Memref sig .tc .vmem S1x1792x1024 .bf16 := spec0_4.stage ((cfgA (F := F) hR).slots t (4 : Fin 6))
abbrev hs4 (t : Fin (cfgA (F := F) hR).N) : (ms4 (F := F) hR t).IsWhole := hstage0_4 (((cfgA (F := F) hR).slots t (4 : Fin 6)).cast nbuf0_4)
abbrev ms5 (t : Fin (cfgA (F := F) hR).N) : Memref sig .tc .vmem S512x1024 .f32 := spec0_5.stage ((cfgA (F := F) hR).slots t (5 : Fin 6))
abbrev hs5 (t : Fin (cfgA (F := F) hR).N) : (ms5 (F := F) hR t).IsWhole := hstage0_5 (((cfgA (F := F) hR).slots t (5 : Fin 6)).cast nbuf0_5)

/-- Window `w`'s block at point `t`. -/
def iblk (c : Dev nD) (w : Fin (cfgA (F := F) hR).W) (t : Fin (cfgA (F := F) hR).N) :
    (((cfgA (F := F) hR).win w).xblock (crd hR t)).Idx → Elt F ((cfgA (F := F) hR).win w).elt :=
  (((cfgA (F := F) hR).win w).blk t).view.read (Elt F) (V m c (Pipeline.arrRef spec0 w))

/-- The half's product of the blocks at point `t`. -/
def pA (c : Dev nD) (t : Fin (cfgA (F := F) hR).N) : S512x1024.Idx → Elt F .f32 :=
  partA (iblk hR m c (0 : Fin 6) t) (iblk hR m c (2 : Fin 6) t) (iblk hR m c (3 : Fin 6) t) (iblk hR m c (4 : Fin 6) t)

/-- What the output's buffer is left with at point `t` (its last store, where one is left untouched). -/
def outAt (c : Dev nD) (t : Fin (cfgA (F := F) hR).N) : S512x1024.Idx → Elt F .f32 :=
  if tvN T1 (t.val / 2) = 1#32 then
    outB (iblk hR m c (0 : Fin 6) t) (iblk hR m c (1 : Fin 6) t) (iblk hR m c (2 : Fin 6) t) (iblk hR m c (3 : Fin 6) t) (iblk hR m c (4 : Fin 6) t) (pA hR m c ⟨t.val - 1, by omega⟩)
  else k0_pay1 (F := F)

/-- The invariant: after a used tile's first point the scratch buffer holds the first half's product. -/
def Phi (c : Dev nD) (t : Fin ((cfgA (F := F) hR).N + 1)) : sProp 𝕄 :=
  iprop((∃ a, ⌜∀ n (h : n < (cfgA (F := F) hR).N), t.val = n + 1 → n % 2 = 0 → tvN T1 (n / 2) = 1#32 → a = pA hR m c ⟨n, h⟩⌝
      ∗ (sc0.view.loc (c : Thread nD τ) ↦{fullShare} a))
    ∗ (tb0.view.loc (c : Thread nD τ) ↦{fullShare.right} T0) ∗ (tb1.view.loc (c : Thread nD τ) ↦{fullShare.right} T1)
    ∗ (tb2.view.loc (c : Thread nD τ) ↦{fullShare.right} T2) ∗ (∃ r, prngReg c r))

/-- The proof data of the one pipeline on core `c`. -/
def dats (_ : Fin 1) (c : Dev nD) : Dat τ (Elt F) Unit ℕ (UR sig nD τ) ℕ (cfgA (F := F) hR) c where
  A w := V m c (Pipeline.arrRef spec0 w)
  after w t := match w with
    | ⟨0, _⟩ => iblk hR m c (0 : Fin 6) t
    | ⟨1, _⟩ => iblk hR m c (1 : Fin 6) t
    | ⟨2, _⟩ => iblk hR m c (2 : Fin 6) t
    | ⟨3, _⟩ => iblk hR m c (3 : Fin 6) t
    | ⟨4, _⟩ => iblk hR m c (4 : Fin 6) t
    | ⟨5, _⟩ => outAt hR m c t
  Φ t := Phi hR m c t
  q _ := fullShare
  owed _ := 0

theorem after0 (c : Dev nD) (t : Fin (cfgA (F := F) hR).N) : (dats hR m 0 c).after (0 : Fin 6) t = iblk hR m c (0 : Fin 6) t := rfl
theorem after1 (c : Dev nD) (t : Fin (cfgA (F := F) hR).N) : (dats hR m 0 c).after (1 : Fin 6) t = iblk hR m c (1 : Fin 6) t := rfl
theorem after2 (c : Dev nD) (t : Fin (cfgA (F := F) hR).N) : (dats hR m 0 c).after (2 : Fin 6) t = iblk hR m c (2 : Fin 6) t := rfl
theorem after3 (c : Dev nD) (t : Fin (cfgA (F := F) hR).N) : (dats hR m 0 c).after (3 : Fin 6) t = iblk hR m c (3 : Fin 6) t := rfl
theorem after4 (c : Dev nD) (t : Fin (cfgA (F := F) hR).N) : (dats hR m 0 c).after (4 : Fin 6) t = iblk hR m c (4 : Fin 6) t := rfl
theorem after5 (c : Dev nD) (t : Fin (cfgA (F := F) hR).N) : (dats hR m 0 c).after (5 : Fin 6) t = outAt hR m c t := rfl

theorem before0 (c : Dev nD) (t : Fin (cfgA (F := F) hR).N) (d) : (dats hR m 0 c).before (0 : Fin 6) t d = iblk hR m c (0 : Fin 6) t :=
  ((dats hR m 0 c).before_in_eq_fetched (0 : Fin 6) rfl (fun _ => rfl) (fun _ _ _ => rfl) (fun t => by rw [after0]; unfold Dat.blockOf iblk; rfl) t d).trans
    (by unfold Dat.fetched Dat.blockOf iblk; rfl)

theorem before1 (c : Dev nD) (t : Fin (cfgA (F := F) hR).N) (d) : (dats hR m 0 c).before (1 : Fin 6) t d = iblk hR m c (1 : Fin 6) t :=
  ((dats hR m 0 c).before_in_eq_fetched (1 : Fin 6) rfl (fun _ => rfl) (fun _ _ _ => rfl) (fun t => by rw [after1]; unfold Dat.blockOf iblk; rfl) t d).trans
    (by unfold Dat.fetched Dat.blockOf iblk; rfl)

theorem before2 (c : Dev nD) (t : Fin (cfgA (F := F) hR).N) (d) : (dats hR m 0 c).before (2 : Fin 6) t d = iblk hR m c (2 : Fin 6) t :=
  ((dats hR m 0 c).before_in_eq_fetched (2 : Fin 6) rfl (fun _ => rfl) (fun _ _ _ => rfl) (fun t => by rw [after2]; unfold Dat.blockOf iblk; rfl) t d).trans
    (by unfold Dat.fetched Dat.blockOf iblk; rfl)

theorem before3 (c : Dev nD) (t : Fin (cfgA (F := F) hR).N) (d) : (dats hR m 0 c).before (3 : Fin 6) t d = iblk hR m c (3 : Fin 6) t :=
  ((dats hR m 0 c).before_in_eq_fetched (3 : Fin 6) rfl (fun _ => rfl) (fun _ _ _ => rfl) (fun t => by rw [after3]; unfold Dat.blockOf iblk; rfl) t d).trans
    (by unfold Dat.fetched Dat.blockOf iblk; rfl)

theorem before4 (c : Dev nD) (t : Fin (cfgA (F := F) hR).N) (d) : (dats hR m 0 c).before (4 : Fin 6) t d = iblk hR m c (4 : Fin 6) t :=
  ((dats hR m 0 c).before_in_eq_fetched (4 : Fin 6) rfl (fun _ => rfl) (fun _ _ _ => rfl) (fun t => by rw [after4]; unfold Dat.blockOf iblk; rfl) t d).trans
    (by unfold Dat.fetched Dat.blockOf iblk; rfl)

theorem outAt_zero (c : Dev nD) (t : Fin (cfgA (F := F) hR).N) (h : tvN T1 (t.val / 2) = 0#32) : outAt hR m c t = k0_pay1 (F := F) := by
  unfold outAt; rw [if_neg (by rw [h]; decide)]

/-- Where the output is left alone after a store, it is left with what the store wrote. -/
theorem hcarry (c : Dev nD) : ∀ (t : Fin (cfgA (F := F) hR).N) (ht : t.val ≠ 0), (cfgA (F := F) hR).idle (5 : Fin 6) ((cfgA (F := F) hR).grid.coords t) = true →
    (cfgA (F := F) hR).fresh (5 : Fin 6) t.val = false →
    (dats hR m 0 c).after (5 : Fin 6) t = (dats hR m 0 c).after (5 : Fin 6) ⟨t.val - 1, by omega⟩ := by
  intro t ht hi hf
  rw [fresh_eq] at hf
  unfold frTab at hf
  rw [decide_eq_false_iff_not, not_or] at hf
  have h0 : tvN T1 (t.val / 2) = 0#32 := (tvN_or hR _).resolve_right hf.2
  have e : (t.val - 1) / 2 = t.val / 2 := by omega
  rw [after5, after5, outAt_zero hR m c t h0, outAt_zero hR m c ⟨t.val - 1, by omega⟩ (by show tvN T1 ((t.val - 1) / 2) = _; rw [e]; exact h0)]

theorem before5 (c : Dev nD) (t : Fin (cfgA (F := F) hR).N) (d) :
    (dats hR m 0 c).before (5 : Fin 6) t d = if frTab T1 t.val then d else k0_pay1 (F := F) := by
  rw [(dats hR m 0 c).before_out_traj (5 : Fin 6) rfl (fun _ _ => rfl) (hcarry hR m c) t.val t rfl d, fresh_eq]
  by_cases hf : frTab T1 t.val = true
  · simp only [hf, ↓reduceIte]
  · have hf' := hf
    unfold frTab at hf'
    rw [decide_eq_true_iff, not_or] at hf'
    have h0 : tvN T1 (t.val / 2) = 0#32 := (tvN_or hR _).resolve_right hf'.2
    have e : (t.val - 1) / 2 = t.val / 2 := by omega
    rw [Bool.not_eq_true] at hf
    simp only [hf, Bool.false_eq_true, ↓reduceIte]
    have hlt : t.val - 1 < (cfgA (F := F) hR).N := by omega
    exact (after5 hR m c ⟨t.val - 1, hlt⟩).trans (outAt_zero hR m c ⟨t.val - 1, hlt⟩ (by show tvN T1 ((t.val - 1) / 2) = _; rw [e]; exact h0))

abbrev bodyAt (t : Fin (cfgA (F := F) hR).N) : Prog (TpuEff nD τ sig (Elt F) Λ₀ .tc) PUnit :=
  cc0_grouped_swiglu_res (crd hR t) tb0 (Memref.isWhole_whole _) tb1 (Memref.isWhole_whole _) tb2 (Memref.isWhole_whole _) (ms0 hR t) (hs0 hR t) (ms1 hR t) (hs1 hR t) (ms2 hR t) (hs2 hR t) (ms3 hR t) (hs3 hR t) (ms4 hR t) (hs4 hR t) (ms5 hR t) (hs5 hR t) sc0 (Memref.isWhole_whole _)

set_option maxHeartbeats 4000000 in
/-- The body's obligation at a point, by the four cases. -/
theorem sound_body (c : Dev nD) (t : Fin (cfgA (F := F) hR).N) :
    iprop((dats hR m 0 c).Φ t.castSucc ∗ (dats hR m 0 c).owesAt () t.castSucc
        ∗ (∃ d, owns (c : Thread nD τ) (ms0 hR t) fullShare ((dats hR m 0 c).before (0 : Fin 6) t d))
        ∗ (∃ d, owns (c : Thread nD τ) (ms1 hR t) fullShare ((dats hR m 0 c).before (1 : Fin 6) t d))
        ∗ (∃ d, owns (c : Thread nD τ) (ms2 hR t) fullShare ((dats hR m 0 c).before (2 : Fin 6) t d))
        ∗ (∃ d, owns (c : Thread nD τ) (ms3 hR t) fullShare ((dats hR m 0 c).before (3 : Fin 6) t d))
        ∗ (∃ d, owns (c : Thread nD τ) (ms4 hR t) fullShare ((dats hR m 0 c).before (4 : Fin 6) t d))
        ∗ (∃ d, owns (c : Thread nD τ) (ms5 hR t) fullShare ((dats hR m 0 c).before (5 : Fin 6) t d)))
      ⊢ wp frame (wpE (defs₀ (F := F)) Variants.none c none) Set.univ (bodyAt hR t) fun _ =>
          iprop((dats hR m 0 c).Φ t.succ ∗ (dats hR m 0 c).owesAt () t.succ
            ∗ bigSep Finset.univ fun w : Fin (cfgA (F := F) hR).W =>
                match (cfgA (F := F) hR).idle w ((cfgA (F := F) hR).grid.coords t) with
                | true =>
                  match ((cfgA (F := F) hR).win w).flush t with
                  | false => iprop(∃ d, owns (c : Thread nD τ) (((cfgA (F := F) hR).win w).stage ((cfgA (F := F) hR).slots t w)) fullShare ((dats hR m 0 c).before w t d))
                  | true => owns (c : Thread nD τ) (((cfgA (F := F) hR).win w).stage ((cfgA (F := F) hR).slots t w)) fullShare ((dats hR m 0 c).after w t)
                | false => owns (c : Thread nD τ) (((cfgA (F := F) hR).win w).stage ((cfgA (F := F) hR).slots t w)) fullShare ((dats hR m 0 c).after w t)) := by
  rw [bigSep_W0]
  have hv := tvN_or hR (t.val / 2)
  have hc := Nat.mod_two_eq_zero_or_one t.val
  have ev : T1 (tix (crd hR t)) = tvN T1 (t.val / 2) := tvN_crd T1 t
  have ec : (crd (F := F) hR t 1).val = t.val % 2 := crd1 t
  have n1 := cnd1_iff (F := F) hR (crd hR t)
  have n2 := cnd2_iff (F := F) hR (crd hR t)
  have n3 := cnd3_iff (F := F) hR (crd hR t)
  rw [ev, ec] at n1 n2 n3
  have i4 := idle_eq (F := F) hR t
  have f4 := flush_eq (F := F) hR t
  have fr4 : frTab T1 t.val = decide (t.val % 2 = 0 ∨ tvN T1 (t.val / 2) = 1#32) := rfl
  rcases hv with hv | hv <;> rcases hc with hc | hc <;> rw [hv, hc] at n1 n2 n3 i4 fr4 <;> rw [hc] at f4
  · have h1 : cnd1 (F := F) (crd hR t) T1 := n1.mpr (by decide)
    have h2 : ¬ cnd2 (F := F) (crd hR t) T1 := (fun h => absurd (n2.mp h) (by decide))
    have h3 : ¬ cnd3 (F := F) (crd hR t) T1 := (fun h => absurd (n3.mp h) (by decide))
    replace i4 := i4.trans (by decide : _ = false)
    replace f4 := f4.trans (by decide : _ = false)
    replace fr4 := fr4.trans (by decide : _ = true)
    rewrite [i4]
    simp only [before0, before1, before2, before3, before4, before5, after0, after1, after2, after3, after4, after5, f4, fr4]
    simp only [Bool.false_eq_true, ↓reduceIte]
    rewrite [show (dats hR m 0 c).Φ t.succ = Phi hR m c t.succ from rfl, show (dats hR m 0 c).Φ t.castSucc = Phi hR m c t.castSucc from rfl,
      show (dats hR m 0 c).owesAt () t.succ = (dats hR m 0 c).owesAt () t.castSucc from rfl]
    unfold Phi; simp only [Fin.val_castSucc, Fin.val_succ]
    iintro ⟨⟨⟨%a0, %ha0, HS0⟩, HT0, HT1, HT2, HP⟩, Ho, ⟨%d0, H0⟩, ⟨%d1, H1⟩, ⟨%d2, H2⟩, ⟨%d3, H3⟩, ⟨%d5, H4⟩, ⟨%d5, H5⟩⟩
    iapply ((runZ (F := F) c (crd hR t) (ms0 hR t) (hs0 hR t) (ms1 hR t) (hs1 hR t) (ms2 hR t) (hs2 hR t) (ms3 hR t) (hs3 hR t) (ms4 hR t) (hs4 hR t) (ms5 hR t) (hs5 hR t) T0 T1 T2 (iblk hR m c (0 : Fin 6) t) (iblk hR m c (1 : Fin 6) t) (iblk hR m c (2 : Fin 6) t) (iblk hR m c (3 : Fin 6) t) (iblk hR m c (4 : Fin 6) t) h1 h2 h3).2 a0 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [H5]; · iexists _; iexact H5
    isplitl [HS0]; · iexact HS0
    iintro ⟨H0, H1, H2, H3, H4, HT0, HT1, HT2, ⟨%e5, H5⟩, HS0⟩
    isplitl [HS0 HT0 HT1 HT2 HP]
    · isplitl [HS0]
      · iexists _; isplitr; swap
        · iexact HS0
        · ipureintro; intro n h e _ hn; obtain rfl : t.val = n := by omega
          rw [hv] at hn; exact absurd hn (by decide)
      isplitl [HT0]; · iexact HT0
      isplitl [HT1]; · iexact HT1
      isplitl [HT2]; · iexact HT2
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact (runZ_read c (crd hR t) (ms0 hR t) (hs0 hR t) (ms1 hR t) (hs1 hR t) (ms2 hR t) (hs2 hR t) (ms3 hR t) (hs3 hR t) (ms4 hR t) (hs4 hR t) (ms5 hR t) (hs5 hR t) T0 T1 T2 (iblk hR m c (0 : Fin 6) t) (iblk hR m c (1 : Fin 6) t) (iblk hR m c (2 : Fin 6) t) (iblk hR m c (3 : Fin 6) t) (iblk hR m c (4 : Fin 6) t) h1 h2 h3 (ms5 hR t).view e5).trans (outAt_zero hR m c t hv).symm
  · have h1 : ¬ cnd1 (F := F) (crd hR t) T1 := (fun h => absurd (n1.mp h) (by decide))
    have h2 : ¬ cnd2 (F := F) (crd hR t) T1 := (fun h => absurd (n2.mp h) (by decide))
    have h3 : ¬ cnd3 (F := F) (crd hR t) T1 := (fun h => absurd (n3.mp h) (by decide))
    replace i4 := i4.trans (by decide : _ = true)
    replace f4 := f4.trans (by decide : _ = true)
    replace fr4 := fr4.trans (by decide : _ = false)
    rewrite [i4]
    simp only [before0, before1, before2, before3, before4, before5, after0, after1, after2, after3, after4, after5, f4, fr4]
    simp only [Bool.false_eq_true, ↓reduceIte]
    rewrite [show (dats hR m 0 c).Φ t.succ = Phi hR m c t.succ from rfl, show (dats hR m 0 c).Φ t.castSucc = Phi hR m c t.castSucc from rfl,
      show (dats hR m 0 c).owesAt () t.succ = (dats hR m 0 c).owesAt () t.castSucc from rfl]
    unfold Phi; simp only [Fin.val_castSucc, Fin.val_succ]
    iintro ⟨⟨⟨%a0, %ha0, HS0⟩, HT0, HT1, HT2, HP⟩, Ho, ⟨%d0, H0⟩, ⟨%d1, H1⟩, ⟨%d2, H2⟩, ⟨%d3, H3⟩, ⟨%d5, H4⟩, ⟨%d5, H5⟩⟩
    iapply (runI (F := F) c (crd hR t) (ms0 hR t) (hs0 hR t) (ms1 hR t) (hs1 hR t) (ms2 hR t) (hs2 hR t) (ms3 hR t) (hs3 hR t) (ms4 hR t) (hs4 hR t) (ms5 hR t) (hs5 hR t) T0 T1 T2 (iblk hR m c (0 : Fin 6) t) (iblk hR m c (1 : Fin 6) t) (iblk hR m c (2 : Fin 6) t) (iblk hR m c (3 : Fin 6) t) (iblk hR m c (4 : Fin 6) t) h1 h2 h3 (k0_pay1 (F := F)) a0 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [H5]; · iexact H5
    isplitl [HS0]; · iexact HS0
    iintro ⟨H0, H1, H2, H3, H4, HT0, HT1, HT2, H5, HS0⟩
    isplitl [HS0 HT0 HT1 HT2 HP]
    · isplitl [HS0]
      · iexists _; isplitr; swap
        · iexact HS0
        · ipureintro; intro n h e h0; omega
      isplitl [HT0]; · iexact HT0
      isplitl [HT1]; · iexact HT1
      isplitl [HT2]; · iexact HT2
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    rw [outAt_zero hR m c t hv]
    iexact H5
  · have h1 : ¬ cnd1 (F := F) (crd hR t) T1 := (fun h => absurd (n1.mp h) (by decide))
    have h2 : cnd2 (F := F) (crd hR t) T1 := n2.mpr (by decide)
    have h3 : ¬ cnd3 (F := F) (crd hR t) T1 := (fun h => absurd (n3.mp h) (by decide))
    replace i4 := i4.trans (by decide : _ = true)
    replace f4 := f4.trans (by decide : _ = false)
    replace fr4 := fr4.trans (by decide : _ = true)
    rewrite [i4]
    simp only [before0, before1, before2, before3, before4, before5, after0, after1, after2, after3, after4, after5, f4, fr4]
    simp only [Bool.false_eq_true, ↓reduceIte]
    rewrite [show (dats hR m 0 c).Φ t.succ = Phi hR m c t.succ from rfl, show (dats hR m 0 c).Φ t.castSucc = Phi hR m c t.castSucc from rfl,
      show (dats hR m 0 c).owesAt () t.succ = (dats hR m 0 c).owesAt () t.castSucc from rfl]
    unfold Phi; simp only [Fin.val_castSucc, Fin.val_succ]
    iintro ⟨⟨⟨%a0, %ha0, HS0⟩, HT0, HT1, HT2, HP⟩, Ho, ⟨%d0, H0⟩, ⟨%d1, H1⟩, ⟨%d2, H2⟩, ⟨%d3, H3⟩, ⟨%d5, H4⟩, ⟨%d5, H5⟩⟩
    iapply ((runA (F := F) c (crd hR t) (ms0 hR t) (hs0 hR t) (ms1 hR t) (hs1 hR t) (ms2 hR t) (hs2 hR t) (ms3 hR t) (hs3 hR t) (ms4 hR t) (hs4 hR t) (ms5 hR t) (hs5 hR t) T0 T1 T2 (iblk hR m c (0 : Fin 6) t) (iblk hR m c (1 : Fin 6) t) (iblk hR m c (2 : Fin 6) t) (iblk hR m c (3 : Fin 6) t) (iblk hR m c (4 : Fin 6) t) h1 h2 h3).2 d5 a0 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [H5]; · iexact H5
    isplitl [HS0]; · iexact HS0
    iintro ⟨H0, H1, H2, H3, H4, HT0, HT1, HT2, H5, HS0⟩
    isplitl [HS0 HT0 HT1 HT2 HP]
    · isplitl [HS0]
      · iexists _; isplitr; swap
        · iexact HS0
        · ipureintro; intro n h e _ _; obtain rfl : t.val = n := by omega
          exact runA_eq c (crd hR t) (ms0 hR t) (hs0 hR t) (ms1 hR t) (hs1 hR t) (ms2 hR t) (hs2 hR t) (ms3 hR t) (hs3 hR t) (ms4 hR t) (hs4 hR t) (ms5 hR t) (hs5 hR t) T0 T1 T2 (iblk hR m c (0 : Fin 6) t) (iblk hR m c (1 : Fin 6) t) (iblk hR m c (2 : Fin 6) t) (iblk hR m c (3 : Fin 6) t) (iblk hR m c (4 : Fin 6) t) h1 h2 h3
      isplitl [HT0]; · iexact HT0
      isplitl [HT1]; · iexact HT1
      isplitl [HT2]; · iexact HT2
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    iexists d5; iexact H5
  · have h1 : ¬ cnd1 (F := F) (crd hR t) T1 := (fun h => absurd (n1.mp h) (by decide))
    have h2 : ¬ cnd2 (F := F) (crd hR t) T1 := (fun h => absurd (n2.mp h) (by decide))
    have h3 : cnd3 (F := F) (crd hR t) T1 := n3.mpr (by decide)
    replace i4 := i4.trans (by decide : _ = false)
    replace f4 := f4.trans (by decide : _ = true)
    replace fr4 := fr4.trans (by decide : _ = true)
    rewrite [i4]
    simp only [before0, before1, before2, before3, before4, before5, after0, after1, after2, after3, after4, after5, f4, fr4]
    simp only [Bool.false_eq_true, ↓reduceIte]
    rewrite [show (dats hR m 0 c).Φ t.succ = Phi hR m c t.succ from rfl, show (dats hR m 0 c).Φ t.castSucc = Phi hR m c t.castSucc from rfl,
      show (dats hR m 0 c).owesAt () t.succ = (dats hR m 0 c).owesAt () t.castSucc from rfl]
    unfold Phi; simp only [Fin.val_castSucc, Fin.val_succ]
    iintro ⟨⟨⟨%a0, %ha0, HS0⟩, HT0, HT1, HT2, HP⟩, Ho, ⟨%d0, H0⟩, ⟨%d1, H1⟩, ⟨%d2, H2⟩, ⟨%d3, H3⟩, ⟨%d5, H4⟩, ⟨%d5, H5⟩⟩
    have ht1 : t.val - 1 < (cfgA (F := F) hR).N := by omega
    obtain rfl : a0 = pA hR m c ⟨t.val - 1, ht1⟩ := ha0 (t.val - 1) ht1 (by omega) (by omega) (by rw [show (t.val - 1) / 2 = t.val / 2 by omega]; exact hv)
    iapply ((runB (F := F) c (crd hR t) (ms0 hR t) (hs0 hR t) (ms1 hR t) (hs1 hR t) (ms2 hR t) (hs2 hR t) (ms3 hR t) (hs3 hR t) (ms4 hR t) (hs4 hR t) (ms5 hR t) (hs5 hR t) T0 T1 T2 (iblk hR m c (0 : Fin 6) t) (iblk hR m c (1 : Fin 6) t) (iblk hR m c (2 : Fin 6) t) (iblk hR m c (3 : Fin 6) t) (iblk hR m c (4 : Fin 6) t) (pA hR m c ⟨t.val - 1, ht1⟩) h1 h2 h3).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    isplitl [H5]; · iexists _; iexact H5
    isplitl [HS0]; · iexact HS0
    iintro ⟨H0, H1, H2, H3, H4, HT0, HT1, HT2, ⟨%e5, H5⟩, HS0⟩
    isplitl [HS0 HT0 HT1 HT2 HP]
    · isplitl [HS0]
      · iexists _; isplitr; swap
        · iexact HS0
        · ipureintro; intro n h e h0; omega
      isplitl [HT0]; · iexact HT0
      isplitl [HT1]; · iexact HT1
      isplitl [HT2]; · iexact HT2
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro
      refine (runB_read c (crd hR t) (ms0 hR t) (hs0 hR t) (ms1 hR t) (hs1 hR t) (ms2 hR t) (hs2 hR t) (ms3 hR t) (hs3 hR t) (ms4 hR t) (hs4 hR t) (ms5 hR t) (hs5 hR t) T0 T1 T2 (iblk hR m c (0 : Fin 6) t) (iblk hR m c (1 : Fin 6) t) (iblk hR m c (2 : Fin 6) t) (iblk hR m c (3 : Fin 6) t) (iblk hR m c (4 : Fin 6) t) (pA hR m c ⟨t.val - 1, ht1⟩) h1 h2 h3 (ms5 hR t).view e5).trans ?_
      unfold outAt; rw [if_pos hv]

theorem body_obligation (c : Dev nD) : BodyObligation (dats hR m 0 c) (defs₀ (F := F)) Variants.none () Set.univ := fun t => by
  rw [bigSep_W0]
  exact sound_body hR m c t

end Cert.Dense.Run

end
-- ==== Proof.DenseLaunch.lean ====
module

public import proofs.«01_k».proof.Proof.DenseCert
public import Idealize.ShloMosaic.Lib.Pipeline.ValueKit

@[expose] public section

set_option maxRecDepth 16384
set_option Elab.async false

noncomputable section

namespace Cert.Dense.Run

open Cert.Dense Cert.Dense.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The launch: every run ends with the output array at the blocks the pipeline wrote back -/

variable {T0 T1 T2 : S64.Idx → BitVec 32} (hR : Rng T0 T1 T2)
variable (m : (ℓ : Loc nD τ sig) → Buf (Elt F) ℓ) (ρ : Dev nD → PrngReg)

theorem hostOps0_fresh : (hostOps0 : List (HloOp τ sig (Elt F))).Forall fun op => op.fresh = ∅ := by
  simp only [List.Forall]; repeat' constructor

theorem V_keep (c : Dev nD) (b : Ref sig .tc) (h0 : b ≠ main_v0) (h1 : b ≠ main_v1) (h2 : b ≠ main_v2) (h3 : b ≠ main_v3) (h4 : b ≠ main_v4) (h5 : b ≠ main_c) (h6 : b ≠ main_v5) (h7 : b ≠ main_c_0) (h8 : b ≠ main_v6) :
    V m c b = m ((c : Thread nD τ).loc b) :=
  StableHlo.after_of_forall_not_mem (b := Proc.devRef .tc b) _ _ (List.forall_iff_forall_mem.mp (by
    simp only [hostOps0, List.Forall, StableHlo.unary_writes, StableHlo.nullary_writes, Finset.mem_singleton]
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5, StableHlo.devRef_ne_of_ne h6, StableHlo.devRef_ne_of_ne h7, StableHlo.devRef_ne_of_ne h8⟩))

theorem share_eq (c : Dev nD) (w : Fin (cfgA (F := F) hR).W) : (dats hR m 0 c).share w = fullShare := by unfold Dat.share; split <;> rfl

theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v5) ↦{q 0} v 0) ∗ (((c : Thread nD τ).loc main_v6) ↦{q 1} v 1) ∗ (((c : Thread nD τ).loc main_v0) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem phi_intro (c : Dev nD) :
    iprop(Pipeline.ΦA (U := UR sig nD τ) (Val := Elt F) spec0 c ∗ Pipeline.ΦT (U := UR sig nD τ) pre0 (adm (F := F) hR).1 c) ⊢ (dats hR m 0 c).Φ 0 := by
  unfold Pipeline.ΦA Pipeline.ΦT
  rw [prefHeld_eq, scopedRest0_eq, show (dats hR m 0 c).Φ 0 = Phi hR m c 0 from rfl]
  unfold Phi
  iintro ⟨⟨⟨%a0, HS0⟩, HP⟩, HT0, HT1, HT2⟩
  isplitl [HS0]
  · iexists a0; isplitr; swap
    · iexact HS0
    · ipureintro; intro n h e; exact absurd e (by simp)
  isplitl [HT0]; · iexact HT0
  isplitl [HT1]; · iexact HT1
  isplitl [HT2]; · iexact HT2
  iexact HP

theorem phi_exit (c : Dev nD) : (dats hR m 0 c).Φ (Fin.last (cfgA (F := F) hR).N) ⊢ Pipeline.ΦA (U := UR sig nD τ) (Val := Elt F) spec0 c := by
  unfold Pipeline.ΦA
  rw [scopedRest0_eq, show (dats hR m 0 c).Φ (Fin.last (cfgA (F := F) hR).N) = Phi hR m c (Fin.last _) from rfl]
  unfold Phi
  iintro ⟨⟨%a0, -, HS0⟩, -, -, -, HP⟩
  isplitl [HS0]
  · iexists a0; iexact HS0
  iexact HP

/-- The host's tables are these. -/
def Holds (T0 T1 T2 : S64.Idx → BitVec 32) : Prop :=
  ∀ c : Dev nD, V m c main_v5 = T0 ∧ V m c main_v6 = T1 ∧ V m c main_v0 = T2

theorem V_pre (hm : Holds m T0 T1 T2) (c : Dev nD) (k : Fin 3) : V m c (pre0.ref k) = (adm (F := F) hR).1 k := by
  fin_cases k
  · exact (hm c).1
  · exact (hm c).2.1
  · exact (hm c).2.2

set_option backward.isDefEq.respectTransparency.types false in
set_option maxHeartbeats 4000000 in
theorem run_main (hm : Holds m T0 T1 T2) :
    θ_run (defs (F := F)) (onTc (τ := τ) (main (F := F))) (s₀ m ρ)
      (fun r => Pipeline.FramePost (pcs (F := F) hR) (dats hR m) 0 (V m) r ∧ r.2.sem = fun _ => 0) :=
  Pipeline.θ_run_frameP_track (Q' := _) (pcfgs (F := F)) (fun _ => adm hR) (dats hR m) 0 (launch0 (F := F)) defs₀ Variants.none m ρ main
    (fun c => (body_obligation hR m c).loose) (share_eq hR m) (fun _ _ => rfl) (V m)
    (Pipeline.hmainP_prefix (pcfgs (F := F)) 0 defs₀ Variants.none m main hostOps0 hostOps0_sub hostOps0_fresh main_chain)
    (fun _ _ => rfl) (V_pre hR m hm) (phi_intro hR m) (phi_exit hR m)

/-- Every run: the output array at the blocks written back, the arguments unchanged, the counters at zero. -/
theorem run (hm : Holds m T0 T1 T2) :
    θ_run (defs (F := F)) (onTc (τ := τ) (main (F := F))) ⟨m, fun _ => 0, ρ⟩ (fun r => (∀ c : Dev nD,
      r.2.mem ((c.tc : Thread nD τ).loc main_v7) = (dats hR m 0 c).arrAt (5 : Fin 6) (cfgA (F := F) hR).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c).1 (5 : Fin 6),
      ((h.1 c).2 main_arg0 (Pipeline.mem_restRefs_of main_arg0 (by decide) (show ∀ w : Fin 6, (spec0 w).arr.view.ref ≠ main_arg0 from by decide))).trans (V_keep m c main_arg0 (by decide) (by decide) (by decide) (by decide) (by decide) (by decide) (by decide) (by decide) (by decide)),
      (((h.1 c).1 (1 : Fin 6)).trans ((dats hR m 0 c).arrAt_in (1 : Fin 6) rfl _)).trans (V_keep m c main_arg1 (by decide) (by decide) (by decide) (by decide) (by decide) (by decide) (by decide) (by decide) (by decide)),
      ((h.1 c).2 main_arg2 (Pipeline.mem_restRefs_of main_arg2 (by decide) (show ∀ w : Fin 6, (spec0 w).arr.view.ref ≠ main_arg2 from by decide))).trans (V_keep m c main_arg2 (by decide) (by decide) (by decide) (by decide) (by decide) (by decide) (by decide) (by decide) (by decide)),
      ((h.1 c).2 main_arg3 (Pipeline.mem_restRefs_of main_arg3 (by decide) (show ∀ w : Fin 6, (spec0 w).arr.view.ref ≠ main_arg3 from by decide))).trans (V_keep m c main_arg3 (by decide) (by decide) (by decide) (by decide) (by decide) (by decide) (by decide) (by decide) (by decide)),
      ((h.1 c).2 main_arg4 (Pipeline.mem_restRefs_of main_arg4 (by decide) (show ∀ w : Fin 6, (spec0 w).arr.view.ref ≠ main_arg4 from by decide))).trans (V_keep m c main_arg4 (by decide) (by decide) (by decide) (by decide) (by decide) (by decide) (by decide) (by decide) (by decide))⟩, h.2⟩) (run_main hR m ρ hm)

end Cert.Dense.Run

end
-- ==== Proof.DenseTabs.lean ====
module

public import proofs.«01_k».proof.Proof.DenseLaunch
public import Idealize.ShloMosaic.Lib.StableHlo.RunRead

@[expose] public section

set_option maxRecDepth 16384
set_option Elab.async false

noncomputable section

namespace Cert.Dense.Run

open Cert.Dense Cert.Dense.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The tables the host lays out -/

/-- The tables the host lays out: every tile of the one expert, every tile used, each tile its own source. -/
def tzero : S64.Idx → BitVec 32 := broadcastInDim S64 ![] bcast_S_S64 (constantI S_ 32 0#32)
def tone : S64.Idx → BitVec 32 := broadcastInDim S64 ![] bcast_S_S64 (constantI S_ 32 1#32)
def tiota : S64.Idx → BitVec 32 := iotaInDim S64 32 0

theorem tzero_val (x : S64.Idx) : tzero x = 0#32 := rfl
theorem tone_val (x : S64.Idx) : tone x = 1#32 := rfl
theorem tiota_val (x : S64.Idx) : (tiota x).toNat = (x 0).val := by
  have h : (x 0).val < 64 := (x 0).isLt
  show (BitVec.ofNat 32 (x 0).val).toNat = _
  rw [BitVec.toNat_ofNat, Nat.mod_eq_of_lt (by omega)]

/-- They are in range. -/
theorem hR : Rng tzero tone tiota :=
  ⟨fun x => by rw [tzero_val]; decide, fun x => .inr (tone_val x), fun x => by rw [tiota_val]; exact (x 0).isLt⟩

variable (m : (ℓ : Loc nD τ sig) → Buf (Elt F) ℓ)

theorem V5_eq (c : Dev nD) : V m c main_v5 = tzero := by
  unfold V; after_reads_simp; rfl
theorem V6_eq (c : Dev nD) : V m c main_v6 = tone := by
  unfold V; after_reads_simp; rfl
theorem V0_eq (c : Dev nD) : V m c main_v0 = tiota := by
  unfold V; after_reads_simp; rfl

theorem holds : Holds m tzero tone tiota := fun c => ⟨V5_eq m c, V6_eq m c, V0_eq m c⟩

end Cert.Dense.Run

end
-- ==== Proof.DenseTwin.lean ====
/- The idealized dense call has the text of the call itself, so the one run serves both. -/
module

public import proofs.«01_k».proof.Defs
public import proofs.«01_k».proof.Proof.DenseTabs
public import proofs.«01_k».proof.Proof.Gen.DenseIdeal

@[expose] public section
noncomputable section
namespace Cert.DenseP
open Idealize.ShloMosaic Idealize.ShloMosaic.TcCoe Idealize.SL.Sem
local instance : Cert.Dense.Facts := Cert.Dense.Gen.facts
local instance : Cert.DenseIdeal.Facts := Cert.DenseIdeal.Gen.facts

/-- The two programs have the same text, so one run serves both: their tables of bodies are equal. -/
theorem defs₀_eq : Cert.DenseIdeal.defs₀ (F := Ideal) = Cert.Dense.defs₀ (F := Ideal) := by
  unfold Cert.DenseIdeal.defs₀ Cert.Dense.defs₀
  refine congrArg Defs.onTc (funext fun l => funext fun x => ?_)
  match l, x with
  | ⟨0, _⟩, (t, s) => rfl
  | ⟨_ + 1, h⟩, _ => exact absurd h (Nat.not_lt.2 (Nat.le_add_left _ _))

set_option maxHeartbeats 4000000 in
theorem defs_eq : Cert.DenseIdeal.defs (F := Ideal) = Cert.Dense.defs (F := Ideal) :=
  (show Cert.DenseIdeal.defs (F := Ideal) = Pipeline.defs Cert.Dense.pcfgs (Cert.DenseIdeal.defs₀ (F := Ideal)) from rfl).trans
    (congrArg (Pipeline.defs Cert.Dense.pcfgs) defs₀_eq)

set_option maxHeartbeats 4000000 in
/-- A run of the one is a run of the other. -/
theorem xfer (s : MemSt Cert.Dense.nD Cert.Dense.τ Cert.Dense.sig (Elt Ideal))
    (Q : PUnit × MemSt Cert.Dense.nD Cert.Dense.τ Cert.Dense.sig (Elt Ideal) → Prop)
    (h : θ_run (Cert.Dense.defs (F := Ideal)) (onTc (τ := Cert.Dense.τ) (Cert.Dense.main (F := Ideal))) s Q) :
    θ_run (Cert.DenseIdeal.defs (F := Ideal)) (onTc (τ := Cert.DenseIdeal.τ) (Cert.DenseIdeal.main (F := Ideal))) s Q := by
  rw [defs_eq]; exact h

theorem frame_p : Cert.quiescent_Dense (hDense := Cert.Dense.Gen.facts) :=
  fun m g _ => (θ_run _ _ _).mono (fun _ h => ⟨fun c => (h.1 c).2, h.2⟩)
    (Cert.Dense.Run.run (F := Bits) Cert.Dense.Run.hR m g (Cert.Dense.Run.holds m))

theorem frame_pi : Cert.quiescent_DenseIdeal (hDenseIdeal := Cert.DenseIdeal.Gen.facts) :=
  fun m g _ => xfer _ _ ((θ_run (Cert.Dense.defs (F := Ideal)) _ _).mono (fun _ h => (⟨fun c => (h.1 c).2, h.2⟩ : _ ∧ _))
    (Cert.Dense.Run.run (F := Ideal) Cert.Dense.Run.hR m g (Cert.Dense.Run.holds m)))

end Cert.DenseP

end
-- ==== Proof.DenseSpec.lean ====
/- What the dense call computes, on the extended reals: the residual plus the gated layer of the hidden rows. -/
module

public import Idealize.ShloMosaic.PureOps.Ideal.Laws
public import Idealize.ShloMosaic.Lib.ValueIdx
public import Idealize.ShloMosaic.Lib.IdealHost
public import Mathlib.Algebra.BigOperators.Fin

@[expose] public section

noncomputable section

namespace Cert.DenseV

open Idealize.ShloMosaic Idealize.ShloMosaic.ValueIdx
open scoped BigOperators

/-- The token rows, the gate and up weights, the down weights. -/
abbrev SX : Shape := ⟨2, ![32768, 1024]⟩
abbrev SW : Shape := ⟨3, ![1, 1024, 3584]⟩
abbrev SD : Shape := ⟨3, ![1, 3584, 1024]⟩

/-- Token `n`'s 1024 values. -/
def row (x : SX.Idx → EReal) (n : Fin 32768) (d : Fin 1024) : EReal := x (ix2 n d)

/-- A row times a column. -/
def gt (h : Fin 1024 → EReal) (w : SW.Idx → EReal) (n : Fin 3584) : EReal := ∑ d : Fin 1024, h d * w (ix3 0 d n)

/-- The gated hidden value: `silu` of the gate times the up value. -/
def mid (h : Fin 1024 → EReal) (wg wu : SW.Idx → EReal) (n : Fin 3584) : EReal :=
  gt h wg n * Ideal.logistic (gt h wg n) * gt h wu n

/-- The layer at a token. -/
def ffn (h : Fin 1024 → EReal) (wg wu : SW.Idx → EReal) (wd : SD.Idx → EReal) (k : Fin 1024) : EReal :=
  ∑ n : Fin 3584, mid h wg wu n * wd (ix3 0 n k)

/-- Entry `(n, k)` of the result. -/
def out (x r : SX.Idx → EReal) (wg wu : SW.Idx → EReal) (wd : SD.Idx → EReal) (n : Fin 32768) (k : Fin 1024) : EReal :=
  r (ix2 n k) + ffn (row x n) wg wu wd k

/-- The two halves of the hidden width. -/
theorem sum_halves (f : Fin 3584 → EReal) :
    ∑ n : Fin 3584, f n = ∑ n : Fin 1792, f ⟨n.val, by omega⟩ + ∑ n : Fin 1792, f ⟨1792 + n.val, by omega⟩ :=
  Fin.sum_univ_add (a := 1792) (b := 1792) f

end Cert.DenseV

end
-- ==== Proof.DenseTile.lean ====
/- The grouped call's tile arithmetic read at an entry, on the extended reals. -/
module

public import proofs.«01_k».proof.Proof.DenseClosed
public import proofs.«01_k».proof.Proof.DenseSpec
public import Idealize.ShloMosaic.Lib.ValueLayout
public import Idealize.ShloMosaic.Lib.ValueLayoutCasts
public import Idealize.ShloMosaic.Lib.MatmulPlain
public import Idealize.ShloMosaic.Lib.Pipeline.Value

@[expose] public section

set_option maxRecDepth 65536

noncomputable section

namespace Cert.DenseV

open Cert.Dense Cert.Dense.Gen Cert.Dense.Run Idealize.ShloMosaic.TcCoe Idealize.ShloMosaic.ValueIdx Idealize.SL.Sem
open Idealize.ShloMosaic hiding ix1 ix2 ix3
open scoped BigOperators

/-- A product of a row and a half's column. -/
def gA (h : Fin 1024 → EReal) (w : S1x1024x1792.Idx → EReal) (n : Fin 1792) : EReal := ∑ d : Fin 1024, h d * w (ix3 0 d n)

/-- The half's product at an entry. -/
def ffA (h : Fin 1024 → EReal) (x1 x2 : S1x1024x1792.Idx → EReal) (x3 : S1x1792x1024.Idx → EReal) (k : Fin 1024) : EReal :=
  ∑ n : Fin 1792, gA h x1 n * Ideal.logistic (gA h x1 n) * gA h x2 n * x3 (ix3 0 n k)

/-- A row of the staged block. -/
def rowA (x0 : S512x1024.Idx → EReal) (a : Fin 512) (d : Fin 1024) : EReal :=
  x0 (ix2 a d)

theorem mm_gate (X : FVec Ideal S512x1024 .bf16) (w : S1x1024x1792.Idx → EReal) (h : Fin 1024 → EReal) (a : Fin 512)
    (hX : ∀ d, X (ix2 a d) = h d) (n : Fin 1792) :
    matmul dot_S512x1024_S1024x1792_S512x1792_1_0_0_1_n_n none X
      (shapeCast S1024x1792 w shapeCasts_S1x1024x1792_S1024x1792 : FVec Ideal S1024x1792 .bf16)
      (constant S512x1792 .f32 0x00000000#32) (ix2 a n) = gA h w n := by
  refine (Ideal.matmul_plain_apply none X _ _ a n).trans ?_
  rw [ValueIdx.constant_apply, Ideal.ofBits_zero_f32, zero_add]
  unfold gA
  refine Finset.sum_congr rfl fun d _ => ?_
  rw [hX d]
  refine congrArg (h d * ·) ?_
  refine shapeCast_apply _ _ _ _ ?_
  rw [Shape.rowMajor_val_two, Shape.rowMajor_val_three]
  show (0 * 1024 + d.val) * 1792 + n.val = d.val * 1792 + n.val
  omega

theorem mm_down (X : FVec Ideal S512x1792 .bf16) (w : S1x1792x1024.Idx → EReal) (h : Fin 1792 → EReal) (a : Fin 512)
    (hX : ∀ d, X (ix2 a d) = h d) (n : Fin 1024) :
    matmul dot_S512x1792_S1792x1024_S512x1024_1_0_0_1_n_n none X
      (shapeCast S1792x1024 w shapeCasts_S1x1792x1024_S1792x1024 : FVec Ideal S1792x1024 .bf16)
      (constant S512x1024 .f32 0x00000000#32) (ix2 a n) = ∑ d : Fin 1792, h d * w (ix3 0 d n) := by
  refine (Ideal.matmul_plain_apply none X _ _ a n).trans ?_
  rw [ValueIdx.constant_apply, Ideal.ofBits_zero_f32, zero_add]
  refine Finset.sum_congr rfl fun d _ => ?_
  rw [hX d]
  refine congrArg (h d * ·) ?_
  refine shapeCast_apply _ _ _ _ ?_
  rw [Shape.rowMajor_val_two, Shape.rowMajor_val_three]
  show (0 * 1792 + d.val) * 1024 + n.val = d.val * 1024 + n.val
  omega

/-- The staged rows, as the body takes them. -/
def cat (x0 : S512x1024.Idx → EReal) : FVec Ideal S512x1024 .bf16 := shapeCast S512x1024 x0 shapeCasts_S512x1024_S512x1024

theorem cat_apply (x0 : S512x1024.Idx → EReal) (a : Fin 512) (d : Fin 1024) : cat x0 (ix2 a d) = rowA x0 a d := by
  unfold cat rowA
  exact shapeCast_apply _ _ _ (ix2 a d) rfl

/-- The gate and up products, as the body forms them. -/
def gup (x0 : S512x1024.Idx → EReal) (w : S1x1024x1792.Idx → EReal) : FVec Ideal S512x1792 .f32 :=
  matmul dot_S512x1024_S1024x1792_S512x1792_1_0_0_1_n_n none (cat x0)
      (shapeCast S1024x1792 w shapeCasts_S1x1024x1792_S1024x1792 : FVec Ideal S1024x1792 .bf16)
      (constant S512x1792 .f32 0x00000000#32)

theorem gup_apply (x0 : S512x1024.Idx → EReal) (w : S1x1024x1792.Idx → EReal) (a : Fin 512) (n : Fin 1792) :
    gup x0 w (ix2 a n) = gA (rowA x0 a) w n := by
  unfold gup
  exact mm_gate (cat x0) w (rowA x0 a) a (cat_apply x0 a) n

/-- The gated hidden values, as the body forms them. -/
def hid (x0 : S512x1024.Idx → EReal) (x1 x2 : S1x1024x1792.Idx → EReal) : FVec Ideal S512x1792 .bf16 :=
  truncf .bf16 (mulf (mulf (gup x0 x1) (logistic (gup x0 x1))) (gup x0 x2)) bitsLt_bf16_f32

theorem hid_apply (x0 : S512x1024.Idx → EReal) (x1 x2 : S1x1024x1792.Idx → EReal) (a : Fin 512) (n : Fin 1792) :
    hid x0 x1 x2 (ix2 a n) = gA (rowA x0 a) x1 n * Ideal.logistic (gA (rowA x0 a) x1 n) * gA (rowA x0 a) x2 n := by
  rw [← gup_apply x0 x1 a n, ← gup_apply x0 x2 a n]
  unfold hid
  rfl

/-- The half's product, as the body forms it. -/
def prod (x0 : S512x1024.Idx → EReal) (x1 x2 : S1x1024x1792.Idx → EReal) (x3 : S1x1792x1024.Idx → EReal) : FVec Ideal S512x1024 .f32 :=
  matmul dot_S512x1792_S1792x1024_S512x1024_1_0_0_1_n_n none (hid x0 x1 x2)
      (shapeCast S1792x1024 x3 shapeCasts_S1x1792x1024_S1792x1024 : FVec Ideal S1792x1024 .bf16)
      (constant S512x1024 .f32 0x00000000#32)

theorem prod_apply (x0 : S512x1024.Idx → EReal) (x1 x2 : S1x1024x1792.Idx → EReal) (x3 : S1x1792x1024.Idx → EReal)
    (a : Fin 512) (k : Fin 1024) : prod x0 x1 x2 x3 (ix2 a k) = ffA (rowA x0 a) x1 x2 x3 k := by
  unfold prod
  exact mm_down (hid x0 x1 x2) x3 _ a (hid_apply x0 x1 x2 a) k

theorem outB_apply (x0 x1 : S512x1024.Idx → EReal) (x2 x3 : S1x1024x1792.Idx → EReal) (x4 : S1x1792x1024.Idx → EReal)
    (xa : S512x1024.Idx → EReal) (a : Fin 512) (k : Fin 1024) :
    outB (F := Ideal) x0 x1 x2 x3 x4 xa (ix2 a k) = x1 (ix2 a k) + (xa (ix2 a k) + ffA (rowA x0 a) x2 x3 x4 k) := by
  rw [← prod_apply]
  unfold outB k0_pay3 prod hid gup cat
  rfl

theorem partA_apply (x0 : S512x1024.Idx → EReal) (x1 x2 : S1x1024x1792.Idx → EReal) (x3 : S1x1792x1024.Idx → EReal)
    (a : Fin 512) (k : Fin 1024) :
    partA (F := Ideal) x0 x1 x2 x3 (ix2 a k) = ffA (rowA x0 a) x1 x2 x3 k := by
  rw [← prod_apply]
  unfold partA k0_pay2 prod hid gup cat
  exact shapeCast_apply _ _ _ (ix2 a k) rfl

end Cert.DenseV

end
-- ==== Proof.DenseVal.lean ====
/- What the dense call leaves in its result, on the extended reals: the residual plus the layer at each token. -/
module

public import proofs.«01_k».proof.Proof.DenseTabs
public import proofs.«01_k».proof.Proof.DenseTile
public import Idealize.ShloMosaic.Lib.StableHlo.RunRead

@[expose] public section

set_option maxRecDepth 65536

noncomputable section

namespace Cert.DenseV

open Cert.Dense Cert.Dense.Gen Cert.Dense.Run Idealize.ShloMosaic.TcCoe Idealize.ShloMosaic.ValueIdx Idealize.SL.Sem
open Idealize.ShloMosaic hiding ix1 ix2 ix3
open Idealize.ShloMosaic.Pipeline (Dat Window)
open scoped BigOperators

variable (m : (ℓ : Loc nD τ sig) → Buf (Elt Ideal) ℓ)

abbrev XS (c : Dev nD) : SX.Idx → EReal := m ((c : Thread nD τ).loc main_arg0)
abbrev RS (c : Dev nD) : SX.Idx → EReal := m ((c : Thread nD τ).loc main_arg1)
abbrev WG (c : Dev nD) : SW.Idx → EReal := m ((c : Thread nD τ).loc main_arg2)
abbrev WU (c : Dev nD) : SW.Idx → EReal := m ((c : Thread nD τ).loc main_arg3)
abbrev WD (c : Dev nD) : SD.Idx → EReal := m ((c : Thread nD τ).loc main_arg4)

/-- A change of format leaves the arrays as they are. -/
theorem X_eq (c : Dev nD) : (V m c main_v1 : SX.Idx → EReal) = XS m c := by
  unfold V; after_reads_simp
  rfl
theorem R_eq (c : Dev nD) : (V m c main_arg1 : SX.Idx → EReal) = RS m c :=
  V_keep m c main_arg1 (by decide) (by decide) (by decide) (by decide) (by decide) (by decide) (by decide) (by decide) (by decide)
theorem G_eq (c : Dev nD) : (V m c main_v2 : SW.Idx → EReal) = WG m c := by
  unfold V; after_reads_simp
  rfl
theorem U_eq (c : Dev nD) : (V m c main_v3 : SW.Idx → EReal) = WU m c := by
  unfold V; after_reads_simp
  rfl
theorem D_eq (c : Dev nD) : (V m c main_v4 : SD.Idx → EReal) = WD m c := by
  unfold V; after_reads_simp
  rfl

variable {T0 T1 T2 : S64.Idx → BitVec 32} (hR : Rng T0 T1 T2)

theorem blk0 (c : Dev nD) (t : Fin (cfgA (F := Ideal) hR).N) (y : S512x1024.Idx) (i : SX.Idx)
    (h0 : (i 0).val = (T2 (tix (crd (F := Ideal) hR t))).toNat * 512 + (y 0).val) (h1 : (i 1).val = (y 1).val) :
    (iblk hR m c (0 : Fin 6) t : S512x1024.Idx → EReal) y = XS m c i := by
  have e : ((cfgA (F := Ideal) hR).win (0 : Fin 6)).index t = ![(T2 (tix (crd (F := Ideal) hR t))).toNat, 0] :=
    ix0_eq (F := Ideal) (crd (F := Ideal) hR t)
  show (V m c main_v1 : SX.Idx → EReal) ((((cfgA (F := Ideal) hR).win (0 : Fin 6)).rect t).emb y) = _
  rw [X_eq]
  refine congrArg (XS m c) (funext fun a => Fin.ext ?_)
  match a with
  | ⟨0, _⟩ =>
    refine (((cfgA (F := Ideal) hR).win (0 : Fin 6)).rect_emb_val t _ _).trans ?_
    rw [e]; exact h0.symm
  | ⟨1, _⟩ =>
    refine (((cfgA (F := Ideal) hR).win (0 : Fin 6)).rect_emb_val t _ _).trans ?_
    rw [e]; show 0 * 1024 + (y 1).val = (i 1).val; omega

theorem blk1 (c : Dev nD) (t : Fin (cfgA (F := Ideal) hR).N) (y : S512x1024.Idx) (i : SX.Idx)
    (h0 : (i 0).val = (T2 (tix (crd (F := Ideal) hR t))).toNat * 512 + (y 0).val) (h1 : (i 1).val = (y 1).val) :
    (iblk hR m c (1 : Fin 6) t : S512x1024.Idx → EReal) y = RS m c i := by
  have e : ((cfgA (F := Ideal) hR).win (1 : Fin 6)).index t = ![(T2 (tix (crd (F := Ideal) hR t))).toNat, 0] :=
    ix0_eq (F := Ideal) (crd (F := Ideal) hR t)
  show (V m c main_arg1 : SX.Idx → EReal) ((((cfgA (F := Ideal) hR).win (1 : Fin 6)).rect t).emb y) = _
  rw [R_eq]
  refine congrArg (RS m c) (funext fun a => Fin.ext ?_)
  match a with
  | ⟨0, _⟩ =>
    refine (((cfgA (F := Ideal) hR).win (1 : Fin 6)).rect_emb_val t _ _).trans ?_
    rw [e]; exact h0.symm
  | ⟨1, _⟩ =>
    refine (((cfgA (F := Ideal) hR).win (1 : Fin 6)).rect_emb_val t _ _).trans ?_
    rw [e]; show 0 * 1024 + (y 1).val = (i 1).val; omega

theorem blk2 (c : Dev nD) (t : Fin (cfgA (F := Ideal) hR).N) (y : S1x1024x1792.Idx) (i : SW.Idx)
    (h1 : (i 1).val = (y 1).val)
    (h2 : (i 2).val = half T1 (crd (F := Ideal) hR t) * 1792 + (y 2).val) :
    (iblk hR m c (2 : Fin 6) t : S1x1024x1792.Idx → EReal) y = WG m c i := by
  have e : ((cfgA (F := Ideal) hR).win (2 : Fin 6)).index t = ![(T0 (tix (crd (F := Ideal) hR t))).toNat, 0, half T1 (crd (F := Ideal) hR t)] :=
    ix1_eq (F := Ideal) hR (crd (F := Ideal) hR t)
  show (V m c main_v2 : SW.Idx → EReal) ((((cfgA (F := Ideal) hR).win (2 : Fin 6)).rect t).emb y) = _
  rw [G_eq]
  refine congrArg (WG m c) (funext fun a => Fin.ext ?_)
  match a with
  | ⟨0, _⟩ =>
    refine (((cfgA (F := Ideal) hR).win (2 : Fin 6)).rect_emb_val t _ _).trans ?_
    rw [e]; have hy : (y 0).val < 1 := (y 0).isLt; have hi : (i 0).val < 1 := (i 0).isLt; have h0 := hR.te (tix (crd (F := Ideal) hR t))
    show (T0 (tix (crd (F := Ideal) hR t))).toNat * 1 + (y 0).val = (i 0).val; omega
  | ⟨1, _⟩ =>
    refine (((cfgA (F := Ideal) hR).win (2 : Fin 6)).rect_emb_val t _ _).trans ?_
    rw [e]; show 0 * 1024 + (y 1).val = (i 1).val; omega
  | ⟨2, _⟩ =>
    refine (((cfgA (F := Ideal) hR).win (2 : Fin 6)).rect_emb_val t _ _).trans ?_
    rw [e]; exact h2.symm

theorem blk3 (c : Dev nD) (t : Fin (cfgA (F := Ideal) hR).N) (y : S1x1024x1792.Idx) (i : SW.Idx)
    (h1 : (i 1).val = (y 1).val)
    (h2 : (i 2).val = half T1 (crd (F := Ideal) hR t) * 1792 + (y 2).val) :
    (iblk hR m c (3 : Fin 6) t : S1x1024x1792.Idx → EReal) y = WU m c i := by
  have e : ((cfgA (F := Ideal) hR).win (3 : Fin 6)).index t = ![(T0 (tix (crd (F := Ideal) hR t))).toNat, 0, half T1 (crd (F := Ideal) hR t)] :=
    ix2_eq (F := Ideal) hR (crd (F := Ideal) hR t)
  show (V m c main_v3 : SW.Idx → EReal) ((((cfgA (F := Ideal) hR).win (3 : Fin 6)).rect t).emb y) = _
  rw [U_eq]
  refine congrArg (WU m c) (funext fun a => Fin.ext ?_)
  match a with
  | ⟨0, _⟩ =>
    refine (((cfgA (F := Ideal) hR).win (3 : Fin 6)).rect_emb_val t _ _).trans ?_
    rw [e]; have hy : (y 0).val < 1 := (y 0).isLt; have hi : (i 0).val < 1 := (i 0).isLt; have h0 := hR.te (tix (crd (F := Ideal) hR t))
    show (T0 (tix (crd (F := Ideal) hR t))).toNat * 1 + (y 0).val = (i 0).val; omega
  | ⟨1, _⟩ =>
    refine (((cfgA (F := Ideal) hR).win (3 : Fin 6)).rect_emb_val t _ _).trans ?_
    rw [e]; show 0 * 1024 + (y 1).val = (i 1).val; omega
  | ⟨2, _⟩ =>
    refine (((cfgA (F := Ideal) hR).win (3 : Fin 6)).rect_emb_val t _ _).trans ?_
    rw [e]; exact h2.symm

theorem blk4 (c : Dev nD) (t : Fin (cfgA (F := Ideal) hR).N) (y : S1x1792x1024.Idx) (i : SD.Idx)
    (h1 : (i 1).val = half T1 (crd (F := Ideal) hR t) * 1792 + (y 1).val) (h2 : (i 2).val = (y 2).val) :
    (iblk hR m c (4 : Fin 6) t : S1x1792x1024.Idx → EReal) y = WD m c i := by
  have e : ((cfgA (F := Ideal) hR).win (4 : Fin 6)).index t = ![(T0 (tix (crd (F := Ideal) hR t))).toNat, half T1 (crd (F := Ideal) hR t), 0] :=
    ix3_eq (F := Ideal) hR (crd (F := Ideal) hR t)
  show (V m c main_v4 : SD.Idx → EReal) ((((cfgA (F := Ideal) hR).win (4 : Fin 6)).rect t).emb y) = _
  rw [D_eq]
  refine congrArg (WD m c) (funext fun a => Fin.ext ?_)
  match a with
  | ⟨0, _⟩ =>
    refine (((cfgA (F := Ideal) hR).win (4 : Fin 6)).rect_emb_val t _ _).trans ?_
    rw [e]; have hy : (y 0).val < 1 := (y 0).isLt; have hi : (i 0).val < 1 := (i 0).isLt; have h0 := hR.te (tix (crd (F := Ideal) hR t))
    show (T0 (tix (crd (F := Ideal) hR t))).toNat * 1 + (y 0).val = (i 0).val; omega
  | ⟨1, _⟩ =>
    refine (((cfgA (F := Ideal) hR).win (4 : Fin 6)).rect_emb_val t _ _).trans ?_
    rw [e]; exact h1.symm
  | ⟨2, _⟩ =>
    refine (((cfgA (F := Ideal) hR).win (4 : Fin 6)).rect_emb_val t _ _).trans ?_
    rw [e]; show 0 * 1024 + (y 2).val = (i 2).val; omega

/-- The half `q` of the layer at a token of tile `j`, at tables that use every tile and source it from itself. -/
theorem half_val (hone : ∀ x, T1 x = 1#32) (hid2 : ∀ x, (T2 x).toNat = (x 0).val) (c : Dev nD) (j : ℕ) (hj : j < 64) (q : ℕ) (hq : q < 2) (t : Fin (cfgA (F := Ideal) hR).N) (ht : t.val = 2 * j + q)
    (a : Fin 512) (k : Fin 1024) :
    ffA (rowA (iblk hR m c (0 : Fin 6) t) a) (iblk hR m c (2 : Fin 6) t) (iblk hR m c (3 : Fin 6) t) (iblk hR m c (4 : Fin 6) t) k
      = ∑ n : Fin 1792, mid (row (XS m c) ⟨j * 512 + a.val, by omega⟩) (WG m c) (WU m c) ⟨q * 1792 + n.val, by omega⟩
          * WD m c (ix3 0 ⟨q * 1792 + n.val, by omega⟩ k) := by
  have ex : (T2 (tix (crd (F := Ideal) hR t))).toNat = j := by
    rw [hid2]; exact (crd0 t).trans (by omega)
  have eh : half T1 (crd (F := Ideal) hR t) = q := by
    unfold half
    rw [if_pos (hone _)]
    exact (crd1 t).trans (by omega)
  have er : rowA (iblk hR m c (0 : Fin 6) t) a = row (XS m c) ⟨j * 512 + a.val, by omega⟩ := by
    funext d
    unfold rowA row
    refine blk0 m hR c t _ _ ?_ rfl
    rw [ex]
  have eg : ∀ n : Fin 1792, gA (rowA (iblk hR m c (0 : Fin 6) t) a) (iblk hR m c (2 : Fin 6) t) n
      = gt (row (XS m c) ⟨j * 512 + a.val, by omega⟩) (WG m c) ⟨q * 1792 + n.val, by omega⟩ := by
    intro n
    unfold gA gt
    refine Finset.sum_congr rfl fun d _ => ?_
    rw [er]
    refine congrArg (_ * ·) (blk2 m hR c t _ _ rfl ?_)
    rw [eh]
  have eu : ∀ n : Fin 1792, gA (rowA (iblk hR m c (0 : Fin 6) t) a) (iblk hR m c (3 : Fin 6) t) n
      = gt (row (XS m c) ⟨j * 512 + a.val, by omega⟩) (WU m c) ⟨q * 1792 + n.val, by omega⟩ := by
    intro n
    unfold gA gt
    refine Finset.sum_congr rfl fun d _ => ?_
    rw [er]
    refine congrArg (_ * ·) (blk3 m hR c t _ _ rfl ?_)
    rw [eh]
  unfold ffA
  refine Finset.sum_congr rfl fun n _ => ?_
  rw [eg n, eu n]
  unfold mid
  refine congrArg (_ * ·) (blk4 m hR c t _ _ ?_ rfl)
  rw [eh]

/-- The result as a whole array. -/
def G (c : Dev nD) : S32768x1024.Idx → EReal :=
  fun i => out (XS m c) (RS m c) (WG m c) (WU m c) (WD m c) (i 0) (i 1)

/-- What a tile's last point leaves. -/
theorem outAt_val (hone : ∀ x, T1 x = 1#32) (hid2 : ∀ x, (T2 x).toNat = (x 0).val) (c : Dev nD) (t : Fin (cfgA (F := Ideal) hR).N) (j : ℕ) (hj : j < 64) (ht : t.val = 2 * j + 1) (y : S512x1024.Idx)
    (i : S32768x1024.Idx) (h0 : (i 0).val = j * 512 + (y 0).val) (h1 : (i 1).val = (y 1).val) :
    outAt hR m c t y = G m c i := by
  have hy0 : (y 0).val < 512 := (y 0).isLt
  have hy1 : (y 1).val < 1024 := (y 1).isLt
  have ev : tvN T1 (t.val / 2) = 1#32 := by
    rw [← tvN_crd T1 t]; exact hone _
  have ey : y = ix2 (⟨(y 0).val, hy0⟩ : Fin 512) (⟨(y 1).val, hy1⟩ : Fin 1024) := by
    funext a
    match a with
    | ⟨0, _⟩ => rfl
    | ⟨1, _⟩ => rfl
  have ei : i = (ix2 (⟨j * 512 + (y 0).val, by omega⟩ : Fin 32768) (⟨(y 1).val, hy1⟩ : Fin 1024) : S32768x1024.Idx) := by
    funext a
    match a with
    | ⟨0, _⟩ => exact Fin.ext h0
    | ⟨1, _⟩ => exact Fin.ext h1
  have ex : (T2 (tix (crd (F := Ideal) hR t))).toNat = j := by
    rw [hid2]; exact (crd0 t).trans (by omega)
  unfold outAt
  rw [if_pos ev, ey]
  refine (outB_apply _ _ _ _ _ _ _ _).trans ?_
  unfold pA
  rw [partA_apply, half_val m hR hone hid2 c j hj 0 (by omega) ⟨t.val - 1, by omega⟩ (by show t.val - 1 = _; omega),
    half_val m hR hone hid2 c j hj 1 (by omega) t ht]
  rw [ei]
  unfold G out ffn
  rw [sum_halves]
  refine congrArg₂ (fun u v : EReal => u + v) (blk1 m hR c t _ _ ?_ rfl) (congrArg₂ (fun u v : EReal => u + v) ?_ ?_)
  · rw [ex]
  · refine Finset.sum_congr rfl fun n _ => ?_
    have en : (⟨0 * 1792 + n.val, by omega⟩ : Fin 3584) = ⟨n.val, by omega⟩ := Fin.ext (by show 0 * 1792 + n.val = n.val; omega)
    rw [en]
  · refine Finset.sum_congr rfl fun n _ => ?_
    have en : (⟨1 * 1792 + n.val, by omega⟩ : Fin 3584) = ⟨1792 + n.val, by omega⟩ := Fin.ext (by show 1 * 1792 + n.val = 1792 + n.val; omega)
    rw [en]

theorem idx4 : ∀ t : Fin grid0.N, cc0_transform_5 (grid0.coords t) = ![t.val / 2, 0] := by decide +kernel

theorem flushed4_eq (hone : ∀ x, T1 x = 1#32) (hid2 : ∀ x, (T2 x).toNat = (x 0).val) (c : Dev nD) (t : Fin (cfgA (F := Ideal) hR).N) (hf : ((cfgA (F := Ideal) hR).win (5 : Fin 6)).flush t = true) :
    (dats hR m 0 c).flushed (5 : Fin 6) t = (((cfgA (F := Ideal) hR).win (5 : Fin 6)).blk t).view.read (Elt Ideal) (G m c) := by
  have hodd : t.val % 2 = 1 := by rw [flush_eq] at hf; exact of_decide_eq_true hf
  have hN : t.val < 128 := Nat.lt_of_lt_of_eq t.isLt N_0
  have e : ((cfgA (F := Ideal) hR).win (5 : Fin 6)).index t = ![t.val / 2, 0] := idx4 t
  funext y
  show outAt hR m c t y = G m c ((((cfgA (F := Ideal) hR).win (5 : Fin 6)).rect t).emb y)
  refine outAt_val m hR hone hid2 c t (t.val / 2) (by omega) (by omega) y _ ?_ ?_
  · refine (((cfgA (F := Ideal) hR).win (5 : Fin 6)).rect_emb_val t _ _).trans ?_
    rw [e]; rfl
  · refine (((cfgA (F := Ideal) hR).win (5 : Fin 6)).rect_emb_val t _ _).trans ?_
    rw [e]; show 0 * 1024 + (y 1).val = (y 1).val; omega

theorem cover4 (i : S32768x1024.Idx) : ∃ t : Fin (cfgA (F := Ideal) hR).N, ((cfgA (F := Ideal) hR).win (5 : Fin 6)).flush t = true
    ∧ i ∈ (((cfgA (F := Ideal) hR).win (5 : Fin 6)).blk t).view.set := by
  have h0 : (i 0).val < 32768 := (i 0).isLt
  have h1 : (i 1).val < 1024 := (i 1).isLt
  have hlt : 2 * ((i 0).val / 512) + 1 < (cfgA (F := Ideal) hR).N := lt_of_lt_of_eq (by omega) N_0.symm
  have e : ((cfgA (F := Ideal) hR).win (5 : Fin 6)).index ⟨2 * ((i 0).val / 512) + 1, hlt⟩ = ![(2 * ((i 0).val / 512) + 1) / 2, 0] := idx4 ⟨_, hlt⟩
  refine ⟨⟨2 * ((i 0).val / 512) + 1, hlt⟩, ?_, ?_⟩
  · rw [flush_eq]; exact decide_eq_true (by show (2 * ((i 0).val / 512) + 1) % 2 = 1; omega)
  · show i ∈ ((View.whole main_v7).slice (((cfgA (F := Ideal) hR).win (5 : Fin 6)).rect ⟨2 * ((i 0).val / 512) + 1, hlt⟩)).set
    rw [View.set_slice_whole, Rect.mem_set_unit]
    intro a
    show ((cfgA (F := Ideal) hR).win (5 : Fin 6)).index ⟨2 * ((i 0).val / 512) + 1, hlt⟩ a * S512x1024.size a ≤ (i a : Nat)
      ∧ (i a : Nat) < ((cfgA (F := Ideal) hR).win (5 : Fin 6)).index ⟨2 * ((i 0).val / 512) + 1, hlt⟩ a * S512x1024.size a + S512x1024.size a
    rw [e]
    match a with
    | ⟨0, _⟩ =>
      show (2 * ((i 0).val / 512) + 1) / 2 * 512 ≤ (i 0).val ∧ (i 0).val < (2 * ((i 0).val / 512) + 1) / 2 * 512 + 512
      omega
    | ⟨1, _⟩ => show 0 * 1024 ≤ (i 1).val ∧ (i 1).val < 0 * 1024 + 1024; omega

/-- The result after the last point. -/
theorem final (hone : ∀ x, T1 x = 1#32) (hid2 : ∀ x, (T2 x).toNat = (x 0).val) (c : Dev nD) : (dats hR m 0 c).arrAt (5 : Fin 6) (cfgA (F := Ideal) hR).N = G m c :=
  (dats hR m 0 c).arrAt_eq_of_cover (5 : Fin 6) (G m c) (fun t hf => flushed4_eq m hR hone hid2 c t hf) (cover4 hR)

end Cert.DenseV

end
-- ==== Proof.DenseRef.lean ====
/- The dense call's reference, on the extended reals. -/
module

public import proofs.«01_k».proof.Proof.DenseSpec
public import proofs.«01_k».proof.Proof.Gen.DenseReferenceIdeal.Read

@[expose] public section

set_option maxRecDepth 65536

noncomputable section

namespace Cert.DenseV

open Cert.DenseReferenceIdeal Cert.DenseReferenceIdeal.Gen Cert.DenseReferenceIdeal.Read Idealize.ShloMosaic Idealize.ShloMosaic.ValueIdx
open scoped BigOperators

theorem one_f32 : (FloatOps.ofBits .f32 0x3F800000#32 : Ideal .f32) = (1 : EReal) := Ideal.ofBits_one_f32

variable (x0 x1 : SX.Idx → EReal) (x2 x3 : SW.Idx → EReal) (x4 : SD.Idx → EReal)

theorem gate_mul (i : S32768x3584.Idx) : val_main_v1 (F := Ideal) x0 x2 i = gt (row x0 (i 0)) x2 (i 1) := by
  rw [val_main_v1_apply]
  unfold gt row
  refine Finset.sum_congr rfl fun k _ => congrArg₂ (fun u v : EReal => u * v) (congrArg x0 (funext fun a => ?_)) ?_
  · match a with
    | ⟨0, _⟩ => rfl
    | ⟨1, _⟩ => rfl
  rw [val_main_v0_apply]
  refine congrArg x2 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem up_mul (i : S32768x3584.Idx) : val_main_v4 (F := Ideal) x0 x3 i = gt (row x0 (i 0)) x3 (i 1) := by
  rw [val_main_v4_apply]
  unfold gt row
  refine Finset.sum_congr rfl fun k _ => congrArg₂ (fun u v : EReal => u * v) (congrArg x0 (funext fun a => ?_)) ?_
  · match a with
    | ⟨0, _⟩ => rfl
    | ⟨1, _⟩ => rfl
  rw [val_main_v3_apply]
  refine congrArg x3 (funext fun a => ?_)
  have h1 : (i 1).val < 3584 := (i 1).isLt
  match a with
  | ⟨0, _⟩ => rfl
  | ⟨1, _⟩ => exact Fin.ext (show (k.val * 3584 + (i 1).val) / 3584 % 1024 = k.val by omega)
  | ⟨2, _⟩ => exact Fin.ext (show (k.val * 3584 + (i 1).val) % 3584 = (i 1).val by omega)

theorem hid_mul (i : S32768x3584.Idx) : val_main_v5 (F := Ideal) x0 x2 x3 i = mid (row x0 (i 0)) x2 x3 (i 1) := by
  rw [val_main_v5_apply, val_main_v2_apply, val_main_call0_v5_apply, val_main_call0_v4_apply, val_main_call0_cst_0_apply,
    val_main_call0_v3_apply, val_main_call0_v2_apply, val_main_call0_cst_apply, val_main_call0_v1_apply, val_main_call0_v0_apply,
    gate_mul, up_mul, one_f32]
  rfl

theorem down_mul (i : S32768x1024.Idx) : val_main_v7 (F := Ideal) x0 x2 x3 x4 i = ffn (row x0 (i 0)) x2 x3 x4 (i 1) := by
  rw [val_main_v7_apply]
  unfold ffn
  refine Finset.sum_congr rfl fun k _ => congrArg₂ (fun u v : EReal => u * v) (hid_mul x0 x2 x3 _) ?_
  rw [val_main_v6_apply]
  refine congrArg x4 (funext fun a => ?_)
  have h1 : (i 1).val < 1024 := (i 1).isLt
  match a with
  | ⟨0, _⟩ => rfl
  | ⟨1, _⟩ => exact Fin.ext (show (k.val * 1024 + (i 1).val) / 1024 % 3584 = k.val by omega)
  | ⟨2, _⟩ => exact Fin.ext (show (k.val * 1024 + (i 1).val) % 1024 = (i 1).val by omega)

theorem ref_out (i : S32768x1024.Idx) : val_main_v8 (F := Ideal) x0 x1 x2 x3 x4 i = out x0 x1 x2 x3 x4 (i 0) (i 1) := by
  rw [val_main_v8_apply, down_mul]
  unfold out
  refine congrArg (fun u : EReal => u + ffn (row x0 (i 0)) x2 x3 x4 (i 1)) (congrArg x1 (funext fun a => ?_))
  match a with
  | ⟨0, _⟩ => rfl
  | ⟨1, _⟩ => rfl

end Cert.DenseV

end
-- ==== Proof.DenseAlg.lean ====
/- The dense call's claims: the reference's frame, and the equality of the call's result with the reference's on the
   extended reals. -/
module

public import proofs.«01_k».proof.Proof.DenseTwin
public import proofs.«01_k».proof.Proof.DenseVal
public import proofs.«01_k».proof.Proof.DenseRef

@[expose] public section

noncomputable section

namespace Cert.DenseP

open Idealize.ShloMosaic Idealize.ShloMosaic.TcCoe Idealize.SL.Sem
local instance : Cert.Dense.Facts := Cert.Dense.Gen.facts
local instance : Cert.DenseIdeal.Facts := Cert.DenseIdeal.Gen.facts
local instance : Cert.DenseReferenceIdeal.Facts := Cert.DenseReferenceIdeal.Gen.facts

theorem frame_ri : Cert.quiescent_DenseReferenceIdeal (hDenseReferenceIdeal := Cert.DenseReferenceIdeal.Gen.facts) :=
  fun m ρ _ => (θ_run Cert.DenseReferenceIdeal.defs _ _).mono (fun r h => ⟨fun c => (h c).2,
      Idealize.ShloMosaic.sem_eq_zero_of_no_sems (by decide) r.2⟩)
    (Cert.DenseReferenceIdeal.Value.run (F := Ideal) m ρ)

theorem preserves_p : Cert.preserves_Dense_DenseIdeal := trivial

/-- Equal arguments, equal results. -/
theorem ref_congr {x0 y0 x1 y1 : Cert.DenseV.SX.Idx → EReal} {x2 y2 x3 y3 : Cert.DenseV.SW.Idx → EReal}
    {x4 y4 : Cert.DenseV.SD.Idx → EReal} (h0 : x0 = y0) (h1 : x1 = y1) (h2 : x2 = y2) (h3 : x3 = y3) (h4 : x4 = y4) :
    Cert.DenseReferenceIdeal.Read.val_main_v8 (F := Ideal) x0 x1 x2 x3 x4 = Cert.DenseReferenceIdeal.Read.val_main_v8 (F := Ideal) y0 y1 y2 y3 y4 := by
  subst h0 h1 h2 h3 h4
  rfl

/-- The reference's result at the kernel's arguments. -/
theorem ref_eq (m : (ℓ : Loc Cert.Dense.nD Cert.Dense.τ Cert.Dense.sig) → Buf (Elt Ideal) ℓ) (c : Dev Cert.Dense.nD) :
    Cert.DenseReferenceIdeal.Read.val_main_v8 (F := Ideal) (Cert.DenseV.XS m c) (Cert.DenseV.RS m c) (Cert.DenseV.WG m c) (Cert.DenseV.WU m c) (Cert.DenseV.WD m c)
      = Cert.DenseV.G m c :=
  funext fun i => Cert.DenseV.ref_out _ _ _ _ _ i

theorem algebraic : Cert.algebraic_DenseIdeal_DenseReferenceIdeal (hDenseIdeal := Cert.DenseIdeal.Gen.facts)
    (hDenseReferenceIdeal := Cert.DenseReferenceIdeal.Gen.facts) := by
  intro m g m' g' _ hagree
  refine ⟨fun c => Cert.DenseV.G m c, ?_, ?_⟩
  rotate_left
  · refine (θ_run Cert.DenseReferenceIdeal.defs _ _).mono (fun _ h c => ⟨(h c).1.trans ?_, (h c).2⟩)
      (Cert.DenseReferenceIdeal.Value.run (F := Ideal) m' g')
    obtain ⟨a0, a1, a2, a3, a4⟩ := hagree c
    rw [Cert.DenseReferenceIdeal.Read.val_main_v8_eq]
    exact (ref_congr a0 a1 a2 a3 a4).trans (ref_eq m c)
  · have key := (θ_run (Cert.Dense.defs (F := Ideal)) _ _).mono
      (fun _ h => (fun c => ⟨(h.1 c).1.trans (Cert.DenseV.final m Cert.Dense.Run.hR Cert.Dense.Run.tone_val Cert.Dense.Run.tiota_val c), (h.1 c).2⟩ :
        ∀ c : Dev Cert.Dense.nD, _ ∧ _))
      (Cert.Dense.Run.run (F := Ideal) Cert.Dense.Run.hR m g (Cert.Dense.Run.holds m))
    exact xfer _ _ key

end Cert.DenseP

end
-- ==== Proof.QkvSpec.lean ====
/- What the projection call computes, on the extended reals: the norm, the product with the weights, the partial rotary
   embedding, and the queries' scale. -/
module

public import Idealize.ShloMosaic.PureOps.Ideal.Laws
public import Idealize.ShloMosaic.Lib.ValueIdx
public import Idealize.ShloMosaic.Lib.IdealHost
public import Mathlib.Algebra.BigOperators.Fin
public import proofs.«01_k».proof.Proof.Consts

@[expose] public section

noncomputable section

namespace Cert.QkvV

open Idealize.ShloMosaic Idealize.ShloMosaic.ValueIdx
open scoped BigOperators

/-- The tokens, the weights, the angles' tables. -/
abbrev SX : Shape := ⟨2, ![32768, 1024]⟩
abbrev SG : Shape := ⟨1, ![1024]⟩
abbrev SW : Shape := ⟨2, ![1024, 7424]⟩
abbrev SA : Shape := ⟨2, ![32768, 8]⟩

/-- A row, normed. -/
def nrm (x g : Fin 1024 → EReal) (d : Fin 1024) : EReal :=
  x d * Ideal.rsqrt (Ideal.div (∑ k : Fin 1024, x k * x k) (Ideal.ofBits .f32 0x44800000#32) + Ideal.ofBits .f32 0x358637BD#32) * g d

/-- A row times column `n` of the weights. -/
def zc (h : Fin 1024 → EReal) (w : Fin 1024 → ℕ → EReal) (n : ℕ) : EReal := ∑ d : Fin 1024, h d * w d n

/-- The first eight lanes of each head of 64 are turned against the next eight. -/
def rope (z : ℕ → EReal) (c s : ℕ → EReal) (n : ℕ) : EReal :=
  if n % 64 < 8 then z n * c (n % 64) - z (n + 8) * s (n % 64)
  else if n % 64 < 16 then z n * c (n % 64 - 8) + z (n - 8) * s (n % 64 - 8)
  else z n

/-- The queries' scale. -/
def sc (x : EReal) : EReal := x * (((Real.log 256)⁻¹ : ℝ) : EReal)

/-- The scale as the layer writes it: a division by eight and by the logarithm of two. -/
theorem sc_eq (x : EReal) : Ideal.div (x * Ideal.ofBits .f32 0x3E000000#32) (Ideal.log (Ideal.ofBits .f32 0x40000000#32)) = sc x := by
  rw [Cert.Att.bits_eighth, Cert.Att.bits_two, Cert.Att.div_log_two, mul_assoc, ← EReal.coe_mul]
  unfold sc
  have e : (8⁻¹ : ℝ) * (Real.log 2)⁻¹ = (Real.log 256)⁻¹ := by
    have h : Real.log 256 = 8 * Real.log 2 := by
      rw [show (256 : ℝ) = 2 ^ 8 by norm_num, Real.log_pow]; norm_num
    rw [h, mul_inv]
  rw [e]

/-- A rotation by lane tables: the cosine (one beyond lane 16), the sine negated on the first eight lanes, the sine on the rest. -/
theorem rope_tab (z c s : ℕ → EReal) (n : ℕ) (C S u v : EReal)
    (hC : C = if n % 64 < 8 then c (n % 64) else if n % 64 < 16 then c (n % 64 - 8) else 1)
    (hS : S = if n % 64 < 8 then s (n % 64) else if n % 64 < 16 then s (n % 64 - 8) else 0)
    (hu : n % 64 < 8 → u = z (n + 8)) (hv : 8 ≤ n % 64 → n % 64 < 16 → v = z (n - 8)) :
    z n * C + u * (if n % 64 < 8 then 0 - S else 0) + v * (if n % 64 < 8 then 0 else S) = rope z c s n := by
  subst hC hS
  unfold rope
  by_cases h8 : n % 64 < 8
  · simp only [if_pos h8]
    rw [hu h8, mul_zero, add_zero, sub_eq_add_neg, zero_add, mul_neg, ← sub_eq_add_neg]
  · simp only [if_neg h8]
    by_cases h16 : n % 64 < 16
    · simp only [if_pos h16]
      rw [hv (by omega) h16, mul_zero, add_zero]
    · simp only [if_neg h16]
      rw [mul_zero, mul_zero, mul_one, add_zero, add_zero]

/-- A lane table: an array's eight columns twice, then a constant, over each 64 lanes. -/
def tab (a : ℕ → EReal) (e : EReal) (n : ℕ) : EReal :=
  if n % 64 < 8 then a (n % 64) else if n % 64 < 16 then a (n % 64 - 8) else e

variable (x0 : SX.Idx → EReal) (x1 : SG.Idx → EReal) (x2 : SW.Idx → EReal) (x3 x4 : SA.Idx → EReal)

/-- The weights' column `n`, and a token's angles. -/
def wf (d : Fin 1024) (n : ℕ) : EReal := if h : n < 7424 then x2 (ix2 d ⟨n, h⟩) else 0
def af (x : SA.Idx → EReal) (t : Fin 32768) (k : ℕ) : EReal := if h : k < 8 then x (ix2 t ⟨k, h⟩) else 0

theorem wf_of (i : SW.Idx) (d : Fin 1024) (n : ℕ) (h0 : (i 0).val = d.val) (h1 : (i 1).val = n) : x2 i = wf x2 d n := by
  have hn : n < 7424 := h1 ▸ (i 1).isLt
  unfold wf
  rw [dif_pos hn]
  refine congrArg x2 (funext fun a => ?_)
  match a with
  | ⟨0, _⟩ => exact Fin.ext h0
  | ⟨1, _⟩ => exact Fin.ext h1

theorem af_of (x : SA.Idx → EReal) (i : SA.Idx) (t : Fin 32768) (k : ℕ) (h0 : (i 0).val = t.val) (h1 : (i 1).val = k) : x i = af x t k := by
  have hk : k < 8 := h1 ▸ (i 1).isLt
  unfold af
  rw [dif_pos hk]
  refine congrArg x (funext fun a => ?_)
  match a with
  | ⟨0, _⟩ => exact Fin.ext h0
  | ⟨1, _⟩ => exact Fin.ext h1

/-- A token's normed row, its product with the weights, and that product turned. -/
def hx (t : Fin 32768) : Fin 1024 → EReal := nrm (fun k => x0 (ix2 t k)) (fun k => x1 (ix1 k))
def Z (t : Fin 32768) (n : ℕ) : EReal := zc (hx x0 x1 t) (wf x2) n
def R (t : Fin 32768) (n : ℕ) : EReal := rope (Z x0 x1 x2 t) (af x3 t) (af x4 t) n

/-- The results: queries, keys and values of the first group, queries, keys and values of the differential heads. -/
def oQA (i : (⟨2, ![32768, 256]⟩ : Shape).Idx) : EReal := sc (R x0 x1 x2 x3 x4 (i 0) (0 + (i 1).val))
def oKA (i : (⟨2, ![32768, 256]⟩ : Shape).Idx) : EReal := R x0 x1 x2 x3 x4 (i 0) (768 + (i 1).val)
def oVA (i : (⟨2, ![32768, 256]⟩ : Shape).Idx) : EReal := Z x0 x1 x2 (i 0) (1536 + (i 1).val)
def oQB (i : (⟨2, ![32768, 512]⟩ : Shape).Idx) : EReal := sc (R x0 x1 x2 x3 x4 (i 0) (2304 + (i 1).val))
def oKB (i : (⟨2, ![32768, 512]⟩ : Shape).Idx) : EReal := R x0 x1 x2 x3 x4 (i 0) (2816 + (i 1).val)
def oVB (i : (⟨2, ![32768, 1024]⟩ : Shape).Idx) : EReal :=
  if (i 1).val % 256 < 128 then Z x0 x1 x2 (i 0) (3328 + (i 1).val / 256 * 128 + (i 1).val % 256)
  else if (i 1).val % 256 = 128 then 1 else 0

end Cert.QkvV

end
-- ==== Proof.QkvTile.lean ====
/- The projection call's slabs, on the extended reals. -/
module

public import proofs.«01_k».proof.Proof.QkvSpec
public import proofs.«01_k».proof.Proof.Gen.QkvIdeal.Skeleton
public import Idealize.ShloMosaic.Lib.Pipeline.Value
public import Idealize.ShloMosaic.Lib.KernelVsHost
public import Idealize.ShloMosaic.Lib.IdealHost
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.Lib.Pointwise

@[expose] public section

set_option maxRecDepth 65536

noncomputable section

namespace Cert.QkvV

open Cert.QkvIdeal Cert.QkvIdeal.Gen Idealize.ShloMosaic.TcCoe Idealize.ShloMosaic.ValueIdx Idealize.SL.Sem
open Idealize.ShloMosaic hiding ix1 ix2 ix3
open scoped BigOperators

theorem qscale_named : (Named.named κ "qscale" 0x3E38AA3B#32 : Ideal .f32) = (((Real.log 256)⁻¹ : ℝ) : EReal) :=
  rfl

theorem mask_apply (a : Fin 512) (l : Fin 128) : k0_pay7 (ix2 a l) = if l.val % 64 < 8 then 1#1 else 0#1 := by
  have e : k0_pay7 (ix2 a l) = k0_pay7 (ix2 0 l) := rfl
  rw [e]
  clear e
  revert l
  decide +kernel

theorem neg_apply (sn : FVec Ideal S512x128 .f32) (a : Fin 512) (l : Fin 128) :
    k0_pay9 sn k0_pay7 k0_pay8 (ix2 a l) = if l.val % 64 < 8 then (0 : EReal) - sn (ix2 a l) else 0 := by
  have e : k0_pay9 sn k0_pay7 k0_pay8 (ix2 a l)
      = if k0_pay7 (ix2 a l) = 1#1 then Ideal.ofBits .f32 0x00000000#32 - sn (ix2 a l) else Ideal.ofBits .f32 0x00000000#32 := rfl
  rw [e, mask_apply, Ideal.ofBits_zero_f32]
  by_cases h : l.val % 64 < 8
  · rw [if_pos h, if_pos h, if_pos rfl]
  · rw [if_neg h, if_neg h, if_neg (by decide)]

theorem pos_apply (sn : FVec Ideal S512x128 .f32) (a : Fin 512) (l : Fin 128) :
    k0_pay10 sn k0_pay7 (ix2 a l) = if l.val % 64 < 8 then (0 : EReal) else sn (ix2 a l) := by
  have e : k0_pay10 sn k0_pay7 (ix2 a l)
      = if k0_pay7 (ix2 a l) = 1#1 then Ideal.ofBits .f32 0x00000000#32 else sn (ix2 a l) := rfl
  rw [e, mask_apply, Ideal.ofBits_zero_f32]
  by_cases h : l.val % 64 < 8
  · rw [if_pos h, if_pos h, if_pos rfl]
  · rw [if_neg h, if_neg h, if_neg (by decide)]

/-- A slab turned by the lane tables, as the body forms it. -/
def rK (z cs sn : FVec Ideal S512x128 .f32) : FVec Ideal S512x128 .f32 :=
  addf (addf (mulf z cs) (mulf (dynamicRotate 1 120#32 none z rotates_S512x128_d1) (k0_pay9 sn k0_pay7 k0_pay8)))
    (mulf (dynamicRotate 1 8#32 none z rotates_S512x128_d1) (k0_pay10 sn k0_pay7))

theorem rK_apply (z cs sn : FVec Ideal S512x128 .f32) (a : Fin 512) (l : Fin 128) (zf c s : ℕ → EReal) (n0 : ℕ) (h0 : n0 % 64 = 0)
    (hz : ∀ l : Fin 128, z (ix2 a l) = zf (n0 + l.val))
    (hc : cs (ix2 a l) = tab c 1 l.val) (hs : sn (ix2 a l) = tab s 0 l.val) :
    rK z cs sn (ix2 a l) = rope zf c s (n0 + l.val) := by
  have hl := l.isLt
  have e1 : dynamicRotate 1 120#32 none z rotates_S512x128_d1 (ix2 a l) = z (ix2 a ⟨(l.val + 8) % 128, by omega⟩) :=
    dynamicRotate_apply (1 : Fin 2) _ z _ _ _ (by
      intro b
      match b with
      | ⟨0, _⟩ => rfl
      | ⟨1, _⟩ => show (l.val + 8) % 128 = (l.val + 128 - 120 % 128) % 128; omega)
  have e2 : dynamicRotate 1 8#32 none z rotates_S512x128_d1 (ix2 a l) = z (ix2 a ⟨(l.val + 120) % 128, by omega⟩) :=
    dynamicRotate_apply (1 : Fin 2) _ z _ _ _ (by
      intro b
      match b with
      | ⟨0, _⟩ => rfl
      | ⟨1, _⟩ => show (l.val + 120) % 128 = (l.val + 128 - 8 % 128) % 128; omega)
  have e : rK z cs sn (ix2 a l) = z (ix2 a l) * cs (ix2 a l)
      + dynamicRotate 1 120#32 none z rotates_S512x128_d1 (ix2 a l) * k0_pay9 sn k0_pay7 k0_pay8 (ix2 a l)
      + dynamicRotate 1 8#32 none z rotates_S512x128_d1 (ix2 a l) * k0_pay10 sn k0_pay7 (ix2 a l) := rfl
  rw [e, e1, e2, neg_apply, pos_apply, hz, hz, hz]
  have em : (n0 + l.val) % 64 = l.val % 64 := by omega
  rw [← em]
  refine rope_tab zf c s (n0 + l.val) _ _ _ _ ?_ ?_ ?_ ?_
  · rw [hc]; unfold tab; rw [em]
  · rw [hs]; unfold tab; rw [em]
  · intro h
    refine congrArg zf ?_
    show n0 + (l.val + 8) % 128 = n0 + l.val + 8
    omega
  · intro h h'
    refine congrArg zf ?_
    show n0 + (l.val + 120) % 128 = n0 + l.val - 8
    omega

theorem mm_apply (hb : FVec Ideal S512x1024 .bf16) (w : Vec Ideal S1024x256 .bf16) (a : Fin 512) (n : Fin 256) :
    k0_pay1 hb w (ix2 a n) = ∑ d : Fin 1024, hb (ix2 a d) * w (ix2 d n) := by
  unfold k0_pay1
  refine (Ideal.matmul_plain_apply none hb _ _ a n).trans ?_
  rw [ValueIdx.constant_apply, Ideal.ofBits_zero_f32, zero_add]
  refine Finset.sum_congr rfl fun d _ => ?_
  exact congrArg (hb (ix2 a d) * ·) (shapeCast_apply _ _ _ _ rfl)

/-- The two halves of a product of 256 columns. -/
def zL (hb : FVec Ideal S512x1024 .bf16) (w : Vec Ideal S1024x256 .bf16) : FVec Ideal S512x128 .f32 :=
  extractStridedSlice S512x128 ![0, 0] (k0_pay1 hb w) slices_S512x256_o0_0_S512x128
def zR (hb : FVec Ideal S512x1024 .bf16) (w : Vec Ideal S1024x256 .bf16) : FVec Ideal S512x128 .f32 :=
  extractStridedSlice S512x128 ![0, 128] (k0_pay1 hb w) slices_S512x256_o0_128_S512x128

theorem zL_apply (hb : FVec Ideal S512x1024 .bf16) (w : Vec Ideal S1024x256 .bf16) (a : Fin 512) (l : Fin 128)
    (h : Fin 1024 → EReal) (wf : Fin 1024 → ℕ → EReal) (n0 : ℕ) (hh : ∀ d, hb (ix2 a d) = h d)
    (hw : ∀ d (n : Fin 256), w (ix2 d n) = wf d (n0 + n.val)) : zL hb w (ix2 a l) = zc h wf (n0 + l.val) := by
  unfold zL
  refine (extractStridedSlice_apply _ _ _ (ix2 a l) (ix2 a (⟨l.val, by omega⟩ : Fin 256)) (fun b => match b with
    | ⟨0, _⟩ => by show a.val = 0 + a.val; omega
    | ⟨1, _⟩ => by show l.val = 0 + l.val; omega)).trans ?_
  rw [mm_apply]
  unfold zc
  exact Finset.sum_congr rfl fun d _ => by rw [hh, hw]

theorem zR_apply (hb : FVec Ideal S512x1024 .bf16) (w : Vec Ideal S1024x256 .bf16) (a : Fin 512) (l : Fin 128)
    (h : Fin 1024 → EReal) (wf : Fin 1024 → ℕ → EReal) (n0 : ℕ) (hh : ∀ d, hb (ix2 a d) = h d)
    (hw : ∀ d (n : Fin 256), w (ix2 d n) = wf d (n0 + n.val)) : zR hb w (ix2 a l) = zc h wf (n0 + 128 + l.val) := by
  unfold zR
  refine (extractStridedSlice_apply _ _ _ (ix2 a l) (ix2 a (⟨128 + l.val, by omega⟩ : Fin 256)) (fun b => match b with
    | ⟨0, _⟩ => by show a.val = 0 + a.val; omega
    | ⟨1, _⟩ => rfl)).trans ?_
  rw [mm_apply]
  unfold zc
  refine Finset.sum_congr rfl fun d _ => ?_
  rw [hh, hw]
  refine congrArg (h d * wf d ·) ?_
  show n0 + (128 + l.val) = _
  omega

theorem hb_apply (x : Vec Ideal S512x1024 .f32) (g : Vec Ideal S1x1024 .f32) (a : Fin 512) (d : Fin 1024) :
    k0_pay4 x g (ix2 a d) = nrm (fun k => x (ix2 a k)) (fun k => g (ix2 0 k)) d := by
  have hs : multiReduction .add [1] S512 (mulf x x : FVec Ideal S512x1024 .f32) 0x00000000#32 reduces_S512x1024_S512 (.inl rfl) rfl (ix1 a)
      = ∑ k : Fin 1024, x (ix2 a k) * x (ix2 a k) := by
    show Ideal.reduceAdd reduces_S512x1024_S512 (mulf x x : FVec Ideal S512x1024 .f32) (ix1 a) = _
    rw [Ideal.reduceAdd_r2_a1]
    rfl
  unfold nrm
  rw [← hs]
  unfold k0_pay4
  show x (ix2 a d) * _ * _ = _
  refine congrArg₂ (fun u v : EReal => u * v) (congrArg (x (ix2 a d) * ·) ?_) ?_
  · refine (broadcastTo_apply _ _ (ix2 a d) (ix2 a (0 : Fin 1)) ?_).trans ?_
    · intro b
      match b with
      | ⟨0, _⟩ => rfl
      | ⟨1, _⟩ => rfl
    · refine congrArg (fun u : EReal => Ideal.rsqrt (Ideal.div u (Ideal.ofBits .f32 0x44800000#32) + Ideal.ofBits .f32 0x358637BD#32)) ?_
      refine shapeCast_apply _ _ _ (ix1 a) ?_
      rw [Shape.rowMajor_val_two, Shape.rowMajor_val_one]
      show a.val = a.val * 1 + 0
      omega
  · refine (broadcastTo_apply _ _ (ix2 a d) (ix2 (0 : Fin 1) d) ?_).trans ?_
    · intro b
      match b with
      | ⟨0, _⟩ => rfl
      | ⟨1, _⟩ => rfl
    · exact shapeCast_apply _ _ _ _ rfl

end Cert.QkvV

end
-- ==== Proof.QkvOut.lean ====
/- What a grid point of the projection call leaves in each staging buffer, on the extended reals. -/
module

public import proofs.«01_k».proof.Proof.QkvTile
public import proofs.«01_k».proof.Proof.Gen.QkvIdeal.Frame
public import Idealize.ShloMosaic.Lib.Writes
public import Idealize.ShloMosaic.Lib.Pipeline.ValueKit

@[expose] public section

set_option maxRecDepth 65536

noncomputable section

namespace Cert.QkvV

open Cert.QkvIdeal Cert.QkvIdeal.Gen Idealize.ShloMosaic.TcCoe Idealize.ShloMosaic.ValueIdx Idealize.SL.Sem
open Idealize.ShloMosaic hiding ix1 ix2 ix3
open scoped BigOperators

variable (X0 : SX.Idx → EReal) (X1 : SG.Idx → EReal) (X2 : SW.Idx → EReal) (X3 X4 : SA.Idx → EReal) (r : Fin 512 → Fin 32768)

/-- The blocks a grid point stages, in the arrays' terms: rows `r`, the whole weights, the lane tables. -/
structure Blk (x0 : Vec Ideal S512x1024 .f32) (x1 : Vec Ideal S1x1024 .f32) (x2 : Vec Ideal S1024x3840 .bf16) (x3 x4 : Vec Ideal S512x128 .f32) : Prop where
  h0 : ∀ a k, x0 (ix2 a k) = X0 (ix2 (r a) k)
  h1 : ∀ k, x1 (ix2 0 k) = X1 (ix1 k)
  h2 : ∀ d (n : Fin 3840), x2 (ix2 d n) = wf X2 d n.val
  h3 : ∀ a (l : Fin 128), x3 (ix2 a l) = tab (af X3 (r a)) 1 l.val
  h4 : ∀ a (l : Fin 128), x4 (ix2 a l) = tab (af X4 (r a)) 0 l.val

/-- A load at an offset, read at an index. -/
theorem ld2 {n0 n1 m0 m1 : ℕ} {e : EltTy} (M : Memref sig .tc .vmem ⟨2, ![n0, n1]⟩ e) (hM : M.IsWhole) (x : Vec Ideal ⟨2, ![n0, n1]⟩ e) (o0 o1 : ℕ)
    (h : ∀ a, (![o0, o1] : Fin 2 → ℕ) a + (![m0, m1] : Fin 2 → ℕ) a ≤ (⟨2, ![n0, n1]⟩ : Shape).size a) (a : Fin m0) (l : Fin m1) (a' : Fin n0) (l' : Fin n1)
    (ha : a'.val = o0 + a.val) (hl : l'.val = o1 + l.val) :
    View.readAt (Elt Ideal) M.view (Rect.unit (s := ⟨2, ![n0, n1]⟩) ![o0, o1] ![m0, m1] h).toLoadRect (hM.unread x) (ix2 a l) = x (ix2 a' l') := by
  rw [View.readAt_eq_ld, Memref.IsWhole.read_unread]
  refine View.ld_unit_apply_of x _ _ _ _ _ fun ax => ?_
  match ax with
  | ⟨0, _⟩ => exact ha
  | ⟨1, _⟩ => exact hl

theorem fin {N : ℕ} (f : Fin 32768 → ℕ → EReal) (n0 b p : ℕ) (hn : n0 = b + p)
    (h : ∀ a, (![0, p] : Fin 2 → ℕ) a + (![512, 128] : Fin 2 → ℕ) a ≤ (⟨2, ![512, N]⟩ : Shape).size a) (x : (⟨2, ![512, 128]⟩ : Shape).Idx) :
    f (r (x 0)) (n0 + (x 1).val) = f (r ((Rect.unit (s := ⟨2, ![512, N]⟩) ![0, p] ![512, 128] h).emb x 0))
      (b + ((Rect.unit (s := ⟨2, ![512, N]⟩) ![0, p] ![512, 128] h).emb x 1).val) := by
  refine congrArg₂ f (congrArg r (Fin.ext ?_)) ?_
  · show (x 0).val = 0 + 1 * (x 0).val
    omega
  · show n0 + (x 1).val = b + (p + 1 * (x 1).val)
    omega

section
variable (hb : FVec Ideal S512x1024 .bf16) (w : Vec Ideal S1024x256 .bf16) (cs sn : FVec Ideal S512x128 .f32) (n0 : ℕ)
  (hh : ∀ a d, hb (ix2 a d) = hx X0 X1 (r a) d) (hw : ∀ d (n : Fin 256), w (ix2 d n) = wf X2 d (n0 + n.val))
  (hc : ∀ a (l : Fin 128), cs (ix2 a l) = tab (af X3 (r a)) 1 l.val) (hs : ∀ a (l : Fin 128), sn (ix2 a l) = tab (af X4 (r a)) 0 l.val)
include hh hw

theorem vL (x : S512x128.Idx) : zL hb w x = Z X0 X1 X2 (r (x 0)) (n0 + (x 1).val) :=
  (congrArg (zL hb w) (ValueIdx.eq_ix2 x)).trans (zL_apply hb w (x 0) (x 1) (hx X0 X1 (r (x 0))) (wf X2) n0 (hh (x 0)) hw)

theorem vR (x : S512x128.Idx) : zR hb w x = Z X0 X1 X2 (r (x 0)) (n0 + 128 + (x 1).val) :=
  (congrArg (zR hb w) (ValueIdx.eq_ix2 x)).trans (zR_apply hb w (x 0) (x 1) (hx X0 X1 (r (x 0))) (wf X2) n0 (hh (x 0)) hw)

include hc hs
theorem pL (h64 : n0 % 64 = 0) (x : S512x128.Idx) : rK (zL hb w) cs sn x = R X0 X1 X2 X3 X4 (r (x 0)) (n0 + (x 1).val) :=
  (congrArg (rK (zL hb w) cs sn) (ValueIdx.eq_ix2 x)).trans
    (rK_apply (zL hb w) cs sn (x 0) (x 1) (Z X0 X1 X2 (r (x 0))) (af X3 (r (x 0))) (af X4 (r (x 0))) n0 h64
      (fun l => vL X0 X1 X2 r hb w n0 hh hw (ix2 (x 0) l)) (hc _ _) (hs _ _))

theorem pR (h64 : (n0 + 128) % 64 = 0) (x : S512x128.Idx) : rK (zR hb w) cs sn x = R X0 X1 X2 X3 X4 (r (x 0)) (n0 + 128 + (x 1).val) :=
  (congrArg (rK (zR hb w) cs sn) (ValueIdx.eq_ix2 x)).trans
    (rK_apply (zR hb w) cs sn (x 0) (x 1) (Z X0 X1 X2 (r (x 0))) (af X3 (r (x 0))) (af X4 (r (x 0))) (n0 + 128) h64
      (fun l => vR X0 X1 X2 r hb w n0 hh hw (ix2 (x 0) l)) (hc _ _) (hs _ _))

theorem sL (h64 : n0 % 64 = 0) (x : S512x128.Idx) :
    (truncf .bf16 (mulf (rK (zL hb w) cs sn) (broadcast S512x128 (Named.named κ "qscale" 0x3E38AA3B#32))) bitsLt_bf16_f32 : FVec Ideal S512x128 .bf16) x
      = sc (R X0 X1 X2 X3 X4 (r (x 0)) (n0 + (x 1).val)) := by
  rw [← pL X0 X1 X2 X3 X4 r hb w cs sn n0 hh hw hc hs h64 x]
  rfl

theorem sR (h64 : (n0 + 128) % 64 = 0) (x : S512x128.Idx) :
    (truncf .bf16 (mulf (rK (zR hb w) cs sn) (broadcast S512x128 (Named.named κ "qscale" 0x3E38AA3B#32))) bitsLt_bf16_f32 : FVec Ideal S512x128 .bf16) x
      = sc (R X0 X1 X2 X3 X4 (r (x 0)) (n0 + 128 + (x 1).val)) := by
  rw [← pR X0 X1 X2 X3 X4 r hb w cs sn n0 hh hw hc hs h64 x]
  rfl
end

/-- The ones column of the values, by a lane's place. -/
def vbAt (t : Fin 32768) (n : ℕ) : EReal :=
  if n % 256 < 128 then Z X0 X1 X2 t (3328 + n / 256 * 128 + n % 256) else if n % 256 = 128 then 1 else 0

theorem ones_apply (x : S512x128.Idx) : (k0_pay181 (F := Ideal) k0_pay180 (Scalar.ofBits .f32 0x3F800000#32)) x = if (x 1).val = 0 then (1 : EReal) else 0 := by
  have h : ∀ l : Fin 128, k0_pay180 (ix2 0 l) = if l.val = 0 then 1#1 else 0#1 := by decide +kernel
  have e : (k0_pay181 (F := Ideal) k0_pay180 (Scalar.ofBits .f32 0x3F800000#32)) x
      = if k0_pay180 (ix2 0 (x 1)) = 1#1 then Ideal.ofBits .f32 0x3F800000#32 else Ideal.ofBits .f32 0x00000000#32 := rfl
  rw [e, h (x 1), Ideal.ofBits_zero_f32, Ideal.ofBits_one_f32]
  by_cases h0 : (x 1).val = 0
  · rw [if_pos h0, if_pos h0, if_pos rfl]
  · rw [if_neg h0, if_neg h0, if_neg (by decide)]

theorem vb_even (t : Fin 32768) (n0 p l : ℕ) (hp : p % 256 = 0) (hn : n0 = 3328 + p / 256 * 128) (hl : l < 128) :
    Z X0 X1 X2 t (n0 + l) = vbAt X0 X1 X2 t (p + l) := by
  unfold vbAt
  rw [if_pos (by omega)]
  refine congrArg (Z X0 X1 X2 t) ?_
  omega

theorem vb_odd (t : Fin 32768) (p l : ℕ) (hp : p % 256 = 128) (hl : l < 128) :
    (if l = 0 then (1 : EReal) else 0) = vbAt X0 X1 X2 t (p + l) := by
  have h : (p + l) % 256 = 128 ↔ l = 0 := by omega
  have h' : ¬ (p + l) % 256 < 128 := by omega
  unfold vbAt
  simp only [h, if_neg h']

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x3840 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x256 .bf16) (harg6 : arg6.IsWhole) (arg7 : Memref sig .tc .vmem S128x1024 .bf16) (harg7 : arg7.IsWhole) (arg8 : Memref sig .tc .vmem S32x4096 .bf16) (harg8 : arg8.IsWhole) (arg9 : Memref sig .tc .vmem S512x256 .bf16) (harg9 : arg9.IsWhole) (arg10 : Memref sig .tc .vmem S128x1024 .bf16) (harg10 : arg10.IsWhole) (arg11 : Memref sig .tc .vmem S32x4096 .bf16) (harg11 : arg11.IsWhole) (arg12 : Memref sig .tc .vmem S512x256 .bf16) (harg12 : arg12.IsWhole) (arg13 : Memref sig .tc .vmem S128x1024 .bf16) (harg13 : arg13.IsWhole) (arg14 : Memref sig .tc .vmem S32x4096 .bf16) (harg14 : arg14.IsWhole) (arg15 : Memref sig .tc .vmem S512x512 .bf16) (harg15 : arg15.IsWhole) (arg16 : Memref sig .tc .vmem S512x512 .bf16) (harg16 : arg16.IsWhole) (arg17 : Memref sig .tc .vmem S512x1024 .bf16) (harg17 : arg17.IsWhole) (arg18 : Memref sig .tc .vmem S2x512x128 .f32) (harg18 : arg18.IsWhole)
variable (x0 : Vec Ideal S512x1024 .f32) (x1 : Vec Ideal S1x1024 .f32) (x2 : Vec Ideal S1024x3840 .bf16) (x3 x4 : Vec Ideal S512x128 .f32)
variable (B : Blk X0 X1 X2 X3 X4 r x0 x1 x2 x3 x4)
include B

theorem HH (a : Fin 512) (d : Fin 1024) : kernelRun0_A.sl.v15 (F := Ideal) c arg1 harg1 arg2 harg2 x0 x1 (ix2 a d) = hx X0 X1 (r a) d := by
  unfold kernelRun0_A.sl.v15
  refine (hb_apply _ _ a d).trans ?_
  unfold hx
  refine congrArg₂ (fun u v => nrm u v d) (funext fun k => ?_) (funext fun k => ?_)
  · exact (ld2 arg1 harg1 x0 0 0 _ a k a k (by omega) (by omega)).trans (B.h0 a k)
  · exact (ld2 arg2 harg2 x1 0 0 _ 0 k 0 k (by rfl) (by omega)).trans (B.h1 k)

theorem HC (a : Fin 512) (l : Fin 128) : kernelRun0_A.sl.v17 (F := Ideal) c arg4 harg4 x3 (ix2 a l) = tab (af X3 (r a)) 1 l.val := by
  unfold kernelRun0_A.sl.v17
  refine (shapeCast_apply _ _ (ix2 a l) (ix2 a l) rfl).trans ?_
  exact (ld2 arg4 harg4 x3 0 0 _ a l a l (by omega) (by omega)).trans (B.h3 a l)

theorem HS (a : Fin 512) (l : Fin 128) : kernelRun0_A.sl.v19 (F := Ideal) c arg5 harg5 x4 (ix2 a l) = tab (af X4 (r a)) 0 l.val := by
  unfold kernelRun0_A.sl.v19
  refine (shapeCast_apply _ _ (ix2 a l) (ix2 a l) rfl).trans ?_
  exact (ld2 arg5 harg5 x4 0 0 _ a l a l (by omega) (by omega)).trans (B.h4 a l)

theorem HW (off : ℕ) (ho : off + 256 ≤ 3840) (h : ∀ a, (![0, off] : Fin 2 → ℕ) a + (![1024, 256] : Fin 2 → ℕ) a ≤ S1024x3840.size a) (d : Fin 1024) (n : Fin 256) :
    View.readAt (Elt Ideal) arg3.view (Rect.unit (s := S1024x3840) ![0, off] ![1024, 256] h).toLoadRect (harg3.unread x2) (ix2 d n) = wf X2 d (off + n.val) :=
  (ld2 arg3 harg3 x2 0 off h d n d ⟨off + n.val, by omega⟩ (by omega) rfl).trans (B.h2 d _)

theorem out5_val (y : (⟨2, ![512, 256]⟩ : Shape).Idx) : out0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = sc (R X0 X1 X2 X3 X4 (r (y 0)) (0 + (y 1).val)) := by
  unfold out0_A_5
  refine View.read_writes_apply_of_pieces _ _ (fun y : (⟨2, ![512, 256]⟩ : Shape).Idx => (sc (R X0 X1 X2 X3 X4 (r (y 0)) (0 + (y 1).val)) : EReal)) _ ?_ y (cover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)
  unfold kernelRun0_A
  dsimp only
  simp only [List.forall_mem_cons]
  refine ⟨?_, ?_, ?_⟩
  · exact fun x => (sR X0 X1 X2 X3 X4 r _ _ _ _ 0 (HH X0 X1 X2 X3 X4 r c arg1 harg1 arg2 harg2 x0 x1 x2 x3 x4 B) (HW X0 X1 X2 X3 X4 r arg3 harg3 x0 x1 x2 x3 x4 B 0 (by norm_num) _) (HC X0 X1 X2 X3 X4 r c arg4 harg4 x0 x1 x2 x3 x4 B) (HS X0 X1 X2 X3 X4 r c arg5 harg5 x0 x1 x2 x3 x4 B) (by norm_num) x).trans (fin r (fun t n => sc (R X0 X1 X2 X3 X4 t n)) (0 + 128) 0 128 rfl _ x)
  · exact fun x => (sL X0 X1 X2 X3 X4 r _ _ _ _ 0 (HH X0 X1 X2 X3 X4 r c arg1 harg1 arg2 harg2 x0 x1 x2 x3 x4 B) (HW X0 X1 X2 X3 X4 r arg3 harg3 x0 x1 x2 x3 x4 B 0 (by norm_num) _) (HC X0 X1 X2 X3 X4 r c arg4 harg4 x0 x1 x2 x3 x4 B) (HS X0 X1 X2 X3 X4 r c arg5 harg5 x0 x1 x2 x3 x4 B) (by norm_num) x).trans (fin r (fun t n => sc (R X0 X1 X2 X3 X4 t n)) 0 0 0 rfl _ x)
  · exact fun p hp => absurd hp (List.not_mem_nil)

theorem out8_val (y : (⟨2, ![512, 256]⟩ : Shape).Idx) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = R X0 X1 X2 X3 X4 (r (y 0)) (768 + (y 1).val) := by
  unfold out0_A_8
  refine View.read_writes_apply_of_pieces _ _ (fun y : (⟨2, ![512, 256]⟩ : Shape).Idx => (R X0 X1 X2 X3 X4 (r (y 0)) (768 + (y 1).val) : EReal)) _ ?_ y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)
  unfold kernelRun0_A
  dsimp only
  simp only [List.forall_mem_cons]
  refine ⟨?_, ?_, ?_⟩
  · exact fun x => (pR X0 X1 X2 X3 X4 r _ _ _ _ 768 (HH X0 X1 X2 X3 X4 r c arg1 harg1 arg2 harg2 x0 x1 x2 x3 x4 B) (HW X0 X1 X2 X3 X4 r arg3 harg3 x0 x1 x2 x3 x4 B 768 (by norm_num) _) (HC X0 X1 X2 X3 X4 r c arg4 harg4 x0 x1 x2 x3 x4 B) (HS X0 X1 X2 X3 X4 r c arg5 harg5 x0 x1 x2 x3 x4 B) (by norm_num) x).trans (fin r (R X0 X1 X2 X3 X4) (768 + 128) 768 128 rfl _ x)
  · exact fun x => (pL X0 X1 X2 X3 X4 r _ _ _ _ 768 (HH X0 X1 X2 X3 X4 r c arg1 harg1 arg2 harg2 x0 x1 x2 x3 x4 B) (HW X0 X1 X2 X3 X4 r arg3 harg3 x0 x1 x2 x3 x4 B 768 (by norm_num) _) (HC X0 X1 X2 X3 X4 r c arg4 harg4 x0 x1 x2 x3 x4 B) (HS X0 X1 X2 X3 X4 r c arg5 harg5 x0 x1 x2 x3 x4 B) (by norm_num) x).trans (fin r (R X0 X1 X2 X3 X4) 768 768 0 rfl _ x)
  · exact fun p hp => absurd hp (List.not_mem_nil)

theorem out11_val (y : (⟨2, ![512, 256]⟩ : Shape).Idx) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = Z X0 X1 X2 (r (y 0)) (1536 + (y 1).val) := by
  unfold out0_A_11
  refine View.read_writes_apply_of_pieces _ _ (fun y : (⟨2, ![512, 256]⟩ : Shape).Idx => (Z X0 X1 X2 (r (y 0)) (1536 + (y 1).val) : EReal)) _ ?_ y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)
  unfold kernelRun0_A
  dsimp only
  simp only [List.forall_mem_cons]
  refine ⟨?_, ?_, ?_⟩
  · exact fun x => (vR X0 X1 X2 r _ _ 1536 (HH X0 X1 X2 X3 X4 r c arg1 harg1 arg2 harg2 x0 x1 x2 x3 x4 B) (HW X0 X1 X2 X3 X4 r arg3 harg3 x0 x1 x2 x3 x4 B 1536 (by norm_num) _) x).trans (fin r (Z X0 X1 X2) (1536 + 128) 1536 128 rfl _ x)
  · exact fun x => (vL X0 X1 X2 r _ _ 1536 (HH X0 X1 X2 X3 X4 r c arg1 harg1 arg2 harg2 x0 x1 x2 x3 x4 B) (HW X0 X1 X2 X3 X4 r arg3 harg3 x0 x1 x2 x3 x4 B 1536 (by norm_num) _) x).trans (fin r (Z X0 X1 X2) 1536 1536 0 rfl _ x)
  · exact fun p hp => absurd hp (List.not_mem_nil)

theorem out14_val (y : (⟨2, ![512, 512]⟩ : Shape).Idx) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = sc (R X0 X1 X2 X3 X4 (r (y 0)) (2304 + (y 1).val)) := by
  unfold out0_A_14
  refine View.read_writes_apply_of_pieces _ _ (fun y : (⟨2, ![512, 512]⟩ : Shape).Idx => (sc (R X0 X1 X2 X3 X4 (r (y 0)) (2304 + (y 1).val)) : EReal)) _ ?_ y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)
  unfold kernelRun0_A
  dsimp only
  simp only [List.forall_mem_cons]
  refine ⟨?_, ?_, ?_, ?_, ?_⟩
  · exact fun x => (sR X0 X1 X2 X3 X4 r _ _ _ _ 2560 (HH X0 X1 X2 X3 X4 r c arg1 harg1 arg2 harg2 x0 x1 x2 x3 x4 B) (HW X0 X1 X2 X3 X4 r arg3 harg3 x0 x1 x2 x3 x4 B 2560 (by norm_num) _) (HC X0 X1 X2 X3 X4 r c arg4 harg4 x0 x1 x2 x3 x4 B) (HS X0 X1 X2 X3 X4 r c arg5 harg5 x0 x1 x2 x3 x4 B) (by norm_num) x).trans (fin r (fun t n => sc (R X0 X1 X2 X3 X4 t n)) (2560 + 128) 2304 384 rfl _ x)
  · exact fun x => (sL X0 X1 X2 X3 X4 r _ _ _ _ 2560 (HH X0 X1 X2 X3 X4 r c arg1 harg1 arg2 harg2 x0 x1 x2 x3 x4 B) (HW X0 X1 X2 X3 X4 r arg3 harg3 x0 x1 x2 x3 x4 B 2560 (by norm_num) _) (HC X0 X1 X2 X3 X4 r c arg4 harg4 x0 x1 x2 x3 x4 B) (HS X0 X1 X2 X3 X4 r c arg5 harg5 x0 x1 x2 x3 x4 B) (by norm_num) x).trans (fin r (fun t n => sc (R X0 X1 X2 X3 X4 t n)) 2560 2304 256 rfl _ x)
  · exact fun x => (sR X0 X1 X2 X3 X4 r _ _ _ _ 2304 (HH X0 X1 X2 X3 X4 r c arg1 harg1 arg2 harg2 x0 x1 x2 x3 x4 B) (HW X0 X1 X2 X3 X4 r arg3 harg3 x0 x1 x2 x3 x4 B 2304 (by norm_num) _) (HC X0 X1 X2 X3 X4 r c arg4 harg4 x0 x1 x2 x3 x4 B) (HS X0 X1 X2 X3 X4 r c arg5 harg5 x0 x1 x2 x3 x4 B) (by norm_num) x).trans (fin r (fun t n => sc (R X0 X1 X2 X3 X4 t n)) (2304 + 128) 2304 128 rfl _ x)
  · exact fun x => (sL X0 X1 X2 X3 X4 r _ _ _ _ 2304 (HH X0 X1 X2 X3 X4 r c arg1 harg1 arg2 harg2 x0 x1 x2 x3 x4 B) (HW X0 X1 X2 X3 X4 r arg3 harg3 x0 x1 x2 x3 x4 B 2304 (by norm_num) _) (HC X0 X1 X2 X3 X4 r c arg4 harg4 x0 x1 x2 x3 x4 B) (HS X0 X1 X2 X3 X4 r c arg5 harg5 x0 x1 x2 x3 x4 B) (by norm_num) x).trans (fin r (fun t n => sc (R X0 X1 X2 X3 X4 t n)) 2304 2304 0 rfl _ x)
  · exact fun p hp => absurd hp (List.not_mem_nil)

theorem out15_val (y : (⟨2, ![512, 512]⟩ : Shape).Idx) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = R X0 X1 X2 X3 X4 (r (y 0)) (2816 + (y 1).val) := by
  unfold out0_A_15
  refine View.read_writes_apply_of_pieces _ _ (fun y : (⟨2, ![512, 512]⟩ : Shape).Idx => (R X0 X1 X2 X3 X4 (r (y 0)) (2816 + (y 1).val) : EReal)) _ ?_ y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)
  unfold kernelRun0_A
  dsimp only
  simp only [List.forall_mem_cons]
  refine ⟨?_, ?_, ?_, ?_, ?_⟩
  · exact fun x => (pR X0 X1 X2 X3 X4 r _ _ _ _ 3072 (HH X0 X1 X2 X3 X4 r c arg1 harg1 arg2 harg2 x0 x1 x2 x3 x4 B) (HW X0 X1 X2 X3 X4 r arg3 harg3 x0 x1 x2 x3 x4 B 3072 (by norm_num) _) (HC X0 X1 X2 X3 X4 r c arg4 harg4 x0 x1 x2 x3 x4 B) (HS X0 X1 X2 X3 X4 r c arg5 harg5 x0 x1 x2 x3 x4 B) (by norm_num) x).trans (fin r (R X0 X1 X2 X3 X4) (3072 + 128) 2816 384 rfl _ x)
  · exact fun x => (pL X0 X1 X2 X3 X4 r _ _ _ _ 3072 (HH X0 X1 X2 X3 X4 r c arg1 harg1 arg2 harg2 x0 x1 x2 x3 x4 B) (HW X0 X1 X2 X3 X4 r arg3 harg3 x0 x1 x2 x3 x4 B 3072 (by norm_num) _) (HC X0 X1 X2 X3 X4 r c arg4 harg4 x0 x1 x2 x3 x4 B) (HS X0 X1 X2 X3 X4 r c arg5 harg5 x0 x1 x2 x3 x4 B) (by norm_num) x).trans (fin r (R X0 X1 X2 X3 X4) 3072 2816 256 rfl _ x)
  · exact fun x => (pR X0 X1 X2 X3 X4 r _ _ _ _ 2816 (HH X0 X1 X2 X3 X4 r c arg1 harg1 arg2 harg2 x0 x1 x2 x3 x4 B) (HW X0 X1 X2 X3 X4 r arg3 harg3 x0 x1 x2 x3 x4 B 2816 (by norm_num) _) (HC X0 X1 X2 X3 X4 r c arg4 harg4 x0 x1 x2 x3 x4 B) (HS X0 X1 X2 X3 X4 r c arg5 harg5 x0 x1 x2 x3 x4 B) (by norm_num) x).trans (fin r (R X0 X1 X2 X3 X4) (2816 + 128) 2816 128 rfl _ x)
  · exact fun x => (pL X0 X1 X2 X3 X4 r _ _ _ _ 2816 (HH X0 X1 X2 X3 X4 r c arg1 harg1 arg2 harg2 x0 x1 x2 x3 x4 B) (HW X0 X1 X2 X3 X4 r arg3 harg3 x0 x1 x2 x3 x4 B 2816 (by norm_num) _) (HC X0 X1 X2 X3 X4 r c arg4 harg4 x0 x1 x2 x3 x4 B) (HS X0 X1 X2 X3 X4 r c arg5 harg5 x0 x1 x2 x3 x4 B) (by norm_num) x).trans (fin r (R X0 X1 X2 X3 X4) 2816 2816 0 rfl _ x)
  · exact fun p hp => absurd hp (List.not_mem_nil)

theorem out16_val (y : (⟨2, ![512, 1024]⟩ : Shape).Idx) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y = vbAt X0 X1 X2 (r (y 0)) (0 + (y 1).val) := by
  unfold out0_A_16
  refine View.read_writes_apply_of_pieces _ _ (fun y : (⟨2, ![512, 1024]⟩ : Shape).Idx => (vbAt X0 X1 X2 (r (y 0)) (0 + (y 1).val) : EReal)) _ ?_ y (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 y)
  unfold kernelRun0_A
  dsimp only
  simp only [List.forall_mem_cons]
  refine ⟨?_, ?_, ?_, ?_, ?_, ?_, ?_, ?_, ?_⟩
  · exact fun x => (ones_apply x).trans ((vb_odd X0 X1 X2 (r (x 0)) 896 (x 1).val rfl (x 1).isLt).trans (fin r (vbAt X0 X1 X2) 896 0 896 rfl _ x))
  · exact fun x => (vR X0 X1 X2 r _ _ 3584 (HH X0 X1 X2 X3 X4 r c arg1 harg1 arg2 harg2 x0 x1 x2 x3 x4 B) (HW X0 X1 X2 X3 X4 r arg3 harg3 x0 x1 x2 x3 x4 B 3584 (by norm_num) _) x).trans ((vb_even X0 X1 X2 (r (x 0)) (3584 + 128) 768 (x 1).val rfl rfl (x 1).isLt).trans (fin r (vbAt X0 X1 X2) 768 0 768 rfl _ x))
  · exact fun x => (ones_apply x).trans ((vb_odd X0 X1 X2 (r (x 0)) 640 (x 1).val rfl (x 1).isLt).trans (fin r (vbAt X0 X1 X2) 640 0 640 rfl _ x))
  · exact fun x => (vL X0 X1 X2 r _ _ 3584 (HH X0 X1 X2 X3 X4 r c arg1 harg1 arg2 harg2 x0 x1 x2 x3 x4 B) (HW X0 X1 X2 X3 X4 r arg3 harg3 x0 x1 x2 x3 x4 B 3584 (by norm_num) _) x).trans ((vb_even X0 X1 X2 (r (x 0)) 3584 512 (x 1).val rfl rfl (x 1).isLt).trans (fin r (vbAt X0 X1 X2) 512 0 512 rfl _ x))
  · exact fun x => (ones_apply x).trans ((vb_odd X0 X1 X2 (r (x 0)) 384 (x 1).val rfl (x 1).isLt).trans (fin r (vbAt X0 X1 X2) 384 0 384 rfl _ x))
  · exact fun x => (vR X0 X1 X2 r _ _ 3328 (HH X0 X1 X2 X3 X4 r c arg1 harg1 arg2 harg2 x0 x1 x2 x3 x4 B) (HW X0 X1 X2 X3 X4 r arg3 harg3 x0 x1 x2 x3 x4 B 3328 (by norm_num) _) x).trans ((vb_even X0 X1 X2 (r (x 0)) (3328 + 128) 256 (x 1).val rfl rfl (x 1).isLt).trans (fin r (vbAt X0 X1 X2) 256 0 256 rfl _ x))
  · exact fun x => (ones_apply x).trans ((vb_odd X0 X1 X2 (r (x 0)) 128 (x 1).val rfl (x 1).isLt).trans (fin r (vbAt X0 X1 X2) 128 0 128 rfl _ x))
  · exact fun x => (vL X0 X1 X2 r _ _ 3328 (HH X0 X1 X2 X3 X4 r c arg1 harg1 arg2 harg2 x0 x1 x2 x3 x4 B) (HW X0 X1 X2 X3 X4 r arg3 harg3 x0 x1 x2 x3 x4 B 3328 (by norm_num) _) x).trans ((vb_even X0 X1 X2 (r (x 0)) 3328 0 (x 1).val rfl rfl (x 1).isLt).trans (fin r (vbAt X0 X1 X2) 0 0 0 rfl _ x))
  · exact fun p hp => absurd hp (List.not_mem_nil)

end

end Cert.QkvV

end
-- ==== Proof.QkvVal.lean ====
/- What the projection call leaves in six of its results, on the extended reals. -/
module

public import proofs.«01_k».proof.Proof.QkvOut
public import proofs.«01_k».proof.Proof.Gen.QkvIdeal.Value
public import Idealize.ShloMosaic.Lib.StableHlo.RunRead

@[expose] public section

set_option maxRecDepth 65536

noncomputable section

namespace Cert.QkvV

open Cert.QkvIdeal Cert.QkvIdeal.Gen Cert.QkvIdeal.Value Idealize.ShloMosaic.TcCoe Idealize.ShloMosaic.ValueIdx Idealize.SL.Sem
open Idealize.ShloMosaic hiding ix1 ix2 ix3 ix4
open Idealize.ShloMosaic.Pipeline (Dat Window)
open scoped BigOperators

variable (m : (ℓ : Loc nD τ sig) → Buf (Elt Ideal) ℓ)

abbrev XS (c : Dev nD) : SX.Idx → EReal := m ((c : Thread nD τ).loc main_arg0)
abbrev GS (c : Dev nD) : SG.Idx → EReal := m ((c : Thread nD τ).loc main_arg1)
abbrev WS (c : Dev nD) : SW.Idx → EReal := m ((c : Thread nD τ).loc main_arg2)
abbrev CS (c : Dev nD) : SA.Idx → EReal := m ((c : Thread nD τ).loc main_arg3)
abbrev SS (c : Dev nD) : SA.Idx → EReal := m ((c : Thread nD τ).loc main_arg4)

theorem V0 (c : Dev nD) : (V m c main_arg0 : SX.Idx → EReal) = XS m c := V_main_arg0 m c
theorem V1 (c : Dev nD) (k : Fin 1024) : (V m c main_v10 : S1x1024.Idx → EReal) (ix2 0 k) = GS m c (ix1 k) := by
  unfold V; after_reads_simp
  exact shapeCast_apply _ _ _ (ix1 k) (by show (Shape.rowMajor (⟨1, ![1024]⟩ : Shape) (ix1 k)).val = (Shape.rowMajor (⟨2, ![1, 1024]⟩ : Shape) (ix2 0 k)).val; rw [Shape.rowMajor_val_two, Shape.rowMajor_val_one]; show k.val = 0 * 1024 + k.val; omega)
theorem V2 (c : Dev nD) (d : Fin 1024) (n : Fin 3840) : (V m c main_v12 : S1024x3840.Idx → EReal) (ix2 d n) = wf (WS m c) d n.val := by
  unfold V; after_reads_simp
  exact wf_of (WS m c) _ d n.val (by show 0 + d.val = d.val; omega) (by show 0 + n.val = n.val; omega)

/-- The host's lane table: an array's columns twice and a constant, repeated along the lanes. -/
def hostTab (A : SA.Idx → EReal) (E : S32768x48.Idx → EReal) : S32768x128.Idx → EReal :=
  shapeCast S32768x128 (broadcastInDim S1x32768x2x64 ![0, 1, 2, 3] bcast_S1x32768x1x64_S1x32768x2x64_0_1_2_3
    (shapeCast S1x32768x1x64 (concatenate S32768x64 1 [⟨S32768x8, A⟩, ⟨S32768x8, A⟩, ⟨S32768x48, E⟩]
      concatenates_S32768x8_S32768x8_S32768x48_S32768x64_d1) shapeCasts_S32768x64_S1x32768x1x64)) shapeCasts_S1x32768x2x64_S32768x128

theorem hostTab_apply (A : SA.Idx → EReal) (E : S32768x48.Idx → EReal) (e : EReal) (hE : ∀ i, E i = e) (t : Fin 32768) (l : Fin 128) :
    hostTab A E (ix2 t l) = tab (af A t) e l.val := by
  have hl : l.val < 128 := l.isLt
  have ht : t.val < 32768 := t.isLt
  unfold hostTab
  refine (shapeCast_apply _ _ (ix2 t l) (ix4 (0 : Fin 1) t (⟨l.val / 64, by omega⟩ : Fin 2) (⟨l.val % 64, by omega⟩ : Fin 64)) ?_).trans ?_
  · rw [Shape.rowMajor_val_four, Shape.rowMajor_val_two]
    show ((0 * 32768 + t.val) * 2 + l.val / 64) * 64 + l.val % 64 = t.val * 128 + l.val
    omega
  refine (broadcastInDim_apply _ _ _ _ (ix4 (0 : Fin 1) t (0 : Fin 1) (⟨l.val % 64, by omega⟩ : Fin 64)) ?_).trans ?_
  · intro a
    match a with
    | ⟨0, _⟩ => rfl
    | ⟨1, _⟩ => rfl
    | ⟨2, _⟩ => rfl
    | ⟨3, _⟩ => rfl
  refine (shapeCast_apply _ _ _ (ix2 t (⟨l.val % 64, by omega⟩ : Fin 64)) ?_).trans ?_
  · rw [Shape.rowMajor_val_four, Shape.rowMajor_val_two]
    show t.val * 64 + l.val % 64 = ((0 * 32768 + t.val) * 1 + 0) * 64 + l.val % 64
    omega
  unfold tab
  by_cases h8 : l.val % 64 < 8
  · rw [if_pos h8]
    refine (concatenate_apply_piece (t := S32768x64) (1 : Fin 2) [⟨S32768x8, A⟩, ⟨S32768x8, A⟩, ⟨S32768x48, E⟩] concatenates_S32768x8_S32768x8_S32768x48_S32768x64_d1
      (ix2 t (⟨l.val % 64, by omega⟩ : Fin 64)) 0 (by show (0 : ℕ) < 3; decide) S32768x8 A rfl rfl 0 rfl (ix2 t (⟨l.val % 64, h8⟩ : Fin 8)) ?_ ?_).trans ?_
    · intro b hb
      match b with
      | ⟨0, _⟩ => rfl
      | ⟨1, _⟩ => exact absurd rfl hb
    · exact Nat.zero_add _
    · exact af_of A _ _ _ rfl rfl
  · rw [if_neg h8]
    by_cases h16 : l.val % 64 < 16
    · rw [if_pos h16]
      refine (concatenate_apply_piece (t := S32768x64) (1 : Fin 2) [⟨S32768x8, A⟩, ⟨S32768x8, A⟩, ⟨S32768x48, E⟩] concatenates_S32768x8_S32768x8_S32768x48_S32768x64_d1
      (ix2 t (⟨l.val % 64, by omega⟩ : Fin 64)) 1 (by show (1 : ℕ) < 3; decide) S32768x8 A rfl rfl 8 rfl (ix2 t (⟨l.val % 64 - 8, by omega⟩ : Fin 8)) ?_ ?_).trans ?_
      · intro b hb
        match b with
        | ⟨0, _⟩ => rfl
        | ⟨1, _⟩ => exact absurd rfl hb
      · show 8 + (l.val % 64 - 8) = l.val % 64
        omega
      · exact af_of A _ _ _ rfl rfl
    · rw [if_neg h16]
      refine (concatenate_apply_piece (t := S32768x64) (1 : Fin 2) [⟨S32768x8, A⟩, ⟨S32768x8, A⟩, ⟨S32768x48, E⟩] concatenates_S32768x8_S32768x8_S32768x48_S32768x64_d1
      (ix2 t (⟨l.val % 64, by omega⟩ : Fin 64)) 2 (by show (2 : ℕ) < 3; decide) S32768x48 E rfl rfl 16 rfl (ix2 t (⟨l.val % 64 - 16, by omega⟩ : Fin 48)) ?_ ?_).trans ?_
      · intro b hb
        match b with
        | ⟨0, _⟩ => rfl
        | ⟨1, _⟩ => exact absurd rfl hb
      · show 16 + (l.val % 64 - 16) = l.val % 64
        omega
      · exact hE _

theorem V3 (c : Dev nD) (t : Fin 32768) (l : Fin 128) : (V m c main_v4 : S32768x128.Idx → EReal) (ix2 t l) = tab (af (CS m c) t) 1 l.val := by
  unfold V; after_reads_simp
  show hostTab (StableHlo.upto hostOps0 (fun b => m (c, b)) 2 (Proc.devRef .tc main_arg3)) (StableHlo.upto hostOps0 (fun b => m (c, b)) 2 (Proc.devRef .tc main_v0)) (ix2 t l) = _
  have h0 : (StableHlo.upto hostOps0 (fun b => m (c, b)) 2 (Proc.devRef .tc main_arg3) : SA.Idx → EReal) = CS m c := by
    after_reads_simp
  rw [h0]
  refine hostTab_apply _ _ _ (fun i => ?_) t l
  after_reads_simp
  exact Ideal.ofBits_one_f32

theorem V4 (c : Dev nD) (t : Fin 32768) (l : Fin 128) : (V m c main_v9 : S32768x128.Idx → EReal) (ix2 t l) = tab (af (SS m c) t) 0 l.val := by
  unfold V; after_reads_simp
  show hostTab (StableHlo.upto hostOps0 (fun b => m (c, b)) 8 (Proc.devRef .tc main_arg4)) (StableHlo.upto hostOps0 (fun b => m (c, b)) 8 (Proc.devRef .tc main_v5)) (ix2 t l) = _
  have h0 : (StableHlo.upto hostOps0 (fun b => m (c, b)) 8 (Proc.devRef .tc main_arg4) : SA.Idx → EReal) = SS m c := by
    after_reads_simp
  rw [h0]
  refine hostTab_apply _ _ _ (fun i => ?_) t l
  after_reads_simp
  exact Ideal.ofBits_zero_f32

/-- The row a point's block row covers. -/
def rowOf (t : ℕ) (ht : t < 64) (a : Fin 512) : Fin 32768 := ⟨t * 512 + a.val, by omega⟩

theorem N64 (t : Fin cfg0.N) : t.val < 64 := t.isLt

theorem idx0 : ∀ t : Fin grid0.N, win0_0.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx1 : ∀ t : Fin grid0.N, win0_1.index t = ![0, 0] := by decide +kernel
theorem idx2 : ∀ t : Fin grid0.N, win0_2.index t = ![0, 0] := by decide +kernel
theorem idx5 : ∀ t : Fin grid0.N, win0_5.index t = ![t.val, 0] := by decide +kernel
theorem idx8 : ∀ t : Fin grid0.N, win0_8.index t = ![t.val, 0] := by decide +kernel
theorem idx11 : ∀ t : Fin grid0.N, win0_11.index t = ![t.val, 0] := by decide +kernel
theorem idx14 : ∀ t : Fin grid0.N, win0_14.index t = ![t.val, 0] := by decide +kernel
theorem idx15 : ∀ t : Fin grid0.N, win0_15.index t = ![t.val, 0] := by decide +kernel
theorem idx16 : ∀ t : Fin grid0.N, win0_16.index t = ![t.val, 0] := by decide +kernel

theorem blk0 (c : Dev nD) (t : Fin cfg0.N) (a : Fin 512) (l : Fin 1024) : (iblk m c 0 t : S512x1024.Idx → EReal) (ix2 a l) = (V m c main_arg0 : SX.Idx → EReal) (ix2 (rowOf t.val (N64 t) a) l) := by
  have e : (cfg0.win 0).index t = ![t.val, 0] := idx0 t
  show (V m c main_arg0 : SX.Idx → EReal) (((cfg0.win 0).rect t).emb (ix2 a l)) = _
  refine congrArg (V m c main_arg0 : SX.Idx → EReal) (funext fun ax => Fin.ext ?_)
  match ax with
  | ⟨0, _⟩ =>
    refine ((cfg0.win 0).rect_emb_val t _ _).trans ?_
    rw [e]; show t.val * 512 + a.val = _; rfl
  | ⟨1, _⟩ =>
    refine ((cfg0.win 0).rect_emb_val t _ _).trans ?_
    rw [e]; show 0 * 1024 + l.val = l.val; omega

theorem blk1 (c : Dev nD) (t : Fin cfg0.N) (a : Fin 1) (l : Fin 1024) : (iblk m c 1 t : S1x1024.Idx → EReal) (ix2 a l) = (V m c main_v10 : S1x1024.Idx → EReal) (ix2 a l) := by
  have e : (cfg0.win 1).index t = ![0, 0] := idx1 t
  show (V m c main_v10 : S1x1024.Idx → EReal) (((cfg0.win 1).rect t).emb (ix2 a l)) = _
  refine congrArg (V m c main_v10 : S1x1024.Idx → EReal) (funext fun ax => Fin.ext ?_)
  match ax with
  | ⟨0, _⟩ =>
    refine ((cfg0.win 1).rect_emb_val t _ _).trans ?_
    rw [e]; show 0 * 1 + a.val = _; exact (by omega : 0 * 1 + a.val = a.val)
  | ⟨1, _⟩ =>
    refine ((cfg0.win 1).rect_emb_val t _ _).trans ?_
    rw [e]; show 0 * 1024 + l.val = l.val; omega

theorem blk2 (c : Dev nD) (t : Fin cfg0.N) (a : Fin 1024) (l : Fin 3840) : (iblk m c 2 t : S1024x3840.Idx → EReal) (ix2 a l) = (V m c main_v12 : S1024x3840.Idx → EReal) (ix2 a l) := by
  have e : (cfg0.win 2).index t = ![0, 0] := idx2 t
  show (V m c main_v12 : S1024x3840.Idx → EReal) (((cfg0.win 2).rect t).emb (ix2 a l)) = _
  refine congrArg (V m c main_v12 : S1024x3840.Idx → EReal) (funext fun ax => Fin.ext ?_)
  match ax with
  | ⟨0, _⟩ =>
    refine ((cfg0.win 2).rect_emb_val t _ _).trans ?_
    rw [e]; show 0 * 1024 + a.val = _; exact (by omega : 0 * 1024 + a.val = a.val)
  | ⟨1, _⟩ =>
    refine ((cfg0.win 2).rect_emb_val t _ _).trans ?_
    rw [e]; show 0 * 3840 + l.val = l.val; omega

theorem blk3 (c : Dev nD) (t : Fin cfg0.N) (a : Fin 512) (l : Fin 128) : (iblk m c 3 t : S512x128.Idx → EReal) (ix2 a l) = (V m c main_v4 : S32768x128.Idx → EReal) (ix2 (rowOf t.val (N64 t) a) l) := by
  have e : (cfg0.win 3).index t = ![t.val, 0] := idx3 t
  show (V m c main_v4 : S32768x128.Idx → EReal) (((cfg0.win 3).rect t).emb (ix2 a l)) = _
  refine congrArg (V m c main_v4 : S32768x128.Idx → EReal) (funext fun ax => Fin.ext ?_)
  match ax with
  | ⟨0, _⟩ =>
    refine ((cfg0.win 3).rect_emb_val t _ _).trans ?_
    rw [e]; show t.val * 512 + a.val = _; rfl
  | ⟨1, _⟩ =>
    refine ((cfg0.win 3).rect_emb_val t _ _).trans ?_
    rw [e]; show 0 * 128 + l.val = l.val; omega

theorem blk4 (c : Dev nD) (t : Fin cfg0.N) (a : Fin 512) (l : Fin 128) : (iblk m c 4 t : S512x128.Idx → EReal) (ix2 a l) = (V m c main_v9 : S32768x128.Idx → EReal) (ix2 (rowOf t.val (N64 t) a) l) := by
  have e : (cfg0.win 4).index t = ![t.val, 0] := idx4 t
  show (V m c main_v9 : S32768x128.Idx → EReal) (((cfg0.win 4).rect t).emb (ix2 a l)) = _
  refine congrArg (V m c main_v9 : S32768x128.Idx → EReal) (funext fun ax => Fin.ext ?_)
  match ax with
  | ⟨0, _⟩ =>
    refine ((cfg0.win 4).rect_emb_val t _ _).trans ?_
    rw [e]; show t.val * 512 + a.val = _; rfl
  | ⟨1, _⟩ =>
    refine ((cfg0.win 4).rect_emb_val t _ _).trans ?_
    rw [e]; show 0 * 128 + l.val = l.val; omega

theorem blks (c : Dev nD) (t : Fin cfg0.N) : Blk (XS m c) (GS m c) (WS m c) (CS m c) (SS m c) (rowOf t.val (N64 t)) (iblk m c 0 t) (iblk m c 1 t) (iblk m c 2 t) (iblk m c 3 t) (iblk m c 4 t) where
  h0 := fun a k => (blk0 m c t a k).trans (congrFun (V0 m c) _)
  h1 := fun k => (blk1 m c t 0 k).trans (V1 m c k)
  h2 := fun d n => (blk2 m c t d n).trans (V2 m c d n)
  h3 := fun a l => (blk3 m c t a l).trans (V3 m c _ l)
  h4 := fun a l => (blk4 m c t a l).trans (V4 m c _ l)

def G5 (c : Dev nD) : S32768x256.Idx → EReal := oQA (XS m c) (GS m c) (WS m c) (CS m c) (SS m c)

theorem flushed5_eq (c : Dev nD) (t : Fin cfg0.N) : (dats m 0 c).flushed 5 t = ((cfg0.win 5).blk t).view.read (Elt Ideal) (G5 m c) := by
  have e : (cfg0.win 5).index t = ![t.val, 0] := idx5 t
  rw [flushed5_A]
  funext y
  show out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (iblk m c 4 t) y = G5 m c (((cfg0.win 5).rect t).emb y)
  refine (out5_val (XS m c) (GS m c) (WS m c) (CS m c) (SS m c) (rowOf t.val (N64 t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (iblk m c 4 t) (blks m c t) y).trans ?_
  have h0 : (((cfg0.win 5).rect t).emb y : S32768x256.Idx) 0 = rowOf t.val (N64 t) (y 0) := by
    refine Fin.ext (((cfg0.win 5).rect_emb_val t _ _).trans ?_)
    rw [e]; rfl
  have h1 : ((((cfg0.win 5).rect t).emb y : S32768x256.Idx) 1).val = (y 1).val := by
    refine ((cfg0.win 5).rect_emb_val t _ _).trans ?_
    rw [e]; show 0 * 256 + (y 1).val = (y 1).val; omega
  unfold G5 oQA
  rw [h0, h1]

theorem cover5 (i : S32768x256.Idx) : ∃ t : Fin cfg0.N, (cfg0.win 5).flush t = true ∧ i ∈ ((cfg0.win 5).blk t).view.set := by
  have h0 : (i 0).val < 32768 := (i 0).isLt
  have h1 : (i 1).val < 256 := (i 1).isLt
  have hlt : (i 0).val / 512 < cfg0.N := (by omega : (i 0).val / 512 < 64)
  have e : (cfg0.win 5).index ⟨(i 0).val / 512, hlt⟩ = ![(i 0).val / 512, 0] := idx5 ⟨_, hlt⟩
  refine ⟨⟨(i 0).val / 512, hlt⟩, flush0_5 _, ?_⟩
  show i ∈ ((View.whole main_v13_0).slice ((cfg0.win 5).rect ⟨(i 0).val / 512, hlt⟩)).set
  rw [View.set_slice_whole, Rect.mem_set_unit]
  intro a
  show (cfg0.win 5).index ⟨(i 0).val / 512, hlt⟩ a * S512x256.size a ≤ (i a : Nat)
    ∧ (i a : Nat) < (cfg0.win 5).index ⟨(i 0).val / 512, hlt⟩ a * S512x256.size a + S512x256.size a
  rw [e]
  match a with
  | ⟨0, _⟩ =>
    show (i 0).val / 512 * 512 ≤ (i 0).val ∧ (i 0).val < (i 0).val / 512 * 512 + 512
    omega
  | ⟨1, _⟩ => show 0 * 256 ≤ (i 1).val ∧ (i 1).val < 0 * 256 + 256; omega

theorem final5 (c : Dev nD) : (dats m 0 c).arrAt 5 cfg0.N = G5 m c :=
  (dats m 0 c).arrAt_eq_of_cover 5 (G5 m c) (fun t _ => flushed5_eq m c t) cover5

def G8 (c : Dev nD) : S32768x256.Idx → EReal := oKA (XS m c) (GS m c) (WS m c) (CS m c) (SS m c)

theorem flushed8_eq (c : Dev nD) (t : Fin cfg0.N) : (dats m 0 c).flushed 8 t = ((cfg0.win 8).blk t).view.read (Elt Ideal) (G8 m c) := by
  have e : (cfg0.win 8).index t = ![t.val, 0] := idx8 t
  rw [flushed8_A]
  funext y
  show out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (iblk m c 4 t) y = G8 m c (((cfg0.win 8).rect t).emb y)
  refine (out8_val (XS m c) (GS m c) (WS m c) (CS m c) (SS m c) (rowOf t.val (N64 t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (iblk m c 4 t) (blks m c t) y).trans ?_
  have h0 : (((cfg0.win 8).rect t).emb y : S32768x256.Idx) 0 = rowOf t.val (N64 t) (y 0) := by
    refine Fin.ext (((cfg0.win 8).rect_emb_val t _ _).trans ?_)
    rw [e]; rfl
  have h1 : ((((cfg0.win 8).rect t).emb y : S32768x256.Idx) 1).val = (y 1).val := by
    refine ((cfg0.win 8).rect_emb_val t _ _).trans ?_
    rw [e]; show 0 * 256 + (y 1).val = (y 1).val; omega
  unfold G8 oKA
  rw [h0, h1]

theorem cover8 (i : S32768x256.Idx) : ∃ t : Fin cfg0.N, (cfg0.win 8).flush t = true ∧ i ∈ ((cfg0.win 8).blk t).view.set := by
  have h0 : (i 0).val < 32768 := (i 0).isLt
  have h1 : (i 1).val < 256 := (i 1).isLt
  have hlt : (i 0).val / 512 < cfg0.N := (by omega : (i 0).val / 512 < 64)
  have e : (cfg0.win 8).index ⟨(i 0).val / 512, hlt⟩ = ![(i 0).val / 512, 0] := idx8 ⟨_, hlt⟩
  refine ⟨⟨(i 0).val / 512, hlt⟩, flush0_8 _, ?_⟩
  show i ∈ ((View.whole main_v13_3).slice ((cfg0.win 8).rect ⟨(i 0).val / 512, hlt⟩)).set
  rw [View.set_slice_whole, Rect.mem_set_unit]
  intro a
  show (cfg0.win 8).index ⟨(i 0).val / 512, hlt⟩ a * S512x256.size a ≤ (i a : Nat)
    ∧ (i a : Nat) < (cfg0.win 8).index ⟨(i 0).val / 512, hlt⟩ a * S512x256.size a + S512x256.size a
  rw [e]
  match a with
  | ⟨0, _⟩ =>
    show (i 0).val / 512 * 512 ≤ (i 0).val ∧ (i 0).val < (i 0).val / 512 * 512 + 512
    omega
  | ⟨1, _⟩ => show 0 * 256 ≤ (i 1).val ∧ (i 1).val < 0 * 256 + 256; omega

theorem final8 (c : Dev nD) : (dats m 0 c).arrAt 8 cfg0.N = G8 m c :=
  (dats m 0 c).arrAt_eq_of_cover 8 (G8 m c) (fun t _ => flushed8_eq m c t) cover8

def G11 (c : Dev nD) : S32768x256.Idx → EReal := oVA (XS m c) (GS m c) (WS m c)

theorem flushed11_eq (c : Dev nD) (t : Fin cfg0.N) : (dats m 0 c).flushed 11 t = ((cfg0.win 11).blk t).view.read (Elt Ideal) (G11 m c) := by
  have e : (cfg0.win 11).index t = ![t.val, 0] := idx11 t
  rw [flushed11_A]
  funext y
  show out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (iblk m c 4 t) y = G11 m c (((cfg0.win 11).rect t).emb y)
  refine (out11_val (XS m c) (GS m c) (WS m c) (CS m c) (SS m c) (rowOf t.val (N64 t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (iblk m c 4 t) (blks m c t) y).trans ?_
  have h0 : (((cfg0.win 11).rect t).emb y : S32768x256.Idx) 0 = rowOf t.val (N64 t) (y 0) := by
    refine Fin.ext (((cfg0.win 11).rect_emb_val t _ _).trans ?_)
    rw [e]; rfl
  have h1 : ((((cfg0.win 11).rect t).emb y : S32768x256.Idx) 1).val = (y 1).val := by
    refine ((cfg0.win 11).rect_emb_val t _ _).trans ?_
    rw [e]; show 0 * 256 + (y 1).val = (y 1).val; omega
  unfold G11 oVA
  rw [h0, h1]

theorem cover11 (i : S32768x256.Idx) : ∃ t : Fin cfg0.N, (cfg0.win 11).flush t = true ∧ i ∈ ((cfg0.win 11).blk t).view.set := by
  have h0 : (i 0).val < 32768 := (i 0).isLt
  have h1 : (i 1).val < 256 := (i 1).isLt
  have hlt : (i 0).val / 512 < cfg0.N := (by omega : (i 0).val / 512 < 64)
  have e : (cfg0.win 11).index ⟨(i 0).val / 512, hlt⟩ = ![(i 0).val / 512, 0] := idx11 ⟨_, hlt⟩
  refine ⟨⟨(i 0).val / 512, hlt⟩, flush0_11 _, ?_⟩
  show i ∈ ((View.whole main_v13_6).slice ((cfg0.win 11).rect ⟨(i 0).val / 512, hlt⟩)).set
  rw [View.set_slice_whole, Rect.mem_set_unit]
  intro a
  show (cfg0.win 11).index ⟨(i 0).val / 512, hlt⟩ a * S512x256.size a ≤ (i a : Nat)
    ∧ (i a : Nat) < (cfg0.win 11).index ⟨(i 0).val / 512, hlt⟩ a * S512x256.size a + S512x256.size a
  rw [e]
  match a with
  | ⟨0, _⟩ =>
    show (i 0).val / 512 * 512 ≤ (i 0).val ∧ (i 0).val < (i 0).val / 512 * 512 + 512
    omega
  | ⟨1, _⟩ => show 0 * 256 ≤ (i 1).val ∧ (i 1).val < 0 * 256 + 256; omega

theorem final11 (c : Dev nD) : (dats m 0 c).arrAt 11 cfg0.N = G11 m c :=
  (dats m 0 c).arrAt_eq_of_cover 11 (G11 m c) (fun t _ => flushed11_eq m c t) cover11

def G14 (c : Dev nD) : S32768x512.Idx → EReal := oQB (XS m c) (GS m c) (WS m c) (CS m c) (SS m c)

theorem flushed14_eq (c : Dev nD) (t : Fin cfg0.N) : (dats m 0 c).flushed 14 t = ((cfg0.win 14).blk t).view.read (Elt Ideal) (G14 m c) := by
  have e : (cfg0.win 14).index t = ![t.val, 0] := idx14 t
  rw [flushed14_A]
  funext y
  show out0_A_14 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (iblk m c 4 t) y = G14 m c (((cfg0.win 14).rect t).emb y)
  refine (out14_val (XS m c) (GS m c) (WS m c) (CS m c) (SS m c) (rowOf t.val (N64 t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (iblk m c 4 t) (blks m c t) y).trans ?_
  have h0 : (((cfg0.win 14).rect t).emb y : S32768x512.Idx) 0 = rowOf t.val (N64 t) (y 0) := by
    refine Fin.ext (((cfg0.win 14).rect_emb_val t _ _).trans ?_)
    rw [e]; rfl
  have h1 : ((((cfg0.win 14).rect t).emb y : S32768x512.Idx) 1).val = (y 1).val := by
    refine ((cfg0.win 14).rect_emb_val t _ _).trans ?_
    rw [e]; show 0 * 512 + (y 1).val = (y 1).val; omega
  unfold G14 oQB
  rw [h0, h1]

theorem cover14 (i : S32768x512.Idx) : ∃ t : Fin cfg0.N, (cfg0.win 14).flush t = true ∧ i ∈ ((cfg0.win 14).blk t).view.set := by
  have h0 : (i 0).val < 32768 := (i 0).isLt
  have h1 : (i 1).val < 512 := (i 1).isLt
  have hlt : (i 0).val / 512 < cfg0.N := (by omega : (i 0).val / 512 < 64)
  have e : (cfg0.win 14).index ⟨(i 0).val / 512, hlt⟩ = ![(i 0).val / 512, 0] := idx14 ⟨_, hlt⟩
  refine ⟨⟨(i 0).val / 512, hlt⟩, flush0_14 _, ?_⟩
  show i ∈ ((View.whole main_v13_9).slice ((cfg0.win 14).rect ⟨(i 0).val / 512, hlt⟩)).set
  rw [View.set_slice_whole, Rect.mem_set_unit]
  intro a
  show (cfg0.win 14).index ⟨(i 0).val / 512, hlt⟩ a * S512x512.size a ≤ (i a : Nat)
    ∧ (i a : Nat) < (cfg0.win 14).index ⟨(i 0).val / 512, hlt⟩ a * S512x512.size a + S512x512.size a
  rw [e]
  match a with
  | ⟨0, _⟩ =>
    show (i 0).val / 512 * 512 ≤ (i 0).val ∧ (i 0).val < (i 0).val / 512 * 512 + 512
    omega
  | ⟨1, _⟩ => show 0 * 512 ≤ (i 1).val ∧ (i 1).val < 0 * 512 + 512; omega

theorem final14 (c : Dev nD) : (dats m 0 c).arrAt 14 cfg0.N = G14 m c :=
  (dats m 0 c).arrAt_eq_of_cover 14 (G14 m c) (fun t _ => flushed14_eq m c t) cover14

def G15 (c : Dev nD) : S32768x512.Idx → EReal := oKB (XS m c) (GS m c) (WS m c) (CS m c) (SS m c)

theorem flushed15_eq (c : Dev nD) (t : Fin cfg0.N) : (dats m 0 c).flushed 15 t = ((cfg0.win 15).blk t).view.read (Elt Ideal) (G15 m c) := by
  have e : (cfg0.win 15).index t = ![t.val, 0] := idx15 t
  rw [flushed15_A]
  funext y
  show out0_A_15 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (iblk m c 4 t) y = G15 m c (((cfg0.win 15).rect t).emb y)
  refine (out15_val (XS m c) (GS m c) (WS m c) (CS m c) (SS m c) (rowOf t.val (N64 t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (iblk m c 4 t) (blks m c t) y).trans ?_
  have h0 : (((cfg0.win 15).rect t).emb y : S32768x512.Idx) 0 = rowOf t.val (N64 t) (y 0) := by
    refine Fin.ext (((cfg0.win 15).rect_emb_val t _ _).trans ?_)
    rw [e]; rfl
  have h1 : ((((cfg0.win 15).rect t).emb y : S32768x512.Idx) 1).val = (y 1).val := by
    refine ((cfg0.win 15).rect_emb_val t _ _).trans ?_
    rw [e]; show 0 * 512 + (y 1).val = (y 1).val; omega
  unfold G15 oKB
  rw [h0, h1]

theorem cover15 (i : S32768x512.Idx) : ∃ t : Fin cfg0.N, (cfg0.win 15).flush t = true ∧ i ∈ ((cfg0.win 15).blk t).view.set := by
  have h0 : (i 0).val < 32768 := (i 0).isLt
  have h1 : (i 1).val < 512 := (i 1).isLt
  have hlt : (i 0).val / 512 < cfg0.N := (by omega : (i 0).val / 512 < 64)
  have e : (cfg0.win 15).index ⟨(i 0).val / 512, hlt⟩ = ![(i 0).val / 512, 0] := idx15 ⟨_, hlt⟩
  refine ⟨⟨(i 0).val / 512, hlt⟩, flush0_15 _, ?_⟩
  show i ∈ ((View.whole main_v13_10).slice ((cfg0.win 15).rect ⟨(i 0).val / 512, hlt⟩)).set
  rw [View.set_slice_whole, Rect.mem_set_unit]
  intro a
  show (cfg0.win 15).index ⟨(i 0).val / 512, hlt⟩ a * S512x512.size a ≤ (i a : Nat)
    ∧ (i a : Nat) < (cfg0.win 15).index ⟨(i 0).val / 512, hlt⟩ a * S512x512.size a + S512x512.size a
  rw [e]
  match a with
  | ⟨0, _⟩ =>
    show (i 0).val / 512 * 512 ≤ (i 0).val ∧ (i 0).val < (i 0).val / 512 * 512 + 512
    omega
  | ⟨1, _⟩ => show 0 * 512 ≤ (i 1).val ∧ (i 1).val < 0 * 512 + 512; omega

theorem final15 (c : Dev nD) : (dats m 0 c).arrAt 15 cfg0.N = G15 m c :=
  (dats m 0 c).arrAt_eq_of_cover 15 (G15 m c) (fun t _ => flushed15_eq m c t) cover15

def G16 (c : Dev nD) : S32768x1024.Idx → EReal := oVB (XS m c) (GS m c) (WS m c)

theorem flushed16_eq (c : Dev nD) (t : Fin cfg0.N) : (dats m 0 c).flushed 16 t = ((cfg0.win 16).blk t).view.read (Elt Ideal) (G16 m c) := by
  have e : (cfg0.win 16).index t = ![t.val, 0] := idx16 t
  rw [flushed16_A]
  funext y
  show out0_A_16 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (iblk m c 4 t) y = G16 m c (((cfg0.win 16).rect t).emb y)
  refine (out16_val (XS m c) (GS m c) (WS m c) (CS m c) (SS m c) (rowOf t.val (N64 t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) (iblk m c 0 t) (iblk m c 1 t) (iblk m c 2 t) (iblk m c 3 t) (iblk m c 4 t) (blks m c t) y).trans ?_
  have h0 : (((cfg0.win 16).rect t).emb y : S32768x1024.Idx) 0 = rowOf t.val (N64 t) (y 0) := by
    refine Fin.ext (((cfg0.win 16).rect_emb_val t _ _).trans ?_)
    rw [e]; rfl
  have h1 : ((((cfg0.win 16).rect t).emb y : S32768x1024.Idx) 1).val = (y 1).val := by
    refine ((cfg0.win 16).rect_emb_val t _ _).trans ?_
    rw [e]; show 0 * 1024 + (y 1).val = (y 1).val; omega
  unfold G16 oVB
  rw [h0, h1, Nat.zero_add]; rfl

theorem cover16 (i : S32768x1024.Idx) : ∃ t : Fin cfg0.N, (cfg0.win 16).flush t = true ∧ i ∈ ((cfg0.win 16).blk t).view.set := by
  have h0 : (i 0).val < 32768 := (i 0).isLt
  have h1 : (i 1).val < 1024 := (i 1).isLt
  have hlt : (i 0).val / 512 < cfg0.N := (by omega : (i 0).val / 512 < 64)
  have e : (cfg0.win 16).index ⟨(i 0).val / 512, hlt⟩ = ![(i 0).val / 512, 0] := idx16 ⟨_, hlt⟩
  refine ⟨⟨(i 0).val / 512, hlt⟩, flush0_16 _, ?_⟩
  show i ∈ ((View.whole main_v13_11).slice ((cfg0.win 16).rect ⟨(i 0).val / 512, hlt⟩)).set
  rw [View.set_slice_whole, Rect.mem_set_unit]
  intro a
  show (cfg0.win 16).index ⟨(i 0).val / 512, hlt⟩ a * S512x1024.size a ≤ (i a : Nat)
    ∧ (i a : Nat) < (cfg0.win 16).index ⟨(i 0).val / 512, hlt⟩ a * S512x1024.size a + S512x1024.size a
  rw [e]
  match a with
  | ⟨0, _⟩ =>
    show (i 0).val / 512 * 512 ≤ (i 0).val ∧ (i 0).val < (i 0).val / 512 * 512 + 512
    omega
  | ⟨1, _⟩ => show 0 * 1024 ≤ (i 1).val ∧ (i 1).val < 0 * 1024 + 1024; omega

theorem final16 (c : Dev nD) : (dats m 0 c).arrAt 16 cfg0.N = G16 m c :=
  (dats m 0 c).arrAt_eq_of_cover 16 (G16 m c) (fun t _ => flushed16_eq m c t) cover16

end Cert.QkvV

end
-- ==== Proof.QkvRef.lean ====
/- The projection call's reference, on the extended reals. -/
module

public import proofs.«01_k».proof.Proof.QkvSpec
public import proofs.«01_k».proof.Proof.Gen.QkvReferenceIdeal.Read
public import Idealize.ShloMosaic.Lib.Pipeline.Value

@[expose] public section

set_option maxRecDepth 65536

noncomputable section

namespace Cert.QkvV

open Cert.QkvReferenceIdeal Cert.QkvReferenceIdeal.Gen Cert.QkvReferenceIdeal.Read Idealize.ShloMosaic Idealize.ShloMosaic.ValueIdx
open scoped BigOperators

variable (x0 : SX.Idx → EReal) (x1 : SG.Idx → EReal) (x2 : SW.Idx → EReal) (x3 x4 : SA.Idx → EReal)

theorem ref_h (i : SX.Idx) : val_main_v12 (F := Ideal) x0 x1 i = hx x0 x1 (i 0) (i 1) := by
  rw [val_main_v12_apply, val_main_v9_apply, val_main_v8_apply, val_main_v7_apply, val_main_v6_apply, val_main_v4_apply,
    val_main_v2_apply, val_main_v1_apply, val_main_v3_apply, val_main_v5_apply, val_main_cst_apply, val_main_cst_0_apply,
    val_main_cst_1_apply, val_main_v11_apply, val_main_v10_apply]
  have ez : (FloatOps.ofBits .f32 0x00000000#32 : Ideal .f32) = (0 : EReal) := Ideal.ofBits_zero_f32
  rw [ez, zero_add]
  unfold hx nrm
  have ex : x0 i = x0 (ix2 (i 0) (i 1)) := congrArg x0 (funext fun a => by
    match a with
    | ⟨0, _⟩ => rfl
    | ⟨1, _⟩ => rfl)
  refine congrArg₂ (fun u v : EReal => u * v) (congrArg₂ (fun u v : EReal => u * v) ex ?_) (congrArg x1 (funext fun a => ?_))
  · refine congrArg (fun u : EReal => Ideal.rsqrt (Ideal.div u (Ideal.ofBits .f32 0x44800000#32) + Ideal.ofBits .f32 0x358637BD#32)) ?_
    refine Finset.sum_congr rfl fun k _ => ?_
    rw [val_main_v0_apply]
    have ek : ∀ j : SX.Idx, (j 0).val = (i 0).val → (j 1).val = k.val → x0 j = x0 (ix2 (i 0) k) := fun j h0 h1 =>
      congrArg x0 (funext fun a => by
        match a with
        | ⟨0, _⟩ => exact Fin.ext h0
        | ⟨1, _⟩ => exact Fin.ext h1)
    exact congrArg₂ (fun u v : EReal => u * v) (ek _ rfl rfl) (ek _ rfl rfl)
  · match a with
    | ⟨0, _⟩ => rfl

theorem dot_Z (i : S32768x7424.Idx) : val_main_v13 (F := Ideal) x0 x1 x2 i = Z x0 x1 x2 (i 0) (i 1).val := by
  rw [val_main_v13_apply]
  unfold Z zc
  refine Finset.sum_congr rfl fun k _ => congrArg₂ (fun u v : EReal => u * v) ?_ (wf_of x2 _ _ _ rfl rfl)
  rw [ref_h]
  rfl

theorem zQA (i : S32768x4x64.Idx) : val_main_v15 (F := Ideal) x0 x1 x2 i = Z x0 x1 x2 (i 0) (0 + (i 1).val * 64 + (i 2).val) := by
  have h0 : (i 0).val < 32768 := (i 0).isLt
  have h1 : (i 1).val < 4 := (i 1).isLt
  have h2 : (i 2).val < 64 := (i 2).isLt
  rw [val_main_v15_apply, val_main_v14_apply, dot_Z]
  refine congrArg₂ (Z x0 x1 x2) (Fin.ext ?_) ?_
  · show (((i 0).val * 4 + (i 1).val) * 64 + (i 2).val) / 256 = (i 0).val
    omega
  · show (((i 0).val * 4 + (i 1).val) * 64 + (i 2).val) % 256 = 0 + (i 1).val * 64 + (i 2).val
    omega

theorem rQA (i : S32768x4x64.Idx) : val_main_v31 (F := Ideal) x0 x1 x2 x3 x4 i = R x0 x1 x2 x3 x4 (i 0) (0 + (i 1).val * 64 + (i 2).val) := by
  have h1 : (i 1).val < 4 := (i 1).isLt
  have h2 : (i 2).val < 64 := (i 2).isLt
  have em : (0 + (i 1).val * 64 + (i 2).val) % 64 = (i 2).val := by omega
  unfold val_main_v31 R rope
  rw [em]
  by_cases h8 : (i 2).val < 8
  · rw [if_pos h8]
    refine (concatenate_apply_piece _ _ _ i 0 (by show (0 : ℕ) < 3; decide) S32768x4x8 _ rfl rfl 0 rfl (ix3 (i 0) (i 1) (⟨(i 2).val, h8⟩ : Fin 8)) ?_ ?_).trans ?_
    · intro b hb
      match b with
      | ⟨0, _⟩ => rfl
      | ⟨1, _⟩ => rfl
      | ⟨2, _⟩ => exact absurd rfl hb
    · exact Nat.zero_add _
    · rw [val_main_v24_apply, val_main_v21_apply, val_main_v23_apply, val_main_v18_apply, val_main_v19_apply, zQA, zQA, val_main_v20_apply, val_main_v22_apply, val_main_v16_apply, val_main_v17_apply]
      refine congrArg₂ (fun u v : EReal => u - v) (congrArg₂ (fun u v : EReal => u * v) (congrArg (Z x0 x1 x2 (i 0)) ?_) (af_of x3 _ _ _ rfl rfl))
        (congrArg₂ (fun u v : EReal => u * v) (congrArg (Z x0 x1 x2 (i 0)) ?_) (af_of x4 _ _ _ rfl rfl))
      · rfl
      · show 0 + (i 1).val * 64 + (8 + (i 2).val) = 0 + (i 1).val * 64 + (i 2).val + 8
        omega
  · rw [if_neg h8]
    by_cases h16 : (i 2).val < 16
    · rw [if_pos h16]
      refine (concatenate_apply_piece _ _ _ i 1 (by show (1 : ℕ) < 3; decide) S32768x4x8 _ rfl rfl 8 rfl (ix3 (i 0) (i 1) (⟨(i 2).val - 8, by omega⟩ : Fin 8)) ?_ ?_).trans ?_
      · intro b hb
        match b with
        | ⟨0, _⟩ => rfl
        | ⟨1, _⟩ => rfl
        | ⟨2, _⟩ => exact absurd rfl hb
      · show 8 + ((i 2).val - 8) = (i 2).val
        omega
      · rw [val_main_v29_apply, val_main_v26_apply, val_main_v28_apply, val_main_v18_apply, val_main_v19_apply, zQA, zQA, val_main_v25_apply, val_main_v27_apply, val_main_v16_apply, val_main_v17_apply]
        refine congrArg₂ (fun u v : EReal => u + v) (congrArg₂ (fun u v : EReal => u * v) (congrArg (Z x0 x1 x2 (i 0)) ?_) (af_of x3 _ _ _ rfl rfl))
          (congrArg₂ (fun u v : EReal => u * v) (congrArg (Z x0 x1 x2 (i 0)) ?_) (af_of x4 _ _ _ rfl rfl))
        · show 0 + (i 1).val * 64 + (8 + ((i 2).val - 8)) = 0 + (i 1).val * 64 + (i 2).val
          omega
        · show 0 + (i 1).val * 64 + ((i 2).val - 8) = 0 + (i 1).val * 64 + (i 2).val - 8
          omega
    · rw [if_neg h16]
      refine (concatenate_apply_piece _ _ _ i 2 (by show (2 : ℕ) < 3; decide) S32768x4x48 _ rfl rfl 16 rfl (ix3 (i 0) (i 1) (⟨(i 2).val - 16, by omega⟩ : Fin 48)) ?_ ?_).trans ?_
      · intro b hb
        match b with
        | ⟨0, _⟩ => rfl
        | ⟨1, _⟩ => rfl
        | ⟨2, _⟩ => exact absurd rfl hb
      · show 16 + ((i 2).val - 16) = (i 2).val
        omega
      · rw [val_main_v30_apply, zQA]
        refine congrArg (Z x0 x1 x2 (i 0)) ?_
        show 0 + (i 1).val * 64 + (16 + ((i 2).val - 16)) = 0 + (i 1).val * 64 + (i 2).val
        omega

theorem fQA (i : S32768x256.Idx) : val_main_v32 (F := Ideal) x0 x1 x2 x3 x4 i = R x0 x1 x2 x3 x4 (i 0) (0 + (i 1).val) := by
  have h1 : (i 1).val < 256 := (i 1).isLt
  rw [val_main_v32_apply, rQA]
  refine congrArg₂ (R x0 x1 x2 x3 x4) (Fin.ext ?_) ?_
  · show ((i 0).val * 256 + (i 1).val) / 256 = (i 0).val
    omega
  · show 0 + ((i 0).val * 256 + (i 1).val) / 64 % 4 * 64 + ((i 0).val * 256 + (i 1).val) % 64 = 0 + (i 1).val
    omega

theorem ref_QA : val_main_v38 (F := Ideal) x0 x1 x2 x3 x4 = oQA x0 x1 x2 x3 x4 := by
  funext i
  rw [val_main_v38_apply, val_main_v37_apply, val_main_v34_apply, fQA, val_main_v33_apply, val_main_v36_apply, val_main_v35_apply, val_main_cst_2_apply, val_main_cst_3_apply]
  exact sc_eq _

theorem zKA (i : S32768x4x64.Idx) : val_main_v40 (F := Ideal) x0 x1 x2 i = Z x0 x1 x2 (i 0) (768 + (i 1).val * 64 + (i 2).val) := by
  have h0 : (i 0).val < 32768 := (i 0).isLt
  have h1 : (i 1).val < 4 := (i 1).isLt
  have h2 : (i 2).val < 64 := (i 2).isLt
  rw [val_main_v40_apply, val_main_v39_apply, dot_Z]
  refine congrArg₂ (Z x0 x1 x2) (Fin.ext ?_) ?_
  · show (((i 0).val * 4 + (i 1).val) * 64 + (i 2).val) / 256 = (i 0).val
    omega
  · show 768 + (((i 0).val * 4 + (i 1).val) * 64 + (i 2).val) % 256 = 768 + (i 1).val * 64 + (i 2).val
    omega

theorem rKA (i : S32768x4x64.Idx) : val_main_v56 (F := Ideal) x0 x1 x2 x3 x4 i = R x0 x1 x2 x3 x4 (i 0) (768 + (i 1).val * 64 + (i 2).val) := by
  have h1 : (i 1).val < 4 := (i 1).isLt
  have h2 : (i 2).val < 64 := (i 2).isLt
  have em : (768 + (i 1).val * 64 + (i 2).val) % 64 = (i 2).val := by omega
  unfold val_main_v56 R rope
  rw [em]
  by_cases h8 : (i 2).val < 8
  · rw [if_pos h8]
    refine (concatenate_apply_piece _ _ _ i 0 (by show (0 : ℕ) < 3; decide) S32768x4x8 _ rfl rfl 0 rfl (ix3 (i 0) (i 1) (⟨(i 2).val, h8⟩ : Fin 8)) ?_ ?_).trans ?_
    · intro b hb
      match b with
      | ⟨0, _⟩ => rfl
      | ⟨1, _⟩ => rfl
      | ⟨2, _⟩ => exact absurd rfl hb
    · exact Nat.zero_add _
    · rw [val_main_v49_apply, val_main_v46_apply, val_main_v48_apply, val_main_v43_apply, val_main_v44_apply, zKA, zKA, val_main_v45_apply, val_main_v47_apply, val_main_v41_apply, val_main_v42_apply]
      refine congrArg₂ (fun u v : EReal => u - v) (congrArg₂ (fun u v : EReal => u * v) (congrArg (Z x0 x1 x2 (i 0)) ?_) (af_of x3 _ _ _ rfl rfl))
        (congrArg₂ (fun u v : EReal => u * v) (congrArg (Z x0 x1 x2 (i 0)) ?_) (af_of x4 _ _ _ rfl rfl))
      · rfl
      · show 768 + (i 1).val * 64 + (8 + (i 2).val) = 768 + (i 1).val * 64 + (i 2).val + 8
        omega
  · rw [if_neg h8]
    by_cases h16 : (i 2).val < 16
    · rw [if_pos h16]
      refine (concatenate_apply_piece _ _ _ i 1 (by show (1 : ℕ) < 3; decide) S32768x4x8 _ rfl rfl 8 rfl (ix3 (i 0) (i 1) (⟨(i 2).val - 8, by omega⟩ : Fin 8)) ?_ ?_).trans ?_
      · intro b hb
        match b with
        | ⟨0, _⟩ => rfl
        | ⟨1, _⟩ => rfl
        | ⟨2, _⟩ => exact absurd rfl hb
      · show 8 + ((i 2).val - 8) = (i 2).val
        omega
      · rw [val_main_v54_apply, val_main_v51_apply, val_main_v53_apply, val_main_v43_apply, val_main_v44_apply, zKA, zKA, val_main_v50_apply, val_main_v52_apply, val_main_v41_apply, val_main_v42_apply]
        refine congrArg₂ (fun u v : EReal => u + v) (congrArg₂ (fun u v : EReal => u * v) (congrArg (Z x0 x1 x2 (i 0)) ?_) (af_of x3 _ _ _ rfl rfl))
          (congrArg₂ (fun u v : EReal => u * v) (congrArg (Z x0 x1 x2 (i 0)) ?_) (af_of x4 _ _ _ rfl rfl))
        · show 768 + (i 1).val * 64 + (8 + ((i 2).val - 8)) = 768 + (i 1).val * 64 + (i 2).val
          omega
        · show 768 + (i 1).val * 64 + ((i 2).val - 8) = 768 + (i 1).val * 64 + (i 2).val - 8
          omega
    · rw [if_neg h16]
      refine (concatenate_apply_piece _ _ _ i 2 (by show (2 : ℕ) < 3; decide) S32768x4x48 _ rfl rfl 16 rfl (ix3 (i 0) (i 1) (⟨(i 2).val - 16, by omega⟩ : Fin 48)) ?_ ?_).trans ?_
      · intro b hb
        match b with
        | ⟨0, _⟩ => rfl
        | ⟨1, _⟩ => rfl
        | ⟨2, _⟩ => exact absurd rfl hb
      · show 16 + ((i 2).val - 16) = (i 2).val
        omega
      · rw [val_main_v55_apply, zKA]
        refine congrArg (Z x0 x1 x2 (i 0)) ?_
        show 768 + (i 1).val * 64 + (16 + ((i 2).val - 16)) = 768 + (i 1).val * 64 + (i 2).val
        omega

theorem fKA (i : S32768x256.Idx) : val_main_v57 (F := Ideal) x0 x1 x2 x3 x4 i = R x0 x1 x2 x3 x4 (i 0) (768 + (i 1).val) := by
  have h1 : (i 1).val < 256 := (i 1).isLt
  rw [val_main_v57_apply, rKA]
  refine congrArg₂ (R x0 x1 x2 x3 x4) (Fin.ext ?_) ?_
  · show ((i 0).val * 256 + (i 1).val) / 256 = (i 0).val
    omega
  · show 768 + ((i 0).val * 256 + (i 1).val) / 64 % 4 * 64 + ((i 0).val * 256 + (i 1).val) % 64 = 768 + (i 1).val
    omega

theorem ref_KA : val_main_v58 (F := Ideal) x0 x1 x2 x3 x4 = oKA x0 x1 x2 x3 x4 := by
  funext i
  rw [val_main_v58_apply, fKA]
  rfl

theorem zQB (i : S32768x8x64.Idx) : val_main_v62 (F := Ideal) x0 x1 x2 i = Z x0 x1 x2 (i 0) (2304 + (i 1).val * 64 + (i 2).val) := by
  have h0 : (i 0).val < 32768 := (i 0).isLt
  have h1 : (i 1).val < 8 := (i 1).isLt
  have h2 : (i 2).val < 64 := (i 2).isLt
  rw [val_main_v62_apply, val_main_v61_apply, dot_Z]
  refine congrArg₂ (Z x0 x1 x2) (Fin.ext ?_) ?_
  · show (((i 0).val * 8 + (i 1).val) * 64 + (i 2).val) / 512 = (i 0).val
    omega
  · show 2304 + (((i 0).val * 8 + (i 1).val) * 64 + (i 2).val) % 512 = 2304 + (i 1).val * 64 + (i 2).val
    omega

theorem rQB (i : S32768x8x64.Idx) : val_main_v78 (F := Ideal) x0 x1 x2 x3 x4 i = R x0 x1 x2 x3 x4 (i 0) (2304 + (i 1).val * 64 + (i 2).val) := by
  have h1 : (i 1).val < 8 := (i 1).isLt
  have h2 : (i 2).val < 64 := (i 2).isLt
  have em : (2304 + (i 1).val * 64 + (i 2).val) % 64 = (i 2).val := by omega
  unfold val_main_v78 R rope
  rw [em]
  by_cases h8 : (i 2).val < 8
  · rw [if_pos h8]
    refine (concatenate_apply_piece _ _ _ i 0 (by show (0 : ℕ) < 3; decide) S32768x8x8 _ rfl rfl 0 rfl (ix3 (i 0) (i 1) (⟨(i 2).val, h8⟩ : Fin 8)) ?_ ?_).trans ?_
    · intro b hb
      match b with
      | ⟨0, _⟩ => rfl
      | ⟨1, _⟩ => rfl
      | ⟨2, _⟩ => exact absurd rfl hb
    · exact Nat.zero_add _
    · rw [val_main_v71_apply, val_main_v68_apply, val_main_v70_apply, val_main_v65_apply, val_main_v66_apply, zQB, zQB, val_main_v67_apply, val_main_v69_apply, val_main_v63_apply, val_main_v64_apply]
      refine congrArg₂ (fun u v : EReal => u - v) (congrArg₂ (fun u v : EReal => u * v) (congrArg (Z x0 x1 x2 (i 0)) ?_) (af_of x3 _ _ _ rfl rfl))
        (congrArg₂ (fun u v : EReal => u * v) (congrArg (Z x0 x1 x2 (i 0)) ?_) (af_of x4 _ _ _ rfl rfl))
      · rfl
      · show 2304 + (i 1).val * 64 + (8 + (i 2).val) = 2304 + (i 1).val * 64 + (i 2).val + 8
        omega
  · rw [if_neg h8]
    by_cases h16 : (i 2).val < 16
    · rw [if_pos h16]
      refine (concatenate_apply_piece _ _ _ i 1 (by show (1 : ℕ) < 3; decide) S32768x8x8 _ rfl rfl 8 rfl (ix3 (i 0) (i 1) (⟨(i 2).val - 8, by omega⟩ : Fin 8)) ?_ ?_).trans ?_
      · intro b hb
        match b with
        | ⟨0, _⟩ => rfl
        | ⟨1, _⟩ => rfl
        | ⟨2, _⟩ => exact absurd rfl hb
      · show 8 + ((i 2).val - 8) = (i 2).val
        omega
      · rw [val_main_v76_apply, val_main_v73_apply, val_main_v75_apply, val_main_v65_apply, val_main_v66_apply, zQB, zQB, val_main_v72_apply, val_main_v74_apply, val_main_v63_apply, val_main_v64_apply]
        refine congrArg₂ (fun u v : EReal => u + v) (congrArg₂ (fun u v : EReal => u * v) (congrArg (Z x0 x1 x2 (i 0)) ?_) (af_of x3 _ _ _ rfl rfl))
          (congrArg₂ (fun u v : EReal => u * v) (congrArg (Z x0 x1 x2 (i 0)) ?_) (af_of x4 _ _ _ rfl rfl))
        · show 2304 + (i 1).val * 64 + (8 + ((i 2).val - 8)) = 2304 + (i 1).val * 64 + (i 2).val
          omega
        · show 2304 + (i 1).val * 64 + ((i 2).val - 8) = 2304 + (i 1).val * 64 + (i 2).val - 8
          omega
    · rw [if_neg h16]
      refine (concatenate_apply_piece _ _ _ i 2 (by show (2 : ℕ) < 3; decide) S32768x8x48 _ rfl rfl 16 rfl (ix3 (i 0) (i 1) (⟨(i 2).val - 16, by omega⟩ : Fin 48)) ?_ ?_).trans ?_
      · intro b hb
        match b with
        | ⟨0, _⟩ => rfl
        | ⟨1, _⟩ => rfl
        | ⟨2, _⟩ => exact absurd rfl hb
      · show 16 + ((i 2).val - 16) = (i 2).val
        omega
      · rw [val_main_v77_apply, zQB]
        refine congrArg (Z x0 x1 x2 (i 0)) ?_
        show 2304 + (i 1).val * 64 + (16 + ((i 2).val - 16)) = 2304 + (i 1).val * 64 + (i 2).val
        omega

theorem fQB (i : S32768x512.Idx) : val_main_v79 (F := Ideal) x0 x1 x2 x3 x4 i = R x0 x1 x2 x3 x4 (i 0) (2304 + (i 1).val) := by
  have h1 : (i 1).val < 512 := (i 1).isLt
  rw [val_main_v79_apply, rQB]
  refine congrArg₂ (R x0 x1 x2 x3 x4) (Fin.ext ?_) ?_
  · show ((i 0).val * 512 + (i 1).val) / 512 = (i 0).val
    omega
  · show 2304 + ((i 0).val * 512 + (i 1).val) / 64 % 8 * 64 + ((i 0).val * 512 + (i 1).val) % 64 = 2304 + (i 1).val
    omega

theorem ref_QB : val_main_v85 (F := Ideal) x0 x1 x2 x3 x4 = oQB x0 x1 x2 x3 x4 := by
  funext i
  rw [val_main_v85_apply, val_main_v84_apply, val_main_v81_apply, fQB, val_main_v80_apply, val_main_v83_apply, val_main_v82_apply, val_main_cst_4_apply, val_main_cst_5_apply]
  exact sc_eq _

theorem zKB (i : S32768x8x64.Idx) : val_main_v87 (F := Ideal) x0 x1 x2 i = Z x0 x1 x2 (i 0) (2816 + (i 1).val * 64 + (i 2).val) := by
  have h0 : (i 0).val < 32768 := (i 0).isLt
  have h1 : (i 1).val < 8 := (i 1).isLt
  have h2 : (i 2).val < 64 := (i 2).isLt
  rw [val_main_v87_apply, val_main_v86_apply, dot_Z]
  refine congrArg₂ (Z x0 x1 x2) (Fin.ext ?_) ?_
  · show (((i 0).val * 8 + (i 1).val) * 64 + (i 2).val) / 512 = (i 0).val
    omega
  · show 2816 + (((i 0).val * 8 + (i 1).val) * 64 + (i 2).val) % 512 = 2816 + (i 1).val * 64 + (i 2).val
    omega

theorem rKB (i : S32768x8x64.Idx) : val_main_v103 (F := Ideal) x0 x1 x2 x3 x4 i = R x0 x1 x2 x3 x4 (i 0) (2816 + (i 1).val * 64 + (i 2).val) := by
  have h1 : (i 1).val < 8 := (i 1).isLt
  have h2 : (i 2).val < 64 := (i 2).isLt
  have em : (2816 + (i 1).val * 64 + (i 2).val) % 64 = (i 2).val := by omega
  unfold val_main_v103 R rope
  rw [em]
  by_cases h8 : (i 2).val < 8
  · rw [if_pos h8]
    refine (concatenate_apply_piece _ _ _ i 0 (by show (0 : ℕ) < 3; decide) S32768x8x8 _ rfl rfl 0 rfl (ix3 (i 0) (i 1) (⟨(i 2).val, h8⟩ : Fin 8)) ?_ ?_).trans ?_
    · intro b hb
      match b with
      | ⟨0, _⟩ => rfl
      | ⟨1, _⟩ => rfl
      | ⟨2, _⟩ => exact absurd rfl hb
    · exact Nat.zero_add _
    · rw [val_main_v96_apply, val_main_v93_apply, val_main_v95_apply, val_main_v90_apply, val_main_v91_apply, zKB, zKB, val_main_v92_apply, val_main_v94_apply, val_main_v88_apply, val_main_v89_apply]
      refine congrArg₂ (fun u v : EReal => u - v) (congrArg₂ (fun u v : EReal => u * v) (congrArg (Z x0 x1 x2 (i 0)) ?_) (af_of x3 _ _ _ rfl rfl))
        (congrArg₂ (fun u v : EReal => u * v) (congrArg (Z x0 x1 x2 (i 0)) ?_) (af_of x4 _ _ _ rfl rfl))
      · rfl
      · show 2816 + (i 1).val * 64 + (8 + (i 2).val) = 2816 + (i 1).val * 64 + (i 2).val + 8
        omega
  · rw [if_neg h8]
    by_cases h16 : (i 2).val < 16
    · rw [if_pos h16]
      refine (concatenate_apply_piece _ _ _ i 1 (by show (1 : ℕ) < 3; decide) S32768x8x8 _ rfl rfl 8 rfl (ix3 (i 0) (i 1) (⟨(i 2).val - 8, by omega⟩ : Fin 8)) ?_ ?_).trans ?_
      · intro b hb
        match b with
        | ⟨0, _⟩ => rfl
        | ⟨1, _⟩ => rfl
        | ⟨2, _⟩ => exact absurd rfl hb
      · show 8 + ((i 2).val - 8) = (i 2).val
        omega
      · rw [val_main_v101_apply, val_main_v98_apply, val_main_v100_apply, val_main_v90_apply, val_main_v91_apply, zKB, zKB, val_main_v97_apply, val_main_v99_apply, val_main_v88_apply, val_main_v89_apply]
        refine congrArg₂ (fun u v : EReal => u + v) (congrArg₂ (fun u v : EReal => u * v) (congrArg (Z x0 x1 x2 (i 0)) ?_) (af_of x3 _ _ _ rfl rfl))
          (congrArg₂ (fun u v : EReal => u * v) (congrArg (Z x0 x1 x2 (i 0)) ?_) (af_of x4 _ _ _ rfl rfl))
        · show 2816 + (i 1).val * 64 + (8 + ((i 2).val - 8)) = 2816 + (i 1).val * 64 + (i 2).val
          omega
        · show 2816 + (i 1).val * 64 + ((i 2).val - 8) = 2816 + (i 1).val * 64 + (i 2).val - 8
          omega
    · rw [if_neg h16]
      refine (concatenate_apply_piece _ _ _ i 2 (by show (2 : ℕ) < 3; decide) S32768x8x48 _ rfl rfl 16 rfl (ix3 (i 0) (i 1) (⟨(i 2).val - 16, by omega⟩ : Fin 48)) ?_ ?_).trans ?_
      · intro b hb
        match b with
        | ⟨0, _⟩ => rfl
        | ⟨1, _⟩ => rfl
        | ⟨2, _⟩ => exact absurd rfl hb
      · show 16 + ((i 2).val - 16) = (i 2).val
        omega
      · rw [val_main_v102_apply, zKB]
        refine congrArg (Z x0 x1 x2 (i 0)) ?_
        show 2816 + (i 1).val * 64 + (16 + ((i 2).val - 16)) = 2816 + (i 1).val * 64 + (i 2).val
        omega

theorem fKB (i : S32768x512.Idx) : val_main_v104 (F := Ideal) x0 x1 x2 x3 x4 i = R x0 x1 x2 x3 x4 (i 0) (2816 + (i 1).val) := by
  have h1 : (i 1).val < 512 := (i 1).isLt
  rw [val_main_v104_apply, rKB]
  refine congrArg₂ (R x0 x1 x2 x3 x4) (Fin.ext ?_) ?_
  · show ((i 0).val * 512 + (i 1).val) / 512 = (i 0).val
    omega
  · show 2816 + ((i 0).val * 512 + (i 1).val) / 64 % 8 * 64 + ((i 0).val * 512 + (i 1).val) % 64 = 2816 + (i 1).val
    omega

theorem ref_KB : val_main_v105 (F := Ideal) x0 x1 x2 x3 x4 = oKB x0 x1 x2 x3 x4 := by
  funext i
  rw [val_main_v105_apply, fKB]
  rfl

theorem ref_VA : val_main_v60 (F := Ideal) x0 x1 x2 = oVA x0 x1 x2 := by
  funext i
  rw [val_main_v60_apply, val_main_v59_apply, dot_Z]
  rfl

theorem one_hot (i : S128.Idx) : val_main_v109 (F := Ideal) i = if (i 0).val = 0 then (1 : EReal) else 0 := by
  have h : ∀ l : Fin 128, IntOp.cmpi .eq (BitVec.ofNat 32 l.val) 0#32 = if l.val = 0 then 1#1 else 0#1 := by decide +kernel
  rw [val_main_v109_apply, val_main_v108_apply, val_main_v106_apply, val_main_v107_apply, val_main_c_apply]
  rw [h (i 0)]
  by_cases h0 : (i 0).val = 0
  · rw [if_pos h0, if_pos h0]
    show (((1#1 : BitVec 1).toNat : ℝ) : EReal) = 1
    simp
  · rw [if_neg h0, if_neg h0]
    show (((0#1 : BitVec 1).toNat : ℝ) : EReal) = 0
    simp

theorem ref_VB : val_main_v115 (F := Ideal) x0 x1 x2 = oVB x0 x1 x2 := by
  funext i
  have h0 : (i 0).val < 32768 := (i 0).isLt
  have h1 : (i 1).val < 1024 := (i 1).isLt
  rw [val_main_v115_apply, val_main_v114_apply]
  unfold oVB val_main_v113
  show concatenate S32768x4x256 2 _ _ (idx_main_v114 i) = _
  by_cases h : (i 1).val % 256 < 128
  · rw [if_pos h]
    refine (concatenate_apply_piece _ _ _ (idx_main_v114 i) 0 (by show (0 : ℕ) < 2; decide) S32768x4x128 _ rfl rfl 0 rfl
      (ix3 (i 0) (⟨(i 1).val / 256, by omega⟩ : Fin 4) (⟨(i 1).val % 256, h⟩ : Fin 128)) ?_ ?_).trans ?_
    · intro b hb
      match b with
      | ⟨0, _⟩ => show (i 0).val = ((i 0).val * 1024 + (i 1).val) / 1024; omega
      | ⟨1, _⟩ => show (i 1).val / 256 = ((i 0).val * 1024 + (i 1).val) / 256 % 4; omega
      | ⟨2, _⟩ => exact absurd rfl hb
    · show 0 + (i 1).val % 256 = ((i 0).val * 1024 + (i 1).val) % 256
      omega
    · rw [val_main_v112_apply, val_main_v111_apply, dot_Z]
      refine congrArg₂ (Z x0 x1 x2) (Fin.ext ?_) ?_
      · show (((i 0).val * 4 + (i 1).val / 256) * 128 + (i 1).val % 256) / 512 = (i 0).val
        omega
      · show 3328 + (((i 0).val * 4 + (i 1).val / 256) * 128 + (i 1).val % 256) % 512 = 3328 + (i 1).val / 256 * 128 + (i 1).val % 256
        omega
  · rw [if_neg h]
    refine (concatenate_apply_piece _ _ _ (idx_main_v114 i) 1 (by show (1 : ℕ) < 2; decide) S32768x4x128 _ rfl rfl 128 rfl
      (ix3 (i 0) (⟨(i 1).val / 256, by omega⟩ : Fin 4) (⟨(i 1).val % 256 - 128, by omega⟩ : Fin 128)) ?_ ?_).trans ?_
    · intro b hb
      match b with
      | ⟨0, _⟩ => show (i 0).val = ((i 0).val * 1024 + (i 1).val) / 1024; omega
      | ⟨1, _⟩ => show (i 1).val / 256 = ((i 0).val * 1024 + (i 1).val) / 256 % 4; omega
      | ⟨2, _⟩ => exact absurd rfl hb
    · show 128 + ((i 1).val % 256 - 128) = ((i 0).val * 1024 + (i 1).val) % 256
      omega
    · rw [val_main_v110_apply, one_hot]
      have hc : ((i 1).val % 256 - 128 = 0) ↔ ((i 1).val % 256 = 128) := by omega
      show (if (i 1).val % 256 - 128 = 0 then (1 : EReal) else 0) = _
      simp only [hc]

end Cert.QkvV

end
-- ==== Proof.QkvAlg.lean ====
/- The projection call's claims: the reference's frame, and the equality of the call's results with the reference's on the
   extended reals. -/
module

public import proofs.«01_k».proof.Defs
public import proofs.«01_k».proof.Proof.QkvVal
public import proofs.«01_k».proof.Proof.QkvRef
public import proofs.«01_k».proof.Proof.Gen.Qkv
public import proofs.«01_k».proof.Proof.Gen.QkvReferenceIdeal.Read

@[expose] public section

set_option maxRecDepth 65536

noncomputable section

namespace Cert.QkvP

open Idealize.ShloMosaic Idealize.ShloMosaic.TcCoe Idealize.SL.Sem
local instance : Cert.QkvIdeal.Facts := Cert.QkvIdeal.Gen.facts
local instance : Cert.QkvReferenceIdeal.Facts := Cert.QkvReferenceIdeal.Gen.facts

theorem frame_ri : Cert.quiescent_QkvReferenceIdeal (hQkvReferenceIdeal := Cert.QkvReferenceIdeal.Gen.facts) :=
  fun m ρ _ => (θ_run Cert.QkvReferenceIdeal.defs _ _).mono (fun r h => ⟨fun c => (h c).2.2.2.2.2.2,
      Idealize.ShloMosaic.sem_eq_zero_of_no_sems (by decide) r.2⟩)
    (Cert.QkvReferenceIdeal.Value.run (F := Ideal) m ρ)

/-- Equal arguments, equal results. -/
theorem congr5 {α : Type} (f : (Cert.QkvV.SX.Idx → EReal) → (Cert.QkvV.SG.Idx → EReal) → (Cert.QkvV.SW.Idx → EReal) → (Cert.QkvV.SA.Idx → EReal) → (Cert.QkvV.SA.Idx → EReal) → α)
    {x0 y0 : Cert.QkvV.SX.Idx → EReal} {x1 y1 : Cert.QkvV.SG.Idx → EReal} {x2 y2 : Cert.QkvV.SW.Idx → EReal} {x3 y3 x4 y4 : Cert.QkvV.SA.Idx → EReal}
    (h0 : x0 = y0) (h1 : x1 = y1) (h2 : x2 = y2) (h3 : x3 = y3) (h4 : x4 = y4) : f x0 x1 x2 x3 x4 = f y0 y1 y2 y3 y4 := by
  subst h0 h1 h2 h3 h4
  rfl

theorem algebraic : Cert.algebraic_QkvIdeal_QkvReferenceIdeal (hQkvIdeal := Cert.QkvIdeal.Gen.facts)
    (hQkvReferenceIdeal := Cert.QkvReferenceIdeal.Gen.facts) := by
  intro m g m' g' _ hagree
  refine ⟨fun c => Cert.QkvV.G5 m c, fun c => Cert.QkvV.G8 m c, fun c => Cert.QkvV.G11 m c, fun c => Cert.QkvV.G14 m c,
    fun c => Cert.QkvV.G15 m c, fun c => Cert.QkvV.G16 m c, ?_, ?_⟩
  · refine (θ_run Cert.QkvIdeal.defs _ _).mono (fun _ h c => ?_) (Cert.QkvIdeal.Value.run_blocks (F := Ideal) m g)
    obtain ⟨r0, -, -, r3, -, -, r6, -, -, r9, r10, r11, rest⟩ := h c
    exact ⟨r0.trans (Cert.QkvV.final5 m c), r3.trans (Cert.QkvV.final8 m c), r6.trans (Cert.QkvV.final11 m c),
      r9.trans (Cert.QkvV.final14 m c), r10.trans (Cert.QkvV.final15 m c), r11.trans (Cert.QkvV.final16 m c), rest⟩
  · refine (θ_run Cert.QkvReferenceIdeal.defs _ _).mono (fun _ h c => ?_) (Cert.QkvReferenceIdeal.Value.run (F := Ideal) m' g')
    obtain ⟨a0, a1, a2, a3, a4⟩ := hagree c
    obtain ⟨r0, r1, r2, r3, r4, r5, rest⟩ := h c
    refine ⟨r0.trans ?_, r1.trans ?_, r2.trans ?_, r3.trans ?_, r4.trans ?_, r5.trans ?_, rest⟩
    · exact (Cert.QkvReferenceIdeal.Read.val_main_v38_eq m' c).trans ((Cert.QkvV.ref_QA _ _ _ _ _).trans (congr5 Cert.QkvV.oQA a0 a1 a2 a3 a4))
    · exact (Cert.QkvReferenceIdeal.Read.val_main_v58_eq m' c).trans ((Cert.QkvV.ref_KA _ _ _ _ _).trans (congr5 Cert.QkvV.oKA a0 a1 a2 a3 a4))
    · exact (Cert.QkvReferenceIdeal.Read.val_main_v60_eq _ _ _).trans ((Cert.QkvV.ref_VA _ _ _).trans (congr5 (fun x y z _ _ => Cert.QkvV.oVA x y z) a0 a1 a2 a3 a4))
    · exact (Cert.QkvReferenceIdeal.Read.val_main_v85_eq m' c).trans ((Cert.QkvV.ref_QB _ _ _ _ _).trans (congr5 Cert.QkvV.oQB a0 a1 a2 a3 a4))
    · exact (Cert.QkvReferenceIdeal.Read.val_main_v105_eq m' c).trans ((Cert.QkvV.ref_KB _ _ _ _ _).trans (congr5 Cert.QkvV.oKB a0 a1 a2 a3 a4))
    · exact (Cert.QkvReferenceIdeal.Read.val_main_v115_eq _ _ _).trans ((Cert.QkvV.ref_VB _ _ _).trans (congr5 (fun x y z _ _ => Cert.QkvV.oVB x y z) a0 a1 a2 a3 a4))

end Cert.QkvP

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeReferenceIdeal
public import proofs.«01_k».proof.Proof.Gen.MoeReferenceIdeal.Read
public import proofs.«01_k».proof.Proof.Gen.Pre_in_range
public import proofs.«01_k».proof.Proof.Gen.DenseIdeal
public import proofs.«01_k».proof.Proof.Gen.Dense.Skeleton
public import proofs.«01_k».proof.Proof.Gen.Dense.Launch
public import proofs.«01_k».proof.Proof.Gen.DenseReferenceIdeal.Read
public import proofs.«01_k».proof.Proof.Gen.Qkv.Frame
public import proofs.«01_k».proof.Proof.Gen.QkvIdeal.Frame
public import proofs.«01_k».proof.Proof.Gen.QkvIdeal.Value
public import proofs.«01_k».proof.Proof.Gen.QkvReferenceIdeal.Read
public import proofs.«01_k».proof.Proof.Attn
public import proofs.«01_k».proof.Proof.MoeAlg
public import proofs.«01_k».proof.Proof.DenseAlg
public import proofs.«01_k».proof.Proof.QkvAlg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Moe.Gen.facts, Cert.MoeIdeal.Gen.facts, Cert.MoeReferenceIdeal.Gen.facts,
  Cert.Dense.Gen.facts, Cert.DenseIdeal.Gen.facts, Cert.DenseReferenceIdeal.Gen.facts,
  Cert.Qkv.Gen.facts, Cert.QkvIdeal.Gen.facts, Cert.QkvReferenceIdeal.Gen.facts, Cert.Pre_in_range.Gen.facts,
  Attn.frame_p, Attn.frame_pi, Attn.frame_ri, Cert.MoeP.frame_p, Cert.MoeP.frame_pi, Cert.MoeP.frame_ri,
  Cert.DenseP.frame_p, Cert.DenseP.frame_pi, Cert.DenseP.frame_ri,
  fun m ρ _ => Cert.Qkv.Gen.frame m ρ, fun m ρ _ => Cert.QkvIdeal.Gen.frame m ρ, Cert.QkvP.frame_ri,
  Attn.preserves_p, Attn.algebraic, Cert.MoeP.preserves_p, Cert.MoeP.algebraic, Cert.DenseP.preserves_p, Cert.DenseP.algebraic,
  IdealRules.named_const.statement Cert.QkvIdeal.κ "qscale" .f32 0x3E38AA3B#32 (((Real.log 256)⁻¹ : ℝ) : EReal) rfl,
  Cert.QkvP.algebraic⟩

end Cert.Proof

end
